-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1000000x64 : Shape := ⟨2, ![1000000, 64]⟩
abbrev S1000x64 : Shape := ⟨2, ![1000, 64]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn_part2 {F : FTy → Type} [FloatOps F] (main_arg8 : IVec S16384 32) (main_v26 : IVec S_ 1) (main_v32 : IVec S_ 1) : IVec S_ 1 :=
  let main_v33 : IVec S_ 1 := andi main_v26 main_v32
  let main_c_14 : IVec S_ 32 := constantI S_ 32 0#32
  let main_v34 : IVec S16384 32 := broadcastInDim S16384 ![] bcast_S_S16384 main_c_14
  let main_v35 : IVec S16384 1 := cmpi .sge main_arg8 main_v34
  let main_c_15 : IVec S_ 32 := constantI S_ 32 1000000#32
  let main_v36 : IVec S16384 32 := broadcastInDim S16384 ![] bcast_S_S16384 main_c_15
  let main_v37 : IVec S16384 1 := cmpi .slt main_arg8 main_v36
  let main_v38 : IVec S16384 1 := andi main_v35 main_v37
  let main_c_16 : IVec S_ 1 := constantI S_ 1 1#1
  let main_v39 : IVec S_ 1 := (fun x v => Host.reduce IntOp.andi x v reducesTo_S16384_S_d0 h_S_) main_v38 main_c_16
  let main_v40 : IVec S_ 1 := andi main_v33 main_v39
  main_v40

def fn_part1 {F : FTy → Type} [FloatOps F] (main_arg5 : IVec S16384 32) (main_arg6 : IVec S16384 32) (main_arg7 : IVec S16384 32) (main_arg8 : IVec S16384 32) (main_v12 : IVec S_ 1) (main_v14 : IVec S16384 1) (main_v15 : IVec S16384 32) : IVec S_ 1 :=
  let main_v16 : IVec S16384 1 := cmpi .slt main_arg5 main_v15
  let main_v17 : IVec S16384 1 := andi main_v14 main_v16
  let main_c_7 : IVec S_ 1 := constantI S_ 1 1#1
  let main_v18 : IVec S_ 1 := (fun x v => Host.reduce IntOp.andi x v reducesTo_S16384_S_d0 h_S_) main_v17 main_c_7
  let main_v19 : IVec S_ 1 := andi main_v12 main_v18
  let main_c_8 : IVec S_ 32 := constantI S_ 32 0#32
  let main_v20 : IVec S16384 32 := broadcastInDim S16384 ![] bcast_S_S16384 main_c_8
  let main_v21 : IVec S16384 1 := cmpi .sge main_arg6 main_v20
  let main_c_9 : IVec S_ 32 := constantI S_ 32 1000000#32
  let main_v22 : IVec S16384 32 := broadcastInDim S16384 ![] bcast_S_S16384 main_c_9
  let main_v23 : IVec S16384 1 := cmpi .slt main_arg6 main_v22
  let main_v24 : IVec S16384 1 := andi main_v21 main_v23
  let main_c_10 : IVec S_ 1 := constantI S_ 1 1#1
  let main_v25 : IVec S_ 1 := (fun x v => Host.reduce IntOp.andi x v reducesTo_S16384_S_d0 h_S_) main_v24 main_c_10
  let main_v26 : IVec S_ 1 := andi main_v19 main_v25
  let main_c_11 : IVec S_ 32 := constantI S_ 32 0#32
  let main_v27 : IVec S16384 32 := broadcastInDim S16384 ![] bcast_S_S16384 main_c_11
  let main_v28 : IVec S16384 1 := cmpi .sge main_arg7 main_v27
  let main_c_12 : IVec S_ 32 := constantI S_ 32 1000#32
  let main_v29 : IVec S16384 32 := broadcastInDim S16384 ![] bcast_S_S16384 main_c_12
  let main_v30 : IVec S16384 1 := cmpi .slt main_arg7 main_v29
  let main_v31 : IVec S16384 1 := andi main_v28 main_v30
  let main_c_13 : IVec S_ 1 := constantI S_ 1 1#1
  let main_v32 : IVec S_ 1 := (fun x v => Host.reduce IntOp.andi x v reducesTo_S16384_S_d0 h_S_) main_v31 main_c_13
  fn_part2 (F := F) main_arg8 main_v26 main_v32

def fn {F : FTy → Type} [FloatOps F] (main_arg0 : FVec F S1000000x64 .f32) (main_arg1 : FVec F S1000x64 .f32) (main_arg2 : FVec F S1000x64 .f32) (main_arg3 : IVec S16384 32) (main_arg4 : IVec S16384 32) (main_arg5 : IVec S16384 32) (main_arg6 : IVec S16384 32) (main_arg7 : IVec S16384 32) (main_arg8 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg3 main_v0
  let main_c_0 : IVec S_ 32 := constantI S_ 32 1000000#32
  let main_v2 : IVec S16384 32 := broadcastInDim S16384 ![] bcast_S_S16384 main_c_0
  let main_v3 : IVec S16384 1 := cmpi .slt main_arg3 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg4 main_v6
  let main_c_3 : IVec S_ 32 := constantI S_ 32 1000#32
  let main_v8 : IVec S16384 32 := broadcastInDim S16384 ![] bcast_S_S16384 main_c_3
  let main_v9 : IVec S16384 1 := cmpi .slt main_arg4 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S16384 32 := broadcastInDim S16384 ![] bcast_S_S16384 main_c_5
  let main_v14 : IVec S16384 1 := cmpi .sge main_arg5 main_v13
  let main_c_6 : IVec S_ 32 := constantI S_ 32 1000000#32
  let main_v15 : IVec S16384 32 := broadcastInDim S16384 ![] bcast_S_S16384 main_c_6
  fn_part1 (F := F) main_arg5 main_arg6 main_arg7 main_arg8 main_v12 main_v14 main_v15
-- ==== Kernel.lean ====
abbrev S1000000x64 : Shape := ⟨2, ![1000000, 64]⟩
abbrev S1000x64 : Shape := ⟨2, ![1000, 64]⟩
abbrev S16384 : Shape := ⟨1, ![16384]⟩
abbrev S1000x128 : Shape := ⟨2, ![1000, 128]⟩
abbrev S1000 : Shape := ⟨1, ![1000]⟩
abbrev S1000x1 : Shape := ⟨2, ![1000, 1]⟩
abbrev S32768 : Shape := ⟨1, ![32768]⟩
abbrev S1x32768 : Shape := ⟨2, ![1, 32768]⟩
abbrev S32768x128 : Shape := ⟨2, ![32768, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S64x1000000 : Shape := ⟨2, ![64, 1000000]⟩
abbrev S507904x128 : Shape := ⟨2, ![507904, 128]⟩
abbrev S64x32768 : Shape := ⟨2, ![64, 32768]⟩
abbrev S16384x128 : Shape := ⟨2, ![16384, 128]⟩
abbrev S64x16384 : Shape := ⟨2, ![64, 16384]⟩
abbrev S16384x64 : Shape := ⟨2, ![16384, 64]⟩
abbrev S65536 : Shape := ⟨1, ![65536]⟩
abbrev S1x65536 : Shape := ⟨2, ![1, 65536]⟩
abbrev S65536x128 : Shape := ⟨2, ![65536, 128]⟩
abbrev S2x1x256 : Shape := ⟨3, ![2, 1, 256]⟩
abbrev S2x256x128 : Shape := ⟨3, ![2, 256, 128]⟩
abbrev S1x1x256 : Shape := ⟨3, ![1, 1, 256]⟩
abbrev S1x256 : Shape := ⟨2, ![1, 256]⟩
abbrev S1x256x128 : Shape := ⟨3, ![1, 256, 128]⟩
abbrev S256x128 : Shape := ⟨2, ![256, 128]⟩
abbrev S256 : Shape := ⟨1, ![256]⟩
abbrev S8x65536 : Shape := ⟨2, ![8, 65536]⟩
abbrev S1x1 : Shape := ⟨2, ![1, 1]⟩
abbrev S2048x128 : Shape := ⟨2, ![2048, 128]⟩
abbrev S8x2048 : Shape := ⟨2, ![8, 2048]⟩
abbrev S2048x64 : Shape := ⟨2, ![2048, 64]⟩
abbrev S2048x8 : Shape := ⟨2, ![2048, 8]⟩
abbrev S2048x1 : Shape := ⟨2, ![2048, 1]⟩
abbrev S2048 : Shape := ⟨1, ![2048]⟩
abbrev S1x2048 : Shape := ⟨2, ![1, 2048]⟩

abbrev nBuf : Table → Nat
  | .hbm => 109
  | .local .tc .vmem => 27
  | .local .tc .smem => 1
  | .local .scVector .vmem => 4
  | _ => 0

abbrev bufTy : (tb : Table) → Fin (nBuf tb) → BufTy
  | .hbm, ⟨0, _⟩ => ⟨S1000000x64, .f32⟩
  | .hbm, ⟨1, _⟩ => ⟨S1000x64, .f32⟩
  | .hbm, ⟨2, _⟩ => ⟨S1000x64, .f32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S1000x128, .f32⟩
  | .hbm, ⟨10, _⟩ => ⟨S32768, .i32⟩
  | .hbm, ⟨11, _⟩ => ⟨S1x32768, .i32⟩
  | .hbm, ⟨12, _⟩ => ⟨S32768x128, .f32⟩
  | .hbm, ⟨13, _⟩ => ⟨S64x1000000, .f32⟩
  | .hbm, ⟨14, _⟩ => ⟨S507904x128, .f32⟩
  | .hbm, ⟨15, _⟩ => ⟨S65536, .i32⟩
  | .hbm, ⟨16, _⟩ => ⟨S_, .i32⟩
  | .hbm, ⟨17, _⟩ => ⟨S_, .i32⟩
  | .hbm, ⟨18, _⟩ => ⟨S65536, .i32⟩
  | .hbm, ⟨19, _⟩ => ⟨S65536, .i32⟩
  | .hbm, ⟨20, _⟩ => ⟨S65536, .i32⟩
  | .hbm, ⟨21, _⟩ => ⟨S_, .i32⟩
  | .hbm, ⟨22, _⟩ => ⟨S65536, .i32⟩
  | .hbm, ⟨23, _⟩ => ⟨S65536, .i1⟩
  | .hbm, ⟨24, _⟩ => ⟨S65536, .i32⟩
  | .hbm, ⟨25, _⟩ => ⟨S65536, .i32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S65536, .i1⟩
  | .hbm, ⟨30, _⟩ => ⟨S_, .i32⟩
  | .hbm, ⟨31, _⟩ => ⟨S65536, .i32⟩
  | .hbm, ⟨32, _⟩ => ⟨S65536, .i32⟩
  | .hbm, ⟨33, _⟩ => ⟨S65536, .i32⟩
  | .hbm, ⟨34, _⟩ => ⟨S_, .i32⟩
  | .hbm, ⟨35, _⟩ => ⟨S65536, .i32⟩
  | .hbm, ⟨36, _⟩ => ⟨S65536, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S65536, .i32⟩
  | .hbm, ⟨44, _⟩ => ⟨S65536, .i32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S_, .i32⟩
  | .hbm, ⟨52, _⟩ => ⟨S_, .i1⟩
  | .hbm, ⟨53, _⟩ => ⟨S65536, .i1⟩
  | .hbm, ⟨54, _⟩ => ⟨S65536, .i1⟩
  | .hbm, ⟨55, _⟩ => ⟨S65536, .i1⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S65536, .i32⟩
  | .hbm, ⟨60, _⟩ => ⟨S1x65536, .i32⟩
  | .hbm, ⟨61, _⟩ => ⟨S65536x128, .f32⟩
  | .hbm, ⟨62, _⟩ => ⟨S_, .i32⟩
  | .hbm, ⟨63, _⟩ => ⟨S_, .i32⟩
  | .hbm, ⟨64, _⟩ => ⟨S65536, .i32⟩
  | .hbm, ⟨65, _⟩ => ⟨S65536, .i32⟩
  | .hbm, ⟨66, _⟩ => ⟨S65536, .i32⟩
  | .hbm, ⟨67, _⟩ => ⟨S_, .i32⟩
  | .hbm, ⟨68, _⟩ => ⟨S65536, .i32⟩
  | .hbm, ⟨69, _⟩ => ⟨S65536, .i1⟩
  | .hbm, ⟨70, _⟩ => ⟨S65536, .i32⟩
  | .hbm, ⟨71, _⟩ => ⟨S65536, .i32⟩
  | .hbm, ⟨72, _⟩ => ⟨S_, .i32⟩
  | .hbm, ⟨73, _⟩ => ⟨S65536, .i32⟩
  | .hbm, ⟨74, _⟩ => ⟨S65536, .i1⟩
  | .hbm, ⟨75, _⟩ => ⟨S65536, .i1⟩
  | .hbm, ⟨76, _⟩ => ⟨S_, .i32⟩
  | .hbm, ⟨77, _⟩ => ⟨S65536, .i32⟩
  | .hbm, ⟨78, _⟩ => ⟨S65536, .i32⟩
  | .hbm, ⟨79, _⟩ => ⟨S65536, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S65536, .i32⟩
  | .hbm, ⟨87, _⟩ => ⟨S65536, .i32⟩
  | .hbm, ⟨88, _⟩ => ⟨S_, .i32⟩
  | .hbm, ⟨89, _⟩ => ⟨S65536, .i32⟩
  | .hbm, ⟨90, _⟩ => ⟨S65536, .i1⟩
  | .hbm, ⟨91, _⟩ => ⟨S_, .i32⟩
  | .hbm, ⟨92, _⟩ => ⟨S65536, .i32⟩
  | .hbm, ⟨93, _⟩ => ⟨S65536, .i1⟩
  | .hbm, ⟨94, _⟩ => ⟨S_, .i32⟩
  | .hbm, ⟨95, _⟩ => ⟨S_, .i1⟩
  | .hbm, ⟨96, _⟩ => ⟨S65536, .i1⟩
  | .hbm, ⟨97, _⟩ => ⟨S65536, .i1⟩
  | .hbm, ⟨98, _⟩ => ⟨S65536, .i1⟩
  | .hbm, ⟨99, _⟩ => ⟨S65536, .i32⟩
  | .hbm, ⟨100, _⟩ => ⟨S65536, .i32⟩
  | .hbm, ⟨101, _⟩ => ⟨S65536, .i32⟩
  | .hbm, ⟨102, _⟩ => ⟨S65536, .f32⟩
  | .hbm, ⟨103, _⟩ => ⟨S1x65536, .f32⟩
  | .hbm, ⟨104, _⟩ => ⟨S8x65536, .f32⟩
  | .hbm, ⟨105, _⟩ => ⟨S1x1, .f32⟩
  | .hbm, ⟨106, _⟩ => ⟨S_, .f32⟩
  | .hbm, ⟨107, _⟩ => ⟨S_, .f32⟩
  | .hbm, ⟨108, _⟩ => ⟨S_, .f32⟩
  | .local .tc .vmem, ⟨0, _⟩ => ⟨S1000x64, .f32⟩
  | .local .tc .vmem, ⟨1, _⟩ => ⟨S1000x64, .f32⟩
  | .local .tc .vmem, ⟨2, _⟩ => ⟨S1000x128, .f32⟩
  | .local .tc .vmem, ⟨3, _⟩ => ⟨S64x32768, .f32⟩
  | .local .tc .vmem, ⟨4, _⟩ => ⟨S64x32768, .f32⟩
  | .local .tc .vmem, ⟨5, _⟩ => ⟨S16384x128, .f32⟩
  | .local .tc .vmem, ⟨6, _⟩ => ⟨S16384x128, .f32⟩
  | .local .tc .vmem, ⟨7, _⟩ => ⟨S2048x128, .f32⟩
  | .local .tc .vmem, ⟨8, _⟩ => ⟨S2048x128, .f32⟩
  | .local .tc .vmem, ⟨9, _⟩ => ⟨S2048x128, .f32⟩
  | .local .tc .vmem, ⟨10, _⟩ => ⟨S2048x128, .f32⟩
  | .local .tc .vmem, ⟨11, _⟩ => ⟨S2048x128, .f32⟩
  | .local .tc .vmem, ⟨12, _⟩ => ⟨S2048x128, .f32⟩
  | .local .tc .vmem, ⟨13, _⟩ => ⟨S2048x128, .f32⟩
  | .local .tc .vmem, ⟨14, _⟩ => ⟨S2048x128, .f32⟩
  | .local .tc .vmem, ⟨15, _⟩ => ⟨S2048x128, .f32⟩
  | .local .tc .vmem, ⟨16, _⟩ => ⟨S2048x128, .f32⟩
  | .local .tc .vmem, ⟨17, _⟩ => ⟨S2048x128, .f32⟩
  | .local .tc .vmem, ⟨18, _⟩ => ⟨S2048x128, .f32⟩
  | .local .tc .vmem, ⟨19, _⟩ => ⟨S8x2048, .f32⟩
  | .local .tc .vmem, ⟨20, _⟩ => ⟨S8x2048, .f32⟩
  | .local .tc .vmem, ⟨21, _⟩ => ⟨S8x2048, .f32⟩
  | .local .tc .vmem, ⟨22, _⟩ => ⟨S8x2048, .f32⟩
  | .local .tc .vmem, ⟨23, _⟩ => ⟨S8x2048, .f32⟩
  | .local .tc .vmem, ⟨24, _⟩ => ⟨S8x2048, .f32⟩
  | .local .tc .vmem, ⟨25, _⟩ => ⟨S8x2048, .f32⟩
  | .local .tc .vmem, ⟨26, _⟩ => ⟨S8x2048, .f32⟩
  | .local .tc .smem, ⟨0, _⟩ => ⟨S1x1, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x256, .i32⟩
  | .local .scVector .vmem, ⟨3, _⟩ => ⟨S2x256x128, .f32⟩
  | _, _ => ⟨S1000000x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 38 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTables nBuf rfl bufTy 4 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v7 : Ref sig .tc := ⟨.hbm, 33, rfl⟩
abbrev main_c_0 : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_c_2 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v14 : Ref sig .tc := ⟨.hbm, 79, rfl⟩
abbrev main_c_3 : Ref sig .tc := ⟨.hbm, 80, rfl⟩
abbrev main_call3_v0 : Ref sig .tc := ⟨.hbm, 81, rfl⟩
abbrev main_call3_c : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_c_1 : Ref sig .tc := ⟨.hbm, 88, rfl⟩
abbrev main_call3_v5 : Ref sig .tc := ⟨.hbm, 89, rfl⟩
abbrev main_call3_v6 : Ref sig .tc := ⟨.hbm, 90, rfl⟩
abbrev main_call3_c_2 : Ref sig .tc := ⟨.hbm, 91, rfl⟩
abbrev main_call3_v7 : Ref sig .tc := ⟨.hbm, 92, rfl⟩
abbrev main_call3_v8 : Ref sig .tc := ⟨.hbm, 93, rfl⟩
abbrev main_call3_c_3 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_v15 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_cst : Ref sig .tc := ⟨.hbm, 107, rfl⟩
abbrev main_v21 : Ref sig .tc := ⟨.hbm, 108, rfl⟩
abbrev main_v0_scv : Ref sig .scVector := ⟨.hbm, 9, rfl⟩
abbrev main_v2_scv : Ref sig .scVector := ⟨.hbm, 11, rfl⟩
abbrev main_v3_scv : Ref sig .scVector := ⟨.hbm, 12, rfl⟩
abbrev main_v5_scv : Ref sig .scVector := ⟨.hbm, 14, rfl⟩
abbrev main_v12_scv : Ref sig .scVector := ⟨.hbm, 60, rfl⟩
abbrev main_v13_scv : Ref sig .scVector := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg1_1 : Ref sig .tc := ⟨.vmem, 6, rfl⟩
abbrev cc4_stg0_0 : Ref sig .tc := ⟨.vmem, 7, rfl⟩
abbrev cc4_stg0_1 : Ref sig .tc := ⟨.vmem, 8, rfl⟩
abbrev cc4_stg1_0 : Ref sig .tc := ⟨.vmem, 9, rfl⟩
abbrev cc4_stg1_1 : Ref sig .tc := ⟨.vmem, 10, rfl⟩
abbrev cc4_stg2_0 : Ref sig .tc := ⟨.vmem, 11, rfl⟩
abbrev cc4_stg2_1 : Ref sig .tc := ⟨.vmem, 12, rfl⟩
abbrev cc4_stg3_0 : Ref sig .tc := ⟨.vmem, 13, rfl⟩
abbrev cc4_stg3_1 : Ref sig .tc := ⟨.vmem, 14, rfl⟩
abbrev cc4_stg4_0 : Ref sig .tc := ⟨.vmem, 15, rfl⟩
abbrev cc4_stg4_1 : Ref sig .tc := ⟨.vmem, 16, rfl⟩
abbrev cc4_stg5_0 : Ref sig .tc := ⟨.vmem, 17, rfl⟩
abbrev cc4_stg5_1 : Ref sig .tc := ⟨.vmem, 18, rfl⟩
abbrev cc4_stg6_0 : Ref sig .tc := ⟨.vmem, 19, rfl⟩
abbrev cc4_stg6_1 : Ref sig .tc := ⟨.vmem, 20, rfl⟩
abbrev cc4_stg7_0 : Ref sig .tc := ⟨.vmem, 21, rfl⟩
abbrev cc4_stg7_1 : Ref sig .tc := ⟨.vmem, 22, rfl⟩
abbrev cc4_stg8_0 : Ref sig .tc := ⟨.vmem, 23, rfl⟩
abbrev cc4_stg8_1 : Ref sig .tc := ⟨.vmem, 24, rfl⟩
abbrev cc4_stg9_0 : Ref sig .tc := ⟨.vmem, 25, rfl⟩
abbrev cc4_stg9_1 : Ref sig .tc := ⟨.vmem, 26, rfl⟩
abbrev cc4_stg10_0 : Ref sig .tc := ⟨.smem, 0, rfl⟩
abbrev cc1_scoped0 : Ref sig .scVector := ⟨.vmem, 0, rfl⟩
abbrev cc1_scoped2 : Ref sig .scVector := ⟨.vmem, 1, rfl⟩
abbrev cc3_scoped0 : Ref sig .scVector := ⟨.vmem, 2, rfl⟩
abbrev cc3_scoped2 : Ref sig .scVector := ⟨.vmem, 3, rfl⟩
abbrev cc0_sem0_0 : DmaSem sig := 0
abbrev cc0_sem1_0 : DmaSem sig := 1
abbrev cc0_sem2_0 : DmaSem sig := 2
abbrev cc2_sem0_0 : DmaSem sig := 8
abbrev cc2_sem0_1 : DmaSem sig := 9
abbrev cc2_sem1_0 : DmaSem sig := 10
abbrev cc2_sem1_1 : DmaSem sig := 11
abbrev cc4_sem0_0 : DmaSem sig := 17
abbrev cc4_sem0_1 : DmaSem sig := 18
abbrev cc4_sem1_0 : DmaSem sig := 19
abbrev cc4_sem1_1 : DmaSem sig := 20
abbrev cc4_sem2_0 : DmaSem sig := 21
abbrev cc4_sem2_1 : DmaSem sig := 22
abbrev cc4_sem3_0 : DmaSem sig := 23
abbrev cc4_sem3_1 : DmaSem sig := 24
abbrev cc4_sem4_0 : DmaSem sig := 25
abbrev cc4_sem4_1 : DmaSem sig := 26
abbrev cc4_sem5_0 : DmaSem sig := 27
abbrev cc4_sem5_1 : DmaSem sig := 28
abbrev cc4_sem6_0 : DmaSem sig := 29
abbrev cc4_sem6_1 : DmaSem sig := 30
abbrev cc4_sem7_0 : DmaSem sig := 31
abbrev cc4_sem7_1 : DmaSem sig := 32
abbrev cc4_sem8_0 : DmaSem sig := 33
abbrev cc4_sem8_1 : DmaSem sig := 34
abbrev cc4_sem9_0 : DmaSem sig := 35
abbrev cc4_sem9_1 : DmaSem sig := 36
abbrev cc4_sem10_0 : DmaSem sig := 37
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x32768.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x32768.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S32768x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S32768x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x32768.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x32768.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S32768x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S32768x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S32768x128.size a)
theorem k1_off19_inb : ∀ (i : grid1.Coords) (v33_4_r0 : BitVec 32) (k1_hw5 : k1_chk5 i v33_4_r0), ∀ a, (k1_off19 i v33_4_r0) a + S128x128.size a ≤ S32768x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev grid2 : Pipeline.Grid := ⟨1, ![31], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x32768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16384x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![2, 16], ![false, false]⟩

def k3_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k3_off2 (i : grid3.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c256_i32_r0 v7_r0
  ![0, v22_r0.toNat]
def k3_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k3_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k3_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k3_cond1 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k3_off5 (i : grid3.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c256_i32_100_r0 v76_r0
  ![0, v145_r0.toNat]
def k3_off6 (arg6_r0 : BitVec 32) : Fin 1 → Nat :=
  let c2_i32_99_r0 : BitVec 32 := 2#32
  let v144_r0 : BitVec 32 := Scalar.remui arg6_r0 c2_i32_99_r0
  ![v144_r0.toNat]
def k3_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k3_cond2 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k3_off8 (i : grid3.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c256_i32_99_r0 v66_r0
  ![0, v144_r0.toNat]
def k3_off9 (arg7_r0 : BitVec 32) : Fin 1 → Nat :=
  let c2_i32_100_r0 : BitVec 32 := 2#32
  let v145_r0 : BitVec 32 := Scalar.remui arg7_r0 c2_i32_100_r0
  ![v145_r0.toNat]
def k3_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k3_chk2 (arg8_r0 : BitVec 32) : Prop :=
  (∀ a, (k3_off10 arg8_r0) a + S1x256x128.size a ≤ S2x256x128.size a)
theorem k3_off10_inb : ∀ (arg8_r0 : BitVec 32) (k3_hw2 : k3_chk2 arg8_r0), ∀ a, (k3_off10 arg8_r0) a + S1x256x128.size a ≤ S2x256x128.size a := fun arg8_r0 k3_hw2 => k3_hw2

def k3_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k3_chk3 (arg7_r0 : BitVec 32) : Prop :=
  (∀ a, (k3_off11 arg7_r0) a + S1x1x256.size a ≤ S2x1x256.size a)
theorem k3_off11_inb : ∀ (arg7_r0 : BitVec 32) (k3_hw3 : k3_chk3 arg7_r0), ∀ a, (k3_off11 arg7_r0) a + S1x1x256.size a ≤ S2x1x256.size a := fun arg7_r0 k3_hw3 => k3_hw3

def k3_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k3_cond5 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k3_off13 (i : grid3.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k3_off14 (arg8_r0 : BitVec 32) : Fin 1 → Nat :=
  let c2_i32_99_r0 : BitVec 32 := 2#32
  let v144_r0 : BitVec 32 := Scalar.remui arg8_r0 c2_i32_99_r0
  ![v144_r0.toNat]
def k3_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k3_cond7 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k3_off16 (i : grid3.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c256_i32_100_r0 v71_r0
  let c0_i32_103_r0 : BitVec 32 := 0#32
  ![v145_r0.toNat, 0]
def k3_off17 (arg9_r0 : BitVec 32) : Fin 1 → Nat :=
  let c2_i32_99_r0 : BitVec 32 := 2#32
  let v144_r0 : BitVec 32 := Scalar.remui arg9_r0 c2_i32_99_r0
  ![v144_r0.toNat]

def k3_chk1 (i : grid3.Coords) (k3_t1 : Fin k3_t1_loop.trips) (arg6_r0 : BitVec 32) (arg7_r0 : BitVec 32) (arg8_r0 : BitVec 32) (arg9_r0 : BitVec 32) (arg10_r0 : BitVec 32) : Prop :=
  (∀ (k3_h1 : k3_cond1 i k3_t1 arg10_r0 = 1#1), ∀ a, (k3_off4 arg6_r0) a + S1x1x256.size a ≤ S2x1x256.size a) ∧
  (∀ (k3_h1 : k3_cond1 i k3_t1 arg10_r0 = 1#1), ∀ a, (k3_off5 i arg10_r0) a + S1x256.size a ≤ S1x65536.size a) ∧
  (∀ (k3_h1 : k3_cond1 i k3_t1 arg10_r0 = 1#1), ∀ a, (k3_off6 arg6_r0) a + S1.size a ≤ S2.size a) ∧
  (∀ (k3_h2 : k3_cond2 i k3_t1 arg10_r0 = 1#1), ∀ a, (k3_off7 arg7_r0) a + S1x1x256.size a ≤ S2x1x256.size a) ∧
  (∀ (k3_h2 : k3_cond2 i k3_t1 arg10_r0 = 1#1), ∀ a, (k3_off8 i arg10_r0) a + S1x256.size a ≤ S1x65536.size a) ∧
  (∀ (k3_h2 : k3_cond2 i k3_t1 arg10_r0 = 1#1), ∀ a, (k3_off9 arg7_r0) a + S1.size a ≤ S2.size a) ∧
  (∀ (k3_h5 : k3_cond5 i k3_t1 arg10_r0 = 1#1), ∀ a, (k3_off12 arg8_r0) a + S1x256x128.size a ≤ S2x256x128.size a) ∧
  (∀ (k3_h5 : k3_cond5 i k3_t1 arg10_r0 = 1#1), ∀ a, (k3_off13 i arg10_r0) a + S256x128.size a ≤ S65536x128.size a) ∧
  (∀ (k3_h5 : k3_cond5 i k3_t1 arg10_r0 = 1#1), ∀ a, (k3_off14 arg8_r0) a + S1.size a ≤ S2.size a) ∧
  (∀ (k3_h7 : k3_cond7 i k3_t1 arg10_r0 = 1#1), ∀ a, (k3_off15 arg9_r0) a + S1x256x128.size a ≤ S2x256x128.size a) ∧
  (∀ (k3_h7 : k3_cond7 i k3_t1 arg10_r0 = 1#1), ∀ a, (k3_off16 i arg10_r0) a + S256x128.size a ≤ S65536x128.size a) ∧
  (∀ (k3_h7 : k3_cond7 i k3_t1 arg10_r0 = 1#1), ∀ a, (k3_off17 arg9_r0) a + S1.size a ≤ S2.size a)
theorem k3_off4_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off4 arg6_r0) a + S1x1x256.size a ≤ S2x1x256.size a := fun i k3_t1 arg6_r0 arg7_r0 arg8_r0 arg9_r0 arg10_r0 k3_hw1 k3_h1 => k3_hw1.1 k3_h1
theorem k3_off5_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off5 i arg10_r0) a + S1x256.size a ≤ S1x65536.size a := fun i k3_t1 arg6_r0 arg7_r0 arg8_r0 arg9_r0 arg10_r0 k3_hw1 k3_h1 => k3_hw1.2.1 k3_h1
theorem k3_off6_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off6 arg6_r0) a + S1.size a ≤ S2.size a := fun i k3_t1 arg6_r0 arg7_r0 arg8_r0 arg9_r0 arg10_r0 k3_hw1 k3_h1 => k3_hw1.2.2.1 k3_h1
theorem k3_off7_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off7 arg7_r0) a + S1x1x256.size a ≤ S2x1x256.size a := fun i k3_t1 arg6_r0 arg7_r0 arg8_r0 arg9_r0 arg10_r0 k3_hw1 k3_h2 => k3_hw1.2.2.2.1 k3_h2
theorem k3_off8_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off8 i arg10_r0) a + S1x256.size a ≤ S1x65536.size a := fun i k3_t1 arg6_r0 arg7_r0 arg8_r0 arg9_r0 arg10_r0 k3_hw1 k3_h2 => k3_hw1.2.2.2.2.1 k3_h2
theorem k3_off9_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off9 arg7_r0) a + S1.size a ≤ S2.size a := fun i k3_t1 arg6_r0 arg7_r0 arg8_r0 arg9_r0 arg10_r0 k3_hw1 k3_h2 => k3_hw1.2.2.2.2.2.1 k3_h2
theorem k3_off12_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off12 arg8_r0) a + S1x256x128.size a ≤ S2x256x128.size a := fun i k3_t1 arg6_r0 arg7_r0 arg8_r0 arg9_r0 arg10_r0 k3_hw1 k3_h5 => k3_hw1.2.2.2.2.2.2.1 k3_h5
theorem k3_off13_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off13 i arg10_r0) a + S256x128.size a ≤ S65536x128.size a := fun i k3_t1 arg6_r0 arg7_r0 arg8_r0 arg9_r0 arg10_r0 k3_hw1 k3_h5 => k3_hw1.2.2.2.2.2.2.2.1 k3_h5
theorem k3_off14_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off14 arg8_r0) a + S1.size a ≤ S2.size a := fun i k3_t1 arg6_r0 arg7_r0 arg8_r0 arg9_r0 arg10_r0 k3_hw1 k3_h5 => k3_hw1.2.2.2.2.2.2.2.2.1 k3_h5
theorem k3_off15_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off15 arg9_r0) a + S1x256x128.size a ≤ S2x256x128.size a := fun i k3_t1 arg6_r0 arg7_r0 arg8_r0 arg9_r0 arg10_r0 k3_hw1 k3_h7 => k3_hw1.2.2.2.2.2.2.2.2.2.1 k3_h7
theorem k3_off16_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off16 i arg10_r0) a + S256x128.size a ≤ S65536x128.size a := fun i k3_t1 arg6_r0 arg7_r0 arg8_r0 arg9_r0 arg10_r0 k3_hw1 k3_h7 => k3_hw1.2.2.2.2.2.2.2.2.2.2.1 k3_h7
theorem k3_off17_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off17 arg9_r0) a + S1.size a ≤ S2.size a := fun i k3_t1 arg6_r0 arg7_r0 arg8_r0 arg9_r0 arg10_r0 k3_hw1 k3_h7 => k3_hw1.2.2.2.2.2.2.2.2.2.2.2 k3_h7

def k3_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k3_off19 (i : grid3.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c256_i32_47_r0 v38_r0
  let c0_i32_50_r0 : BitVec 32 := 0#32
  ![v55_r0.toNat, 0]

def k3_chk5 (i : grid3.Coords) (v33_4_r0 : BitVec 32) : Prop :=
  (∀ a, (k3_off19 i v33_4_r0) a + S256x128.size a ≤ S65536x128.size a)
theorem k3_off19_inb : ∀ (i : grid3.Coords) (v33_4_r0 : BitVec 32) (k3_hw5 : k3_chk5 i v33_4_r0), ∀ a, (k3_off19 i v33_4_r0) a + S256x128.size a ≤ S65536x128.size a := fun i v33_4_r0 k3_hw5 => k3_hw5

def k3_off20 (v33_3_r0 : BitVec 32) : Fin 1 → Nat :=
  let c2_i32_46_r0 : BitVec 32 := 2#32
  let v54_r0 : BitVec 32 := Scalar.remui v33_3_r0 c2_i32_46_r0
  ![v54_r0.toNat]
def k3_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k3_chk4 (v33_3_r0 : BitVec 32) : Prop :=
  (∀ a, (k3_off18 v33_3_r0) a + S1x256x128.size a ≤ S2x256x128.size a) ∧
  (∀ a, (k3_off20 v33_3_r0) a + S1.size a ≤ S2.size a) ∧
  (∀ a, (k3_off21 v33_3_r0) a + S1x256x128.size a ≤ S2x256x128.size a)
theorem k3_off18_inb : ∀ (v33_3_r0 : BitVec 32) (k3_hw4 : k3_chk4 v33_3_r0), ∀ a, (k3_off18 v33_3_r0) a + S1x256x128.size a ≤ S2x256x128.size a := fun v33_3_r0 k3_hw4 => k3_hw4.1
theorem k3_off20_inb : ∀ (v33_3_r0 : BitVec 32) (k3_hw4 : k3_chk4 v33_3_r0), ∀ a, (k3_off20 v33_3_r0) a + S1.size a ≤ S2.size a := fun v33_3_r0 k3_hw4 => k3_hw4.2.1
theorem k3_off21_inb : ∀ (v33_3_r0 : BitVec 32) (k3_hw4 : k3_chk4 v33_3_r0), ∀ a, (k3_off21 v33_3_r0) a + S1x256x128.size a ≤ S2x256x128.size a := fun v33_3_r0 k3_hw4 => k3_hw4.2.2

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_1 (i : grid4.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc4_transform_2 (i : grid4.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc4_transform_3 (i : grid4.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

def cc4_transform_4 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_5 (i : grid4.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc4_transform_6 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc4_transform_7 (i : grid4.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc4_transform_8 (i : grid4.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc4_transform_9 (i : grid4.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2048x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2048x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2048x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S8x2048 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x2048 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S8x2048 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S8x2048 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 1 → Memref sig .tc .smem S1x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1000000x64 : Shape := ⟨2, ![1000000, 64]⟩
abbrev S1000x64 : Shape := ⟨2, ![1000, 64]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 285
  | .vmem => 0
  | .smem => 0
  | _ => 0

abbrev hbmTy0_0 (i : Nat) : BufTy := match i % 128 with
  | 0 => ⟨S1000000x64, .f32⟩
  | 1 => ⟨S1000x64, .f32⟩
  | 2 => ⟨S1000x64, .f32⟩
  | 3 => ⟨S16384, .i32⟩
  | 4 => ⟨S16384, .i32⟩
  | 5 => ⟨S16384, .i32⟩
  | 6 => ⟨S16384, .i32⟩
  | 7 => ⟨S16384, .i32⟩
  | 8 => ⟨S16384, .i32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S1, .i32⟩
  | 18 => ⟨S_, .i32⟩
  | 19 => ⟨S16384x1, .i32⟩
  | 20 => ⟨S16384x1, .i1⟩
  | 21 => ⟨S1x1, .i32⟩
  | 22 => ⟨S16384x1, .i32⟩
  | 23 => ⟨S16384x1, .i1⟩
  | 24 => ⟨S16384x1, .i1⟩
  | 25 => ⟨S_, .i1⟩
  | 26 => ⟨S16384, .i1⟩
  | 27 => ⟨S16384x64, .f32⟩
  | 28 => ⟨S16384x64, .i1⟩
  | 29 => ⟨S_, .f32⟩
  | 30 => ⟨S16384x64, .f32⟩
  | 31 => ⟨S16384x64, .f32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S1, .i32⟩
  | 41 => ⟨S_, .i32⟩
  | 42 => ⟨S16384x1, .i32⟩
  | 43 => ⟨S16384x1, .i1⟩
  | 44 => ⟨S1x1, .i32⟩
  | 45 => ⟨S16384x1, .i32⟩
  | 46 => ⟨S16384x1, .i1⟩
  | 47 => ⟨S16384x1, .i1⟩
  | 48 => ⟨S_, .i1⟩
  | 49 => ⟨S16384, .i1⟩
  | 50 => ⟨S16384x64, .f32⟩
  | 51 => ⟨S16384x64, .i1⟩
  | 52 => ⟨S_, .f32⟩
  | 53 => ⟨S16384x64, .f32⟩
  | 54 => ⟨S16384x64, .f32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S1, .i32⟩
  | 64 => ⟨S_, .i32⟩
  | 65 => ⟨S16384x1, .i32⟩
  | 66 => ⟨S16384x1, .i1⟩
  | 67 => ⟨S1x1, .i32⟩
  | 68 => ⟨S16384x1, .i32⟩
  | 69 => ⟨S16384x1, .i1⟩
  | 70 => ⟨S16384x1, .i1⟩
  | 71 => ⟨S_, .i1⟩
  | 72 => ⟨S16384, .i1⟩
  | 73 => ⟨S16384x64, .f32⟩
  | 74 => ⟨S16384x64, .i1⟩
  | 75 => ⟨S_, .f32⟩
  | 76 => ⟨S16384x64, .f32⟩
  | 77 => ⟨S16384x64, .f32⟩
  | 78 => ⟨S_, .i32⟩
  | 79 => ⟨S16384, .i32⟩
  | 80 => ⟨S16384, .i1⟩
  | 81 => ⟨S_, .i32⟩
  | 82 => ⟨S16384, .i32⟩
  | 83 => ⟨S16384, .i32⟩
  | 84 => ⟨S16384, .i32⟩
  | 85 => ⟨S16384x1, .i32⟩
  | 86 => ⟨S1, .i32⟩
  | 87 => ⟨S_, .i32⟩
  | 88 => ⟨S16384x1, .i32⟩
  | 89 => ⟨S16384x1, .i1⟩
  | 90 => ⟨S1x1, .i32⟩
  | 91 => ⟨S16384x1, .i32⟩
  | 92 => ⟨S16384x1, .i1⟩
  | 93 => ⟨S16384x1, .i1⟩
  | 94 => ⟨S_, .i1⟩
  | 95 => ⟨S16384, .i1⟩
  | 96 => ⟨S16384x64, .f32⟩
  | 97 => ⟨S16384x64, .i1⟩
  | 98 => ⟨S_, .f32⟩
  | 99 => ⟨S16384x64, .f32⟩
  | 100 => ⟨S16384x64, .f32⟩
  | 101 => ⟨S16384x64, .f32⟩
  | 102 => ⟨S_, .f32⟩
  | 103 => ⟨S16384, .f32⟩
  | 104 => ⟨S16384x1, .f32⟩
  | 105 => ⟨S16384x1, .f32⟩
  | 106 => ⟨S_, .f32⟩
  | 107 => ⟨S16384x1, .f32⟩
  | 108 => ⟨S16384x1, .f32⟩
  | 109 => ⟨S16384x64, .f32⟩
  | 110 => ⟨S16384x64, .f32⟩
  | 111 => ⟨S16384x64, .f32⟩
  | 112 => ⟨S_, .f32⟩
  | 113 => ⟨S16384, .f32⟩
  | 114 => ⟨S16384x1, .f32⟩
  | 115 => ⟨S16384x64, .f32⟩
  | 116 => ⟨S16384x64, .f32⟩
  | 117 => ⟨S16384x64, .f32⟩
  | 118 => ⟨S16384x64, .f32⟩
  | 119 => ⟨S_, .f32⟩
  | 120 => ⟨S16384, .f32⟩
  | 121 => ⟨S16384x1, .f32⟩
  | 122 => ⟨S16384x1, .f32⟩
  | 123 => ⟨S_, .f32⟩
  | 124 => ⟨S16384x1, .f32⟩
  | 125 => ⟨S16384x1, .f32⟩
  | 126 => ⟨S16384x64, .f32⟩
  | 127 => ⟨S16384x64, .f32⟩
  | _ => ⟨S1000000x64, .f32⟩

abbrev hbmTy0_1 (i : Nat) : BufTy := match i % 128 with
  | 0 => ⟨S16384x64, .f32⟩
  | 1 => ⟨S_, .f32⟩
  | 2 => ⟨S16384, .f32⟩
  | 3 => ⟨S16384x1, .f32⟩
  | 4 => ⟨S16384x64, .f32⟩
  | 5 => ⟨S16384x64, .f32⟩
  | 6 => ⟨S16384x64, .f32⟩
  | 7 => ⟨S16384x64, .f32⟩
  | 8 => ⟨S16384x64, .f32⟩
  | 9 => ⟨S16384x64, .f32⟩
  | 10 => ⟨S_, .f32⟩
  | 11 => ⟨S16384, .f32⟩
  | 12 => ⟨S16384, .f32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x64, .f32⟩
  | 32 => ⟨S16384x64, .i1⟩
  | 33 => ⟨S_, .f32⟩
  | 34 => ⟨S16384x64, .f32⟩
  | 35 => ⟨S16384x64, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S1, .i32⟩
  | 45 => ⟨S_, .i32⟩
  | 46 => ⟨S16384x1, .i32⟩
  | 47 => ⟨S16384x1, .i1⟩
  | 48 => ⟨S1x1, .i32⟩
  | 49 => ⟨S16384x1, .i32⟩
  | 50 => ⟨S16384x1, .i1⟩
  | 51 => ⟨S16384x1, .i1⟩
  | 52 => ⟨S_, .i1⟩
  | 53 => ⟨S16384, .i1⟩
  | 54 => ⟨S16384x64, .f32⟩
  | 55 => ⟨S16384x64, .i1⟩
  | 56 => ⟨S_, .f32⟩
  | 57 => ⟨S16384x64, .f32⟩
  | 58 => ⟨S16384x64, .f32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S1, .i32⟩
  | 68 => ⟨S_, .i32⟩
  | 69 => ⟨S16384x1, .i32⟩
  | 70 => ⟨S16384x1, .i1⟩
  | 71 => ⟨S1x1, .i32⟩
  | 72 => ⟨S16384x1, .i32⟩
  | 73 => ⟨S16384x1, .i1⟩
  | 74 => ⟨S16384x1, .i1⟩
  | 75 => ⟨S_, .i1⟩
  | 76 => ⟨S16384, .i1⟩
  | 77 => ⟨S16384x64, .f32⟩
  | 78 => ⟨S16384x64, .i1⟩
  | 79 => ⟨S_, .f32⟩
  | 80 => ⟨S16384x64, .f32⟩
  | 81 => ⟨S16384x64, .f32⟩
  | 82 => ⟨S_, .i32⟩
  | 83 => ⟨S16384, .i32⟩
  | 84 => ⟨S16384, .i1⟩
  | 85 => ⟨S_, .i32⟩
  | 86 => ⟨S16384, .i32⟩
  | 87 => ⟨S16384, .i32⟩
  | 88 => ⟨S16384, .i32⟩
  | 89 => ⟨S16384x1, .i32⟩
  | 90 => ⟨S1, .i32⟩
  | 91 => ⟨S_, .i32⟩
  | 92 => ⟨S16384x1, .i32⟩
  | 93 => ⟨S16384x1, .i1⟩
  | 94 => ⟨S1x1, .i32⟩
  | 95 => ⟨S16384x1, .i32⟩
  | 96 => ⟨S16384x1, .i1⟩
  | 97 => ⟨S16384x1, .i1⟩
  | 98 => ⟨S_, .i1⟩
  | 99 => ⟨S16384, .i1⟩
  | 100 => ⟨S16384x64, .f32⟩
  | 101 => ⟨S16384x64, .i1⟩
  | 102 => ⟨S_, .f32⟩
  | 103 => ⟨S16384x64, .f32⟩
  | 104 => ⟨S16384x64, .f32⟩
  | 105 => ⟨S16384x64, .f32⟩
  | 106 => ⟨S_, .f32⟩
  | 107 => ⟨S16384, .f32⟩
  | 108 => ⟨S16384x1, .f32⟩
  | 109 => ⟨S16384x1, .f32⟩
  | 110 => ⟨S_, .f32⟩
  | 111 => ⟨S16384x1, .f32⟩
  | 112 => ⟨S16384x1, .f32⟩
  | 113 => ⟨S16384x64, .f32⟩
  | 114 => ⟨S16384x64, .f32⟩
  | 115 => ⟨S16384x64, .f32⟩
  | 116 => ⟨S_, .f32⟩
  | 117 => ⟨S16384, .f32⟩
  | 118 => ⟨S16384x1, .f32⟩
  | 119 => ⟨S16384x64, .f32⟩
  | 120 => ⟨S16384x64, .f32⟩
  | 121 => ⟨S16384x64, .f32⟩
  | 122 => ⟨S16384x64, .f32⟩
  | 123 => ⟨S_, .f32⟩
  | 124 => ⟨S16384, .f32⟩
  | 125 => ⟨S16384x1, .f32⟩
  | 126 => ⟨S16384x1, .f32⟩
  | 127 => ⟨S_, .f32⟩
  | _ => ⟨S1000000x64, .f32⟩

abbrev hbmTy0_2 (i : Nat) : BufTy := match i % 128 with
  | 0 => ⟨S16384x1, .f32⟩
  | 1 => ⟨S16384x1, .f32⟩
  | 2 => ⟨S16384x64, .f32⟩
  | 3 => ⟨S16384x64, .f32⟩
  | 4 => ⟨S16384x64, .f32⟩
  | 5 => ⟨S_, .f32⟩
  | 6 => ⟨S16384, .f32⟩
  | 7 => ⟨S16384x1, .f32⟩
  | 8 => ⟨S16384x64, .f32⟩
  | 9 => ⟨S16384x64, .f32⟩
  | 10 => ⟨S16384x64, .f32⟩
  | 11 => ⟨S16384x64, .f32⟩
  | 12 => ⟨S16384x64, .f32⟩
  | 13 => ⟨S16384x64, .f32⟩
  | 14 => ⟨S_, .f32⟩
  | 15 => ⟨S16384, .f32⟩
  | 16 => ⟨S16384, .f32⟩
  | 17 => ⟨S16384, .f32⟩
  | 18 => ⟨S_, .f32⟩
  | 19 => ⟨S16384, .f32⟩
  | 20 => ⟨S16384, .f32⟩
  | 21 => ⟨S_, .f32⟩
  | 22 => ⟨S16384, .f32⟩
  | 23 => ⟨S16384, .f32⟩
  | 24 => ⟨S_, .f32⟩
  | 25 => ⟨S16384, .f32⟩
  | 26 => ⟨S16384, .f32⟩
  | 27 => ⟨S_, .f32⟩
  | 28 => ⟨S_, .f32⟩
  | _ => ⟨S1000000x64, .f32⟩

abbrev hbmTy (i : Nat) : BufTy := match i / 128 with
  | 0 => hbmTy0_0 i
  | 1 => hbmTy0_1 i
  | 2 => hbmTy0_2 i
  | _ => ⟨S1000000x64, .f32⟩

abbrev bufTy : (tb : Table) → Fin (tcTables nBuf tb) → BufTy
  | .hbm, ⟨i, _⟩ => hbmTy i
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v2 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v3 : Ref sig .tc := ⟨.hbm, 100, rfl⟩
abbrev main_call4_v0 : Ref sig .tc := ⟨.hbm, 101, rfl⟩
abbrev main_call4_cst : Ref sig .tc := ⟨.hbm, 102, rfl⟩
abbrev main_call4_v1 : Ref sig .tc := ⟨.hbm, 103, rfl⟩
abbrev main_call4_v2 : Ref sig .tc := ⟨.hbm, 104, rfl⟩
abbrev main_v4 : Ref sig .tc := ⟨.hbm, 105, rfl⟩
abbrev main_cst : Ref sig .tc := ⟨.hbm, 106, rfl⟩
abbrev main_v5 : Ref sig .tc := ⟨.hbm, 107, rfl⟩
abbrev main_v6 : Ref sig .tc := ⟨.hbm, 108, rfl⟩
abbrev main_v7 : Ref sig .tc := ⟨.hbm, 109, rfl⟩
abbrev main_v8 : Ref sig .tc := ⟨.hbm, 110, rfl⟩
abbrev main_v9 : Ref sig .tc := ⟨.hbm, 111, rfl⟩
abbrev main_cst_0 : Ref sig .tc := ⟨.hbm, 112, rfl⟩
abbrev main_v10 : Ref sig .tc := ⟨.hbm, 113, rfl⟩
abbrev main_v11 : Ref sig .tc := ⟨.hbm, 114, rfl⟩
abbrev main_v12 : Ref sig .tc := ⟨.hbm, 115, rfl⟩
abbrev main_v13 : Ref sig .tc := ⟨.hbm, 116, rfl⟩
abbrev main_v14 : Ref sig .tc := ⟨.hbm, 117, rfl⟩
abbrev main_call5_v0 : Ref sig .tc := ⟨.hbm, 118, rfl⟩
abbrev main_call5_cst : Ref sig .tc := ⟨.hbm, 119, rfl⟩
abbrev main_call5_v1 : Ref sig .tc := ⟨.hbm, 120, rfl⟩
abbrev main_call5_v2 : Ref sig .tc := ⟨.hbm, 121, rfl⟩
abbrev main_v15 : Ref sig .tc := ⟨.hbm, 122, rfl⟩
abbrev main_cst_1 : Ref sig .tc := ⟨.hbm, 123, rfl⟩
abbrev main_v16 : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩
abbrev main_v20 : Ref sig .tc := ⟨.hbm, 128, rfl⟩
abbrev main_cst_2 : Ref sig .tc := ⟨.hbm, 129, rfl⟩
abbrev main_v21 : Ref sig .tc := ⟨.hbm, 130, rfl⟩
abbrev main_v22 : Ref sig .tc := ⟨.hbm, 131, rfl⟩
abbrev main_v23 : Ref sig .tc := ⟨.hbm, 132, rfl⟩
abbrev main_v24 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_call6_v0 : Ref sig .tc := ⟨.hbm, 137, rfl⟩
abbrev main_call6_cst : Ref sig .tc := ⟨.hbm, 138, rfl⟩
abbrev main_call6_v1 : Ref sig .tc := ⟨.hbm, 139, rfl⟩
abbrev main_v28 : Ref sig .tc := ⟨.hbm, 140, rfl⟩
abbrev main_call7_c : Ref sig .tc := ⟨.hbm, 141, rfl⟩
abbrev main_call7_v0 : Ref sig .tc := ⟨.hbm, 142, rfl⟩
abbrev main_call7_v1 : Ref sig .tc := ⟨.hbm, 143, rfl⟩
abbrev main_call7_c_0 : Ref sig .tc := ⟨.hbm, 144, rfl⟩
abbrev main_call7_v2 : Ref sig .tc := ⟨.hbm, 145, rfl⟩
abbrev main_call7_v3 : Ref sig .tc := ⟨.hbm, 146, rfl⟩
abbrev main_call7_v4 : Ref sig .tc := ⟨.hbm, 147, rfl⟩
abbrev main_call7_v5 : Ref sig .tc := ⟨.hbm, 148, rfl⟩
abbrev main_call7_c_1 : Ref sig .tc := ⟨.hbm, 149, rfl⟩
abbrev main_call7_c_2 : Ref sig .tc := ⟨.hbm, 150, rfl⟩
abbrev main_call7_v6 : Ref sig .tc := ⟨.hbm, 151, rfl⟩
abbrev main_call7_v7 : Ref sig .tc := ⟨.hbm, 152, rfl⟩
abbrev main_call7_v8 : Ref sig .tc := ⟨.hbm, 153, rfl⟩
abbrev main_call7_v9 : Ref sig .tc := ⟨.hbm, 154, rfl⟩
abbrev main_call7_v10 : Ref sig .tc := ⟨.hbm, 155, rfl⟩
abbrev main_call7_v11 : Ref sig .tc := ⟨.hbm, 156, rfl⟩
abbrev main_call7_c_3 : Ref sig .tc := ⟨.hbm, 157, rfl⟩
abbrev main_call7_v12 : Ref sig .tc := ⟨.hbm, 158, rfl⟩
abbrev main_call7_v13 : Ref sig .tc := ⟨.hbm, 159, rfl⟩
abbrev main_call7_v14 : Ref sig .tc := ⟨.hbm, 160, rfl⟩
abbrev main_call7_cst : Ref sig .tc := ⟨.hbm, 161, rfl⟩
abbrev main_call7_v15 : Ref sig .tc := ⟨.hbm, 162, rfl⟩
abbrev main_v29 : Ref sig .tc := ⟨.hbm, 163, rfl⟩
abbrev main_call8_c : Ref sig .tc := ⟨.hbm, 164, rfl⟩
abbrev main_call8_v0 : Ref sig .tc := ⟨.hbm, 165, rfl⟩
abbrev main_call8_v1 : Ref sig .tc := ⟨.hbm, 166, rfl⟩
abbrev main_call8_c_0 : Ref sig .tc := ⟨.hbm, 167, rfl⟩
abbrev main_call8_v2 : Ref sig .tc := ⟨.hbm, 168, rfl⟩
abbrev main_call8_v3 : Ref sig .tc := ⟨.hbm, 169, rfl⟩
abbrev main_call8_v4 : Ref sig .tc := ⟨.hbm, 170, rfl⟩
abbrev main_call8_v5 : Ref sig .tc := ⟨.hbm, 171, rfl⟩
abbrev main_call8_c_1 : Ref sig .tc := ⟨.hbm, 172, rfl⟩
abbrev main_call8_c_2 : Ref sig .tc := ⟨.hbm, 173, rfl⟩
abbrev main_call8_v6 : Ref sig .tc := ⟨.hbm, 174, rfl⟩
abbrev main_call8_v7 : Ref sig .tc := ⟨.hbm, 175, rfl⟩
abbrev main_call8_v8 : Ref sig .tc := ⟨.hbm, 176, rfl⟩
abbrev main_call8_v9 : Ref sig .tc := ⟨.hbm, 177, rfl⟩
abbrev main_call8_v10 : Ref sig .tc := ⟨.hbm, 178, rfl⟩
abbrev main_call8_v11 : Ref sig .tc := ⟨.hbm, 179, rfl⟩
abbrev main_call8_c_3 : Ref sig .tc := ⟨.hbm, 180, rfl⟩
abbrev main_call8_v12 : Ref sig .tc := ⟨.hbm, 181, rfl⟩
abbrev main_call8_v13 : Ref sig .tc := ⟨.hbm, 182, rfl⟩
abbrev main_call8_v14 : Ref sig .tc := ⟨.hbm, 183, rfl⟩
abbrev main_call8_cst : Ref sig .tc := ⟨.hbm, 184, rfl⟩
abbrev main_call8_v15 : Ref sig .tc := ⟨.hbm, 185, rfl⟩
abbrev main_v30 : Ref sig .tc := ⟨.hbm, 186, rfl⟩
abbrev main_call9_c : Ref sig .tc := ⟨.hbm, 187, rfl⟩
abbrev main_call9_v0 : Ref sig .tc := ⟨.hbm, 188, rfl⟩
abbrev main_call9_v1 : Ref sig .tc := ⟨.hbm, 189, rfl⟩
abbrev main_call9_c_0 : Ref sig .tc := ⟨.hbm, 190, rfl⟩
abbrev main_call9_v2 : Ref sig .tc := ⟨.hbm, 191, rfl⟩
abbrev main_call9_v3 : Ref sig .tc := ⟨.hbm, 192, rfl⟩
abbrev main_call9_v4 : Ref sig .tc := ⟨.hbm, 193, rfl⟩
abbrev main_call9_v5 : Ref sig .tc := ⟨.hbm, 194, rfl⟩
abbrev main_call9_c_1 : Ref sig .tc := ⟨.hbm, 195, rfl⟩
abbrev main_call9_c_2 : Ref sig .tc := ⟨.hbm, 196, rfl⟩
abbrev main_call9_v6 : Ref sig .tc := ⟨.hbm, 197, rfl⟩
abbrev main_call9_v7 : Ref sig .tc := ⟨.hbm, 198, rfl⟩
abbrev main_call9_v8 : Ref sig .tc := ⟨.hbm, 199, rfl⟩
abbrev main_call9_v9 : Ref sig .tc := ⟨.hbm, 200, rfl⟩
abbrev main_call9_v10 : Ref sig .tc := ⟨.hbm, 201, rfl⟩
abbrev main_call9_v11 : Ref sig .tc := ⟨.hbm, 202, rfl⟩
abbrev main_call9_c_3 : Ref sig .tc := ⟨.hbm, 203, rfl⟩
abbrev main_call9_v12 : Ref sig .tc := ⟨.hbm, 204, rfl⟩
abbrev main_call9_v13 : Ref sig .tc := ⟨.hbm, 205, rfl⟩
abbrev main_call9_v14 : Ref sig .tc := ⟨.hbm, 206, rfl⟩
abbrev main_call9_cst : Ref sig .tc := ⟨.hbm, 207, rfl⟩
abbrev main_call9_v15 : Ref sig .tc := ⟨.hbm, 208, rfl⟩
abbrev main_v31 : Ref sig .tc := ⟨.hbm, 209, rfl⟩
abbrev main_call10_c : Ref sig .tc := ⟨.hbm, 210, rfl⟩
abbrev main_call10_v0 : Ref sig .tc := ⟨.hbm, 211, rfl⟩
abbrev main_call10_v1 : Ref sig .tc := ⟨.hbm, 212, rfl⟩
abbrev main_call10_c_0 : Ref sig .tc := ⟨.hbm, 213, rfl⟩
abbrev main_call10_v2 : Ref sig .tc := ⟨.hbm, 214, rfl⟩
abbrev main_call10_v3 : Ref sig .tc := ⟨.hbm, 215, rfl⟩
abbrev main_call10_v4 : Ref sig .tc := ⟨.hbm, 216, rfl⟩
abbrev main_call10_v5 : Ref sig .tc := ⟨.hbm, 217, rfl⟩
abbrev main_call10_c_1 : Ref sig .tc := ⟨.hbm, 218, rfl⟩
abbrev main_call10_c_2 : Ref sig .tc := ⟨.hbm, 219, rfl⟩
abbrev main_call10_v6 : Ref sig .tc := ⟨.hbm, 220, rfl⟩
abbrev main_call10_v7 : Ref sig .tc := ⟨.hbm, 221, rfl⟩
abbrev main_call10_v8 : Ref sig .tc := ⟨.hbm, 222, rfl⟩
abbrev main_call10_v9 : Ref sig .tc := ⟨.hbm, 223, rfl⟩
abbrev main_call10_v10 : Ref sig .tc := ⟨.hbm, 224, rfl⟩
abbrev main_call10_v11 : Ref sig .tc := ⟨.hbm, 225, rfl⟩
abbrev main_call10_c_3 : Ref sig .tc := ⟨.hbm, 226, rfl⟩
abbrev main_call10_v12 : Ref sig .tc := ⟨.hbm, 227, rfl⟩
abbrev main_call10_v13 : Ref sig .tc := ⟨.hbm, 228, rfl⟩
abbrev main_call10_v14 : Ref sig .tc := ⟨.hbm, 229, rfl⟩
abbrev main_call10_cst : Ref sig .tc := ⟨.hbm, 230, rfl⟩
abbrev main_call10_v15 : Ref sig .tc := ⟨.hbm, 231, rfl⟩
abbrev main_v32 : Ref sig .tc := ⟨.hbm, 232, rfl⟩
abbrev main_call11_v0 : Ref sig .tc := ⟨.hbm, 233, rfl⟩
abbrev main_call11_cst : Ref sig .tc := ⟨.hbm, 234, rfl⟩
abbrev main_call11_v1 : Ref sig .tc := ⟨.hbm, 235, rfl⟩
abbrev main_call11_v2 : Ref sig .tc := ⟨.hbm, 236, rfl⟩
abbrev main_v33 : Ref sig .tc := ⟨.hbm, 237, rfl⟩
abbrev main_cst_3 : Ref sig .tc := ⟨.hbm, 238, rfl⟩
abbrev main_v34 : Ref sig .tc := ⟨.hbm, 239, rfl⟩
abbrev main_v35 : Ref sig .tc := ⟨.hbm, 240, rfl⟩
abbrev main_v36 : Ref sig .tc := ⟨.hbm, 241, rfl⟩
abbrev main_v37 : Ref sig .tc := ⟨.hbm, 242, rfl⟩
abbrev main_v38 : Ref sig .tc := ⟨.hbm, 243, rfl⟩
abbrev main_cst_4 : Ref sig .tc := ⟨.hbm, 244, rfl⟩
abbrev main_v39 : Ref sig .tc := ⟨.hbm, 245, rfl⟩
abbrev main_v40 : Ref sig .tc := ⟨.hbm, 246, rfl⟩
abbrev main_v41 : Ref sig .tc := ⟨.hbm, 247, rfl⟩
abbrev main_v42 : Ref sig .tc := ⟨.hbm, 248, rfl⟩
abbrev main_v43 : Ref sig .tc := ⟨.hbm, 249, rfl⟩
abbrev main_call12_v0 : Ref sig .tc := ⟨.hbm, 250, rfl⟩
abbrev main_call12_cst : Ref sig .tc := ⟨.hbm, 251, rfl⟩
abbrev main_call12_v1 : Ref sig .tc := ⟨.hbm, 252, rfl⟩
abbrev main_call12_v2 : Ref sig .tc := ⟨.hbm, 253, rfl⟩
abbrev main_v44 : Ref sig .tc := ⟨.hbm, 254, rfl⟩
abbrev main_cst_5 : Ref sig .tc := ⟨.hbm, 255, rfl⟩
abbrev main_v45 : Ref sig .tc := ⟨.hbm, 256, rfl⟩
abbrev main_v46 : Ref sig .tc := ⟨.hbm, 257, rfl⟩
abbrev main_v47 : Ref sig .tc := ⟨.hbm, 258, rfl⟩
abbrev main_v48 : Ref sig .tc := ⟨.hbm, 259, rfl⟩
abbrev main_v49 : Ref sig .tc := ⟨.hbm, 260, rfl⟩
abbrev main_cst_6 : Ref sig .tc := ⟨.hbm, 261, rfl⟩
abbrev main_v50 : Ref sig .tc := ⟨.hbm, 262, rfl⟩
abbrev main_v51 : Ref sig .tc := ⟨.hbm, 263, rfl⟩
abbrev main_v52 : Ref sig .tc := ⟨.hbm, 264, rfl⟩
abbrev main_v53 : Ref sig .tc := ⟨.hbm, 265, rfl⟩
abbrev main_v54 : Ref sig .tc := ⟨.hbm, 266, rfl⟩
abbrev main_v55 : Ref sig .tc := ⟨.hbm, 267, rfl⟩
abbrev main_v56 : Ref sig .tc := ⟨.hbm, 268, rfl⟩
abbrev main_call13_v0 : Ref sig .tc := ⟨.hbm, 269, rfl⟩
abbrev main_call13_cst : Ref sig .tc := ⟨.hbm, 270, rfl⟩
abbrev main_call13_v1 : Ref sig .tc := ⟨.hbm, 271, rfl⟩
abbrev main_v57 : Ref sig .tc := ⟨.hbm, 272, rfl⟩
abbrev main_v58 : Ref sig .tc := ⟨.hbm, 273, rfl⟩
abbrev main_cst_7 : Ref sig .tc := ⟨.hbm, 274, rfl⟩
abbrev main_v59 : Ref sig .tc := ⟨.hbm, 275, rfl⟩
abbrev main_v60 : Ref sig .tc := ⟨.hbm, 276, rfl⟩
abbrev main_cst_8 : Ref sig .tc := ⟨.hbm, 277, rfl⟩
abbrev main_v61 : Ref sig .tc := ⟨.hbm, 278, rfl⟩
abbrev main_v62 : Ref sig .tc := ⟨.hbm, 279, rfl⟩
abbrev main_cst_9 : Ref sig .tc := ⟨.hbm, 280, rfl⟩
abbrev main_v63 : Ref sig .tc := ⟨.hbm, 281, rfl⟩
abbrev main_v64 : Ref sig .tc := ⟨.hbm, 282, rfl⟩
abbrev main_cst_10 : Ref sig .tc := ⟨.hbm, 283, rfl⟩
abbrev main_v65 : Ref sig .tc := ⟨.hbm, 284, rfl⟩

abbrev nD : Nat := 1
abbrev τ : Topo := Topo.v7x

variable {F : FTy → Type} [FloatOps F]
-- ==== Proof.SameDefs.lean ====
/-
  The program as printed and the program over the reals define the same bodies.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

set_option maxHeartbeats 0 in
set_option smartUnfolding false in
/-- The two texts' bodies, over the words, are the same. -/
theorem defs_same : Cert.Kernel.defs (F := Bits) = Cert.KernelIdeal.defs (F := Bits) := by rfl

end Cert.Proof

end
-- ==== Proof.SameThreads.lean ====
/-
  The program as printed and the program over the reals start the same threads.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

set_option maxHeartbeats 0 in
set_option smartUnfolding false in
/-- The two texts' threads, over the words, are the same. -/
theorem threads_same : Cert.Kernel.threads (F := Bits) = Cert.KernelIdeal.threads (F := Bits) := by rfl

end Cert.Proof

end
-- ==== Proof.Base.lean ====
/-
  The program as the SparseCore launch sees it, and the resource algebra the proof works in: three components, the
  launch handshakes' rounds, the TensorCore pipelines' staging cells, and the counters of the tiles' own transfers.
  Everything is stated of the idealised program at ANY float values `F`; the concrete program has the same text.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Threads
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program's own kernels with the three pipelines' entries. -/
abbrev ΛP : Labels := Pipeline.Sig Λ₀ (Fin 3) fun p => (pcfgs (F := F) p).Adm
/-- The two SparseCore calls. -/
abbrev K : SparseCore.Cfg τ sig (ΛP (F := F)) 2 := sc (F := F)
/-- The table of kernel bodies, the pipelines' included. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch decides of the two calls' semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging cells' rounds, and both with the transfers' counters. -/
abbrev UH : Type := URounds (GSem nD τ sig) ℕ
abbrev UPI : Type := URounds (GSem nD τ sig) Unit
abbrev UU : Type := UH × (UPI × Counters)

local notation "𝕄" => MT nD τ sig (HIx 2) (Elt F) ℕ UU ℕ

abbrev EH : Emb UH (MT nD τ sig (HIx 2) (Elt F) ℕ UU ℕ) := embL
abbrev EP : Emb UPI (MT nD τ sig (HIx 2) (Elt F) ℕ UU ℕ) := (Emb.inl : Emb UPI (UPI × Counters)).trans embR
instance EP_landsIn : (EP : Emb UPI 𝕄).LandsIn (upEmb : UEmb _ 𝕄) := by unfold EP embR; infer_instance

/-- Two values of a number below two. -/
def sl2 (n : ℕ) : Fin 2 := ⟨n % 2, Nat.mod_lt _ (by decide)⟩
theorem sl2_add (n : ℕ) : sl2 (n + 2) = sl2 n := Fin.ext (Nat.add_mod_right n 2)

/-- Step numbers from `n` on, of the eight a tile takes; -/
def from8 (n : ℕ) : Finset (Fin 8) := Finset.univ.filter fun t : Fin 8 => n ≤ t.val
/-- those below `n`. -/
def below8 (n : ℕ) : Finset (Fin 8) := Finset.univ.filter fun t : Fin 8 => t.val < n
theorem from8_zero : from8 0 = Finset.univ := by decide
theorem from8_succ (n : ℕ) (h : n < 8) : from8 n = insert ⟨n, h⟩ (from8 (n + 1)) := by revert h n; decide
theorem not_mem_from8 (n : ℕ) (h : n < 8) : (⟨n, h⟩ : Fin 8) ∉ from8 (n + 1) := by revert h n; decide
theorem below8_zero : below8 0 = ∅ := by decide
theorem below8_succ (n : ℕ) (h : n < 8) : below8 (n + 1) = insert ⟨n, h⟩ (below8 n) := by revert h n; decide
theorem not_mem_below8 (n : ℕ) (h : n < 8) : (⟨n, h⟩ : Fin 8) ∉ below8 n := by revert h n; decide
theorem below8_eight : below8 8 = Finset.univ := by decide
theorem from8_eight : from8 8 = ∅ := by decide
theorem from8_nine : from8 9 = ∅ := by decide
theorem bigSep_from8 (n : ℕ) (h : n < 8) (Φ : Fin 8 → sProp 𝕄) : bigSep (from8 n) Φ = iprop(Φ ⟨n, h⟩ ∗ bigSep (from8 (n + 1)) Φ) := by
  rw [from8_succ n h, SparseCore.bigSep_insert' (not_mem_from8 n h)]
theorem bigSep_below8 (n : ℕ) (h : n < 8) (Φ : Fin 8 → sProp 𝕄) : bigSep (below8 (n + 1)) Φ = iprop(Φ ⟨n, h⟩ ∗ bigSep (below8 n) Φ) := by
  rw [below8_succ n h, SparseCore.bigSep_insert' (not_mem_below8 n h)]
attribute [irreducible] from8 below8

/-- A wait recorded with no call keeps what is known of the recorded waits. -/
theorem rec_insert {W W' : Waits sig (HIx 2)} (sm : SemLoc sig) (h : ∀ p ∈ W', p ∈ W ∨ p.2 = none) :
    ∀ p ∈ insert (sm, (default : HIx 2)) W', p ∈ W ∨ p.2 = none := fun p hp =>
  (Finset.mem_insert.mp hp).elim (fun e => .inr (e ▸ rfl)) (h p)

end Cert.Proof

end
-- ==== Proof.Host.lean ====
/-
  The host operations between the program's calls, as lists: what each stretch writes, what it leaves, and the values it
  computes.  The index of a gathered row, the selected half of it and the loss handed back are host values.
-/
module

public import proofs.«01_k».proof.Proof.Base
public import Idealize.ShloMosaic.Lib.Pipeline.Frame
public import Idealize.ShloMosaic.Lib.StableHlo.Run

@[expose] public section

noncomputable section

namespace Cert.Proof

open Cert.KernelIdeal Cert.KernelIdeal.Gen
open Idealize.ShloMosaic Idealize.ShloMosaic.TcCoe
open Idealize.ShloMosaic.SparseCore (S V T)
open Idealize.SL Idealize.SL.Sem
open Idealize.ShloMosaic.StableHlo

variable {F : FTy → Type} [FloatOps F]

/-- The program's host operations and calls are of this signature. -/
abbrev MainProg : Type 1 := Prog (TpuEff nD τ sig (Elt F) (SparseCore.Sig (ΛP (F := F)) 2) .tc) PUnit

/-- Integer division rounding down, as the host spells it: the quotient rounded towards zero, less one where the signs
    differ and something is left over. -/
def floorDiv (x : S65536.Idx → BitVec 32) (n : S_.Idx → BitVec 32) : S65536.Idx → BitVec 32 :=
  select (andi (cmpi .ne (signi x) (broadcastInDim S65536 ![] bcast_S_S65536 (signi n)))
      (cmpi .ne (Host.remsi x (broadcastInDim S65536 ![] bcast_S_S65536 n)) (broadcastInDim S65536 ![] bcast_S_S65536 (constantI S_ 32 0#32))))
    (subi (Host.divsi x (broadcastInDim S65536 ![] bcast_S_S65536 n)) (broadcastInDim S65536 ![] bcast_S_S65536 (constantI S_ 32 1#32)))
    (Host.divsi x (broadcastInDim S65536 ![] bcast_S_S65536 n))

/-- The divisor the remainder uses: one in place of zero. -/
def remBy (n : S_.Idx → BitVec 32) : S_.Idx → BitVec 32 :=
  select (cmpi .eq n (constantI S_ 32 0#32)) (constantI S_ 32 1#32) n

/-- The remainder of that division: the one rounding towards zero leaves, plus the divisor where it is not zero and its
    sign is not the divisor's. -/
def floorRem (x : S65536.Idx → BitVec 32) (n : S_.Idx → BitVec 32) : S65536.Idx → BitVec 32 :=
  select (andi (cmpi .ne (cmpi .slt (Host.remsi x (broadcastInDim S65536 ![] bcast_S_S65536 (remBy n))) (broadcastInDim S65536 ![] bcast_S_S65536 (constantI S_ 32 0#32)))
        (broadcastInDim S65536 ![] bcast_S_S65536 (cmpi .slt (remBy n) (constantI S_ 32 0#32))))
      (cmpi .ne (Host.remsi x (broadcastInDim S65536 ![] bcast_S_S65536 (remBy n))) (broadcastInDim S65536 ![] bcast_S_S65536 (constantI S_ 32 0#32))))
    (addi (Host.remsi x (broadcastInDim S65536 ![] bcast_S_S65536 (remBy n))) (broadcastInDim S65536 ![] bcast_S_S65536 (remBy n)))
    (Host.remsi x (broadcastInDim S65536 ![] bcast_S_S65536 (remBy n)))

/-- The relations' indices, positive then negative, as one row. -/
def idxRel (a b : S16384.Idx → BitVec 32) : S1x32768.Idx → BitVec 32 :=
  shapeCast S1x32768 (concatenate S32768 0 [⟨S16384, a⟩, ⟨S16384, b⟩] concatenates_S16384_S16384_S32768_d0) shapeCasts_S32768_S1x32768

/-- The entities' indices: positive heads and tails, negative heads and tails. -/
def idxEnt (a b c d : S16384.Idx → BitVec 32) : S65536.Idx → BitVec 32 :=
  concatenate S65536 0 [⟨S16384, a⟩, ⟨S16384, b⟩, ⟨S16384, c⟩, ⟨S16384, d⟩] concatenates_S16384_S16384_S16384_S16384_S65536_d0

/-- The row of the paired table that holds an entity. -/
def idxRow (x : S65536.Idx → BitVec 32) : S1x65536.Idx → BitVec 32 :=
  shapeCast S1x65536 (addi (muli (floorDiv x (constantI S_ 32 32768#32)) (broadcastInDim S65536 ![] bcast_S_S65536 (constantI S_ 32 16384#32)))
    (floorRem x (constantI S_ 32 16384#32))) shapeCasts_S65536_S1x65536

/-- The half of that row it lies in, as a number, in eight equal rows. -/
def selRow (x : S65536.Idx → BitVec 32) : S8x65536.Idx → Elt F .f32 :=
  broadcastInDim S8x65536 ![0, 1] bcast_S1x65536_S8x65536_0_1 (broadcastInDim S1x65536 ![1] bcast_S65536_S1x65536_1
    (sitofp (F := F) .f32 (floorRem (floorDiv x (constantI S_ 32 16384#32)) (constantI S_ 32 2#32))))

/-- The operations of one call of the division. -/
abbrev divOps (arg0 : TRef sig ⟨S65536, .i32⟩) (arg1 : TRef sig ⟨S_, .i32⟩) (φ : fn_floor_divide.Bufs) : List (HloOp τ sig (Elt F)) :=
  [ TRef.unary arg1 φ.v0 id,
    TRef.unary φ.v0 φ.v1 (broadcastInDim S65536 ![] bcast_S_S65536),
    TRef.binary arg0 φ.v1 φ.v2 Host.divsi,
    TRef.unary arg0 φ.v3 signi,
    TRef.unary φ.v0 φ.v4 signi,
    TRef.unary φ.v4 φ.v5 (broadcastInDim S65536 ![] bcast_S_S65536),
    TRef.binary φ.v3 φ.v5 φ.v6 (cmpi .ne),
    TRef.unary φ.v0 φ.v7 (broadcastInDim S65536 ![] bcast_S_S65536),
    TRef.binary arg0 φ.v7 φ.v8 Host.remsi,
    TRef.nullary φ.c (constantI S_ 32 0#32),
    TRef.unary φ.c φ.v9 (broadcastInDim S65536 ![] bcast_S_S65536),
    TRef.binary φ.v8 φ.v9 φ.v10 (cmpi .ne),
    TRef.binary φ.v6 φ.v10 φ.v11 andi,
    TRef.nullary φ.c_0 (constantI S_ 32 1#32),
    TRef.unary φ.c_0 φ.v12 (broadcastInDim S65536 ![] bcast_S_S65536),
    TRef.binary φ.v2 φ.v12 φ.v13 subi,
    TRef.ternary φ.v11 φ.v13 φ.v2 φ.call0.v0 select ]

/-- The operations of one call of the remainder. -/
abbrev remOps (arg0 : TRef sig ⟨S65536, .i32⟩) (arg1 : TRef sig ⟨S_, .i32⟩) (φ : fn_remainder.Bufs) : List (HloOp τ sig (Elt F)) :=
  [ TRef.unary arg1 φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S65536 ![] bcast_S_S65536),
    TRef.binary arg0 φ.v3 φ.v4 Host.remsi,
    TRef.nullary φ.c_1 (constantI S_ 32 0#32),
    TRef.unary φ.c_1 φ.v5 (broadcastInDim S65536 ![] bcast_S_S65536),
    TRef.binary φ.v4 φ.v5 φ.v6 (cmpi .ne),
    TRef.nullary φ.c_2 (constantI S_ 32 0#32),
    TRef.unary φ.c_2 φ.v7 (broadcastInDim S65536 ![] bcast_S_S65536),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S65536 ![] bcast_S_S65536),
    TRef.binary φ.v8 φ.v10 φ.v11 (cmpi .ne),
    TRef.binary φ.v11 φ.v6 φ.v12 andi,
    TRef.unary φ.call0.v0 φ.v13 (broadcastInDim S65536 ![] bcast_S_S65536),
    TRef.binary φ.v4 φ.v13 φ.v14 addi,
    TRef.ternary φ.v12 φ.v14 φ.v4 φ.v15 select ]

set_option maxRecDepth 8192 in
theorem div_body (a : TRef sig ⟨S65536, .i32⟩) (b : TRef sig ⟨S_, .i32⟩) (φ : fn_floor_divide.Bufs) :
    (fn_floor_divide.body (F := F) a b φ) = seq (divOps a b φ) := rfl

set_option maxRecDepth 8192 in
theorem rem_body (a : TRef sig ⟨S65536, .i32⟩) (b : TRef sig ⟨S_, .i32⟩) (φ : fn_remainder.Bufs) :
    (fn_remainder.body (F := F) a b φ) = seq (remOps a b φ) := rfl

/-- Before the first gather. -/
abbrev opsA : List (HloOp τ sig (Elt F)) :=
  [ binary main_arg4 main_arg7 main_v1 ((fun a b => concatenate S32768 0 [⟨S16384, a⟩, ⟨S16384, b⟩] concatenates_S16384_S16384_S32768_d0) : (⟨S16384, .i32⟩ : BufTy).Contents (Elt F) → (⟨S16384, .i32⟩ : BufTy).Contents (Elt F) → (⟨S32768, .i32⟩ : BufTy).Contents (Elt F)),
    reshape main_v1 main_v2 (rfl : (.i32 : EltTy) = .i32) shapeCasts_S32768_S1x32768 ]
/-- Before the transposition. -/
abbrev opsB : List (HloOp τ sig (Elt F)) :=
  [ unary main_arg0 main_v4 ((transpose S64x1000000 [1, 0] · transposes_S1000000x64_S64x1000000_1_0) : (⟨S1000000x64, .f32⟩ : BufTy).Contents (Elt F) → (⟨S64x1000000, .f32⟩ : BufTy).Contents (Elt F)) ]
/-- Before the second gather: the indices; -/
abbrev opsC₀ : List (HloOp τ sig (Elt F)) :=
  [ nary ![main_arg3, main_arg5, main_arg6, main_arg8] main_v6 (fun u => (concatenate S65536 0 [⟨S16384, (u 0 : (⟨S16384, .i32⟩ : BufTy).Contents (Elt F))⟩, ⟨S16384, (u 1 : (⟨S16384, .i32⟩ : BufTy).Contents (Elt F))⟩, ⟨S16384, (u 2 : (⟨S16384, .i32⟩ : BufTy).Contents (Elt F))⟩, ⟨S16384, (u 3 : (⟨S16384, .i32⟩ : BufTy).Contents (Elt F))⟩] concatenates_S16384_S16384_S16384_S16384_S65536_d0 : (⟨S65536, .i32⟩ : BufTy).Contents (Elt F))),
    nullary main_c (constantI S_ 32 32768#32) ]
/-- the paired row of the entities' block; -/
abbrev opsC₂ : List (HloOp τ sig (Elt F)) :=
  [ nullary main_c_0 (constantI S_ 32 16384#32),
    unary main_c_0 main_v8 (broadcastInDim S65536 ![] bcast_S_S65536 : (⟨S_, .i32⟩ : BufTy).Contents (Elt F) → (⟨S65536, .i32⟩ : BufTy).Contents (Elt F)),
    binary main_v7 main_v8 main_v9 (muli : (⟨S65536, .i32⟩ : BufTy).Contents (Elt F) → (⟨S65536, .i32⟩ : BufTy).Contents (Elt F) → (⟨S65536, .i32⟩ : BufTy).Contents (Elt F)),
    nullary main_c_1 (constantI S_ 32 16384#32) ]
/-- the row within it added. -/
abbrev opsC₄ : List (HloOp τ sig (Elt F)) :=
  [ binary main_v9 main_v10 main_v11 (addi : (⟨S65536, .i32⟩ : BufTy).Contents (Elt F) → (⟨S65536, .i32⟩ : BufTy).Contents (Elt F) → (⟨S65536, .i32⟩ : BufTy).Contents (Elt F)),
    reshape main_v11 main_v12 (rfl : (.i32 : EltTy) = .i32) shapeCasts_S65536_S1x65536 ]
/-- Before the loss: a row's half; -/
abbrev opsD₀ : List (HloOp τ sig (Elt F)) :=
  [ nullary main_c_2 (constantI S_ 32 16384#32) ]
/-- the two halves; -/
abbrev opsD₂ : List (HloOp τ sig (Elt F)) :=
  [ nullary main_c_3 (constantI S_ 32 2#32) ]
/-- the half as a number. -/
abbrev opsD₄ : List (HloOp τ sig (Elt F)) :=
  [ unary main_v15 main_v16 (sitofp .f32 : (⟨S65536, .i32⟩ : BufTy).Contents (Elt F) → (⟨S65536, .f32⟩ : BufTy).Contents (Elt F)),
    unary main_v16 main_v17 (broadcastInDim S1x65536 ![1] bcast_S65536_S1x65536_1 : (⟨S65536, .f32⟩ : BufTy).Contents (Elt F) → (⟨S1x65536, .f32⟩ : BufTy).Contents (Elt F)),
    unary main_v17 main_v18 (broadcastInDim S8x65536 ![0, 1] bcast_S1x65536_S8x65536_0_1 : (⟨S1x65536, .f32⟩ : BufTy).Contents (Elt F) → (⟨S8x65536, .f32⟩ : BufTy).Contents (Elt F)) ]
/-- After the loss. -/
abbrev opsE : List (HloOp τ sig (Elt F)) :=
  [ reshape main_v19 main_v20 (rfl : (.f32 : EltTy) = .f32) shapeCasts_S1x1_S_,
    nullary main_cst (constant S_ .f32 0x00000000#32),
    binary main_cst main_v20 main_v21 (addf : (⟨S_, .f32⟩ : BufTy).Contents (Elt F) → (⟨S_, .f32⟩ : BufTy).Contents (Elt F) → (⟨S_, .f32⟩ : BufTy).Contents (Elt F)) ]
/-- Before the second gather, all of it. -/
abbrev opsC : List (HloOp τ sig (Elt F)) :=
  opsC₀ ++ divOps (.of main_v6) (.of main_c) main_call0 ++ opsC₂ ++ remOps (.of main_v6) (.of main_c_1) main_call1 ++ opsC₄
/-- Before the loss, all of it. -/
abbrev opsD : List (HloOp τ sig (Elt F)) :=
  opsD₀ ++ divOps (.of main_v6) (.of main_c_2) main_call2 ++ opsD₂ ++ remOps (.of main_v14) (.of main_c_3) main_call3 ++ opsD₄

/-- A pipelined TensorCore call, as the program makes it. -/
abbrev callTc (p : Fin 3) : MainProg (F := F) := Prog.lift (.customCall (SparseCore.inner (Pipeline.entry p)) ())

/-- The program: five stretches of host operations around the five calls. -/
theorem main_stretches (d : Dev nD) : main (F := F) d = (do
    callTc 0
    seq opsA
    K.run d 0
    seq opsB
    callTc 1
    seq opsC
    K.run d 1
    seq opsD
    callTc 2
    seq opsE
    pure ⟨⟩) := by
  simp only [opsC, opsD, seq_append, ← div_body, ← rem_body, bind_assoc]
  rfl

/-- A single written buffer is in the list that names it. -/
theorem inW {W : List (Ref sig .tc)} {r : Ref sig .tc} (h : r ∈ W) :
    ({Proc.devRef .tc r} : Finset (DevRef τ sig)) ⊆ (W.map (Proc.devRef (τ := τ) .tc)).toFinset :=
  Finset.singleton_subset_iff.mpr (List.mem_toFinset.mpr (List.mem_map_of_mem h))

/-- What the stretch writes. -/
abbrev opsAW : List (Ref sig .tc) := [main_v1, main_v2]
set_option maxRecDepth 8192 in
/-- A buffer it does not write is as it was. -/
theorem opsA_keep (V : Valuation τ sig (Elt F)) (r : Ref sig .tc) (h : r ∉ opsAW) :
    after (opsA) V (Proc.devRef .tc r) = V (Proc.devRef .tc r) :=
  after_of_writes_sub (W := opsAW) (opsA) _ (show List.Forall _ (opsA : List (HloOp τ sig (Elt F))) from ⟨inW (by decide), inW (by decide)⟩) h

/-- What the stretch writes. -/
abbrev opsBW : List (Ref sig .tc) := [main_v4]
set_option maxRecDepth 8192 in
/-- A buffer it does not write is as it was. -/
theorem opsB_keep (V : Valuation τ sig (Elt F)) (r : Ref sig .tc) (h : r ∉ opsBW) :
    after (opsB) V (Proc.devRef .tc r) = V (Proc.devRef .tc r) :=
  after_of_writes_sub (W := opsBW) (opsB) _ (show List.Forall _ (opsB : List (HloOp τ sig (Elt F))) from inW (by decide)) h

/-- What the stretch writes. -/
abbrev opsC₀W : List (Ref sig .tc) := [main_v6, main_c]
set_option maxRecDepth 8192 in
/-- A buffer it does not write is as it was. -/
theorem opsC₀_keep (V : Valuation τ sig (Elt F)) (r : Ref sig .tc) (h : r ∉ opsC₀W) :
    after (opsC₀) V (Proc.devRef .tc r) = V (Proc.devRef .tc r) :=
  after_of_writes_sub (W := opsC₀W) (opsC₀) _ (show List.Forall _ (opsC₀ : List (HloOp τ sig (Elt F))) from ⟨inW (by decide), inW (by decide)⟩) h

/-- What the stretch writes. -/
abbrev opsC₁W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v7]
set_option maxRecDepth 8192 in
/-- A buffer it does not write is as it was. -/
theorem opsC₁_keep (V : Valuation τ sig (Elt F)) (r : Ref sig .tc) (h : r ∉ opsC₁W) :
    after (divOps (.of main_v6) (.of main_c) main_call0) V (Proc.devRef .tc r) = V (Proc.devRef .tc r) :=
  after_of_writes_sub (W := opsC₁W) (divOps (.of main_v6) (.of main_c) main_call0) _ (show List.Forall _ (divOps (.of main_v6) (.of main_c) main_call0 : List (HloOp τ sig (Elt F))) from ⟨inW (by decide), inW (by decide), inW (by decide), inW (by decide), inW (by decide), inW (by decide), inW (by decide), inW (by decide), inW (by decide), inW (by decide), inW (by decide), inW (by decide), inW (by decide), inW (by decide), inW (by decide), inW (by decide), inW (by decide)⟩) h

/-- What the stretch writes. -/
abbrev opsC₂W : List (Ref sig .tc) := [main_c_0, main_v8, main_v9, main_c_1]
set_option maxRecDepth 8192 in
/-- A buffer it does not write is as it was. -/
theorem opsC₂_keep (V : Valuation τ sig (Elt F)) (r : Ref sig .tc) (h : r ∉ opsC₂W) :
    after (opsC₂) V (Proc.devRef .tc r) = V (Proc.devRef .tc r) :=
  after_of_writes_sub (W := opsC₂W) (opsC₂) _ (show List.Forall _ (opsC₂ : List (HloOp τ sig (Elt F))) from ⟨inW (by decide), inW (by decide), inW (by decide), inW (by decide)⟩) h

/-- What the stretch writes. -/
abbrev opsC₃W : List (Ref sig .tc) := [main_call1_v0, main_call1_c, main_call1_v1, main_call1_c_0, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_call1_v2, main_v10]
set_option maxRecDepth 8192 in
/-- A buffer it does not write is as it was. -/
theorem opsC₃_keep (V : Valuation τ sig (Elt F)) (r : Ref sig .tc) (h : r ∉ opsC₃W) :
    after (remOps (.of main_v6) (.of main_c_1) main_call1) V (Proc.devRef .tc r) = V (Proc.devRef .tc r) :=
  after_of_writes_sub (W := opsC₃W) (remOps (.of main_v6) (.of main_c_1) main_call1) _ (show List.Forall _ (remOps (.of main_v6) (.of main_c_1) main_call1 : List (HloOp τ sig (Elt F))) from ⟨inW (by decide), inW (by decide), inW (by decide), inW (by decide), inW (by decide), inW (by decide), inW (by decide), inW (by decide), inW (by decide), inW (by decide), inW (by decide), inW (by decide), inW (by decide), inW (by decide), inW (by decide), inW (by decide), inW (by decide), inW (by decide), inW (by decide), inW (by decide), inW (by decide)⟩) h

/-- What the stretch writes. -/
abbrev opsC₄W : List (Ref sig .tc) := [main_v11, main_v12]
set_option maxRecDepth 8192 in
/-- A buffer it does not write is as it was. -/
theorem opsC₄_keep (V : Valuation τ sig (Elt F)) (r : Ref sig .tc) (h : r ∉ opsC₄W) :
    after (opsC₄) V (Proc.devRef .tc r) = V (Proc.devRef .tc r) :=
  after_of_writes_sub (W := opsC₄W) (opsC₄) _ (show List.Forall _ (opsC₄ : List (HloOp τ sig (Elt F))) from ⟨inW (by decide), inW (by decide)⟩) h

/-- What the stretch writes. -/
abbrev opsD₀W : List (Ref sig .tc) := [main_c_2]
set_option maxRecDepth 8192 in
/-- A buffer it does not write is as it was. -/
theorem opsD₀_keep (V : Valuation τ sig (Elt F)) (r : Ref sig .tc) (h : r ∉ opsD₀W) :
    after (opsD₀) V (Proc.devRef .tc r) = V (Proc.devRef .tc r) :=
  after_of_writes_sub (W := opsD₀W) (opsD₀) _ (show List.Forall _ (opsD₀ : List (HloOp τ sig (Elt F))) from inW (by decide)) h

/-- What the stretch writes. -/
abbrev opsD₁W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v14]
set_option maxRecDepth 8192 in
/-- A buffer it does not write is as it was. -/
theorem opsD₁_keep (V : Valuation τ sig (Elt F)) (r : Ref sig .tc) (h : r ∉ opsD₁W) :
    after (divOps (.of main_v6) (.of main_c_2) main_call2) V (Proc.devRef .tc r) = V (Proc.devRef .tc r) :=
  after_of_writes_sub (W := opsD₁W) (divOps (.of main_v6) (.of main_c_2) main_call2) _ (show List.Forall _ (divOps (.of main_v6) (.of main_c_2) main_call2 : List (HloOp τ sig (Elt F))) from ⟨inW (by decide), inW (by decide), inW (by decide), inW (by decide), inW (by decide), inW (by decide), inW (by decide), inW (by decide), inW (by decide), inW (by decide), inW (by decide), inW (by decide), inW (by decide), inW (by decide), inW (by decide), inW (by decide), inW (by decide)⟩) h

/-- What the stretch writes. -/
abbrev opsD₂W : List (Ref sig .tc) := [main_c_3]
set_option maxRecDepth 8192 in
/-- A buffer it does not write is as it was. -/
theorem opsD₂_keep (V : Valuation τ sig (Elt F)) (r : Ref sig .tc) (h : r ∉ opsD₂W) :
    after (opsD₂) V (Proc.devRef .tc r) = V (Proc.devRef .tc r) :=
  after_of_writes_sub (W := opsD₂W) (opsD₂) _ (show List.Forall _ (opsD₂ : List (HloOp τ sig (Elt F))) from inW (by decide)) h

/-- What the stretch writes. -/
abbrev opsD₃W : List (Ref sig .tc) := [main_call3_v0, main_call3_c, main_call3_v1, main_call3_c_0, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_call3_v2, main_v15]
set_option maxRecDepth 8192 in
/-- A buffer it does not write is as it was. -/
theorem opsD₃_keep (V : Valuation τ sig (Elt F)) (r : Ref sig .tc) (h : r ∉ opsD₃W) :
    after (remOps (.of main_v14) (.of main_c_3) main_call3) V (Proc.devRef .tc r) = V (Proc.devRef .tc r) :=
  after_of_writes_sub (W := opsD₃W) (remOps (.of main_v14) (.of main_c_3) main_call3) _ (show List.Forall _ (remOps (.of main_v14) (.of main_c_3) main_call3 : List (HloOp τ sig (Elt F))) from ⟨inW (by decide), inW (by decide), inW (by decide), inW (by decide), inW (by decide), inW (by decide), inW (by decide), inW (by decide), inW (by decide), inW (by decide), inW (by decide), inW (by decide), inW (by decide), inW (by decide), inW (by decide), inW (by decide), inW (by decide), inW (by decide), inW (by decide), inW (by decide), inW (by decide)⟩) h

/-- What the stretch writes. -/
abbrev opsD₄W : List (Ref sig .tc) := [main_v16, main_v17, main_v18]
set_option maxRecDepth 8192 in
/-- A buffer it does not write is as it was. -/
theorem opsD₄_keep (V : Valuation τ sig (Elt F)) (r : Ref sig .tc) (h : r ∉ opsD₄W) :
    after (opsD₄) V (Proc.devRef .tc r) = V (Proc.devRef .tc r) :=
  after_of_writes_sub (W := opsD₄W) (opsD₄) _ (show List.Forall _ (opsD₄ : List (HloOp τ sig (Elt F))) from ⟨inW (by decide), inW (by decide), inW (by decide)⟩) h

/-- What the stretch writes. -/
abbrev opsEW : List (Ref sig .tc) := [main_v20, main_cst, main_v21]
set_option maxRecDepth 8192 in
/-- A buffer it does not write is as it was. -/
theorem opsE_keep (V : Valuation τ sig (Elt F)) (r : Ref sig .tc) (h : r ∉ opsEW) :
    after (opsE) V (Proc.devRef .tc r) = V (Proc.devRef .tc r) :=
  after_of_writes_sub (W := opsEW) (opsE) _ (show List.Forall _ (opsE : List (HloOp τ sig (Elt F))) from ⟨inW (by decide), inW (by decide), inW (by decide)⟩) h

set_option maxRecDepth 8192 in
theorem div0_read (V : Valuation τ sig (Elt F)) :
    after (divOps (.of main_v6) (.of main_c) main_call0) V (Proc.devRef .tc main_v7)
      = floorDiv (V (Proc.devRef .tc main_v6)) (V (Proc.devRef .tc main_c)) := by
  simp only [divOps, TRef.binary, TRef.nullary, TRef.ternary, TRef.unary, TRef.toBuf, TRef.ofBuf, cast_eq]
  after_results_simp
  rfl

set_option maxRecDepth 8192 in
theorem rem1_read (V : Valuation τ sig (Elt F)) :
    after (remOps (.of main_v6) (.of main_c_1) main_call1) V (Proc.devRef .tc main_v10)
      = floorRem (V (Proc.devRef .tc main_v6)) (V (Proc.devRef .tc main_c_1)) := by
  simp only [remOps, TRef.binary, TRef.nullary, TRef.ternary, TRef.unary, TRef.toBuf, TRef.ofBuf, cast_eq]
  after_results_simp
  rfl

set_option maxRecDepth 8192 in
theorem div2_read (V : Valuation τ sig (Elt F)) :
    after (divOps (.of main_v6) (.of main_c_2) main_call2) V (Proc.devRef .tc main_v14)
      = floorDiv (V (Proc.devRef .tc main_v6)) (V (Proc.devRef .tc main_c_2)) := by
  simp only [divOps, TRef.binary, TRef.nullary, TRef.ternary, TRef.unary, TRef.toBuf, TRef.ofBuf, cast_eq]
  after_results_simp
  rfl

set_option maxRecDepth 8192 in
theorem rem3_read (V : Valuation τ sig (Elt F)) :
    after (remOps (.of main_v14) (.of main_c_3) main_call3) V (Proc.devRef .tc main_v15)
      = floorRem (V (Proc.devRef .tc main_v14)) (V (Proc.devRef .tc main_c_3)) := by
  simp only [remOps, TRef.binary, TRef.nullary, TRef.ternary, TRef.unary, TRef.toBuf, TRef.ofBuf, cast_eq]
  after_results_simp
  rfl

/-- The relations' indices after the first stretch. -/
theorem opsA_v2 (V : Valuation τ sig (Elt F)) :
    after opsA V (Proc.devRef .tc main_v2) = idxRel (V (Proc.devRef .tc main_arg4)) (V (Proc.devRef .tc main_arg7)) := by
  after_results
  rfl

/-- The transposed entities after the second. -/
theorem opsB_v4 (V : Valuation τ sig (Elt F)) :
    after opsB V (Proc.devRef .tc main_v4) = transpose S64x1000000 [1, 0] (V (Proc.devRef .tc main_arg0)) transposes_S1000000x64_S64x1000000_1_0 := by
  after_results

/-- The entities' indices after the third; -/
theorem opsC_v6 (V : Valuation τ sig (Elt F)) :
    after opsC V (Proc.devRef .tc main_v6)
      = idxEnt (V (Proc.devRef .tc main_arg3)) (V (Proc.devRef .tc main_arg5)) (V (Proc.devRef .tc main_arg6)) (V (Proc.devRef .tc main_arg8)) := by
  simp only [opsC, after_append]
  rw [opsC₄_keep _ _ (by decide), opsC₃_keep _ _ (by decide), opsC₂_keep _ _ (by decide), opsC₁_keep _ _ (by decide)]
  after_results
  rfl

/-- the rows they are found at. -/
theorem opsC_v12 (V : Valuation τ sig (Elt F)) :
    after opsC V (Proc.devRef .tc main_v12)
      = idxRow (idxEnt (V (Proc.devRef .tc main_arg3)) (V (Proc.devRef .tc main_arg5)) (V (Proc.devRef .tc main_arg6)) (V (Proc.devRef .tc main_arg8))) := by
  have h6 (U : Valuation τ sig (Elt F)) : after opsC₀ U (Proc.devRef .tc main_v6)
      = idxEnt (U (Proc.devRef .tc main_arg3)) (U (Proc.devRef .tc main_arg5)) (U (Proc.devRef .tc main_arg6)) (U (Proc.devRef .tc main_arg8)) := by
    after_results
    rfl
  have hc (U : Valuation τ sig (Elt F)) : after opsC₀ U (Proc.devRef .tc main_c) = constantI S_ 32 32768#32 := by
    after_results
  have h9 (U : Valuation τ sig (Elt F)) : after opsC₂ U (Proc.devRef .tc main_v9)
      = muli (U (Proc.devRef .tc main_v7)) (broadcastInDim S65536 ![] bcast_S_S65536 (constantI S_ 32 16384#32)) := by
    after_results
  have hc1 (U : Valuation τ sig (Elt F)) : after opsC₂ U (Proc.devRef .tc main_c_1) = constantI S_ 32 16384#32 := by
    after_results
  have h12 (U : Valuation τ sig (Elt F)) : after opsC₄ U (Proc.devRef .tc main_v12)
      = shapeCast S1x65536 (addi (U (Proc.devRef .tc main_v9)) (U (Proc.devRef .tc main_v10))) shapeCasts_S65536_S1x65536 := by
    after_results
    rfl
  simp only [opsC, after_append]
  rw [h12, rem1_read, opsC₃_keep _ main_v9 (by decide), h9, hc1, div0_read, opsC₂_keep _ main_v6 (by decide), opsC₁_keep _ main_v6 (by decide), h6, hc]
  rfl

/-- The halves after the fourth. -/
theorem opsD_v18 (V : Valuation τ sig (Elt F)) :
    after opsD V (Proc.devRef .tc main_v18) = selRow (V (Proc.devRef .tc main_v6)) := by
  have hc (U : Valuation τ sig (Elt F)) : after opsD₀ U (Proc.devRef .tc main_c_2) = constantI S_ 32 16384#32 := by
    after_results
  have hc3 (U : Valuation τ sig (Elt F)) : after opsD₂ U (Proc.devRef .tc main_c_3) = constantI S_ 32 2#32 := by
    after_results
  have h18 (U : Valuation τ sig (Elt F)) : after opsD₄ U (Proc.devRef .tc main_v18)
      = broadcastInDim S8x65536 ![0, 1] bcast_S1x65536_S8x65536_0_1 (broadcastInDim S1x65536 ![1] bcast_S65536_S1x65536_1
        (sitofp (F := F) .f32 (U (Proc.devRef .tc main_v15)))) := by
    after_results
  simp only [opsD, after_append]
  rw [h18, rem3_read, hc3, opsD₂_keep _ main_v14 (by decide), div2_read, hc, opsD₀_keep _ main_v6 (by decide)]
  rfl

/-- A buffer no operation before the second gather writes. -/
theorem opsC_keep (V : Valuation τ sig (Elt F)) (r : Ref sig .tc)
    (h : r ∉ opsC₀W ++ opsC₁W ++ opsC₂W ++ opsC₃W ++ opsC₄W) : after opsC V (Proc.devRef .tc r) = V (Proc.devRef .tc r) := by
  simp only [List.mem_append, not_or] at h
  simp only [opsC, after_append]
  rw [opsC₄_keep _ _ h.2, opsC₃_keep _ _ h.1.2, opsC₂_keep _ _ h.1.1.2, opsC₁_keep _ _ h.1.1.1.2, opsC₀_keep _ _ h.1.1.1.1]

/-- A buffer no operation between the second gather and the loss writes. -/
theorem opsD_keep (V : Valuation τ sig (Elt F)) (r : Ref sig .tc)
    (h : r ∉ opsD₀W ++ opsD₁W ++ opsD₂W ++ opsD₃W ++ opsD₄W) : after opsD V (Proc.devRef .tc r) = V (Proc.devRef .tc r) := by
  simp only [List.mem_append, not_or] at h
  simp only [opsD, after_append]
  rw [opsD₄_keep _ _ h.2, opsD₃_keep _ _ h.1.2, opsD₂_keep _ _ h.1.1.2, opsD₁_keep _ _ h.1.1.1.2, opsD₀_keep _ _ h.1.1.1.1]

/-- The loss handed back. -/
theorem opsE_v21 (V : Valuation τ sig (Elt F)) :
    after opsE V (Proc.devRef .tc main_v21)
      = addf (constant S_ .f32 0x00000000#32) (shapeCast S_ (V (Proc.devRef .tc main_v19)) shapeCasts_S1x1_S_) := by
  after_results
  rfl

theorem opsA_sub : ∀ op ∈ (opsA : List (HloOp τ sig (Elt F))), op.bufs ⊆ Pipeline.ucRefs τ sig := fun op h =>
  Pipeline.sub_ucRefs op (List.forall_iff_forall_mem.mp (show List.Forall (fun op => op.bufs ⊆ tcRefs τ sig) (opsA : List (HloOp τ sig (Elt F))) from ⟨binary_bufs_sub .., reshape_bufs_sub ..⟩) op h)
theorem opsA_fresh : ∀ op ∈ (opsA : List (HloOp τ sig (Elt F))), op.fresh = ∅ := fun op h =>
  List.forall_iff_forall_mem.mp (show List.Forall (fun op => op.fresh = ∅) (opsA : List (HloOp τ sig (Elt F))) from ⟨rfl, rfl⟩) op h
theorem opsB_sub : ∀ op ∈ (opsB : List (HloOp τ sig (Elt F))), op.bufs ⊆ Pipeline.ucRefs τ sig := fun op h =>
  Pipeline.sub_ucRefs op (List.forall_iff_forall_mem.mp (show List.Forall (fun op => op.bufs ⊆ tcRefs τ sig) (opsB : List (HloOp τ sig (Elt F))) from unary_bufs_sub ..) op h)
theorem opsB_fresh : ∀ op ∈ (opsB : List (HloOp τ sig (Elt F))), op.fresh = ∅ := fun op h =>
  List.forall_iff_forall_mem.mp (show List.Forall (fun op => op.fresh = ∅) (opsB : List (HloOp τ sig (Elt F))) from rfl) op h
theorem opsC₀_sub : ∀ op ∈ (opsC₀ : List (HloOp τ sig (Elt F))), op.bufs ⊆ Pipeline.ucRefs τ sig := fun op h =>
  Pipeline.sub_ucRefs op (List.forall_iff_forall_mem.mp (show List.Forall (fun op => op.bufs ⊆ tcRefs τ sig) (opsC₀ : List (HloOp τ sig (Elt F))) from ⟨nary_bufs_sub .., nullary_bufs_sub ..⟩) op h)
theorem opsC₀_fresh : ∀ op ∈ (opsC₀ : List (HloOp τ sig (Elt F))), op.fresh = ∅ := fun op h =>
  List.forall_iff_forall_mem.mp (show List.Forall (fun op => op.fresh = ∅) (opsC₀ : List (HloOp τ sig (Elt F))) from ⟨rfl, rfl⟩) op h
theorem opsC₁_sub : ∀ op ∈ (divOps (.of main_v6) (.of main_c) main_call0 : List (HloOp τ sig (Elt F))), op.bufs ⊆ Pipeline.ucRefs τ sig := fun op h =>
  Pipeline.sub_ucRefs op (List.forall_iff_forall_mem.mp (show List.Forall (fun op => op.bufs ⊆ tcRefs τ sig) (divOps (.of main_v6) (.of main_c) main_call0 : List (HloOp τ sig (Elt F))) from ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩) op h)
theorem opsC₁_fresh : ∀ op ∈ (divOps (.of main_v6) (.of main_c) main_call0 : List (HloOp τ sig (Elt F))), op.fresh = ∅ := fun op h =>
  List.forall_iff_forall_mem.mp (show List.Forall (fun op => op.fresh = ∅) (divOps (.of main_v6) (.of main_c) main_call0 : List (HloOp τ sig (Elt F))) from ⟨rfl, rfl, rfl, rfl, rfl, rfl, rfl, rfl, rfl, rfl, rfl, rfl, rfl, rfl, rfl, rfl, rfl⟩) op h
theorem opsC₂_sub : ∀ op ∈ (opsC₂ : List (HloOp τ sig (Elt F))), op.bufs ⊆ Pipeline.ucRefs τ sig := fun op h =>
  Pipeline.sub_ucRefs op (List.forall_iff_forall_mem.mp (show List.Forall (fun op => op.bufs ⊆ tcRefs τ sig) (opsC₂ : List (HloOp τ sig (Elt F))) from ⟨nullary_bufs_sub .., unary_bufs_sub .., binary_bufs_sub .., nullary_bufs_sub ..⟩) op h)
theorem opsC₂_fresh : ∀ op ∈ (opsC₂ : List (HloOp τ sig (Elt F))), op.fresh = ∅ := fun op h =>
  List.forall_iff_forall_mem.mp (show List.Forall (fun op => op.fresh = ∅) (opsC₂ : List (HloOp τ sig (Elt F))) from ⟨rfl, rfl, rfl, rfl⟩) op h
theorem opsC₃_sub : ∀ op ∈ (remOps (.of main_v6) (.of main_c_1) main_call1 : List (HloOp τ sig (Elt F))), op.bufs ⊆ Pipeline.ucRefs τ sig := fun op h =>
  Pipeline.sub_ucRefs op (List.forall_iff_forall_mem.mp (show List.Forall (fun op => op.bufs ⊆ tcRefs τ sig) (remOps (.of main_v6) (.of main_c_1) main_call1 : List (HloOp τ sig (Elt F))) from ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩) op h)
theorem opsC₃_fresh : ∀ op ∈ (remOps (.of main_v6) (.of main_c_1) main_call1 : List (HloOp τ sig (Elt F))), op.fresh = ∅ := fun op h =>
  List.forall_iff_forall_mem.mp (show List.Forall (fun op => op.fresh = ∅) (remOps (.of main_v6) (.of main_c_1) main_call1 : List (HloOp τ sig (Elt F))) from ⟨rfl, rfl, rfl, rfl, rfl, rfl, rfl, rfl, rfl, rfl, rfl, rfl, rfl, rfl, rfl, rfl, rfl, rfl, rfl, rfl, rfl⟩) op h
theorem opsC₄_sub : ∀ op ∈ (opsC₄ : List (HloOp τ sig (Elt F))), op.bufs ⊆ Pipeline.ucRefs τ sig := fun op h =>
  Pipeline.sub_ucRefs op (List.forall_iff_forall_mem.mp (show List.Forall (fun op => op.bufs ⊆ tcRefs τ sig) (opsC₄ : List (HloOp τ sig (Elt F))) from ⟨binary_bufs_sub .., reshape_bufs_sub ..⟩) op h)
theorem opsC₄_fresh : ∀ op ∈ (opsC₄ : List (HloOp τ sig (Elt F))), op.fresh = ∅ := fun op h =>
  List.forall_iff_forall_mem.mp (show List.Forall (fun op => op.fresh = ∅) (opsC₄ : List (HloOp τ sig (Elt F))) from ⟨rfl, rfl⟩) op h
theorem opsD₀_sub : ∀ op ∈ (opsD₀ : List (HloOp τ sig (Elt F))), op.bufs ⊆ Pipeline.ucRefs τ sig := fun op h =>
  Pipeline.sub_ucRefs op (List.forall_iff_forall_mem.mp (show List.Forall (fun op => op.bufs ⊆ tcRefs τ sig) (opsD₀ : List (HloOp τ sig (Elt F))) from nullary_bufs_sub ..) op h)
theorem opsD₀_fresh : ∀ op ∈ (opsD₀ : List (HloOp τ sig (Elt F))), op.fresh = ∅ := fun op h =>
  List.forall_iff_forall_mem.mp (show List.Forall (fun op => op.fresh = ∅) (opsD₀ : List (HloOp τ sig (Elt F))) from rfl) op h
theorem opsD₁_sub : ∀ op ∈ (divOps (.of main_v6) (.of main_c_2) main_call2 : List (HloOp τ sig (Elt F))), op.bufs ⊆ Pipeline.ucRefs τ sig := fun op h =>
  Pipeline.sub_ucRefs op (List.forall_iff_forall_mem.mp (show List.Forall (fun op => op.bufs ⊆ tcRefs τ sig) (divOps (.of main_v6) (.of main_c_2) main_call2 : List (HloOp τ sig (Elt F))) from ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩) op h)
theorem opsD₁_fresh : ∀ op ∈ (divOps (.of main_v6) (.of main_c_2) main_call2 : List (HloOp τ sig (Elt F))), op.fresh = ∅ := fun op h =>
  List.forall_iff_forall_mem.mp (show List.Forall (fun op => op.fresh = ∅) (divOps (.of main_v6) (.of main_c_2) main_call2 : List (HloOp τ sig (Elt F))) from ⟨rfl, rfl, rfl, rfl, rfl, rfl, rfl, rfl, rfl, rfl, rfl, rfl, rfl, rfl, rfl, rfl, rfl⟩) op h
theorem opsD₂_sub : ∀ op ∈ (opsD₂ : List (HloOp τ sig (Elt F))), op.bufs ⊆ Pipeline.ucRefs τ sig := fun op h =>
  Pipeline.sub_ucRefs op (List.forall_iff_forall_mem.mp (show List.Forall (fun op => op.bufs ⊆ tcRefs τ sig) (opsD₂ : List (HloOp τ sig (Elt F))) from nullary_bufs_sub ..) op h)
theorem opsD₂_fresh : ∀ op ∈ (opsD₂ : List (HloOp τ sig (Elt F))), op.fresh = ∅ := fun op h =>
  List.forall_iff_forall_mem.mp (show List.Forall (fun op => op.fresh = ∅) (opsD₂ : List (HloOp τ sig (Elt F))) from rfl) op h
theorem opsD₃_sub : ∀ op ∈ (remOps (.of main_v14) (.of main_c_3) main_call3 : List (HloOp τ sig (Elt F))), op.bufs ⊆ Pipeline.ucRefs τ sig := fun op h =>
  Pipeline.sub_ucRefs op (List.forall_iff_forall_mem.mp (show List.Forall (fun op => op.bufs ⊆ tcRefs τ sig) (remOps (.of main_v14) (.of main_c_3) main_call3 : List (HloOp τ sig (Elt F))) from ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩) op h)
theorem opsD₃_fresh : ∀ op ∈ (remOps (.of main_v14) (.of main_c_3) main_call3 : List (HloOp τ sig (Elt F))), op.fresh = ∅ := fun op h =>
  List.forall_iff_forall_mem.mp (show List.Forall (fun op => op.fresh = ∅) (remOps (.of main_v14) (.of main_c_3) main_call3 : List (HloOp τ sig (Elt F))) from ⟨rfl, rfl, rfl, rfl, rfl, rfl, rfl, rfl, rfl, rfl, rfl, rfl, rfl, rfl, rfl, rfl, rfl, rfl, rfl, rfl, rfl⟩) op h
theorem opsD₄_sub : ∀ op ∈ (opsD₄ : List (HloOp τ sig (Elt F))), op.bufs ⊆ Pipeline.ucRefs τ sig := fun op h =>
  Pipeline.sub_ucRefs op (List.forall_iff_forall_mem.mp (show List.Forall (fun op => op.bufs ⊆ tcRefs τ sig) (opsD₄ : List (HloOp τ sig (Elt F))) from ⟨unary_bufs_sub .., unary_bufs_sub .., unary_bufs_sub ..⟩) op h)
theorem opsD₄_fresh : ∀ op ∈ (opsD₄ : List (HloOp τ sig (Elt F))), op.fresh = ∅ := fun op h =>
  List.forall_iff_forall_mem.mp (show List.Forall (fun op => op.fresh = ∅) (opsD₄ : List (HloOp τ sig (Elt F))) from ⟨rfl, rfl, rfl⟩) op h
theorem opsE_sub : ∀ op ∈ (opsE : List (HloOp τ sig (Elt F))), op.bufs ⊆ Pipeline.ucRefs τ sig := fun op h =>
  Pipeline.sub_ucRefs op (List.forall_iff_forall_mem.mp (show List.Forall (fun op => op.bufs ⊆ tcRefs τ sig) (opsE : List (HloOp τ sig (Elt F))) from ⟨reshape_bufs_sub .., nullary_bufs_sub .., binary_bufs_sub ..⟩) op h)
theorem opsE_fresh : ∀ op ∈ (opsE : List (HloOp τ sig (Elt F))), op.fresh = ∅ := fun op h =>
  List.forall_iff_forall_mem.mp (show List.Forall (fun op => op.fresh = ∅) (opsE : List (HloOp τ sig (Elt F))) from ⟨rfl, rfl, rfl⟩) op h
/-- All of a stretch's operations name unscoped buffers only. -/
theorem opsC_sub : ∀ op ∈ (opsC : List (HloOp τ sig (Elt F))), op.bufs ⊆ Pipeline.ucRefs τ sig := fun op h => by
  simp only [opsC, List.mem_append] at h
  rcases h with (((h | h) | h) | h) | h
  exacts [opsC₀_sub op h, opsC₁_sub op h, opsC₂_sub op h, opsC₃_sub op h, opsC₄_sub op h]
theorem opsC_fresh : ∀ op ∈ (opsC : List (HloOp τ sig (Elt F))), op.fresh = ∅ := fun op h => by
  simp only [opsC, List.mem_append] at h
  rcases h with (((h | h) | h) | h) | h
  exacts [opsC₀_fresh op h, opsC₁_fresh op h, opsC₂_fresh op h, opsC₃_fresh op h, opsC₄_fresh op h]
/-- All of a stretch's operations name unscoped buffers only. -/
theorem opsD_sub : ∀ op ∈ (opsD : List (HloOp τ sig (Elt F))), op.bufs ⊆ Pipeline.ucRefs τ sig := fun op h => by
  simp only [opsD, List.mem_append] at h
  rcases h with (((h | h) | h) | h) | h
  exacts [opsD₀_sub op h, opsD₁_sub op h, opsD₂_sub op h, opsD₃_sub op h, opsD₄_sub op h]
theorem opsD_fresh : ∀ op ∈ (opsD : List (HloOp τ sig (Elt F))), op.fresh = ∅ := fun op h => by
  simp only [opsD, List.mem_append] at h
  rcases h with (((h | h) | h) | h) | h
  exacts [opsD₀_fresh op h, opsD₁_fresh op h, opsD₂_fresh op h, opsD₃_fresh op h, opsD₄_fresh op h]

end Cert.Proof

end
-- ==== Proof.Region.lean ====
/-
  The three kernel regions of @main as one rule: a TensorCore that has yet to start some SparseCore calls enters a
  pipeline, its debts to the later calls unchanged while the loop runs.
-/
module

public import proofs.«01_k».proof.Proof.Base

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat WinFacts₀ OwnSemFacts)

variable {F : FTy → Type} [FloatOps F]

local notation "𝕄" => MT nD τ sig (HIx 2) (Elt F) ℕ UU ℕ

/-- No pipeline reads a prefetched table. -/
abbrev adm : (p : Fin 3) → (pcfgs (F := F) p).Adm := fun q => (cfgs q).toPCfg_adm

/-- Proof data of a pipeline entered before SparseCore call `n`: nothing of its own carried but the scoped buffers no
    window stages, the TensorCore's debts to the calls from `n` on at every point. -/
def mkR (cfg : Pipeline.Cfg sig Λ₀) (d : Dev nD) (n : ℕ)
    (A : (w : Fin cfg.W) → Buf (Elt F) ((cfg.win w).arr.view.loc (d.tc : Thread nD τ)))
    (after : (w : Fin cfg.W) → Fin cfg.N → (Y X : (cfg.win w).block.Idx → Elt F (cfg.win w).elt) → Prop)
    (q : Fin cfg.W → PosShare TreeShare) : RDat τ (Elt F) (HIx 2) ℕ UU ℕ cfg d where
  A := A
  after := after
  Φ := fun _ => Pipeline.scopedRest cfg.spec d
  q := q
  owed := fun _ => (K (F := F)).Otc d n
  recorded := fun _ => {p | (K (F := F)).lev (T d, p.1) p.2 ≤ 8 * n}

/-- The TensorCore's debts are to cells of the launch, none at the index of a kernel's own waits. -/
theorem otc_none (d : Dev nD) (n : ℕ) : ∀ g, (K (F := F)).Otc d n g none = 0 := by
  intro g
  by_contra h
  have h2 := (K (F := F)).lev_of_Otc_pos (d := d) (n := n) (g := g) (ι := none) (Nat.pos_of_ne_zero h)
  rw [(K (F := F)).lev_none] at h2
  omega

/-- What the TensorCore's state before call `n` holds beside its debts. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 2) q)) 1)))

/-- The pairs a TensorCore may have recorded before call `n`. -/
def recd (d : Dev nD) (n : ℕ) : Set (SemLoc sig × HIx 2) := {p | (K (F := F)).lev (T d, p.1) p.2 ≤ 8 * n}

theorem tcSt_out (d : Dev nD) (n : ℕ) (B : Set (SemLoc sig × HIx 2)) :
    ((K (F := F)).tcSt EH d n : sProp 𝕄) ⊢ iprop(Pipeline.owesWithin d ((K (F := F)).Otc d n) (recd (F := F) d n ∪ B) ∗ tcRest d n) := by
  unfold SparseCore.Cfg.tcSt tcRest
  iintro ⟨⟨%W, %hW, HO⟩, HR⟩
  isplitl [HO]
  · iexists W; isplitr
    · ipureintro; exact fun p hp => Or.inl (hW p hp)
    iexact HO
  iexact HR

theorem tcSt_in (d : Dev nD) (n : ℕ) (B : Set (SemLoc sig × HIx 2)) (hB : ∀ p ∈ B, p.2 = none) :
    (iprop(Pipeline.owesWithin d ((K (F := F)).Otc d n) (recd (F := F) d n ∪ B) ∗ tcRest d n) : sProp 𝕄) ⊢ (K (F := F)).tcSt EH d n := by
  unfold SparseCore.Cfg.tcSt tcRest
  iintro ⟨⟨%W, %hW, HO⟩, HR⟩
  isplitl [HO]
  · iexists W; isplitr
    · ipureintro; intro p hp
      rcases hW hp with h | h
      · exact h
      · rw [hB p h]; exact Nat.zero_le _
    iexact HO
  iexact HR

/-- A pipeline of @main entered before SparseCore call `n`, from its arrays to its arrays. -/
def region (p : Fin 3) (rd : (d : Dev nD) → RDat τ (Elt F) (HIx 2) ℕ UU ℕ (cfgs p) d) (n : ℕ)
    (hwin : WinFacts₀ (cfgs p).spec) (hpos : ∀ w, 0 < ((cfgs p).spec w).block.numel)
    (hst : ∀ w s, (((cfgs p).spec w).stage s).IsWhole)
    (hΦ : ∀ d t, (rd d).Φ t = Pipeline.scopedRest (cfgs p).spec d)
    (howed : ∀ d t, (rd d).owed t = (K (F := F)).Otc d n)
    (hrec : ∀ d t, (rd d).recorded t = recd (F := F) d n)
    (hbody : ∀ d, (rd d).BodyObligation defs₀ 𝒱₀ none Set.univ) :
    Pipeline.RDat.RegionSeg (Name := ℕ) (U := UU) pcfgs adm (Pipeline.RDat.familyOf pcfgs adm p rd) none defs₀ 𝒱₀
      (K (F := F)).L (K (F := F)).lev p where
  win := hwin
  block_pos := hpos
  stage_whole := hst
  K := PEmpty
  osem := fun k => k.elim
  ho := OwnSemFacts.none _
  hbody := fun c => by rw [Pipeline.RDat.familyOf_self]; exact hbody c
  hwaits := fun c => by
    refine Pipeline.RDat.cellsWaits_intro _ _ _ _ _ fun w s t => ?_
    rw [Pipeline.RDat.familyOf_self, howed]
    exact (K (F := F)).mayWait_none _ (otc_none c n)
  pre := fun c => iprop((K (F := F)).tcSt EH c n ∗ (rd c).arrays (rd c).A)
  post := fun c => iprop((K (F := F)).tcSt EH c n ∗ (rd c).arraysAt (cfgs p).N)
  X := fun _ => iprop(emp)
  Y := fun _ => iprop(emp)
  Z := fun c => tcRest c n
  hentry := fun c => by
    rw [Pipeline.RDat.familyOf_self]
    iintro ⟨⟨Hst, Ha⟩, -, -⟩
    ihave H := (tcSt_out c n ((cfgs p).waitPairs none)) $$ Hst
    icases H with ⟨HO, HR⟩
    imodintro
    isplitl [Ha]; · iexact Ha
    isplitr
    · iapply (show (BI.emp : sProp 𝕄) ⊢ Pipeline.prefHeld (pcfgs (F := F) p).pre c (fun _ => fullShare) (adm p).1 from by
        unfold Pipeline.prefHeld; rw [show (Finset.univ : Finset (Fin (pcfgs (F := F) p).pre.K)) = ∅ from rfl, BI.bigSep_empty])
      iempintro
    isplitl [HO]
    · unfold RDat.owesAt RDat.bound
      rw [howed, hrec]; iexact HO
    isplitr; · iempintro
    iexact HR
  hin := fun c => by
    rw [Pipeline.RDat.familyOf_self, hΦ]
    iintro ⟨-, -, H⟩; iexact H
  hout := fun c => by
    rw [Pipeline.RDat.familyOf_self, hΦ, Pipeline.ownSems0_none]
    iintro H
    isplitr; · iempintro
    isplitr; · iempintro
    iexact H
  hexit := fun c => by
    rw [Pipeline.RDat.familyOf_self]
    unfold RDat.owesAt RDat.bound
    rw [howed, hrec]
    iintro ⟨Ha, HO, -, HR⟩
    imodintro
    isplitl [HO HR]
    · iapply (tcSt_in c n ((cfgs p).waitPairs none) (by rintro q ⟨w, s, rfl⟩; rfl))
      isplitl [HO]; · iexact HO
      iexact HR
    iexact Ha

/-- Entering a pipeline from @main, the arrays at what they hold to the arrays at what they may hold after it. -/
theorem wp_region (p : Fin 3) (rd : (d : Dev nD) → RDat τ (Elt F) (HIx 2) ℕ UU ℕ (cfgs p) d) (n : ℕ)
    (hwin : WinFacts₀ (cfgs p).spec) (hpos : ∀ w, 0 < ((cfgs p).spec w).block.numel)
    (hst : ∀ w s, (((cfgs p).spec w).stage s).IsWhole)
    (hΦ : ∀ d t, (rd d).Φ t = Pipeline.scopedRest (cfgs p).spec d)
    (howed : ∀ d t, (rd d).owed t = (K (F := F)).Otc d n)
    (hrec : ∀ d t, (rd d).recorded t = recd (F := F) d n)
    (hbody : ∀ d, (rd d).BodyObligation defs₀ 𝒱₀ none Set.univ) (d : Dev nD) :
    (iprop(levAts (K (F := F)).L (K (F := F)).lev ∗ (K (F := F)).tcSt EH d n ∗ boundary (T d) ∗ (rd d).arrays (rd d).A
        ∗ Pipeline.cellsGhost cfgs EP p d ∗ Pipeline.toksInit cfgs EP p d) : sProp 𝕄)
      ⊢ wp frame (wpE ((K (F := F)).defs D) 𝒱 (T d) none) Set.univ
          (Prog.lift (.customCall (SparseCore.inner (Pipeline.entry p)) ())) fun _ =>
          iprop((K (F := F)).tcSt EH d n ∗ boundary (T d) ∗ (rd d).arraysAt (cfgs p).N) := by
  refine BI.Entails.trans ?_ ((K (F := F)).wp_liftProg D 𝒱 (T d) Set.univ none (.op (.customCall (Pipeline.entry p) ()) .ret) _)
  refine BI.Entails.trans ?_ (Pipeline.RDat.RegionSeg.wp pcfgs adm (Pipeline.RDat.familyOf pcfgs adm p rd) none cellOf_inj EP defs₀ 𝒱₀
    (K (F := F)).L (K (F := F)).lev (region p rd n hwin hpos hst hΦ howed hrec hbody) d none (fun _ h => by cases h) _ _)
  show (iprop(levAts (K (F := F)).L (K (F := F)).lev ∗ (K (F := F)).tcSt EH d n ∗ boundary (T d) ∗ (rd d).arrays (rd d).A
        ∗ Pipeline.cellsGhost cfgs EP p d ∗ Pipeline.toksInit cfgs EP p d) : sProp 𝕄)
    ⊢ iprop((iprop(boundary (T d) ∗ ((K (F := F)).tcSt EH d n ∗ (rd d).arraysAt (cfgs p).N))
        -∗ wp frame (wpE (Pipeline.defs pcfgs defs₀) 𝒱 (T d) none) Set.univ (.ret PUnit.unit) fun _ =>
          iprop((K (F := F)).tcSt EH d n ∗ boundary (T d) ∗ (rd d).arraysAt (cfgs p).N))
      ∗ boundary (T d) ∗ ((K (F := F)).tcSt EH d n ∗ (rd d).arrays (rd d).A) ∗ levAts (K (F := F)).L (K (F := F)).lev
      ∗ Pipeline.cellsGhost cfgs EP p d ∗ Pipeline.toksInit cfgs EP p d)
  iintro ⟨#Hl, Hst, Hb, Ha, Hc, Ht⟩
  isplitr
  · iintro ⟨Hb, Hst, Ha⟩
    rw [wp_ret]; imodintro
    isplitl [Hst]; · iexact Hst
    isplitl [Hb]; · iexact Hb
    iexact Ha
  isplitl [Hb]; · iexact Hb
  isplitl [Hst Ha]
  · isplitl [Hst]; · iexact Hst
    iexact Ha
  isplitr; · iexact Hl
  isplitl [Hc]; · iexact Hc
  iexact Ht

end Cert.Proof
-- ==== Proof.Stage.lean ====
/-
  Loads and stores of a whole staging buffer, in terms of the contents its memref holds.
-/
module

public import proofs.«01_k».proof.Proof.Base

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD)

/-- The access of a memref at its whole rectangle reads what the memref reads. -/
theorem access_full_read {sp : Space} {s : Shape} {e : EltTy} (M : Memref sig .tc sp s e) (off : Fin s.rank → ℕ)
    (h : ∀ a, off a + s.size a ≤ s.size a) (f : Buf (Elt F) (M.view.loc (T d : Thread nD τ))) :
    (M.access (Rect.unit off s.size h)).read (Elt F) f = M.view.read (Elt F) f := by
  funext j
  have hz : off = fun _ => 0 := funext fun a => by have := h a; omega
  subst hz
  show M.view.read (Elt F) f ((Rect.unit (s := s) (fun _ => 0) s.size h).emb j) = M.view.read (Elt F) f j
  exact congrArg (M.view.read (Elt F) f) (funext fun a => Fin.ext (show 0 + 1 * (j a).val = (j a).val by omega))

/-- Reading a whole staging buffer: the program goes on at what it holds. -/
theorem wp_load_full {cs : CoreSpace} {s : Shape} {e : EltTy} (M : Memref sig .tc cs s e) (off : Fin s.rank → ℕ)
    (h : ∀ a, off a + s.size a ≤ s.size a) (hl : M.view.LoadsAt (Rect.unit off s.size h).toLoadRect)
    {α : Type} (k : (s.Idx → Elt F e) → Prog (TpuEff nD τ sig (Elt F) Λ₀ .tc) α) (q : PosShare TreeShare) (Y : s.Idx → Elt F e) (Q : α → sProp 𝕄) :
    (owns (T d : Thread nD τ) M q Y : sProp 𝕄)
      ⊢ iprop((owns (T d : Thread nD τ) M q Y -∗ wp frame (wpE defs₀ 𝒱₀ (T d) none) Set.univ (k Y) Q)
          -∗ wp frame (wpE defs₀ 𝒱₀ (T d) none) Set.univ (.op (.load M (Rect.unit off s.size h).toLoadRect hl) k) Q) := by
  unfold owns
  iintro ⟨%f, %hf, H⟩ Hk
  have hw := wp_load_rect (defs := defs₀ (F := F)) 𝒱₀ (T d : Thread nD τ) none (Γ := .empty) Set.univ (Q := Q) (m := M)
    (r := Rect.unit off s.size h) (hl := hl) (k := k) (S := M.view.set) (q := q) (f := f) (View.set_slice_subset _ _)
  rw [access_full_read, hf] at hw
  iapply hw $$ H
  iintro H
  iapply Hk
  iexists f; isplitr; · ipureintro; exact hf
  iexact H

/-- Overwriting a whole staging buffer: it holds what is written. -/
theorem wp_store_full {cs : CoreSpace} {s : Shape} {e : EltTy} (M : Memref sig .tc cs s e) (off : Fin s.rank → ℕ)
    (h : ∀ a, off a + s.size a ≤ s.size a) (w : s.Idx → Elt F e) (hx : (M.access (Rect.unit off s.size h)).Stores Finset.univ) (hm)
    {α : Type} (k : PUnit → Prog (TpuEff nD τ sig (Elt F) Λ₀ .tc) α) (Y : s.Idx → Elt F e) (Q : α → sProp 𝕄) :
    (owns (T d : Thread nD τ) M fullShare Y : sProp 𝕄)
      ⊢ iprop((owns (T d : Thread nD τ) M fullShare w -∗ wp frame (wpE defs₀ 𝒱₀ (T d) none) Set.univ (k ⟨⟩) Q)
          -∗ wp frame (wpE defs₀ 𝒱₀ (T d) none) Set.univ (.op (.store M (Rect.unit off s.size h) w Finset.univ hx hm) k) Q) := by
  unfold owns
  iintro ⟨%f, %hf, H⟩ Hk
  have hw := wp_store (defs := defs₀ (F := F)) 𝒱₀ (T d : Thread nD τ) none (Γ := .empty) Set.univ (Q := Q) (m := M)
    (r := Rect.unit off s.size h) (hx := hx) (hm := hm) (w := w) (k := k) (S := M.view.set) (f := f) (by rw [View.setOn_univ]; exact View.set_slice_subset _ _)
  iapply hw $$ H
  iintro H
  iapply Hk
  iexists _; isplitr
  · ipureintro
    have h2 := access_full_read (F := F) d M off h ((M.access (Rect.unit off s.size h)).write (Elt F) f w Finset.univ)
    exact h2.symm.trans (View.read_write_univ _ _)
  iexact H

end Cert.Proof
-- ==== Proof.Region0.lean ====
/-
  The first kernel region: one point, which reads the relation table and the normals and writes both side by side, the
  normals divided by their lengths.
-/
module

public import proofs.«01_k».proof.Proof.Region
public import proofs.«01_k».proof.Proof.Stage
public import Idealize.ShloMosaic.Lib.Pipeline.ArrRel
public import Idealize.ShloMosaic.Lib.ValueIdx

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (RDat WinFacts₀ OwnSemFacts)
open Idealize.ShloMosaic.ValueIdx (ix1 ix2 ix3)

variable {F : FTy → Type} [FloatOps F]

local notation "𝕄" => MT nD τ sig (HIx 2) (Elt F) ℕ UU ℕ

/-- What the windows' arrays hold on entry. -/
def arr0 (d : Dev nD) (rel nrm : S1000x64.Idx → Elt F .f32) (f0 : S1000x128.Idx → Elt F .f32) :
    (w : Fin 3) → Buf (Elt F) ((cfg0.win w).arr.view.loc (d.tc : Thread nD τ))
  | 0 => rel | 1 => nrm | 2 => f0

/-- What the body leaves: the inputs as they were, the output at the two halves side by side. -/
def aft0 (rel nrm : S1000x64.Idx → Elt F .f32) :
    (w : Fin 3) → Fin cfg0.N → (Y X : (cfg0.win w).block.Idx → Elt F (cfg0.win w).elt) → Prop
  | 0 => fun _ Y X => X = Y | 1 => fun _ Y X => X = Y | 2 => fun _ _ X => X = k0_pay1 nrm rel

/-- The proof data of the first region, entered before SparseCore call `n`. -/
def rd0 (n : ℕ) (rel nrm : Dev nD → S1000x64.Idx → Elt F .f32) (f0 : Dev nD → S1000x128.Idx → Elt F .f32) (d : Dev nD) :
    RDat τ (Elt F) (HIx 2) ℕ UU ℕ (cfgs 0) d :=
  mkR cfg0 d n (arr0 d (rel d) (nrm d) (f0 d)) (aft0 (rel d) (nrm d)) fun _ => fullShare

variable (n : ℕ) (rel nrm : Dev nD → S1000x64.Idx → Elt F .f32) (f0 : Dev nD → S1000x128.Idx → Elt F .f32) (d : Dev nD)

theorem finds0_0 (t : Fin cfg0.N) (Y : S1000x64.Idx → Elt F .f32) (h : (rd0 n rel nrm f0 d).Finds (0 : Fin 3) t Y) : Y = rel d := by
  rw [RDat.finds_of_fetch _ (fetch0_0 t)] at h
  obtain ⟨e, rfl⟩ := h
  funext j
  show (rel d) _ = rel d j
  exact congrArg (rel d) (funext fun a => Fin.ext (by
    show (cfg0.win 0).index t a * S1000x64.size a + 1 * (j a).val = (j a).val
    rw [show (cfg0.win 0).index t a = 0 from by revert a; rw [fin_N0 t]; decide +kernel]; omega))

theorem finds0_1 (t : Fin cfg0.N) (Y : S1000x64.Idx → Elt F .f32) (h : (rd0 n rel nrm f0 d).Finds (1 : Fin 3) t Y) : Y = nrm d := by
  rw [RDat.finds_of_fetch _ (fetch0_1 t)] at h
  obtain ⟨e, rfl⟩ := h
  funext j
  show (nrm d) _ = nrm d j
  exact congrArg (nrm d) (funext fun a => Fin.ext (by
    show (cfg0.win 1).index t a * S1000x64.size a + 1 * (j a).val = (j a).val
    rw [show (cfg0.win 1).index t a = 0 from by revert a; rw [fin_N0 t]; decide +kernel]; omega))

/-- The body, from the three staging buffers. -/
theorem body0 (M0 : Memref sig .tc .vmem S1000x64 .f32) (h0 : M0.IsWhole) (M1 : Memref sig .tc .vmem S1000x64 .f32) (h1 : M1.IsWhole)
    (M2 : Memref sig .tc .vmem S1000x128 .f32) (h2 : M2.IsWhole) (x y : S1000x64.Idx → Elt F .f32) (z : S1000x128.Idx → Elt F .f32) (R : sProp 𝕄) :
    (iprop(R ∗ owns (T d : Thread nD τ) M0 fullShare x ∗ owns (T d : Thread nD τ) M1 fullShare y ∗ owns (T d : Thread nD τ) M2 fullShare z) : sProp 𝕄)
      ⊢ wp frame (wpE defs₀ 𝒱₀ (T d) none) Set.univ (cc0__fuse_kernel M0 h0 M1 h1 M2 h2) fun _ =>
        iprop(R ∗ owns (T d : Thread nD τ) M0 fullShare x ∗ owns (T d : Thread nD τ) M1 fullShare y ∗ owns (T d : Thread nD τ) M2 fullShare (k0_pay1 y x)) := by
  rw [cc0__fuse_kernel_eq_skeleton]; unfold cc0__fuse_kernel_skel
  simp only [Prog.lift, Prog.bind_op, Prog.bind_ret]
  iintro ⟨HR, H0, H1, H2⟩
  iapply (wp_load_full d M1 _ _ _ _ _ _ _) $$ H1
  iintro H1
  iapply (wp_load_full d M0 _ _ _ _ _ _ _) $$ H0
  iintro H0
  iapply (wp_load_full d M2 _ _ _ _ _ _ _) $$ H2
  iintro H2
  iapply (wp_store_full d M2 _ _ _ _ _ _ _ _) $$ H2
  iintro H2
  rw [Prog.pure_eq_ret, wp_ret]; imodintro
  isplitl [HR]; · iexact HR
  isplitl [H0]; · iexact H0
  isplitl [H1]; · iexact H1
  iexact H2

theorem obligation0 : (rd0 n rel nrm f0 d).BodyObligation defs₀ 𝒱₀ none Set.univ := by
  intro t Y hY
  have e0 := finds0_0 n rel nrm f0 d t (Y (0 : Fin 3)) (hY 0)
  have e1 := finds0_1 n rel nrm f0 d t (Y (1 : Fin 3)) (hY 1)
  refine BI.Entails.trans ?_ ((body0 d (win0_0.stage (cfg0.slots t 0)) (hstage0_0 0) (win0_1.stage (cfg0.slots t 1)) (hstage0_1 0)
    (win0_2.stage (cfg0.slots t 2)) (hstage0_2 0) (Y (0 : Fin 3)) (Y (1 : Fin 3)) (Y (2 : Fin 3))
    iprop((rd0 n rel nrm f0 d).Φ t.castSucc ∗ (rd0 n rel nrm f0 d).owesAt none t.castSucc)).trans (wp_mono frame _ _ fun _ => ?_))
  · rw [bigSep_W0]
    show (iprop((rd0 n rel nrm f0 d).Φ t.castSucc ∗ (rd0 n rel nrm f0 d).owesAt none t.castSucc
      ∗ owns (T d : Thread nD τ) (win0_0.stage (cfg0.slots t 0)) fullShare (Y (0 : Fin 3))
      ∗ owns (T d : Thread nD τ) (win0_1.stage (cfg0.slots t 1)) fullShare (Y (1 : Fin 3))
      ∗ owns (T d : Thread nD τ) (win0_2.stage (cfg0.slots t 2)) fullShare (Y (2 : Fin 3))) : sProp 𝕄) ⊢ iprop(_)
    iintro ⟨HΦ, HO, H0, H1, H2⟩
    isplitl [HΦ HO]
    · isplitl [HΦ]; · iexact HΦ
      iexact HO
    isplitl [H0]; · iexact H0
    isplitl [H1]; · iexact H1
    iexact H2
  · rw [bigSep_W0, show (rd0 n rel nrm f0 d).Φ t.castSucc = (rd0 n rel nrm f0 d).Φ t.succ from rfl,
      show (rd0 n rel nrm f0 d).owesAt none t.castSucc = (rd0 n rel nrm f0 d).owesAt none t.succ from rfl]
    iintro ⟨⟨HΦ, HO⟩, H0, H1, H2⟩
    isplitl [HΦ]; · iexact HΦ
    isplitl [HO]; · iexact HO
    isplitl [H0]; · iexists _; isplitr; swap; (· iexact H0); ipureintro; exact rfl
    isplitl [H1]; · iexists _; isplitr; swap; (· iexact H1); ipureintro; exact rfl
    iexists _; isplitr; swap; (· iexact H2); ipureintro
    show k0_pay1 (Y (1 : Fin 3)) (Y (0 : Fin 3)) = k0_pay1 (nrm d) (rel d)
    rw [e0, e1]

/-- The array written holds the two halves side by side. -/
theorem read0 (G : S1000x128.Idx → Elt F .f32) (h : (rd0 n rel nrm f0 d).ArrAt (2 : Fin 3) cfg0.N G) : G = k0_pay1 (nrm d) (rel d) := by
  obtain ⟨X, ⟨Y, -, hX⟩, e⟩ := h.emb_eq_of_wholeAt (t₀ := (⟨0, by decide⟩ : Fin cfg0.N)) (by decide +kernel)
  have hX : X = k0_pay1 (nrm d) (rel d) := hX
  subst hX
  funext j
  exact e j

end Cert.Proof
-- ==== Proof.Region1.lean ====
/-
  The second kernel region: 31 points, each of which transposes a block of 32768 columns of the transposed entity table
  and lays the two halves of it side by side. The last block reaches beyond the table; what it holds there is not known,
  and nothing is said of the elements that depend on it.
-/
module

public import proofs.«01_k».proof.Proof.Region
public import proofs.«01_k».proof.Proof.Stage
public import Idealize.ShloMosaic.Lib.Pipeline.ArrRel
public import Idealize.ShloMosaic.Lib.ValueLayout

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (RDat WinFacts₀ OwnSemFacts)
open Idealize.ShloMosaic.ValueIdx (ix1 ix2 ix3)

variable {F : FTy → Type} [FloatOps F]

local notation "𝕄" => MT nD τ sig (HIx 2) (Elt F) ℕ UU ℕ

/-- The array of pairs holds the entities: entity `e` is the half `e / 16384 % 2` of row `e / 32768 * 16384 + e % 16384`. -/
def Good (te : S64x1000000.Idx → Elt F .f32) (f : S507904x128.Idx → Elt F .f32) : Prop :=
  ∀ (i : S507904x128.Idx) (l : Fin 64) (e : Fin 1000000),
    (i 0).val = e.val / 32768 * 16384 + e.val % 16384 → (i 1).val = 64 * (e.val / 16384 % 2) + l.val → f i = te (ix2 l e)

/-- What the windows' arrays hold on entry. -/
def arr1 (d : Dev nD) (te : S64x1000000.Idx → Elt F .f32) (f5 : S507904x128.Idx → Elt F .f32) :
    (w : Fin 2) → Buf (Elt F) ((cfg2.win w).arr.view.loc (d.tc : Thread nD τ))
  | 0 => te | 1 => f5

/-- What the body leaves: the input as it was, the output at the transposed halves as far as the table reaches. -/
def aft1 (te : S64x1000000.Idx → Elt F .f32) :
    (w : Fin 2) → Fin cfg2.N → (Y X : (cfg2.win w).block.Idx → Elt F (cfg2.win w).elt) → Prop
  | 0 => fun _ Y X => X = Y
  | 1 => fun t _ X => ∀ (j : S16384x128.Idx) (l : Fin 64) (e : Fin 1000000),
      e.val = t.val * 32768 + 16384 * ((j 1).val / 64) + (j 0).val → l.val = (j 1).val % 64 → X j = te (ix2 l e)

/-- The proof data of the second region, entered before SparseCore call `n`. -/
def rd1 (n : ℕ) (te : Dev nD → S64x1000000.Idx → Elt F .f32) (f5 : Dev nD → S507904x128.Idx → Elt F .f32) (d : Dev nD) :
    RDat τ (Elt F) (HIx 2) ℕ UU ℕ (cfgs 1) d :=
  mkR cfg2 d n (arr1 d (te d) (f5 d)) (aft1 (te d)) fun _ => fullShare

variable (n : ℕ) (te : Dev nD → S64x1000000.Idx → Elt F .f32) (f5 : Dev nD → S507904x128.Idx → Elt F .f32) (d : Dev nD)

theorem index2_0 (t : Fin cfg2.N) : (cfg2.win (0 : Fin 2)).index t (0 : Fin 2) = 0 ∧ (cfg2.win (0 : Fin 2)).index t (1 : Fin 2) = t.val := by
  revert t; decide +kernel

theorem index2_1 (t : Fin cfg2.N) : (cfg2.win (1 : Fin 2)).index t (0 : Fin 2) = t.val ∧ (cfg2.win (1 : Fin 2)).index t (1 : Fin 2) = 0 := by
  revert t; decide +kernel

theorem xsize2_0 (t : Fin cfg2.N) : (cfg2.win (0 : Fin 2)).xsize (cfg2.grid.coords t) (0 : Fin 2) = 64
    ∧ (cfg2.win (0 : Fin 2)).xsize (cfg2.grid.coords t) (1 : Fin 2) = min 32768 (1000000 - t.val * 32768) := by
  revert t; decide +kernel

/-- The fetched block is the table's, as far as the table reaches. -/
theorem finds1_0 (t : Fin cfg2.N) (Y : S64x32768.Idx → Elt F .f32) (h : (rd1 n te f5 d).Finds (0 : Fin 2) t Y) (l : Fin 64) (k : Fin 32768)
    (e : Fin 1000000) (he : e.val = t.val * 32768 + k.val) : Y (ix2 l k) = te d (ix2 l e) := by
  rw [RDat.finds_of_fetch _ (fetch2_0 t)] at h
  obtain ⟨z, rfl⟩ := h
  have hm : (cfg2.win (0 : Fin 2)).moved (cfg2.grid.coords t) (ix2 l k) = true := by
    rw [Pipeline.Window.moved_iff]
    have hx := xsize2_0 t
    intro a
    match a with
    | 0 => exact lt_of_lt_of_eq (show l.val < 64 from l.isLt) hx.1.symm
    | 1 => exact lt_of_lt_of_eq (show k.val < min 32768 (1000000 - t.val * 32768) by omega) hx.2.symm
  have hi := index2_0 t
  refine (dif_pos hm).trans ?_
  show (te d) _ = te d (ix2 l e)
  refine congrArg (te d) (funext fun a => Fin.ext ?_)
  show (cfg2.win (0 : Fin 2)).index t a * S64x32768.size a + 1 * (ix2 l k a).val = (ix2 l e a).val
  match a with
  | 0 => rw [show (cfg2.win (0 : Fin 2)).index t (0 : Fin 2) = 0 from hi.1]; show 0 * 64 + 1 * l.val = l.val; omega
  | 1 => rw [show (cfg2.win (0 : Fin 2)).index t (1 : Fin 2) = t.val from hi.2]; show t.val * 32768 + 1 * k.val = e.val; omega

/-- The value stored, at an element. -/
theorem pay1_apply (x : S64x32768.Idx → Elt F .f32) (r : Fin 16384) (c : Fin 128) (l : Fin 64) (k : Fin 32768)
    (hl : l.val = c.val % 64) (hk : k.val = 16384 * (c.val / 64) + r.val) : k2_pay1 x (ix2 r c) = x (ix2 l k) := by
  have hc := c.isLt
  by_cases h : c.val < 64
  · refine (concatenate_pair_apply_left (t := S16384x128) (s₁ := S16384x64) (s₂ := S16384x64) 1 _ _ concatenates_S16384x64_S16384x64_S16384x128_d1 (ix2 r c) rfl (ix2 r (⟨c.val, h⟩ : Fin 64)) ?_).trans ?_
    · intro b; match b with | 0 => rfl | 1 => rfl
    refine (ValueIdx.transpose_ix2_apply _ _ r ⟨c.val, h⟩).trans ?_
    refine (extractStridedSlice_apply _ _ _ _ (ix2 l k) ?_).trans ?_
    · intro b; match b with | 0 => show l.val = 0 + c.val; omega | 1 => show k.val = 0 + r.val; omega
    rw [shapeCast_self]
  · refine (concatenate_pair_apply_right (t := S16384x128) (s₁ := S16384x64) (s₂ := S16384x64) 1 _ _ concatenates_S16384x64_S16384x64_S16384x128_d1 (ix2 r c) rfl rfl (ix2 r (⟨c.val - 64, by omega⟩ : Fin 64)) ?_ ?_).trans ?_
    · intro b; match b with | 0 => intro _; rfl | 1 => intro h; exact absurd rfl h
    · show c.val - 64 + 64 = c.val; omega
    refine (ValueIdx.transpose_ix2_apply _ _ r ⟨c.val - 64, by omega⟩).trans ?_
    refine (extractStridedSlice_apply _ _ _ _ (ix2 l k) ?_).trans ?_
    · intro b; match b with | 0 => show l.val = 0 + (c.val - 64); omega | 1 => show k.val = 16384 + r.val; omega
    rw [shapeCast_self]

/-- The body, from the two staging buffers. -/
theorem body1 (i : grid2.Coords) (M0 : Memref sig .tc .vmem S64x32768 .f32) (h0 : M0.IsWhole) (M1 : Memref sig .tc .vmem S16384x128 .f32) (h1 : M1.IsWhole)
    (x : S64x32768.Idx → Elt F .f32) (y : S16384x128.Idx → Elt F .f32) (R : sProp 𝕄) :
    (iprop(R ∗ owns (T d : Thread nD τ) M0 fullShare x ∗ owns (T d : Thread nD τ) M1 fullShare y) : sProp 𝕄)
      ⊢ wp frame (wpE defs₀ 𝒱₀ (T d) none) Set.univ (cc2__transpose_kernel i M0 h0 M1 h1) fun _ =>
        iprop(R ∗ owns (T d : Thread nD τ) M0 fullShare x ∗ owns (T d : Thread nD τ) M1 fullShare (k2_pay1 x)) := by
  rw [cc2__transpose_kernel_eq_skeleton]; unfold cc2__transpose_kernel_skel
  simp only [Prog.lift, Prog.bind_op, Prog.bind_ret]
  iintro ⟨HR, H0, H1⟩
  iapply (wp_load_full d M0 _ _ _ _ _ _ _) $$ H0
  iintro H0
  iapply (wp_load_full d M1 _ _ _ _ _ _ _) $$ H1
  iintro H1
  iapply (wp_store_full d M1 _ _ _ _ _ _ _ _) $$ H1
  iintro H1
  rw [Prog.pure_eq_ret, wp_ret]; imodintro
  isplitl [HR]; · iexact HR
  isplitl [H0]; · iexact H0
  iexact H1

theorem obligation1 : (rd1 n te f5 d).BodyObligation defs₀ 𝒱₀ none Set.univ := by
  intro t Y hY
  refine BI.Entails.trans ?_ ((body1 d (grid2.coords t) (win2_0.stage (cfg2.slots t 0)) (hstage2_0 ((cfg2.slots t 0).cast nbuf2_0))
    (win2_1.stage (cfg2.slots t 1)) (hstage2_1 ((cfg2.slots t 1).cast nbuf2_1)) (Y (0 : Fin 2)) (Y (1 : Fin 2))
    iprop((rd1 n te f5 d).Φ t.castSucc ∗ (rd1 n te f5 d).owesAt none t.castSucc)).trans (wp_mono frame _ _ fun _ => ?_))
  · rw [bigSep_W2]
    show (iprop((rd1 n te f5 d).Φ t.castSucc ∗ (rd1 n te f5 d).owesAt none t.castSucc
      ∗ owns (T d : Thread nD τ) (win2_0.stage (cfg2.slots t 0)) fullShare (Y (0 : Fin 2))
      ∗ owns (T d : Thread nD τ) (win2_1.stage (cfg2.slots t 1)) fullShare (Y (1 : Fin 2))) : sProp 𝕄) ⊢ iprop(_)
    iintro ⟨HΦ, HO, H0, H1⟩
    isplitl [HΦ HO]
    · isplitl [HΦ]; · iexact HΦ
      iexact HO
    isplitl [H0]; · iexact H0
    iexact H1
  · rw [bigSep_W2, show (rd1 n te f5 d).Φ t.castSucc = (rd1 n te f5 d).Φ t.succ from rfl,
      show (rd1 n te f5 d).owesAt none t.castSucc = (rd1 n te f5 d).owesAt none t.succ from rfl]
    iintro ⟨⟨HΦ, HO⟩, H0, H1⟩
    isplitl [HΦ]; · iexact HΦ
    isplitl [HO]; · iexact HO
    isplitl [H0]; · iexists _; isplitr; swap; (· iexact H0); ipureintro; exact rfl
    iexists _; isplitr; swap; (· iexact H1); ipureintro
    intro j l e he hl
    obtain ⟨r, c, hj⟩ : ∃ (r : Fin 16384) (c : Fin 128), j = ix2 r c := ⟨j 0, j 1, ValueIdx.eq_ix2 j⟩
    subst hj
    have hr := r.isLt
    have hc := c.isLt
    have he : e.val = t.val * 32768 + 16384 * (c.val / 64) + r.val := he
    refine (pay1_apply _ r c l ⟨16384 * (c.val / 64) + r.val, by omega⟩ hl rfl).trans ?_
    exact finds1_0 n te f5 d t (Y (0 : Fin 2)) (hY 0) l _ e (by rw [he, Nat.add_assoc])

theorem covers2_1 : (cfg2.win (1 : Fin 2)).Covers := by decide +kernel

/-- The array written holds the entities. -/
theorem read1 (G : S507904x128.Idx → Elt F .f32) (h : (rd1 n te f5 d).ArrAt (1 : Fin 2) cfg2.N G) : Good (te d) G := by
  obtain ⟨X, hX, hA⟩ := h.exists_exact
  have hA' : ∃ A : (w' : Fin (cfgs 1).W) → Fin (cfgs 1).N → ((cfgs 1).win w').block.Idx → Elt F ((cfgs 1).win w').elt,
      A (1 : Fin 2) = X ∧ G = ((rd1 n te f5 d).withAfter A).arrAt (1 : Fin 2) cfg2.N :=
    ⟨Function.update (fun _ _ _ => Classical.arbitrary _) (1 : Fin 2) X, Function.update_self .., hA _ fun u _ _ => by rw [Function.update_self]⟩
  obtain ⟨A, hA1, e⟩ := hA'
  intro i l e' h0 h1
  rw [e]
  revert l e'
  refine ((rd1 n te f5 d).withAfter A).arrAt_forall_of_covers (1 : Fin 2) (fun i v => ∀ (l : Fin 64) (e : Fin 1000000),
    (i 0).val = e.val / 32768 * 16384 + e.val % 16384 → (i 1).val = 64 * (e.val / 16384 % 2) + l.val → v = te d (ix2 l e)) covers2_1
    (fun t hf y => ?_) i (Memref.isWhole_whole _)
  rw [RDat.withAfter_after, hA1]
  obtain ⟨Y, -, ha⟩ := hX t t.isLt hf
  intro l e' h0 h1
  have hi := index2_1 t
  have h0 : (cfg2.win (1 : Fin 2)).index t (0 : Fin 2) * 16384 + 1 * (y 0).val = e'.val / 32768 * 16384 + e'.val % 16384 := h0
  have h1 : (cfg2.win (1 : Fin 2)).index t (1 : Fin 2) * 128 + 1 * (y 1).val = 64 * (e'.val / 16384 % 2) + l.val := h1
  rw [hi.1] at h0
  rw [hi.2] at h1
  have hy0 : (y 0).val < 16384 := (y 0).isLt
  have hy1 : (y 1).val < 128 := (y 1).isLt
  have hl := l.isLt
  refine ha _ l e' ?_ ?_
  · show e'.val = t.val * 32768 + 16384 * ((y 1).val / 64) + (y 0).val
    omega
  · show l.val = (y 1).val % 64
    omega

end Cert.Proof
-- ==== Proof.Region2.lean ====
/-
  The third kernel region: eight points. Each reads a block of 2048 rows of the four gathered entity arrays, of the two
  gathered relation arrays and of the four rows of selectors, and adds the block's hinge losses to a running total kept in
  scalar memory, which the first point sets to zero.
-/
module

public import proofs.«01_k».proof.Proof.Region
public import proofs.«01_k».proof.Proof.Stage
public import Idealize.ShloMosaic.Lib.Pipeline.ArrRel
public import Idealize.ShloMosaic.Lib.ValueLayout

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (RDat WinFacts₀ OwnSemFacts)
open Idealize.ShloMosaic.ValueIdx (ix1 ix2 ix3)

variable {F : FTy → Type} [FloatOps F]

local notation "𝕄" => MT nD τ sig (HIx 2) (Elt F) ℕ UU ℕ

/-- Block `t` of the `k`-th quarter of the gathered entity rows. -/
def rowBlk (f : S65536x128.Idx → Elt F .f32) (k : Fin 4) (t : Fin 8) : S2048x128.Idx → Elt F .f32 := fun j =>
  f (ix2 (⟨(t.val + 8 * k.val) * 2048 + (j 0).val, by have := (j 0).isLt; have : (j 0).val < 2048 := this; omega⟩ : Fin 65536) (j 1 : Fin 128))

/-- Block `t` of the `k`-th half of the gathered relation rows. -/
def relBlk (f : S32768x128.Idx → Elt F .f32) (k : Fin 2) (t : Fin 8) : S2048x128.Idx → Elt F .f32 := fun j =>
  f (ix2 (⟨(t.val + 8 * k.val) * 2048 + (j 0).val, by have := (j 0).isLt; have : (j 0).val < 2048 := this; omega⟩ : Fin 32768) (j 1 : Fin 128))

/-- Block `t` of the `k`-th quarter of the selectors. -/
def selBlk (f : S8x65536.Idx → Elt F .f32) (k : Fin 4) (t : Fin 8) : S8x2048.Idx → Elt F .f32 := fun j =>
  f (ix2 (j 0 : Fin 8) (⟨(t.val + 8 * k.val) * 2048 + (j 1).val, by have := (j 1).isLt; have : (j 1).val < 2048 := this; omega⟩ : Fin 65536))

/-- The total after a point, from the ten blocks read and the total before it. -/
def stepOf (ph pt nh nt pw nw : S2048x128.Idx → Elt F .f32) (ps pts ns nts : S8x2048.Idx → Elt F .f32) (y : Elt F .f32) : Elt F .f32 :=
  k4_pay1 (k4_pay3 (k4_pay2 ph ps pt pts pw)) (k4_pay6 nh ns nw) (k4_pay7 nt nts nw) y

/-- What point `t` makes of the running total `y`. -/
def step (f13 : S65536x128.Idx → Elt F .f32) (f3 : S32768x128.Idx → Elt F .f32) (f18 : S8x65536.Idx → Elt F .f32) (t : Fin 8) (y : Elt F .f32) : Elt F .f32 :=
  stepOf (rowBlk f13 0 t) (rowBlk f13 1 t) (rowBlk f13 2 t) (rowBlk f13 3 t) (relBlk f3 0 t) (relBlk f3 1 t)
    (selBlk f18 0 t) (selBlk f18 1 t) (selBlk f18 2 t) (selBlk f18 3 t) y

/-- The running total before point `n`. -/
def acc (f13 : S65536x128.Idx → Elt F .f32) (f3 : S32768x128.Idx → Elt F .f32) (f18 : S8x65536.Idx → Elt F .f32) : ℕ → Elt F .f32
  | 0 => (Scalar.ofBits .f32 0x00000000#32 : F .f32)
  | n + 1 => if h : n < 8 then step f13 f3 f18 ⟨n, h⟩ (acc f13 f3 f18 n) else acc f13 f3 f18 n

/-- The word that is one exactly at the first point. -/
def isFirst (i : grid4.Coords) : BitVec 1 :=
  Scalar.cmpi .ne (Scalar.extui (Scalar.cmpi .eq (BitVec.ofNat 32 (i 0).val) 0#32)) 0#32

theorem isFirst_iff (t : Fin cfg4.N) : isFirst (grid4.coords t) = 1#1 ↔ t.val = 0 := by
  revert t; decide +kernel

variable (d : Dev nD)

theorem only (x y : S1x1.Idx) : x = y := funext fun a => Fin.ext (by
  match a with
  | 0 => exact (Nat.lt_one_iff.1 (x 0).isLt).trans (Nat.lt_one_iff.1 (y 0).isLt).symm
  | 1 => exact (Nat.lt_one_iff.1 (x 1).isLt).trans (Nat.lt_one_iff.1 (y 1).isLt).symm)

/-- The body, from the eleven staging buffers. -/
theorem body2 (i : grid4.Coords) (M0 : Memref sig .tc .vmem S2048x128 .f32) (h0 : M0.IsWhole) (M1 : Memref sig .tc .vmem S2048x128 .f32) (h1 : M1.IsWhole) (M2 : Memref sig .tc .vmem S2048x128 .f32) (h2 : M2.IsWhole) (M3 : Memref sig .tc .vmem S2048x128 .f32) (h3 : M3.IsWhole) (M4 : Memref sig .tc .vmem S2048x128 .f32) (h4 : M4.IsWhole) (M5 : Memref sig .tc .vmem S2048x128 .f32) (h5 : M5.IsWhole) (M6 : Memref sig .tc .vmem S8x2048 .f32) (h6 : M6.IsWhole) (M7 : Memref sig .tc .vmem S8x2048 .f32) (h7 : M7.IsWhole) (M8 : Memref sig .tc .vmem S8x2048 .f32) (h8 : M8.IsWhole) (M9 : Memref sig .tc .vmem S8x2048 .f32) (h9 : M9.IsWhole) (M10 : Memref sig .tc .smem S1x1 .f32) (h10 : M10.IsWhole)
    (x0 : S2048x128.Idx → Elt F .f32) (x1 : S2048x128.Idx → Elt F .f32) (x2 : S2048x128.Idx → Elt F .f32) (x3 : S2048x128.Idx → Elt F .f32) (x4 : S2048x128.Idx → Elt F .f32) (x5 : S2048x128.Idx → Elt F .f32) (x6 : S8x2048.Idx → Elt F .f32) (x7 : S8x2048.Idx → Elt F .f32) (x8 : S8x2048.Idx → Elt F .f32) (x9 : S8x2048.Idx → Elt F .f32) (z : S1x1.Idx → Elt F .f32) (R : sProp 𝕄) :
    (iprop(R ∗ owns (T d : Thread nD τ) M0 fullShare x0 ∗ owns (T d : Thread nD τ) M1 fullShare x1 ∗ owns (T d : Thread nD τ) M2 fullShare x2 ∗ owns (T d : Thread nD τ) M3 fullShare x3 ∗ owns (T d : Thread nD τ) M4 fullShare x4 ∗ owns (T d : Thread nD τ) M5 fullShare x5 ∗ owns (T d : Thread nD τ) M6 fullShare x6 ∗ owns (T d : Thread nD τ) M7 fullShare x7 ∗ owns (T d : Thread nD τ) M8 fullShare x8 ∗ owns (T d : Thread nD τ) M9 fullShare x9 ∗ owns (T d : Thread nD τ) M10 fullShare z) : sProp 𝕄)
      ⊢ wp frame (wpE defs₀ 𝒱₀ (T d) none) Set.univ (cc4__tc_loss_kernel i M0 h0 M1 h1 M2 h2 M3 h3 M4 h4 M5 h5 M6 h6 M7 h7 M8 h8 M9 h9 M10 h10) fun _ =>
        iprop(R ∗ owns (T d : Thread nD τ) M0 fullShare x0 ∗ owns (T d : Thread nD τ) M1 fullShare x1 ∗ owns (T d : Thread nD τ) M2 fullShare x2 ∗ owns (T d : Thread nD τ) M3 fullShare x3 ∗ owns (T d : Thread nD τ) M4 fullShare x4 ∗ owns (T d : Thread nD τ) M5 fullShare x5 ∗ owns (T d : Thread nD τ) M6 fullShare x6 ∗ owns (T d : Thread nD τ) M7 fullShare x7 ∗ owns (T d : Thread nD τ) M8 fullShare x8 ∗ owns (T d : Thread nD τ) M9 fullShare x9 ∗ owns (T d : Thread nD τ) M10 fullShare (fun _ => stepOf x0 x1 x2 x3 x4 x5 x6 x7 x8 x9
          (if isFirst i = 1#1 then (Scalar.ofBits .f32 0x00000000#32 : F .f32) else z (ix2 0 0)))) := by
  rw [cc4__tc_loss_kernel_eq_skeleton]; unfold cc4__tc_loss_kernel_skel
  rw [k4_part1_eq_skeleton, k4_part2_eq_skeleton]; unfold k4_part1_skel k4_part2_skel
  simp only [Prog.lift, Prog.bind_op, Prog.bind_ret, Prog.pure_eq_ret, smemLoad, smemLoadElt]
  iintro ⟨HR, H0, H1, H2, H3, H4, H5, H6, H7, H8, H9, H10⟩
  iapply (wp_load_full d M0 _ _ _ _ _ _ _) $$ H0
  iintro H0
  iapply (wp_load_full d M6 _ _ _ _ _ _ _) $$ H6
  iintro H6
  iapply (wp_load_full d M1 _ _ _ _ _ _ _) $$ H1
  iintro H1
  iapply (wp_load_full d M7 _ _ _ _ _ _ _) $$ H7
  iintro H7
  iapply (wp_load_full d M4 _ _ _ _ _ _ _) $$ H4
  iintro H4
  iapply (wp_load_full d M2 _ _ _ _ _ _ _) $$ H2
  iintro H2
  iapply (wp_load_full d M8 _ _ _ _ _ _ _) $$ H8
  iintro H8
  iapply (wp_load_full d M3 _ _ _ _ _ _ _) $$ H3
  iintro H3
  iapply (wp_load_full d M9 _ _ _ _ _ _ _) $$ H9
  iintro H9
  iapply (wp_load_full d M5 _ _ _ _ _ _ _) $$ H5
  iintro H5
  by_cases hc : isFirst i = 1#1
  · rw [if_pos hc, dif_pos (show Scalar.cmpi .ne (Scalar.extui (Scalar.cmpi .eq (BitVec.ofNat 32 (i 0).val) 0#32)) 0#32 = 1#1 from hc)]
    simp only [Prog.bind_op, Prog.bind_ret]
    iapply (wp_load_full d M10 _ _ _ _ _ _ _) $$ H10
    iintro H10
    iapply (wp_store_full d M10 _ _ _ _ _ _ _ _) $$ H10
    iintro H10
    iapply (wp_load_full d M10 _ _ _ _ _ _ _) $$ H10
    iintro H10
    iapply (wp_load_full d M10 _ _ _ _ _ _ _) $$ H10
    iintro H10
    iapply (wp_store_full d M10 _ _ _ _ _ _ _ _) $$ H10
    iintro H10
    rw [wp_ret]; imodintro
    isplitl [HR]; · iexact HR
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [if_neg hc, dif_neg (show ¬ Scalar.cmpi .ne (Scalar.extui (Scalar.cmpi .eq (BitVec.ofNat 32 (i 0).val) 0#32)) 0#32 = 1#1 from hc)]
    simp only [Prog.bind_op, Prog.bind_ret]
    iapply (wp_load_full d M10 _ _ _ _ _ _ _) $$ H10
    iintro H10
    iapply (wp_load_full d M10 _ _ _ _ _ _ _) $$ H10
    iintro H10
    iapply (wp_store_full d M10 _ _ _ _ _ _ _ _) $$ H10
    iintro H10
    rw [only (Shape.Idx.first _) (ix2 0 0)]
    rw [wp_ret]; imodintro
    isplitl [HR]; · iexact HR
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- What the windows' arrays hold on entry. -/
def arr2 (d : Dev nD) (f13 : S65536x128.Idx → Elt F .f32) (f3 : S32768x128.Idx → Elt F .f32) (f18 : S8x65536.Idx → Elt F .f32) (fo : S1x1.Idx → Elt F .f32) :
    (w : Fin 11) → Buf (Elt F) ((cfg4.win w).arr.view.loc (d.tc : Thread nD τ))
  | 0 => f13 | 1 => f13 | 2 => f13 | 3 => f13 | 4 => f3 | 5 => f3 | 6 => f18 | 7 => f18 | 8 => f18 | 9 => f18 | 10 => fo

/-- What the body leaves: the inputs as they were, the total with the point's losses added. -/
def aft2 (f13 : S65536x128.Idx → Elt F .f32) (f3 : S32768x128.Idx → Elt F .f32) (f18 : S8x65536.Idx → Elt F .f32) :
    (w : Fin 11) → Fin cfg4.N → (Y X : (cfg4.win w).block.Idx → Elt F (cfg4.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun _ Y X => X = Y
  | 10 => fun t Y X => X = fun _ => step f13 f3 f18 t (if isFirst (grid4.coords t) = 1#1 then (Scalar.ofBits .f32 0x00000000#32 : F .f32) else Y (ix2 0 0))

/-- The shares of the arrays the windows read: four windows read the entity rows, two the relation rows, four the selectors. -/
def share2 : Fin 11 → PosShare TreeShare
  | 0 => fullShare.left.left | 1 => fullShare.left.right | 2 => fullShare.right.left | 3 => fullShare.right.right
  | 4 => fullShare.left | 5 => fullShare.right
  | 6 => fullShare.left.left | 7 => fullShare.left.right | 8 => fullShare.right.left | 9 => fullShare.right.right
  | 10 => fullShare

variable (n : ℕ) (f13 : Dev nD → S65536x128.Idx → Elt F .f32) (f3 : Dev nD → S32768x128.Idx → Elt F .f32) (f18 : Dev nD → S8x65536.Idx → Elt F .f32)
  (fo : Dev nD → S1x1.Idx → Elt F .f32)

/-- The proof data of the third region, entered before SparseCore call `n`. -/
def rd2 (d : Dev nD) : RDat τ (Elt F) (HIx 2) ℕ UU ℕ (cfgs 2) d :=
  mkR cfg4 d n (arr2 d (f13 d) (f3 d) (f18 d) (fo d)) (aft2 (f13 d) (f3 d) (f18 d)) share2

theorem index4_0 (t : Fin cfg4.N) : (cfg4.win (0 : Fin 11)).index t (0 : Fin 2) = t.val + 0 ∧ (cfg4.win (0 : Fin 11)).index t (1 : Fin 2) = 0 := by
  revert t; decide +kernel

theorem finds2_0 (t : Fin cfg4.N) (Y : S2048x128.Idx → Elt F .f32) (h : (rd2 n f13 f3 f18 fo d).Finds (0 : Fin 11) t Y) : Y = rowBlk (f13 d) 0 t := by
  rw [RDat.finds_of_fetch _ (fetch4_0 t)] at h
  obtain ⟨e, rfl⟩ := h
  have hi := index4_0 t
  funext j
  show (f13 d) _ = (f13 d) _
  refine congrArg (f13 d) (funext fun a => Fin.ext ?_)
  show (cfg4.win (0 : Fin 11)).index t a * S2048x128.size a + 1 * (j a).val = _
  match a with
  | 0 =>
    rw [show (cfg4.win (0 : Fin 11)).index t (0 : Fin 2) = t.val + 0 from hi.1]
    show (t.val + 0) * 2048 + 1 * (j 0).val = (t.val + 0) * 2048 + (j 0).val
    omega
  | 1 =>
    rw [show (cfg4.win (0 : Fin 11)).index t (1 : Fin 2) = 0 from hi.2]
    show 0 * 128 + 1 * (j 1).val = (j 1).val
    omega

theorem index4_1 (t : Fin cfg4.N) : (cfg4.win (1 : Fin 11)).index t (0 : Fin 2) = t.val + 8 ∧ (cfg4.win (1 : Fin 11)).index t (1 : Fin 2) = 0 := by
  revert t; decide +kernel

theorem finds2_1 (t : Fin cfg4.N) (Y : S2048x128.Idx → Elt F .f32) (h : (rd2 n f13 f3 f18 fo d).Finds (1 : Fin 11) t Y) : Y = rowBlk (f13 d) 1 t := by
  rw [RDat.finds_of_fetch _ (fetch4_1 t)] at h
  obtain ⟨e, rfl⟩ := h
  have hi := index4_1 t
  funext j
  show (f13 d) _ = (f13 d) _
  refine congrArg (f13 d) (funext fun a => Fin.ext ?_)
  show (cfg4.win (1 : Fin 11)).index t a * S2048x128.size a + 1 * (j a).val = _
  match a with
  | 0 =>
    rw [show (cfg4.win (1 : Fin 11)).index t (0 : Fin 2) = t.val + 8 from hi.1]
    show (t.val + 8) * 2048 + 1 * (j 0).val = (t.val + 8) * 2048 + (j 0).val
    omega
  | 1 =>
    rw [show (cfg4.win (1 : Fin 11)).index t (1 : Fin 2) = 0 from hi.2]
    show 0 * 128 + 1 * (j 1).val = (j 1).val
    omega

theorem index4_2 (t : Fin cfg4.N) : (cfg4.win (2 : Fin 11)).index t (0 : Fin 2) = t.val + 16 ∧ (cfg4.win (2 : Fin 11)).index t (1 : Fin 2) = 0 := by
  revert t; decide +kernel

theorem finds2_2 (t : Fin cfg4.N) (Y : S2048x128.Idx → Elt F .f32) (h : (rd2 n f13 f3 f18 fo d).Finds (2 : Fin 11) t Y) : Y = rowBlk (f13 d) 2 t := by
  rw [RDat.finds_of_fetch _ (fetch4_2 t)] at h
  obtain ⟨e, rfl⟩ := h
  have hi := index4_2 t
  funext j
  show (f13 d) _ = (f13 d) _
  refine congrArg (f13 d) (funext fun a => Fin.ext ?_)
  show (cfg4.win (2 : Fin 11)).index t a * S2048x128.size a + 1 * (j a).val = _
  match a with
  | 0 =>
    rw [show (cfg4.win (2 : Fin 11)).index t (0 : Fin 2) = t.val + 16 from hi.1]
    show (t.val + 16) * 2048 + 1 * (j 0).val = (t.val + 16) * 2048 + (j 0).val
    omega
  | 1 =>
    rw [show (cfg4.win (2 : Fin 11)).index t (1 : Fin 2) = 0 from hi.2]
    show 0 * 128 + 1 * (j 1).val = (j 1).val
    omega

theorem index4_3 (t : Fin cfg4.N) : (cfg4.win (3 : Fin 11)).index t (0 : Fin 2) = t.val + 24 ∧ (cfg4.win (3 : Fin 11)).index t (1 : Fin 2) = 0 := by
  revert t; decide +kernel

theorem finds2_3 (t : Fin cfg4.N) (Y : S2048x128.Idx → Elt F .f32) (h : (rd2 n f13 f3 f18 fo d).Finds (3 : Fin 11) t Y) : Y = rowBlk (f13 d) 3 t := by
  rw [RDat.finds_of_fetch _ (fetch4_3 t)] at h
  obtain ⟨e, rfl⟩ := h
  have hi := index4_3 t
  funext j
  show (f13 d) _ = (f13 d) _
  refine congrArg (f13 d) (funext fun a => Fin.ext ?_)
  show (cfg4.win (3 : Fin 11)).index t a * S2048x128.size a + 1 * (j a).val = _
  match a with
  | 0 =>
    rw [show (cfg4.win (3 : Fin 11)).index t (0 : Fin 2) = t.val + 24 from hi.1]
    show (t.val + 24) * 2048 + 1 * (j 0).val = (t.val + 24) * 2048 + (j 0).val
    omega
  | 1 =>
    rw [show (cfg4.win (3 : Fin 11)).index t (1 : Fin 2) = 0 from hi.2]
    show 0 * 128 + 1 * (j 1).val = (j 1).val
    omega

theorem index4_4 (t : Fin cfg4.N) : (cfg4.win (4 : Fin 11)).index t (0 : Fin 2) = t.val + 0 ∧ (cfg4.win (4 : Fin 11)).index t (1 : Fin 2) = 0 := by
  revert t; decide +kernel

theorem finds2_4 (t : Fin cfg4.N) (Y : S2048x128.Idx → Elt F .f32) (h : (rd2 n f13 f3 f18 fo d).Finds (4 : Fin 11) t Y) : Y = relBlk (f3 d) 0 t := by
  rw [RDat.finds_of_fetch _ (fetch4_4 t)] at h
  obtain ⟨e, rfl⟩ := h
  have hi := index4_4 t
  funext j
  show (f3 d) _ = (f3 d) _
  refine congrArg (f3 d) (funext fun a => Fin.ext ?_)
  show (cfg4.win (4 : Fin 11)).index t a * S2048x128.size a + 1 * (j a).val = _
  match a with
  | 0 =>
    rw [show (cfg4.win (4 : Fin 11)).index t (0 : Fin 2) = t.val + 0 from hi.1]
    show (t.val + 0) * 2048 + 1 * (j 0).val = (t.val + 0) * 2048 + (j 0).val
    omega
  | 1 =>
    rw [show (cfg4.win (4 : Fin 11)).index t (1 : Fin 2) = 0 from hi.2]
    show 0 * 128 + 1 * (j 1).val = (j 1).val
    omega

theorem index4_5 (t : Fin cfg4.N) : (cfg4.win (5 : Fin 11)).index t (0 : Fin 2) = t.val + 8 ∧ (cfg4.win (5 : Fin 11)).index t (1 : Fin 2) = 0 := by
  revert t; decide +kernel

theorem finds2_5 (t : Fin cfg4.N) (Y : S2048x128.Idx → Elt F .f32) (h : (rd2 n f13 f3 f18 fo d).Finds (5 : Fin 11) t Y) : Y = relBlk (f3 d) 1 t := by
  rw [RDat.finds_of_fetch _ (fetch4_5 t)] at h
  obtain ⟨e, rfl⟩ := h
  have hi := index4_5 t
  funext j
  show (f3 d) _ = (f3 d) _
  refine congrArg (f3 d) (funext fun a => Fin.ext ?_)
  show (cfg4.win (5 : Fin 11)).index t a * S2048x128.size a + 1 * (j a).val = _
  match a with
  | 0 =>
    rw [show (cfg4.win (5 : Fin 11)).index t (0 : Fin 2) = t.val + 8 from hi.1]
    show (t.val + 8) * 2048 + 1 * (j 0).val = (t.val + 8) * 2048 + (j 0).val
    omega
  | 1 =>
    rw [show (cfg4.win (5 : Fin 11)).index t (1 : Fin 2) = 0 from hi.2]
    show 0 * 128 + 1 * (j 1).val = (j 1).val
    omega

theorem index4_6 (t : Fin cfg4.N) : (cfg4.win (6 : Fin 11)).index t (0 : Fin 2) = 0 ∧ (cfg4.win (6 : Fin 11)).index t (1 : Fin 2) = t.val + 0 := by
  revert t; decide +kernel

theorem finds2_6 (t : Fin cfg4.N) (Y : S8x2048.Idx → Elt F .f32) (h : (rd2 n f13 f3 f18 fo d).Finds (6 : Fin 11) t Y) : Y = selBlk (f18 d) 0 t := by
  rw [RDat.finds_of_fetch _ (fetch4_6 t)] at h
  obtain ⟨e, rfl⟩ := h
  have hi := index4_6 t
  funext j
  show (f18 d) _ = (f18 d) _
  refine congrArg (f18 d) (funext fun a => Fin.ext ?_)
  show (cfg4.win (6 : Fin 11)).index t a * S8x2048.size a + 1 * (j a).val = _
  match a with
  | 0 =>
    rw [show (cfg4.win (6 : Fin 11)).index t (0 : Fin 2) = 0 from hi.1]
    show 0 * 8 + 1 * (j 0).val = (j 0).val
    omega
  | 1 =>
    rw [show (cfg4.win (6 : Fin 11)).index t (1 : Fin 2) = t.val + 0 from hi.2]
    show (t.val + 0) * 2048 + 1 * (j 1).val = (t.val + 0) * 2048 + (j 1).val
    omega

theorem index4_7 (t : Fin cfg4.N) : (cfg4.win (7 : Fin 11)).index t (0 : Fin 2) = 0 ∧ (cfg4.win (7 : Fin 11)).index t (1 : Fin 2) = t.val + 8 := by
  revert t; decide +kernel

theorem finds2_7 (t : Fin cfg4.N) (Y : S8x2048.Idx → Elt F .f32) (h : (rd2 n f13 f3 f18 fo d).Finds (7 : Fin 11) t Y) : Y = selBlk (f18 d) 1 t := by
  rw [RDat.finds_of_fetch _ (fetch4_7 t)] at h
  obtain ⟨e, rfl⟩ := h
  have hi := index4_7 t
  funext j
  show (f18 d) _ = (f18 d) _
  refine congrArg (f18 d) (funext fun a => Fin.ext ?_)
  show (cfg4.win (7 : Fin 11)).index t a * S8x2048.size a + 1 * (j a).val = _
  match a with
  | 0 =>
    rw [show (cfg4.win (7 : Fin 11)).index t (0 : Fin 2) = 0 from hi.1]
    show 0 * 8 + 1 * (j 0).val = (j 0).val
    omega
  | 1 =>
    rw [show (cfg4.win (7 : Fin 11)).index t (1 : Fin 2) = t.val + 8 from hi.2]
    show (t.val + 8) * 2048 + 1 * (j 1).val = (t.val + 8) * 2048 + (j 1).val
    omega

theorem index4_8 (t : Fin cfg4.N) : (cfg4.win (8 : Fin 11)).index t (0 : Fin 2) = 0 ∧ (cfg4.win (8 : Fin 11)).index t (1 : Fin 2) = t.val + 16 := by
  revert t; decide +kernel

theorem finds2_8 (t : Fin cfg4.N) (Y : S8x2048.Idx → Elt F .f32) (h : (rd2 n f13 f3 f18 fo d).Finds (8 : Fin 11) t Y) : Y = selBlk (f18 d) 2 t := by
  rw [RDat.finds_of_fetch _ (fetch4_8 t)] at h
  obtain ⟨e, rfl⟩ := h
  have hi := index4_8 t
  funext j
  show (f18 d) _ = (f18 d) _
  refine congrArg (f18 d) (funext fun a => Fin.ext ?_)
  show (cfg4.win (8 : Fin 11)).index t a * S8x2048.size a + 1 * (j a).val = _
  match a with
  | 0 =>
    rw [show (cfg4.win (8 : Fin 11)).index t (0 : Fin 2) = 0 from hi.1]
    show 0 * 8 + 1 * (j 0).val = (j 0).val
    omega
  | 1 =>
    rw [show (cfg4.win (8 : Fin 11)).index t (1 : Fin 2) = t.val + 16 from hi.2]
    show (t.val + 16) * 2048 + 1 * (j 1).val = (t.val + 16) * 2048 + (j 1).val
    omega

theorem index4_9 (t : Fin cfg4.N) : (cfg4.win (9 : Fin 11)).index t (0 : Fin 2) = 0 ∧ (cfg4.win (9 : Fin 11)).index t (1 : Fin 2) = t.val + 24 := by
  revert t; decide +kernel

theorem finds2_9 (t : Fin cfg4.N) (Y : S8x2048.Idx → Elt F .f32) (h : (rd2 n f13 f3 f18 fo d).Finds (9 : Fin 11) t Y) : Y = selBlk (f18 d) 3 t := by
  rw [RDat.finds_of_fetch _ (fetch4_9 t)] at h
  obtain ⟨e, rfl⟩ := h
  have hi := index4_9 t
  funext j
  show (f18 d) _ = (f18 d) _
  refine congrArg (f18 d) (funext fun a => Fin.ext ?_)
  show (cfg4.win (9 : Fin 11)).index t a * S8x2048.size a + 1 * (j a).val = _
  match a with
  | 0 =>
    rw [show (cfg4.win (9 : Fin 11)).index t (0 : Fin 2) = 0 from hi.1]
    show 0 * 8 + 1 * (j 0).val = (j 0).val
    omega
  | 1 =>
    rw [show (cfg4.win (9 : Fin 11)).index t (1 : Fin 2) = t.val + 24 from hi.2]
    show (t.val + 24) * 2048 + 1 * (j 1).val = (t.val + 24) * 2048 + (j 1).val
    omega

theorem obligation2 : (rd2 n f13 f3 f18 fo d).BodyObligation defs₀ 𝒱₀ none Set.univ := by
  intro t Y hY
  have e0 := finds2_0 d n f13 f3 f18 fo t (Y (0 : Fin 11)) (hY 0)
  have e1 := finds2_1 d n f13 f3 f18 fo t (Y (1 : Fin 11)) (hY 1)
  have e2 := finds2_2 d n f13 f3 f18 fo t (Y (2 : Fin 11)) (hY 2)
  have e3 := finds2_3 d n f13 f3 f18 fo t (Y (3 : Fin 11)) (hY 3)
  have e4 := finds2_4 d n f13 f3 f18 fo t (Y (4 : Fin 11)) (hY 4)
  have e5 := finds2_5 d n f13 f3 f18 fo t (Y (5 : Fin 11)) (hY 5)
  have e6 := finds2_6 d n f13 f3 f18 fo t (Y (6 : Fin 11)) (hY 6)
  have e7 := finds2_7 d n f13 f3 f18 fo t (Y (7 : Fin 11)) (hY 7)
  have e8 := finds2_8 d n f13 f3 f18 fo t (Y (8 : Fin 11)) (hY 8)
  have e9 := finds2_9 d n f13 f3 f18 fo t (Y (9 : Fin 11)) (hY 9)
  refine BI.Entails.trans ?_ ((body2 d (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) (win4_9.stage (cfg4.slots t 9)) (hstage4_9 ((cfg4.slots t 9).cast nbuf4_9)) (win4_10.stage (cfg4.slots t 10)) (hstage4_10 ((cfg4.slots t 10).cast nbuf4_10)) (Y (0 : Fin 11)) (Y (1 : Fin 11)) (Y (2 : Fin 11)) (Y (3 : Fin 11)) (Y (4 : Fin 11)) (Y (5 : Fin 11)) (Y (6 : Fin 11)) (Y (7 : Fin 11)) (Y (8 : Fin 11)) (Y (9 : Fin 11)) (Y (10 : Fin 11))
    iprop((rd2 n f13 f3 f18 fo d).Φ t.castSucc ∗ (rd2 n f13 f3 f18 fo d).owesAt none t.castSucc)).trans (wp_mono frame _ _ fun _ => ?_))
  · rw [bigSep_W4]
    show (iprop((rd2 n f13 f3 f18 fo d).Φ t.castSucc ∗ (rd2 n f13 f3 f18 fo d).owesAt none t.castSucc
      ∗ owns (T d : Thread nD τ) (win4_0.stage (cfg4.slots t 0)) fullShare (Y (0 : Fin 11))
      ∗ owns (T d : Thread nD τ) (win4_1.stage (cfg4.slots t 1)) fullShare (Y (1 : Fin 11))
      ∗ owns (T d : Thread nD τ) (win4_2.stage (cfg4.slots t 2)) fullShare (Y (2 : Fin 11))
      ∗ owns (T d : Thread nD τ) (win4_3.stage (cfg4.slots t 3)) fullShare (Y (3 : Fin 11))
      ∗ owns (T d : Thread nD τ) (win4_4.stage (cfg4.slots t 4)) fullShare (Y (4 : Fin 11))
      ∗ owns (T d : Thread nD τ) (win4_5.stage (cfg4.slots t 5)) fullShare (Y (5 : Fin 11))
      ∗ owns (T d : Thread nD τ) (win4_6.stage (cfg4.slots t 6)) fullShare (Y (6 : Fin 11))
      ∗ owns (T d : Thread nD τ) (win4_7.stage (cfg4.slots t 7)) fullShare (Y (7 : Fin 11))
      ∗ owns (T d : Thread nD τ) (win4_8.stage (cfg4.slots t 8)) fullShare (Y (8 : Fin 11))
      ∗ owns (T d : Thread nD τ) (win4_9.stage (cfg4.slots t 9)) fullShare (Y (9 : Fin 11))
      ∗ owns (T d : Thread nD τ) (win4_10.stage (cfg4.slots t 10)) fullShare (Y (10 : Fin 11))) : sProp 𝕄) ⊢ iprop(_)
    iintro ⟨HΦ, HO, H0, H1, H2, H3, H4, H5, H6, H7, H8, H9, H10⟩
    isplitl [HΦ HO]
    · isplitl [HΦ]; · iexact HΦ
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [bigSep_W4, show (rd2 n f13 f3 f18 fo d).Φ t.castSucc = (rd2 n f13 f3 f18 fo d).Φ t.succ from rfl,
      show (rd2 n f13 f3 f18 fo d).owesAt none t.castSucc = (rd2 n f13 f3 f18 fo d).owesAt none t.succ from rfl]
    iintro ⟨⟨HΦ, HO⟩, H0, H1, H2, H3, H4, H5, H6, H7, H8, H9, H10⟩
    isplitl [HΦ]; · iexact HΦ
    isplitl [HO]; · iexact HO
    isplitl [H0]; · iexists _; isplitr; swap; (· iexact H0); ipureintro; exact rfl
    isplitl [H1]; · iexists _; isplitr; swap; (· iexact H1); ipureintro; exact rfl
    isplitl [H2]; · iexists _; isplitr; swap; (· iexact H2); ipureintro; exact rfl
    isplitl [H3]; · iexists _; isplitr; swap; (· iexact H3); ipureintro; exact rfl
    isplitl [H4]; · iexists _; isplitr; swap; (· iexact H4); ipureintro; exact rfl
    isplitl [H5]; · iexists _; isplitr; swap; (· iexact H5); ipureintro; exact rfl
    isplitl [H6]; · iexists _; isplitr; swap; (· iexact H6); ipureintro; exact rfl
    isplitl [H7]; · iexists _; isplitr; swap; (· iexact H7); ipureintro; exact rfl
    isplitl [H8]; · iexists _; isplitr; swap; (· iexact H8); ipureintro; exact rfl
    isplitl [H9]; · iexists _; isplitr; swap; (· iexact H9); ipureintro; exact rfl
    iexists _; isplitr; swap; (· iexact H10); ipureintro
    rw [e0, e1, e2, e3, e4, e5, e6, e7, e8, e9]
    exact rfl

theorem fetch4_10 (t : Fin cfg4.N) : (cfg4.win (10 : Fin 11)).fetch t = false := by revert t; decide +kernel
theorem keep4_10 (t : Fin cfg4.N) (h : t.val < 7) : (cfg4.win (10 : Fin 11)).flush t = false := by revert t; decide +kernel

/-- What the body leaves of the running total at each point. -/
theorem leaves2 (k : ℕ) : ∀ (t : Fin cfg4.N), t.val = k → ∀ (X : S1x1.Idx → Elt F .f32), (rd2 n f13 f3 f18 fo d).Leaves (10 : Fin 11) t X →
    X = fun _ => acc (f13 d) (f3 d) (f18 d) (k + 1) := by
  induction k with
  | zero =>
    rintro t ht X ⟨Y, hY, h⟩
    have h : X = fun _ => step (f13 d) (f3 d) (f18 d) t (if isFirst (grid4.coords t) = 1#1 then (Scalar.ofBits .f32 0x00000000#32 : F .f32) else Y (ix2 0 0)) := h
    rw [h, if_pos ((isFirst_iff t).2 ht)]
    have : t = (⟨0, by decide⟩ : Fin 8) := Fin.ext ht
    subst this
    rfl
  | succ k ih =>
    rintro t ht X ⟨Y, hY, h⟩
    have h : X = fun _ => step (f13 d) (f3 d) (f18 d) t (if isFirst (grid4.coords t) = 1#1 then (Scalar.ofBits .f32 0x00000000#32 : F .f32) else Y (ix2 0 0)) := h
    have hN : t.val < 8 := t.isLt
    have h0 : t.val ≠ 0 := by omega
    rw [RDat.finds_of_pos _ (fetch4_10 t) h0] at hY
    have hk : (⟨t.val - 1, Nat.lt_of_le_of_lt (Nat.sub_le _ _) t.isLt⟩ : Fin cfg4.N).val = k := by show t.val - 1 = k; omega
    have hY := ih _ hk Y (hY.resolve_left fun hf => absurd ((keep4_10 _ (by show t.val - 1 < 7; omega)).symm.trans hf) (by decide))
    rw [h, if_neg (fun hc => h0 ((isFirst_iff t).1 hc)), hY]
    funext _
    have h8 : k + 1 < 8 := by omega
    have : t = (⟨k + 1, h8⟩ : Fin 8) := Fin.ext ht
    subst this
    show _ = (if h : k + 1 < 8 then _ else _)
    rw [dif_pos h8]

/-- The total written back is the sum over the eight points. -/
theorem read2 (G : S1x1.Idx → Elt F .f32) (h : (rd2 n f13 f3 f18 fo d).ArrAt (10 : Fin 11) cfg4.N G) : G = fun _ => acc (f13 d) (f3 d) (f18 d) 8 := by
  obtain ⟨X, hX, e⟩ := h.emb_eq_of_wholeAt (t₀ := (⟨7, by decide⟩ : Fin cfg4.N)) (by decide +kernel)
  have hX := leaves2 d n f13 f3 f18 fo 7 _ rfl X hX
  subst hX
  funext j
  exact e j

end Cert.Proof
-- ==== Proof.Steps.lean ====
/-
  The three regions of @main as steps on the unscoped buffers held together: a region takes the arrays its windows are on
  and puts them back, its output array renewed.
-/
module

public import proofs.«01_k».proof.Proof.Host
public import proofs.«01_k».proof.Proof.Region0
public import proofs.«01_k».proof.Proof.Region1
public import proofs.«01_k».proof.Proof.Region2

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.StableHlo
open Idealize.ShloMosaic.Pipeline (RDat WinFacts₀)

variable {F : FTy → Type} [FloatOps F]

local notation "𝕄" => MT nD τ sig (HIx 2) (Elt F) ℕ UU ℕ

/-! ## One buffer out of those held, and back -/

/-- A TensorCore reference as a device reference. -/
abbrev rf (r : Ref sig .tc) : DevRef τ sig := Proc.devRef .tc r
theorem rf_ne {a b : Ref sig .tc} (h : a ≠ b) : rf a ≠ rf b := fun e => h (Proc.devRef_injective _ e)
/-- The unscoped buffers of a TensorCore. -/
abbrev UC : Finset (DevRef τ sig) := Pipeline.ucRefs τ sig

section Held
variable (d : Dev nD) {S : Finset (DevRef τ sig)} (V : Valuation τ sig (Elt F))

theorem held_take (a : Ref sig .tc) (ha : rf a ∈ S) :
    (held (T d) S V : sProp 𝕄) = iprop(((T d : Thread nD τ).loc a ↦{fullShare} V (rf a)) ∗ held (T d) (S.erase (rf a)) V) :=
  SparseCore.bigSep_erase' ha
theorem held_put (a : Ref sig .tc) (ha : rf a ∈ S) (x : Buf (Elt F) ((T d : Thread nD τ).loc a)) :
    (iprop(((T d : Thread nD τ).loc a ↦{fullShare} x) ∗ held (T d) (S.erase (rf a)) V) : sProp 𝕄) ⊢ held (T d) S (Function.update V (rf a) x) := by
  rw [held_take d (Function.update V (rf a) x) a ha, Function.update_self,
    held_congr (T d) (S := S.erase (rf a)) (V := Function.update V (rf a) x) (V' := V) fun b hb => Function.update_of_ne (Finset.ne_of_mem_erase hb) _ _]
theorem held_back (a : Ref sig .tc) (ha : rf a ∈ S) (x : Buf (Elt F) ((T d : Thread nD τ).loc a)) (h : V (rf a) = x) :
    (iprop(((T d : Thread nD τ).loc a ↦{fullShare} x) ∗ held (T d) (S.erase (rf a)) V) : sProp 𝕄) ⊢ held (T d) S V := by
  subst h; rw [held_take d V a ha]
end Held

/-- A window's array, whole. -/
theorem whole_pts {sp : Space} {s : Shape} {e : EltTy} (r : Memref sig .tc sp s e) (h : r.IsWhole) (d : Dev nD) (q : PosShare TreeShare)
    (f : Buf (Elt F) (r.view.loc (T d : Thread nD τ))) :
    (r.view.loc (T d : Thread nD τ) ↦[r.view.set]{q} f : sProp 𝕄) = (r.view.loc (T d : Thread nD τ) ↦{q} f) := by
  rw [h.set_eq_univ]

theorem mem_uc (r : Ref sig .tc) (h : r.isScoped = false) : rf r ∈ UC :=
  Finset.mem_filter.mpr ⟨devRef_mem_tcRefs r, fun h' => Bool.false_ne_true (h.symm.trans h')⟩
theorem mem_er {S : Finset (DevRef τ sig)} {a b : Ref sig .tc} (h : a ≠ b) (hb : rf a ∈ S) : rf a ∈ S.erase (rf b) := Finset.mem_erase.mpr ⟨rf_ne h, hb⟩

/-! ## The regions -/

section Steps
variable (d : Dev nD) (V : Valuation τ sig (Elt F))

/-- The relation table's region. -/
theorem step0 :
    (iprop(levAts (K (F := F)).L (K (F := F)).lev ∗ (K (F := F)).tcSt EH d 0 ∗ boundary (T d) ∗ held (T d) UC V
        ∗ Pipeline.cellsGhost cfgs EP 0 d ∗ Pipeline.toksInit cfgs EP 0 d) : sProp 𝕄)
      ⊢ wp frame (wpE ((K (F := F)).defs (D (F := F))) 𝒱 (T d) none) Set.univ (callTc 0) fun _ =>
          iprop((K (F := F)).tcSt EH d 0 ∗ boundary (T d) ∗ held (T d) UC (Function.update V (rf main_v0) (k0_pay1 (V (rf main_arg2)) (V (rf main_arg1))))) := by
  rw [held_take d V main_arg1 (mem_uc _ rfl), held_take d V main_arg2 (mem_er (by decide) (mem_uc _ rfl)),
    held_take d V main_v0 (mem_er (by decide) (mem_er (by decide) (mem_uc _ rfl)))]
  iintro ⟨#Hl, Hst, Hb, ⟨H1, H2, H0, Hrest⟩, Hg, Ht⟩
  ihave Ha := (show (iprop(((T d : Thread nD τ).loc main_arg1 ↦{fullShare} V (rf main_arg1)) ∗ ((T d : Thread nD τ).loc main_arg2 ↦{fullShare} V (rf main_arg2))
        ∗ ((T d : Thread nD τ).loc main_v0 ↦{fullShare} V (rf main_v0))) : sProp 𝕄)
      ⊢ (rd0 0 (fun _ => V (rf main_arg1)) (fun _ => V (rf main_arg2)) (fun _ => V (rf main_v0)) d).arrays
          (rd0 0 (fun _ => V (rf main_arg1)) (fun _ => V (rf main_arg2)) (fun _ => V (rf main_v0)) d).A from by
    unfold RDat.arrays
    rw [bigSep_W0]
    refine sep_mono (Entails.of_eq ?_) (sep_mono (Entails.of_eq ?_) (Entails.of_eq ?_))
    · exact (whole_pts (F := F) (win0_0.arr) (arr_whole0 0) d fullShare _).symm
    · exact (whole_pts (F := F) (win0_1.arr) (arr_whole0 1) d fullShare _).symm
    · exact (whole_pts (F := F) (win0_2.arr) (arr_whole0 2) d fullShare _).symm) $$ [H1 H2 H0]
  · isplitl [H1]; · iexact H1
    isplitl [H2]; · iexact H2
    iexact H0
  iapply (wp_mono frame (wpE ((K (F := F)).defs (D (F := F))) 𝒱 (T d) none) Set.univ (Q := fun _ => iprop(((K (F := F)).tcSt EH d 0 ∗ boundary (T d)
        ∗ (rd0 0 (fun _ => V (rf main_arg1)) (fun _ => V (rf main_arg2)) (fun _ => V (rf main_v0)) d).arraysAt (cfgs 0).N)
        ∗ held (T d) (((UC.erase (rf main_arg1)).erase (rf main_arg2)).erase (rf main_v0)) V)) (fun _ => ?_))
  · unfold RDat.arraysAt
    rw [bigSep_W0]
    iintro ⟨⟨Hst, Hb, ⟨⟨%f1, %h1, H1⟩, ⟨%f2, %h2, H2⟩, ⟨%f0, %h0, H0⟩⟩⟩, Hrest⟩
    have h1 : f1 = V (rf main_arg1) := (congrFun (RDat.ArrAt_in (rd0 0 (fun _ => V (rf main_arg1)) (fun _ => V (rf main_arg2)) (fun _ => V (rf main_v0)) d) (0 : Fin 3) rfl _) f1).mp h1
    have h2 : f2 = V (rf main_arg2) := (congrFun (RDat.ArrAt_in (rd0 0 (fun _ => V (rf main_arg1)) (fun _ => V (rf main_arg2)) (fun _ => V (rf main_v0)) d) (1 : Fin 3) rfl _) f2).mp h2
    have h0 := read0 0 (fun _ => V (rf main_arg1)) (fun _ => V (rf main_arg2)) (fun _ => V (rf main_v0)) d f0 h0
    subst h1 h2 h0
    isplitl [Hst]; · iexact Hst
    isplitl [Hb]; · iexact Hb
    iapply (held_back d _ main_arg1 (mem_uc _ rfl) _ (Function.update_of_ne (rf_ne (by decide)) _ _))
    isplitl [H1]; · iapply (Entails.of_eq (whole_pts (F := F) (win0_0.arr) (arr_whole0 0) d fullShare _)); iexact H1
    iapply (held_back d _ main_arg2 (mem_er (by decide) (mem_uc _ rfl)) _ (Function.update_of_ne (rf_ne (by decide)) _ _))
    isplitl [H2]; · iapply (Entails.of_eq (whole_pts (F := F) (win0_1.arr) (arr_whole0 1) d fullShare _)); iexact H2
    iapply (held_put d _ main_v0 (mem_er (by decide) (mem_er (by decide) (mem_uc _ rfl))))
    isplitl [H0]; · iapply (Entails.of_eq (whole_pts (F := F) (win0_2.arr) (arr_whole0 2) d fullShare _)); iexact H0
    iexact Hrest
  iapply (wp_frame_r frame (wpE ((K (F := F)).defs (D (F := F))) 𝒱 (T d) none) Set.univ)
  isplitr [Hrest]
  · iapply (wp_region 0 (rd0 0 (fun _ => V (rf main_arg1)) (fun _ => V (rf main_arg2)) (fun _ => V (rf main_v0))) 0 winFacts0.to₀ block_pos0 stage_whole0
      (fun _ _ => rfl) (fun _ _ => rfl) (fun _ _ => rfl) (fun d => obligation0 0 _ _ _ d) d)
    isplitr; · iexact Hl
    isplitl [Hst]; · iexact Hst
    isplitl [Hb]; · iexact Hb
    isplitl [Ha]; · iexact Ha
    isplitl [Hg]; · iexact Hg
    iexact Ht
  · iexact Hrest

/-- The entity table's region. -/
theorem step1 :
    (iprop(levAts (K (F := F)).L (K (F := F)).lev ∗ (K (F := F)).tcSt EH d 1 ∗ boundary (T d) ∗ held (T d) UC V
        ∗ Pipeline.cellsGhost cfgs EP 1 d ∗ Pipeline.toksInit cfgs EP 1 d) : sProp 𝕄)
      ⊢ wp frame (wpE ((K (F := F)).defs (D (F := F))) 𝒱 (T d) none) Set.univ (callTc 1) fun _ =>
          iprop((K (F := F)).tcSt EH d 1 ∗ boundary (T d) ∗ ∃ f5, ⌜Good (V (rf main_v4)) f5⌝ ∗ held (T d) UC (Function.update V (rf main_v5) f5)) := by
  rw [held_take d V main_v4 (mem_uc _ rfl), held_take d V main_v5 (mem_er (by decide) (mem_uc _ rfl))]
  iintro ⟨#Hl, Hst, Hb, ⟨H1, H0, Hrest⟩, Hg, Ht⟩
  ihave Ha := (show (iprop(((T d : Thread nD τ).loc main_v4 ↦{fullShare} V (rf main_v4))
        ∗ ((T d : Thread nD τ).loc main_v5 ↦{fullShare} V (rf main_v5))) : sProp 𝕄)
      ⊢ (rd1 1 (fun _ => V (rf main_v4)) (fun _ => V (rf main_v5)) d).arrays
          (rd1 1 (fun _ => V (rf main_v4)) (fun _ => V (rf main_v5)) d).A from by
    unfold RDat.arrays
    rw [bigSep_W2]
    refine sep_mono (Entails.of_eq ?_) (Entails.of_eq ?_)
    · exact (whole_pts (F := F) (win2_0.arr) (arr_whole2 0) d fullShare _).symm
    · exact (whole_pts (F := F) (win2_1.arr) (arr_whole2 1) d fullShare _).symm) $$ [H1 H0]
  · isplitl [H1]; · iexact H1
    iexact H0
  iapply (wp_mono frame (wpE ((K (F := F)).defs (D (F := F))) 𝒱 (T d) none) Set.univ (Q := fun _ => iprop(((K (F := F)).tcSt EH d 1 ∗ boundary (T d)
        ∗ (rd1 1 (fun _ => V (rf main_v4)) (fun _ => V (rf main_v5)) d).arraysAt (cfgs 1).N)
        ∗ held (T d) ((UC.erase (rf main_v4)).erase (rf main_v5)) V)) (fun _ => ?_))
  · unfold RDat.arraysAt
    rw [bigSep_W2]
    iintro ⟨⟨Hst, Hb, ⟨⟨%f1, %h1, H1⟩, ⟨%f0, %h0, H0⟩⟩⟩, Hrest⟩
    have h1 : f1 = V (rf main_v4) := (congrFun (RDat.ArrAt_in (rd1 1 (fun _ => V (rf main_v4)) (fun _ => V (rf main_v5)) d) (0 : Fin 2) rfl _) f1).mp h1
    have h0 := read1 1 (fun _ => V (rf main_v4)) (fun _ => V (rf main_v5)) d f0 h0
    subst h1
    isplitl [Hst]; · iexact Hst
    isplitl [Hb]; · iexact Hb
    iexists f0
    isplitr; · ipureintro; exact h0
    iapply (held_back d _ main_v4 (mem_uc _ rfl) _ (Function.update_of_ne (rf_ne (by decide)) _ _))
    isplitl [H1]; · iapply (Entails.of_eq (whole_pts (F := F) (win2_0.arr) (arr_whole2 0) d fullShare _)); iexact H1
    iapply (held_put d _ main_v5 (mem_er (by decide) (mem_uc _ rfl)))
    isplitl [H0]; · iapply (Entails.of_eq (whole_pts (F := F) (win2_1.arr) (arr_whole2 1) d fullShare _)); iexact H0
    iexact Hrest
  iapply (wp_frame_r frame (wpE ((K (F := F)).defs (D (F := F))) 𝒱 (T d) none) Set.univ)
  isplitr [Hrest]
  · iapply (wp_region 1 (rd1 1 (fun _ => V (rf main_v4)) (fun _ => V (rf main_v5))) 1 winFacts2.to₀ block_pos2 stage_whole2
      (fun _ _ => rfl) (fun _ _ => rfl) (fun _ _ => rfl) (fun d => obligation1 1 _ _ d) d)
    isplitr; · iexact Hl
    isplitl [Hst]; · iexact Hst
    isplitl [Hb]; · iexact Hb
    isplitl [Ha]; · iexact Ha
    isplitl [Hg]; · iexact Hg
    iexact Ht
  · iexact Hrest

/-- An array in halves; -/
theorem halves (r : Ref sig .tc) (q : PosShare TreeShare) (f : Buf (Elt F) ((T d : Thread nD τ).loc r)) :
    ((T d : Thread nD τ).loc r ↦{q} f : sProp 𝕄) = iprop(((T d : Thread nD τ).loc r ↦{q.left} f) ∗ ((T d : Thread nD τ).loc r ↦{q.right} f)) :=
  BI.Entails.antisymm (pointsTo_share (PosShare.mem_left_op_right q)).1 (pointsTo_share (PosShare.mem_left_op_right q)).2

section Loss
variable (f13 : S65536x128.Idx → Elt F .f32) (f3 : S32768x128.Idx → Elt F .f32) (f18 : S8x65536.Idx → Elt F .f32) (fo : S1x1.Idx → Elt F .f32)

/-- The loss region's proof data. -/
abbrev R2 : RDat τ (Elt F) (HIx 2) ℕ UU ℕ (cfgs 2) d := rd2 2 (fun _ => f13) (fun _ => f3) (fun _ => f18) (fun _ => fo) d

theorem win2_0pts (q : PosShare TreeShare) (f : Buf (Elt F) ((T d : Thread nD τ).loc main_v13)) :
    (((cfgs 2).win (0 : Fin 11)).arr.view.loc (d.tc : Thread nD τ) ↦[((cfgs 2).win (0 : Fin 11)).arr.view.set]{q} f : sProp 𝕄) = ((T d : Thread nD τ).loc main_v13 ↦{q} f) :=
  whole_pts (F := F) (win4_0.arr) (arr_whole4 0) d q f

theorem win2_1pts (q : PosShare TreeShare) (f : Buf (Elt F) ((T d : Thread nD τ).loc main_v13)) :
    (((cfgs 2).win (1 : Fin 11)).arr.view.loc (d.tc : Thread nD τ) ↦[((cfgs 2).win (1 : Fin 11)).arr.view.set]{q} f : sProp 𝕄) = ((T d : Thread nD τ).loc main_v13 ↦{q} f) :=
  whole_pts (F := F) (win4_1.arr) (arr_whole4 1) d q f

theorem win2_2pts (q : PosShare TreeShare) (f : Buf (Elt F) ((T d : Thread nD τ).loc main_v13)) :
    (((cfgs 2).win (2 : Fin 11)).arr.view.loc (d.tc : Thread nD τ) ↦[((cfgs 2).win (2 : Fin 11)).arr.view.set]{q} f : sProp 𝕄) = ((T d : Thread nD τ).loc main_v13 ↦{q} f) :=
  whole_pts (F := F) (win4_2.arr) (arr_whole4 2) d q f

theorem win2_3pts (q : PosShare TreeShare) (f : Buf (Elt F) ((T d : Thread nD τ).loc main_v13)) :
    (((cfgs 2).win (3 : Fin 11)).arr.view.loc (d.tc : Thread nD τ) ↦[((cfgs 2).win (3 : Fin 11)).arr.view.set]{q} f : sProp 𝕄) = ((T d : Thread nD τ).loc main_v13 ↦{q} f) :=
  whole_pts (F := F) (win4_3.arr) (arr_whole4 3) d q f

theorem win2_4pts (q : PosShare TreeShare) (f : Buf (Elt F) ((T d : Thread nD τ).loc main_v3)) :
    (((cfgs 2).win (4 : Fin 11)).arr.view.loc (d.tc : Thread nD τ) ↦[((cfgs 2).win (4 : Fin 11)).arr.view.set]{q} f : sProp 𝕄) = ((T d : Thread nD τ).loc main_v3 ↦{q} f) :=
  whole_pts (F := F) (win4_4.arr) (arr_whole4 4) d q f

theorem win2_5pts (q : PosShare TreeShare) (f : Buf (Elt F) ((T d : Thread nD τ).loc main_v3)) :
    (((cfgs 2).win (5 : Fin 11)).arr.view.loc (d.tc : Thread nD τ) ↦[((cfgs 2).win (5 : Fin 11)).arr.view.set]{q} f : sProp 𝕄) = ((T d : Thread nD τ).loc main_v3 ↦{q} f) :=
  whole_pts (F := F) (win4_5.arr) (arr_whole4 5) d q f

theorem win2_6pts (q : PosShare TreeShare) (f : Buf (Elt F) ((T d : Thread nD τ).loc main_v18)) :
    (((cfgs 2).win (6 : Fin 11)).arr.view.loc (d.tc : Thread nD τ) ↦[((cfgs 2).win (6 : Fin 11)).arr.view.set]{q} f : sProp 𝕄) = ((T d : Thread nD τ).loc main_v18 ↦{q} f) :=
  whole_pts (F := F) (win4_6.arr) (arr_whole4 6) d q f

theorem win2_7pts (q : PosShare TreeShare) (f : Buf (Elt F) ((T d : Thread nD τ).loc main_v18)) :
    (((cfgs 2).win (7 : Fin 11)).arr.view.loc (d.tc : Thread nD τ) ↦[((cfgs 2).win (7 : Fin 11)).arr.view.set]{q} f : sProp 𝕄) = ((T d : Thread nD τ).loc main_v18 ↦{q} f) :=
  whole_pts (F := F) (win4_7.arr) (arr_whole4 7) d q f

theorem win2_8pts (q : PosShare TreeShare) (f : Buf (Elt F) ((T d : Thread nD τ).loc main_v18)) :
    (((cfgs 2).win (8 : Fin 11)).arr.view.loc (d.tc : Thread nD τ) ↦[((cfgs 2).win (8 : Fin 11)).arr.view.set]{q} f : sProp 𝕄) = ((T d : Thread nD τ).loc main_v18 ↦{q} f) :=
  whole_pts (F := F) (win4_8.arr) (arr_whole4 8) d q f

theorem win2_9pts (q : PosShare TreeShare) (f : Buf (Elt F) ((T d : Thread nD τ).loc main_v18)) :
    (((cfgs 2).win (9 : Fin 11)).arr.view.loc (d.tc : Thread nD τ) ↦[((cfgs 2).win (9 : Fin 11)).arr.view.set]{q} f : sProp 𝕄) = ((T d : Thread nD τ).loc main_v18 ↦{q} f) :=
  whole_pts (F := F) (win4_9.arr) (arr_whole4 9) d q f

theorem win2_10pts (q : PosShare TreeShare) (f : Buf (Elt F) ((T d : Thread nD τ).loc main_v19)) :
    (((cfgs 2).win (10 : Fin 11)).arr.view.loc (d.tc : Thread nD τ) ↦[((cfgs 2).win (10 : Fin 11)).arr.view.set]{q} f : sProp 𝕄) = ((T d : Thread nD τ).loc main_v19 ↦{q} f) :=
  whole_pts (F := F) (win4_10.arr) (arr_whole4 10) d q f

/-- The four arrays are the eleven windows' shares of them; -/
theorem arrays2_in :
    (iprop(((T d : Thread nD τ).loc main_v13 ↦{fullShare} f13) ∗ ((T d : Thread nD τ).loc main_v3 ↦{fullShare} f3)
        ∗ ((T d : Thread nD τ).loc main_v18 ↦{fullShare} f18) ∗ ((T d : Thread nD τ).loc main_v19 ↦{fullShare} fo)) : sProp 𝕄)
      ⊢ (R2 d f13 f3 f18 fo).arrays (R2 d f13 f3 f18 fo).A := by
  rw [halves d main_v13, halves d main_v13 fullShare.left, halves d main_v13 fullShare.right, halves d main_v3,
    halves d main_v18, halves d main_v18 fullShare.left, halves d main_v18 fullShare.right]
  unfold RDat.arrays
  rw [bigSep_W4]
  iintro ⟨⟨⟨A0, A1⟩, A2, A3⟩, ⟨A4, A5⟩, ⟨⟨A6, A7⟩, A8, A9⟩, A10⟩
  isplitl [A0]
  · iapply (Entails.of_eq (win2_0pts d (fullShare.left.left) f13).symm); iexact A0
  isplitl [A1]
  · iapply (Entails.of_eq (win2_1pts d (fullShare.left.right) f13).symm); iexact A1
  isplitl [A2]
  · iapply (Entails.of_eq (win2_2pts d (fullShare.right.left) f13).symm); iexact A2
  isplitl [A3]
  · iapply (Entails.of_eq (win2_3pts d (fullShare.right.right) f13).symm); iexact A3
  isplitl [A4]
  · iapply (Entails.of_eq (win2_4pts d (fullShare.left) f3).symm); iexact A4
  isplitl [A5]
  · iapply (Entails.of_eq (win2_5pts d (fullShare.right) f3).symm); iexact A5
  isplitl [A6]
  · iapply (Entails.of_eq (win2_6pts d (fullShare.left.left) f18).symm); iexact A6
  isplitl [A7]
  · iapply (Entails.of_eq (win2_7pts d (fullShare.left.right) f18).symm); iexact A7
  isplitl [A8]
  · iapply (Entails.of_eq (win2_8pts d (fullShare.right.left) f18).symm); iexact A8
  isplitl [A9]
  · iapply (Entails.of_eq (win2_9pts d (fullShare.right.right) f18).symm); iexact A9
  iapply (Entails.of_eq (win2_10pts d fullShare fo).symm); iexact A10

theorem keep2_0 (f : Buf (Elt F) (((cfgs 2).win (0 : Fin 11)).arr.view.loc (d.tc : Thread nD τ))) (h : (R2 d f13 f3 f18 fo).ArrAt (0 : Fin 11) (cfgs 2).N f) : f = f13 :=
  (congrFun (RDat.ArrAt_in (R2 d f13 f3 f18 fo) (0 : Fin 11) rfl _) f).mp h
theorem keep2_1 (f : Buf (Elt F) (((cfgs 2).win (1 : Fin 11)).arr.view.loc (d.tc : Thread nD τ))) (h : (R2 d f13 f3 f18 fo).ArrAt (1 : Fin 11) (cfgs 2).N f) : f = f13 :=
  (congrFun (RDat.ArrAt_in (R2 d f13 f3 f18 fo) (1 : Fin 11) rfl _) f).mp h
theorem keep2_2 (f : Buf (Elt F) (((cfgs 2).win (2 : Fin 11)).arr.view.loc (d.tc : Thread nD τ))) (h : (R2 d f13 f3 f18 fo).ArrAt (2 : Fin 11) (cfgs 2).N f) : f = f13 :=
  (congrFun (RDat.ArrAt_in (R2 d f13 f3 f18 fo) (2 : Fin 11) rfl _) f).mp h
theorem keep2_3 (f : Buf (Elt F) (((cfgs 2).win (3 : Fin 11)).arr.view.loc (d.tc : Thread nD τ))) (h : (R2 d f13 f3 f18 fo).ArrAt (3 : Fin 11) (cfgs 2).N f) : f = f13 :=
  (congrFun (RDat.ArrAt_in (R2 d f13 f3 f18 fo) (3 : Fin 11) rfl _) f).mp h
theorem keep2_4 (f : Buf (Elt F) (((cfgs 2).win (4 : Fin 11)).arr.view.loc (d.tc : Thread nD τ))) (h : (R2 d f13 f3 f18 fo).ArrAt (4 : Fin 11) (cfgs 2).N f) : f = f3 :=
  (congrFun (RDat.ArrAt_in (R2 d f13 f3 f18 fo) (4 : Fin 11) rfl _) f).mp h
theorem keep2_5 (f : Buf (Elt F) (((cfgs 2).win (5 : Fin 11)).arr.view.loc (d.tc : Thread nD τ))) (h : (R2 d f13 f3 f18 fo).ArrAt (5 : Fin 11) (cfgs 2).N f) : f = f3 :=
  (congrFun (RDat.ArrAt_in (R2 d f13 f3 f18 fo) (5 : Fin 11) rfl _) f).mp h
theorem keep2_6 (f : Buf (Elt F) (((cfgs 2).win (6 : Fin 11)).arr.view.loc (d.tc : Thread nD τ))) (h : (R2 d f13 f3 f18 fo).ArrAt (6 : Fin 11) (cfgs 2).N f) : f = f18 :=
  (congrFun (RDat.ArrAt_in (R2 d f13 f3 f18 fo) (6 : Fin 11) rfl _) f).mp h
theorem keep2_7 (f : Buf (Elt F) (((cfgs 2).win (7 : Fin 11)).arr.view.loc (d.tc : Thread nD τ))) (h : (R2 d f13 f3 f18 fo).ArrAt (7 : Fin 11) (cfgs 2).N f) : f = f18 :=
  (congrFun (RDat.ArrAt_in (R2 d f13 f3 f18 fo) (7 : Fin 11) rfl _) f).mp h
theorem keep2_8 (f : Buf (Elt F) (((cfgs 2).win (8 : Fin 11)).arr.view.loc (d.tc : Thread nD τ))) (h : (R2 d f13 f3 f18 fo).ArrAt (8 : Fin 11) (cfgs 2).N f) : f = f18 :=
  (congrFun (RDat.ArrAt_in (R2 d f13 f3 f18 fo) (8 : Fin 11) rfl _) f).mp h
theorem keep2_9 (f : Buf (Elt F) (((cfgs 2).win (9 : Fin 11)).arr.view.loc (d.tc : Thread nD τ))) (h : (R2 d f13 f3 f18 fo).ArrAt (9 : Fin 11) (cfgs 2).N f) : f = f18 :=
  (congrFun (RDat.ArrAt_in (R2 d f13 f3 f18 fo) (9 : Fin 11) rfl _) f).mp h

/-- and the other way after the region. -/
theorem arrays2_out :
    ((R2 d f13 f3 f18 fo).arraysAt (cfgs 2).N : sProp 𝕄)
      ⊢ iprop(((T d : Thread nD τ).loc main_v13 ↦{fullShare} f13) ∗ ((T d : Thread nD τ).loc main_v3 ↦{fullShare} f3)
        ∗ ((T d : Thread nD τ).loc main_v18 ↦{fullShare} f18) ∗ ((T d : Thread nD τ).loc main_v19 ↦{fullShare} (fun _ => acc f13 f3 f18 8))) := by
  rw [halves d main_v13, halves d main_v13 fullShare.left, halves d main_v13 fullShare.right, halves d main_v3,
    halves d main_v18, halves d main_v18 fullShare.left, halves d main_v18 fullShare.right]
  unfold RDat.arraysAt
  rw [bigSep_W4]
  iintro ⟨⟨%f0, %h0, A0⟩, ⟨%f1, %h1, A1⟩, ⟨%f2, %h2, A2⟩, ⟨%g3, %h3, A3⟩, ⟨%f4, %h4, A4⟩, ⟨%f5, %h5, A5⟩, ⟨%f6, %h6, A6⟩, ⟨%f7, %h7, A7⟩, ⟨%f8, %h8, A8⟩, ⟨%f9, %h9, A9⟩, ⟨%f10, %h10, A10⟩⟩

  have h10 := read2 d 2 (fun _ => f13) (fun _ => f3) (fun _ => f18) (fun _ => fo) f10 h10
  subst h10
  have e0 := (keep2_0 d f13 f3 f18 fo _ h0).symm
  have e1 := (keep2_1 d f13 f3 f18 fo _ h1).symm
  have e2 := (keep2_2 d f13 f3 f18 fo _ h2).symm
  have e3 := (keep2_3 d f13 f3 f18 fo _ h3).symm
  have e4 := (keep2_4 d f13 f3 f18 fo _ h4).symm
  have e5 := (keep2_5 d f13 f3 f18 fo _ h5).symm
  have e6 := (keep2_6 d f13 f3 f18 fo _ h6).symm
  have e7 := (keep2_7 d f13 f3 f18 fo _ h7).symm
  have e8 := (keep2_8 d f13 f3 f18 fo _ h8).symm
  have e9 := (keep2_9 d f13 f3 f18 fo _ h9).symm
  subst e0 e1 e2 e3 e4 e5 e6 e7 e8 e9
  isplitl [A0 A1 A2 A3]
  · isplitl [A0 A1]
    · isplitl [A0]
      · iapply (Entails.of_eq (win2_0pts d fullShare.left.left _)); iexact A0
      · iapply (Entails.of_eq (win2_1pts d fullShare.left.right _)); iexact A1
    · isplitl [A2]
      · iapply (Entails.of_eq (win2_2pts d fullShare.right.left _)); iexact A2
      · iapply (Entails.of_eq (win2_3pts d fullShare.right.right _)); iexact A3
  isplitl [A4 A5]
  · isplitl [A4]
    · iapply (Entails.of_eq (win2_4pts d fullShare.left _)); iexact A4
    · iapply (Entails.of_eq (win2_5pts d fullShare.right _)); iexact A5
  isplitl [A6 A7 A8 A9]
  · isplitl [A6 A7]
    · isplitl [A6]
      · iapply (Entails.of_eq (win2_6pts d fullShare.left.left _)); iexact A6
      · iapply (Entails.of_eq (win2_7pts d fullShare.left.right _)); iexact A7
    · isplitl [A8]
      · iapply (Entails.of_eq (win2_8pts d fullShare.right.left _)); iexact A8
      · iapply (Entails.of_eq (win2_9pts d fullShare.right.right _)); iexact A9
  iapply (Entails.of_eq (win2_10pts d fullShare _)); iexact A10
end Loss

/-- The loss's region. -/
theorem step2 (S : Finset (DevRef τ sig)) (m13 : rf main_v13 ∈ S) (m3 : rf main_v3 ∈ S) (m18 : rf main_v18 ∈ S) (m19 : rf main_v19 ∈ S) :
    (iprop(levAts (K (F := F)).L (K (F := F)).lev ∗ (K (F := F)).tcSt EH d 2 ∗ boundary (T d) ∗ held (T d) S V
        ∗ Pipeline.cellsGhost cfgs EP 2 d ∗ Pipeline.toksInit cfgs EP 2 d) : sProp 𝕄)
      ⊢ wp frame (wpE ((K (F := F)).defs (D (F := F))) 𝒱 (T d) none) Set.univ (callTc 2) fun _ =>
          iprop((K (F := F)).tcSt EH d 2 ∗ boundary (T d) ∗ held (T d) S (Function.update V (rf main_v19)
            (fun _ => acc (V (rf main_v13)) (V (rf main_v3)) (V (rf main_v18)) 8))) := by
  rw [held_take d V main_v13 m13, held_take d V main_v3 (mem_er (by decide) m3), held_take d V main_v18 (mem_er (by decide) (mem_er (by decide) m18)),
    held_take d V main_v19 (mem_er (by decide) (mem_er (by decide) (mem_er (by decide) m19)))]
  iintro ⟨#Hl, Hst, Hb, ⟨H1, H2, H3, H0, Hrest⟩, Hg, Ht⟩
  ihave Ha := (arrays2_in d (V (rf main_v13)) (V (rf main_v3)) (V (rf main_v18)) (V (rf main_v19))) $$ [H1 H2 H3 H0]
  · isplitl [H1]; · iexact H1
    isplitl [H2]; · iexact H2
    isplitl [H3]; · iexact H3
    iexact H0
  iapply (wp_mono frame (wpE ((K (F := F)).defs (D (F := F))) 𝒱 (T d) none) Set.univ (Q := fun _ => iprop(((K (F := F)).tcSt EH d 2 ∗ boundary (T d)
        ∗ (R2 d (V (rf main_v13)) (V (rf main_v3)) (V (rf main_v18)) (V (rf main_v19))).arraysAt (cfgs 2).N)
        ∗ held (T d) ((((S.erase (rf main_v13)).erase (rf main_v3)).erase (rf main_v18)).erase (rf main_v19)) V)) (fun _ => ?_))
  · iintro ⟨⟨Hst, Hb, Ha⟩, Hrest⟩
    ihave Ha := (arrays2_out d (V (rf main_v13)) (V (rf main_v3)) (V (rf main_v18)) (V (rf main_v19))) $$ Ha
    icases Ha with ⟨H1, H2, H3, H0⟩
    isplitl [Hst]; · iexact Hst
    isplitl [Hb]; · iexact Hb
    iapply (held_back d _ main_v13 m13 (V (rf main_v13)) (Function.update_of_ne (rf_ne (by decide)) _ _))
    isplitl [H1]; · iexact H1
    iapply (held_back d _ main_v3 (mem_er (by decide) m3) (V (rf main_v3)) (Function.update_of_ne (rf_ne (by decide)) _ _))
    isplitl [H2]; · iexact H2
    iapply (held_back d _ main_v18 (mem_er (by decide) (mem_er (by decide) m18)) (V (rf main_v18)) (Function.update_of_ne (rf_ne (by decide)) _ _))
    isplitl [H3]; · iexact H3
    iapply (held_put d _ main_v19 (mem_er (by decide) (mem_er (by decide) (mem_er (by decide) m19))))
    isplitl [H0]; · iexact H0
    iexact Hrest
  iapply (wp_frame_r frame (wpE ((K (F := F)).defs (D (F := F))) 𝒱 (T d) none) Set.univ)
  isplitr [Hrest]
  · iapply (wp_region 2 (rd2 2 (fun _ => V (rf main_v13)) (fun _ => V (rf main_v3)) (fun _ => V (rf main_v18)) (fun _ => V (rf main_v19))) 2 winFacts₀4 block_pos4 stage_whole4
      (fun _ _ => rfl) (fun _ _ => rfl) (fun _ _ => rfl) (fun d => obligation2 d 2 _ _ _ _) d)
    isplitr; · iexact Hl
    isplitl [Hst]; · iexact Hst
    isplitl [Hb]; · iexact Hb
    isplitl [Ha]; · iexact Ha
    isplitl [Hg]; · iexact Hg
    iexact Ht
  · iexact Hrest

end Steps

end Cert.Proof

end
-- ==== Proof.Words1.lean ====
/-
  The words of the first gather's tile program: the five numbers its loop carries, the offsets and conditions computed
  from them, over the thirty-two tiles and the eight steps.
-/
module

public import proofs.«01_k».proof.Proof.Base

@[expose] public section

noncomputable section

namespace Cert.Proof.Tile1

open Cert.KernelIdeal Cert.KernelIdeal.Gen
open Idealize.ShloMosaic Cert.Proof

/-- A pair of a SparseCore and a tile, as the kernel's grid has it. -/
def co (c : Fin 2) (s : Fin 16) : grid1.Coords := fun | 0 => c | 1 => s | ⟨_ + 2, h⟩ => absurd h (Nat.not_lt.2 (Nat.le_add_left _ _))
/-- The block of 128 rows the tile moves at step `t`. -/
def blk (c : Fin 2) (s : Fin 16) (t : ℕ) : ℕ := 8 * (s.val + 16 * c.val) + t
theorem blk_lt (c : Fin 2) (s : Fin 16) {t : ℕ} (h : t < 8) : blk c s t < 256 := by unfold blk; omega
/-- What the loop carries before step `t`. -/
def accAt (t : ℕ) : BitVec 32 × BitVec 32 × BitVec 32 × BitVec 32 × BitVec 32 :=
  (BitVec.ofNat 32 (min (t + 1) 8), BitVec.ofNat 32 t, BitVec.ofNat 32 t, BitVec.ofNat 32 (t - 1), BitVec.ofNat 32 (t % 8))
abbrev a6 (t : ℕ) := (accAt t).1
abbrev a7 (t : ℕ) := (accAt t).2.1
abbrev a8 (t : ℕ) := (accAt t).2.2.1
abbrev a9 (t : ℕ) := (accAt t).2.2.2.1
abbrev a10 (t : ℕ) := (accAt t).2.2.2.2

theorem trips : k1_t1_loop.trips = 8 := by decide +kernel

theorem cond1_iff : ∀ (c : Fin 2) (s : Fin 16) (t : Fin k1_t1_loop.trips), (k1_cond1 (co c s) t (a10 t.val) = 1#1) ↔ t.val < 7 := by decide +kernel
theorem cond2_true : ∀ (c : Fin 2) (s : Fin 16) (t : Fin k1_t1_loop.trips), k1_cond2 (co c s) t (a10 t.val) = 1#1 := by decide +kernel
theorem cond5_true : ∀ (c : Fin 2) (s : Fin 16) (t : Fin k1_t1_loop.trips), k1_cond5 (co c s) t (a10 t.val) = 1#1 := by decide +kernel
theorem cond7_iff : ∀ (c : Fin 2) (s : Fin 16) (t : Fin k1_t1_loop.trips), (k1_cond7 (co c s) t (a10 t.val) = 1#1) ↔ 0 < t.val := by decide +kernel
theorem chk1_ok : ∀ (c : Fin 2) (s : Fin 16) (t : Fin k1_t1_loop.trips), k1_chk1 (co c s) t (a6 t.val) (a7 t.val) (a8 t.val) (a9 t.val) (a10 t.val) := by decide +kernel
theorem chk2_ok : ∀ (t : Fin 8), k1_chk2 (a8 t.val) := by decide +kernel
theorem chk3_ok : ∀ (t : Fin 8), k1_chk3 (a7 t.val) := by decide +kernel
theorem chk4_ok : k1_chk4 (a9 8) := by decide +kernel
theorem chk5_ok : ∀ (c : Fin 2) (s : Fin 16), k1_chk5 (co c s) (a10 8) := by decide +kernel
theorem off1_eq : k1_off1 = ![(sl2 0).val, 0, 0] := by decide +kernel
theorem off2_eq : ∀ (c : Fin 2) (s : Fin 16), k1_off2 (co c s) = ![0, 128 * blk c s 0] := by decide +kernel
theorem off3_eq : k1_off3 = ![(sl2 0).val] := by decide +kernel
theorem off4_eq : ∀ (t : Fin 8), t.val < 7 → k1_off4 (a6 t.val) = ![(sl2 (t.val + 1)).val, 0, 0] := by decide +kernel
theorem off5_eq : ∀ (c : Fin 2) (s : Fin 16) (t : Fin 8), t.val < 7 → k1_off5 (co c s) (a10 t.val) = ![0, 128 * blk c s (t.val + 1)] := by decide +kernel
theorem off6_eq : ∀ (t : Fin 8), t.val < 7 → k1_off6 (a6 t.val) = ![(sl2 (t.val + 1)).val] := by decide +kernel
theorem off7_eq : ∀ (t : Fin 8), k1_off7 (a7 t.val) = ![(sl2 t.val).val, 0, 0] := by decide +kernel
theorem off8_eq : ∀ (c : Fin 2) (s : Fin 16) (t : Fin 8), k1_off8 (co c s) (a10 t.val) = ![0, 128 * blk c s t.val] := by decide +kernel
theorem off9_eq : ∀ (t : Fin 8), k1_off9 (a7 t.val) = ![(sl2 t.val).val] := by decide +kernel
theorem off10_eq : ∀ (t : Fin 8), k1_off10 (a8 t.val) = ![(sl2 t.val).val, 0, 0] := by decide +kernel
theorem off11_eq : ∀ (t : Fin 8), k1_off11 (a7 t.val) = ![(sl2 t.val).val, 0, 0] := by decide +kernel
theorem off12_eq : ∀ (t : Fin 8), k1_off12 (a8 t.val) = ![(sl2 t.val).val, 0, 0] := by decide +kernel
theorem off13_eq : ∀ (c : Fin 2) (s : Fin 16) (t : Fin 8), k1_off13 (co c s) (a10 t.val) = ![128 * blk c s t.val, 0] := by decide +kernel
theorem off14_eq : ∀ (t : Fin 8), k1_off14 (a8 t.val) = ![(sl2 t.val).val] := by decide +kernel
theorem off15_eq : ∀ (t : Fin 8), 0 < t.val → k1_off15 (a9 t.val) = ![(sl2 (t.val + 1)).val, 0, 0] := by decide +kernel
theorem off16_eq : ∀ (c : Fin 2) (s : Fin 16) (t : Fin 8), 0 < t.val → k1_off16 (co c s) (a10 t.val) = ![128 * blk c s (t.val - 1), 0] := by decide +kernel
theorem off17_eq : ∀ (t : Fin 8), 0 < t.val → k1_off17 (a9 t.val) = ![(sl2 (t.val + 1)).val] := by decide +kernel
theorem off19_eq : ∀ (c : Fin 2) (s : Fin 16), k1_off19 (co c s) (a10 8) = ![128 * blk c s 7, 0] := by decide +kernel
theorem off20_eq : k1_off20 (a9 8) = ![(sl2 9).val] := by decide +kernel
theorem off21_eq : k1_off21 (a9 8) = ![(sl2 9).val, 0, 0] := by decide +kernel

end Cert.Proof.Tile1

end
-- ==== Proof.Moves1.lean ====
/-
  The memory a tile of the first gather moves, and one step lemma per kind of transfer: a block of 128 indices copied in,
  the rows it names gathered, a block of 128 gathered rows copied out.
-/
module

public import proofs.«01_k».proof.Proof.Words1
public import Idealize.ShloMosaic.Lib.ValueIdx

@[expose] public section

noncomputable section

namespace Cert.Proof.Tile1

open Cert.KernelIdeal Cert.KernelIdeal.Gen
open Idealize.ShloMosaic Cert.Proof
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig (HIx 2) (Elt F) ℕ UU ℕ

abbrev tV : Memref sig .scVector .hbm S1000x128 .f32 := Memref.whole main_v0_scv
abbrev iV : Memref sig .scVector .hbm S1x32768 .i32 := Memref.whole main_v2_scv
abbrev oV : Memref sig .scVector .hbm S32768x128 .f32 := Memref.whole main_v3_scv
abbrev sV : Memref sig .scVector .vmem S2x1x128 .i32 := Memref.whole cc1_scoped0
abbrev rV : Memref sig .scVector .vmem S2x128x128 .f32 := Memref.whole cc1_scoped2

theorem inb_sl1 (p : Fin 2) : ∀ a, (![p.val, 0, 0] : Fin 3 → ℕ) a + S1x1x128.size a ≤ S2x1x128.size a := by revert p; decide
theorem inb_sl2 (p : Fin 2) : ∀ a, (![p.val, 0, 0] : Fin 3 → ℕ) a + S1x128x128.size a ≤ S2x128x128.size a := by revert p; decide
theorem inb_sm (p : Fin 2) : ∀ a, (![p.val] : Fin 1 → ℕ) a + S1.size a ≤ S2.size a := by revert p; decide
theorem inb_idx (β : Fin 256) : ∀ a, (![0, 128 * β.val] : Fin 2 → ℕ) a + S1x128.size a ≤ S1x32768.size a := by revert β; decide
theorem inb_out (β : Fin 256) : ∀ a, (![128 * β.val, 0] : Fin 2 → ℕ) a + S128x128.size a ≤ S32768x128.size a := by revert β; decide

/-- One of the two staging slots for indices; -/
def inSl (p : Fin 2) : Memref sig .scVector .vmem S1x128 .i32 :=
  (sV.slice (Rect.unit (s := S2x1x128) ![p.val, 0, 0] S1x1x128.size (inb_sl1 p)) (fun _ => rfl)).squeeze S1x128 squeezes_S1x1x128_S1x128
/-- the same slot as a list of 128 offsets; -/
def offSl (p : Fin 2) : Memref sig .scVector .vmem S128 .i32 :=
  ((inSl p).slice (Rect.unit (s := S1x128) ![0, 0] S1x128.size inb_S1x128_S1x128_0_0) (fun _ => rfl)).squeeze S128 squeezes_S1x128_S128
/-- one of the two staging slots for gathered rows; -/
def outSl (p : Fin 2) : Memref sig .scVector .vmem S128x128 .f32 :=
  (rV.slice (Rect.unit (s := S2x128x128) ![p.val, 0, 0] S1x128x128.size (inb_sl2 p)) (fun _ => rfl)).squeeze S128x128 squeezes_S1x128x128_S128x128
/-- block `β` of the index array; -/
def idxB (β : Fin 256) : Memref sig .scVector .hbm S1x128 .i32 :=
  iV.slice (Rect.unit (s := S1x32768) ![0, 128 * β.val] S1x128.size (inb_idx β)) (fun _ => rfl)
/-- block `β` of the result; -/
def outB (β : Fin 256) : Memref sig .scVector .hbm S128x128 .f32 :=
  oV.slice (Rect.unit (s := S32768x128) ![128 * β.val, 0] S128x128.size (inb_out β)) (fun _ => rfl)
/-- the table, whole, as the gather names it. -/
def tabV : Memref sig .scVector .hbm S1000x128 .f32 :=
  tV.slice (Rect.unit (s := S1000x128) ![0, 0] S1000x128.size inb_S1000x128_S1000x128_0_0) (fun _ => rfl)
/-- The semaphore of an index slot, and of a row slot. -/
def inSem (p : Fin 2) : DmaSem sig := ((cc1_scoped1.slice (Rect.unit (s := S2) ![p.val] S1.size (inb_sm p))).squeeze S_ squeezes_S1_S_).sem
def outSem (p : Fin 2) : DmaSem sig := ((cc1_scoped3.slice (Rect.unit (s := S2) ![p.val] S1.size (inb_sm p))).squeeze S_ squeezes_S1_S_).sem

/-- What the gather leaves in the result: at row `r` the table's row the index array names there. -/
def G (ft : S1000x128.Idx → Elt F .f32) (fi : S1x32768.Idx → Elt F .i32) : S32768x128.Idx → Elt F .f32 :=
  fun x => ft (ix2 (⟨(fi (ix2 (0 : Fin 1) (x 0 : Fin 32768))).toNat % 1000, Nat.mod_lt _ (by decide)⟩ : Fin 1000) (x 1 : Fin 128))

/-- The thread of tile `s` of SparseCore `c`. -/
abbrev thr (d : Dev nD) (c : Fin 2) (s : Fin 16) : Thread nD τ := V d ((co c s 0).castLE hcore1) ((co c s 1).castLE hsub1)

section Steps
variable (d : Dev nD) (c : Fin 2) (s : Fin 16) (ft : S1000x128.Idx → Elt F .f32) (fi : S1x32768.Idx → Elt F .i32)

def idxPts (β : Fin 256) : sProp 𝕄 := (idxB β).view.loc (thr d c s) ↦[(idxB β).view.set]{fullShare} fi
def outPts (β : Fin 256) (f : S32768x128.Idx → Elt F .f32) : sProp 𝕄 := (outB β).view.loc (thr d c s) ↦[(outB β).view.set]{fullShare} f
def inFree (p : Fin 2) : sProp 𝕄 := iprop(∃ f, (inSl p).view.loc (thr d c s) ↦[(inSl p).view.set]{fullShare} f)
def outFree (p : Fin 2) : sProp 𝕄 := iprop(∃ f, (outSl p).view.loc (thr d c s) ↦[(outSl p).view.set]{fullShare} f)
/-- An index slot holding block `β`. -/
def inFull (p : Fin 2) (β : Fin 256) : sProp 𝕄 :=
  iprop(∃ f, ⌜(inSl p).view.read (Elt F) f = (idxB β).view.read (Elt F) fi⌝ ∗ (inSl p).view.loc (thr d c s) ↦[(inSl p).view.set]{fullShare} f)
/-- A row slot holding block `β` of the result. -/
def outFull (p : Fin 2) (β : Fin 256) : sProp 𝕄 :=
  iprop(∃ f, ⌜(outSl p).view.read (Elt F) f = (outB β).view.read (Elt F) (G ft fi)⌝ ∗ (outSl p).view.loc (thr d c s) ↦[(outSl p).view.set]{fullShare} f)
def inZero (p : Fin 2) : sProp 𝕄 := semVal (thr d c s, SemLoc.dma (inSem p)) 0
def outZero (p : Fin 2) : sProp 𝕄 := semVal (thr d c s, SemLoc.dma (outSem p)) 0
/-- Block `β` on its way into index slot `p`; -/
def inFly (p : Fin 2) (β : Fin 256) : sProp 𝕄 :=
  Transfers.Flight countersEmb (thr d c s) (.dma (inSem p)) (default : HIx 2) (inSl p).view.dmaCredit
    iprop(inFull d c s fi p β ∗ idxPts d c s fi β)
/-- row slot `p` on its way out to block `β`. -/
def outFly (p : Fin 2) (β : Fin 256) : sProp 𝕄 :=
  Transfers.Flight countersEmb (thr d c s) (.dma (outSem p)) (default : HIx 2) (outB β).view.dmaCredit
    iprop(outPts d c s β (G ft fi) ∗ outFree d c s p)

theorem inCredit (p : Fin 2) : 0 < (inSl p).view.dmaCredit := View.dmaCredit_pos _ (by decide)
theorem outCredit (β : Fin 256) : 0 < (outB β).view.dmaCredit := View.dmaCredit_pos _ (by decide)

/-- The copy of block `β` of the indices into slot `p` starts. -/
theorem wp_load (p : Fin 2) (β : Fin 256) {src : Memref sig (thr d c s).2.kind .hbm S1x128 .i32} {dst : Memref sig (thr d c s).2.kind .vmem S1x128 .i32} {sem : DmaSem sig}
    (hs : src = idxB β) (hd : dst = inSl p) (hm : sem = inSem p) {hsrc : src.view.WordExact} {hdst : dst.view.WordExact}
    {hsem : DmaTarget.Typed (nD := nD) .hbm (.dma sem) (DmaTarget.here (p := (thr d c s).2) dst)}
    {α : Type} {k : PUnit → Prog (TpuEff nD τ sig (Elt F) Λ₀ (thr d c s).2) α} {Q : α → sProp 𝕄} :
    iprop(idxPts d c s fi β ∗ inFree d c s p ∗ inZero d c s p)
      ⊢ iprop((inFly d c s fi p β -∗ wp frame (wpE (defs₀ (F := F)) 𝒱₀ (thr d c s) none) Set.univ (k ⟨⟩) Q)
        -∗ wp frame (wpE (defs₀ (F := F)) 𝒱₀ (thr d c s) none) Set.univ (.op (.enqueueDma src (.here dst) (.dma sem) hsrc hdst hsem) k) Q) := by
  subst hs hd hm
  unfold inFree idxPts inZero inFly
  iintro ⟨Hi, ⟨%f, Hf⟩, Hz⟩ Hk
  iapply (Transfers.wp_dmaLocal countersEmb 𝒱₀ (thr d c s) none (default : HIx 2) (inSl p).view.dmaCredit rfl (inCredit p) (Finset.Subset.refl _)) $$ [Hi Hf Hz]
  · isplitl [Hi]; · iexact Hi
    isplitl [Hf]; · iexact Hf
    iexact Hz
  iintro Hfl
  iapply Hk
  iapply (Transfers.Flight_mono countersEmb (thr d c s) ?_) $$ Hfl
  iintro ⟨Hd, Hi⟩
  unfold inFull idxPts
  isplitl [Hd]
  · iexists _; isplitr
    swap; · iexact Hd
    ipureintro; exact View.read_write_univ _ _
  · iexact Hi

/-- The copy out of slot `p` into block `β` of the result starts. -/
theorem wp_store (p : Fin 2) (β : Fin 256) {src : Memref sig (thr d c s).2.kind .vmem S128x128 .f32} {dst : Memref sig (thr d c s).2.kind .hbm S128x128 .f32} {sem : DmaSem sig}
    (hs : src = outSl p) (hd : dst = outB β) (hm : sem = outSem p) {hsrc : src.view.WordExact} {hdst : dst.view.WordExact}
    {hsem : DmaTarget.Typed (nD := nD) .vmem (.dma sem) (DmaTarget.here (p := (thr d c s).2) dst)} {fo : S32768x128.Idx → Elt F .f32}
    {α : Type} {k : PUnit → Prog (TpuEff nD τ sig (Elt F) Λ₀ (thr d c s).2) α} {Q : α → sProp 𝕄} :
    iprop(outFull d c s ft fi p β ∗ outPts d c s β fo ∗ outZero d c s p)
      ⊢ iprop((outFly d c s ft fi p β -∗ wp frame (wpE (defs₀ (F := F)) 𝒱₀ (thr d c s) none) Set.univ (k ⟨⟩) Q)
        -∗ wp frame (wpE (defs₀ (F := F)) 𝒱₀ (thr d c s) none) Set.univ (.op (.enqueueDma src (.here dst) (.dma sem) hsrc hdst hsem) k) Q) := by
  subst hs hd hm
  unfold outFull outPts outZero outFly
  iintro ⟨⟨%f, %hf, Hf⟩, Ho, Hz⟩ Hk
  iapply (Transfers.wp_dmaLocal countersEmb 𝒱₀ (thr d c s) none (default : HIx 2) (outB β).view.dmaCredit rfl (outCredit β) (Finset.Subset.refl _)) $$ [Hf Ho Hz]
  · isplitl [Hf]; · iexact Hf
    isplitl [Ho]; · iexact Ho
    iexact Hz
  iintro Hfl
  iapply Hk
  iapply (Transfers.Flight_mono countersEmb (thr d c s) ?_) $$ Hfl
  iintro ⟨Hd, Hf⟩
  unfold outFree outPts
  isplitl [Hd]
  · iapply (Entails.of_eq (pointsTo_congr ?_)) $$ Hd
    intro x hx
    obtain ⟨y, -, rfl⟩ := Finset.mem_map.mp hx
    refine (View.write_emb_of_mem _ _ (Finset.mem_univ y)).trans ?_
    exact congrFun hf y
  · iexists _; iexact Hf

/-- A copy in that has been waited for leaves the slot holding its block. -/
theorem wp_loaded (p : Fin 2) (β : Fin 256) {srcw : Memref sig (thr d c s).2.kind .hbm S1x128 .i32} {dstw : Memref sig (thr d c s).2.kind .vmem S1x128 .i32} {sem : DmaSem sig}
    (hd : dstw = inSl p) (hm : sem = inSem p) {hsrc : srcw.view.WordExact} {hdst : dstw.view.WordExact}
    {α : Type} {k : PUnit → Prog (TpuEff nD τ sig (Elt F) Λ₀ (thr d c s).2) α} {Q : α → sProp 𝕄}
    {O : CellTallies nD τ sig (HIx 2)} {W : Waits sig (HIx 2)} :
    iprop(inFly d c s fi p β ∗ owes (thr d c s) O W ∗ Transfers.MayWaits (thr d c s) (default : HIx 2) O)
      ⊢ iprop((iprop(inFull d c s fi p β ∗ idxPts d c s fi β ∗ inZero d c s p ∗ owes (thr d c s) O (insert (SemLoc.dma (inSem p), default) W))
            -∗ wp frame (wpE (defs₀ (F := F)) 𝒱₀ (thr d c s) none) Set.univ (k ⟨⟩) Q)
        -∗ wp frame (wpE (defs₀ (F := F)) 𝒱₀ (thr d c s) none) Set.univ (.op (.waitDma2 sem srcw dstw hsrc hdst) k) Q) := by
  subst hd hm
  unfold inFly inZero
  iintro ⟨Hfl, HO, Hmw⟩ Hk
  iapply (Transfers.wp_waitLocalO countersEmb 𝒱₀ (thr d c s) none (default : HIx 2) (rfl : (inSl p).view.dmaCredit = _)) $$ [Hfl HO Hmw]
  · isplitl [Hfl]; · iexact Hfl
    isplitl [HO]; · iexact HO
    iapply (Transfers.MayWaits.elim (SemLoc.dma (inSem p))) $$ Hmw
  iintro ⟨⟨Hf, Hi⟩, Hz, HO⟩
  iapply Hk
  isplitl [Hf]; · iexact Hf
  isplitl [Hi]; · iexact Hi
  isplitl [Hz]; · iexact Hz
  iexact HO

/-- A copy out that has been waited for leaves its block written and the slot free. -/
theorem wp_stored (p : Fin 2) (β : Fin 256) {srcw : Memref sig (thr d c s).2.kind .vmem S128x128 .f32} {dstw : Memref sig (thr d c s).2.kind .hbm S128x128 .f32} {sem : DmaSem sig}
    (hd : dstw = outB β) (hm : sem = outSem p) {hsrc : srcw.view.WordExact} {hdst : dstw.view.WordExact}
    {α : Type} {k : PUnit → Prog (TpuEff nD τ sig (Elt F) Λ₀ (thr d c s).2) α} {Q : α → sProp 𝕄}
    {O : CellTallies nD τ sig (HIx 2)} {W : Waits sig (HIx 2)} :
    iprop(outFly d c s ft fi p β ∗ owes (thr d c s) O W ∗ Transfers.MayWaits (thr d c s) (default : HIx 2) O)
      ⊢ iprop((iprop(outPts d c s β (G ft fi) ∗ outFree d c s p ∗ outZero d c s p ∗ owes (thr d c s) O (insert (SemLoc.dma (outSem p), default) W))
            -∗ wp frame (wpE (defs₀ (F := F)) 𝒱₀ (thr d c s) none) Set.univ (k ⟨⟩) Q)
        -∗ wp frame (wpE (defs₀ (F := F)) 𝒱₀ (thr d c s) none) Set.univ (.op (.waitDma2 sem srcw dstw hsrc hdst) k) Q) := by
  subst hd hm
  unfold outFly outZero
  iintro ⟨Hfl, HO, Hmw⟩ Hk
  iapply (Transfers.wp_waitLocalO countersEmb 𝒱₀ (thr d c s) none (default : HIx 2) (rfl : (outB β).view.dmaCredit = _)) $$ [Hfl HO Hmw]
  · isplitl [Hfl]; · iexact Hfl
    isplitl [HO]; · iexact HO
    iapply (Transfers.MayWaits.elim (SemLoc.dma (outSem p))) $$ Hmw
  iintro ⟨⟨Hf, Hi⟩, Hz, HO⟩
  iapply Hk
  isplitl [Hf]; · iexact Hf
  isplitl [Hi]; · iexact Hi
  isplitl [Hz]; · iexact Hz
  iexact HO

theorem offSl_idx (k : Fin 128) :
    (Rect.unit (s := S1x128) ![0, 0] S1x128.size inb_S1x128_S1x128_0_0).emb (Shape.reshapeEquiv squeezes_S1x128_S128.numel_eq (ix1 k)) = ix2 (0 : Fin 1) k := by
  rw [show Shape.reshapeEquiv squeezes_S1x128_S128.numel_eq (ix1 k) = ix2 (0 : Fin 1) k from
    (Shape.reshapeEquiv_cons_one _ _).trans (by funext a; match a with | ⟨0, _⟩ => rfl | ⟨1, _⟩ => rfl)]
  funext a; match a with | ⟨0, _⟩ => rfl | ⟨1, _⟩ => exact Fin.ext (by simp [Rect.emb, Rect.unit])

/-- The list of 128 offsets read off slot `p` is the slot's row. -/
theorem offSl_read (p : Fin 2) (f : S2x1x128.Idx → Elt F .i32) (k : Fin 128) :
    (offSl p).view.read (Elt F) f (ix1 k) = (inSl p).view.read (Elt F) f (ix2 (0 : Fin 1) k) := by
  change (inSl p).view.read (Elt F) f ((Rect.unit (s := S1x128) ![0, 0] S1x128.size inb_S1x128_S1x128_0_0).emb (Shape.reshapeEquiv squeezes_S1x128_S128.numel_eq (ix1 k))) = _
  rw [offSl_idx]

/-- The words of a block, as the index array has them. -/
theorem idxB_read (β : Fin 256) (k : Fin 128) :
    (idxB β).view.read (Elt F) fi (ix2 (0 : Fin 1) k) = fi (ix2 (0 : Fin 1) (⟨128 * β.val + k.val, by omega⟩ : Fin 32768)) := by
  change fi ((Rect.unit (s := S1x32768) ![0, 128 * β.val] S1x128.size (inb_idx β)).emb (ix2 (0 : Fin 1) k)) = _
  congr 1
  funext a; match a with | ⟨0, _⟩ => rfl | ⟨1, _⟩ => exact Fin.ext (by simp [Rect.emb, Rect.unit])

theorem outB_read (β : Fin 256) (f : S32768x128.Idx → Elt F .f32) (k l : Fin 128) :
    (outB β).view.read (Elt F) f (ix2 k l) = f (ix2 (⟨128 * β.val + k.val, by omega⟩ : Fin 32768) l) := by
  change f ((Rect.unit (s := S32768x128) ![128 * β.val, 0] S128x128.size (inb_out β)).emb (ix2 k l)) = _
  congr 1
  funext a; match a with | ⟨0, _⟩ => exact Fin.ext (by simp [Rect.emb, Rect.unit]) | ⟨1, _⟩ => exact Fin.ext (by simp [Rect.emb, Rect.unit])

theorem tabV_read (f : S1000x128.Idx → Elt F .f32) : tabV.view.read (Elt F) f = f := by
  funext x
  change f ((Rect.unit (s := S1000x128) ![0, 0] S1000x128.size inb_S1000x128_S1000x128_0_0).emb x) = _
  congr 1
  funext a; match a with | ⟨0, _⟩ => exact Fin.ext (by simp [Rect.emb, Rect.unit]) | ⟨1, _⟩ => exact Fin.ext (by simp [Rect.emb, Rect.unit])

/-- The rows a block names, gathered: what the row slot is to hold. -/
theorem payload_eq (p : Fin 2) (β : Fin 256) (f : S2x1x128.Idx → Elt F .i32)
    (hf : (inSl p).view.read (Elt F) f = (idxB β).view.read (Elt F) fi)
    (hin : ∀ x, ((offSl p).view.read (Elt F) f x).toNat < 1000) (hn : S128.numel = S128x128.size (gathers_S1000x128_S128x128).axis') :
    SparseCore.gatherPayload gathers_S1000x128_S128x128 (tabV.view.read (Elt F) ft) (SparseCore.rows ((offSl p).view.read (Elt F) f) hn hin)
      = (outB β).view.read (Elt F) (G ft fi) := by
  funext x
  obtain ⟨k, l, rfl⟩ : ∃ (k l : Fin 128), x = ix2 k l := ⟨x 0, x 1, eq_ix2 x⟩
  rw [outB_read, tabV_read]
  unfold SparseCore.gatherPayload G
  congr 1
  have hk : ∀ y : S128.Idx, y = ix1 (y 0) := fun y => eq_ix1 y
  have hr : (S128.rowMajor.symm (Fin.cast hn.symm (k : Fin 128))) = ix1 k := by
    apply S128.rowMajor.injective; rw [Equiv.apply_symm_apply]; apply Fin.ext
    exact (Shape.rowMajor_val_one (ix1 k)).symm
  funext a
  match a with
  | ⟨0, _⟩ =>
    refine (Shape.Gathers.idx_axis gathers_S1000x128_S128x128 _ _).trans ?_
    apply Fin.ext
    change ((offSl p).view.read (Elt F) f (S128.rowMajor.symm (Fin.cast hn.symm (k : Fin 128)))).toNat = _
    have hlt := hin (ix1 k)
    rw [hr, offSl_read, hf, idxB_read] at *
    exact (Nat.mod_eq_of_lt hlt).symm
  | ⟨1, _⟩ => exact Fin.ext (Shape.Gathers.idx_of_ne gathers_S1000x128_S128x128 _ (ix2 k l) ⟨1, by decide⟩ (by decide))

theorem offSl_set (p : Fin 2) : (offSl p).view.set = (inSl p).view.set := by
  ext x
  constructor
  · intro hx
    obtain ⟨y, -, rfl⟩ := Finset.mem_map.mp hx
    exact Finset.mem_map.mpr ⟨_, Finset.mem_univ _, rfl⟩
  · intro hx
    obtain ⟨y, -, rfl⟩ := Finset.mem_map.mp hx
    obtain ⟨k, rfl⟩ : ∃ k : Fin 128, y = ix2 (0 : Fin 1) k := ⟨y 1, by
      funext a; match a with | ⟨0, _⟩ => exact Subsingleton.elim (α := Fin 1) _ _ | ⟨1, _⟩ => rfl⟩
    exact Finset.mem_map.mpr ⟨ix1 k, Finset.mem_univ _, congrArg (inSl p).view.emb (offSl_idx k)⟩

def tabPts (q : PosShare TreeShare) : sProp 𝕄 := tabV.view.loc (thr d c s) ↦[tabV.view.set]{q} ft
/-- The semaphore the gathers end on. -/
def gSem : DmaSem sig := cc1_scoped4.sem
def gZero : sProp 𝕄 := semVal (thr d c s, SemLoc.dma gSem) 0
/-- The rows of block `β` on their way into row slot `p`. -/
def gFly (q : PosShare TreeShare) (p : Fin 2) (β : Fin 256) : sProp 𝕄 :=
  Transfers.Flight countersEmb (thr d c s) (.dma gSem) (default : HIx 2) (outSl p).view.dmaCredit
    iprop(outFull d c s ft fi p β ∗ tabPts d c s ft q ∗ inFree d c s p)

/-- The gather of the rows block `β` names starts. -/
theorem wp_gather (hfi : ∀ k : Fin 32768, (fi (ix2 (0 : Fin 1) k)).toNat < 1000) (q : PosShare TreeShare) (p : Fin 2) (β : Fin 256)
    {src : Memref sig (thr d c s).2.kind .hbm S1000x128 .f32} {dst : Memref sig (thr d c s).2.kind .vmem S128x128 .f32}
    {offs : Memref sig (thr d c s).2.kind .vmem S128 .i32} {sem : DmaSem sig}
    (hs : src = tabV) (hd : dst = outSl p) (ho : offs = offSl p) (hm : sem = gSem)
    {hg : S1000x128.Gathers 0 S128x128} {hn : S128.numel = S128x128.size hg.axis'}
    {hp : (thr d c s).2.kind = .scVector} {hsrc : src.view.WordExact} {he : EltTy.f32.bits = 32} {hsp : Space.hbm = .hbm ∨ Space.hbm = .shared} {hr : S1000x128.StreamRows 0}
    {α : Type} {k : PUnit → Prog (TpuEff nD τ sig (Elt F) Λ₀ (thr d c s).2) α} {Q : α → sProp 𝕄} :
    iprop(tabPts d c s ft q ∗ outFree d c s p ∗ inFull d c s fi p β ∗ gZero d c s)
      ⊢ iprop((gFly d c s ft fi q p β -∗ wp frame (wpE (defs₀ (F := F)) 𝒱₀ (thr d c s) none) Set.univ (k ⟨⟩) Q)
        -∗ wp frame (wpE (defs₀ (F := F)) 𝒱₀ (thr d c s) none) Set.univ (SparseCore.enqueueIndirectGather hp src dst hg offs hn sem hsrc he hsp hr >>= k) Q) := by
  subst hs hd ho hm
  unfold outFree inFull gZero gFly tabPts
  iintro ⟨Ht, ⟨%f, Hf⟩, ⟨%fo, %hfo, Ho⟩, Hz⟩ Hk
  have hin : ∀ x, ((offSl p).view.read (Elt F) fo x).toNat < S1000x128.size hg.axis := by
    intro x
    rw [eq_ix1 x]
    refine lt_of_eq_of_lt (congrArg BitVec.toNat ?_) (hfi ⟨128 * β.val + (x 0 : Fin 128).val, by have h0 : (x 0 : Fin 128).val < 128 := (x 0 : Fin 128).isLt; have h1 := β.isLt; exact (show 128 * β.val + (x 0 : Fin 128).val < 32768 by omega)⟩)
    exact ((offSl_read p fo _).trans (congrFun hfo _)).trans (idxB_read fi β _)
  ihave Ho' := (Entails.of_eq (show ((inSl p).view.loc (thr d c s) ↦[(inSl p).view.set]{fullShare} fo : sProp 𝕄)
      = (offSl p).view.loc (thr d c s) ↦[(offSl p).view.set]{fullShare} fo by rw [offSl_set]; rfl)) $$ Ho
  iapply (SparseCore.wp_indirectGatherLocal countersEmb 𝒱₀ (thr d c s) none (hg := hg) (default : HIx 2)
      (outSl p).view.dmaCredit (SparseCore.sum_rowCredit_eq_dmaCredit _ _ (fun _ => rfl)) (by decide) hin) $$ [Ht Hf Ho' Hz]
  · isplitl [Ht]; · iexact Ht
    isplitl [Hf]; · iexact Hf
    isplitl [Ho']; · iexact Ho'
    iexact Hz
  iintro Hfl
  iapply Hk
  iapply (Transfers.Flight_mono countersEmb (thr d c s) ?_) $$ Hfl
  iintro ⟨Hd, Ht, Ho⟩
  unfold outFull inFree
  isplitl [Hd]
  · iexists _; isplitr
    swap; · iexact Hd
    ipureintro; exact (View.read_write_univ _ _).trans (payload_eq ft fi p β fo hfo hin hn)
  isplitl [Ht]; · iexact Ht
  iexists fo
  iapply (Entails.of_eq (show ((offSl p).view.loc (thr d c s) ↦[(offSl p).view.set]{fullShare} fo : sProp 𝕄)
      = (inSl p).view.loc (thr d c s) ↦[(inSl p).view.set]{fullShare} fo by rw [offSl_set]; rfl)) $$ Ho

/-- The gather waited for. -/
theorem wp_gathered (q : PosShare TreeShare) (p : Fin 2) (β : Fin 256) {sp : Space} {s' : Shape} {srcw : Memref sig (thr d c s).2.kind sp s' .f32} {dstw : Memref sig (thr d c s).2.kind .vmem S128x128 .f32} {sem : DmaSem sig}
    (hd : dstw = outSl p) (hm : sem = gSem) {hsrc : srcw.view.WordExact} {hdst : dstw.view.WordExact}
    {α : Type} {k : PUnit → Prog (TpuEff nD τ sig (Elt F) Λ₀ (thr d c s).2) α} {Q : α → sProp 𝕄}
    {O : CellTallies nD τ sig (HIx 2)} {W : Waits sig (HIx 2)} :
    iprop(gFly d c s ft fi q p β ∗ owes (thr d c s) O W ∗ Transfers.MayWaits (thr d c s) (default : HIx 2) O)
      ⊢ iprop((iprop(outFull d c s ft fi p β ∗ tabPts d c s ft q ∗ inFree d c s p ∗ gZero d c s ∗ owes (thr d c s) O (insert (SemLoc.dma gSem, default) W))
            -∗ wp frame (wpE (defs₀ (F := F)) 𝒱₀ (thr d c s) none) Set.univ (k ⟨⟩) Q)
        -∗ wp frame (wpE (defs₀ (F := F)) 𝒱₀ (thr d c s) none) Set.univ (.op (.waitDma2 sem srcw dstw hsrc hdst) k) Q) := by
  subst hd hm
  unfold gFly gZero
  iintro ⟨Hfl, HO, Hmw⟩ Hk
  iapply (Transfers.wp_waitLocalO countersEmb 𝒱₀ (thr d c s) none (default : HIx 2) (rfl : (outSl p).view.dmaCredit = _)) $$ [Hfl HO Hmw]
  · isplitl [Hfl]; · iexact Hfl
    isplitl [HO]; · iexact HO
    iapply (Transfers.MayWaits.elim (SemLoc.dma gSem)) $$ Hmw
  iintro ⟨⟨Hf, Ht, Hi⟩, Hz, HO⟩
  iapply Hk
  isplitl [Hf]; · iexact Hf
  isplitl [Ht]; · iexact Ht
  isplitl [Hi]; · iexact Hi
  isplitl [Hz]; · iexact Hz
  iexact HO

end Steps

end Cert.Proof.Tile1

end
-- ==== Proof.Tile1.lean ====
/-
  One tile of the first gather, run once at a symbolic pair of a SparseCore and a tile: eight steps over two staging
  slots, the next block's indices copied in and the previous block's rows copied out while this block's rows are gathered.
-/
module

public import proofs.«01_k».proof.Proof.Moves1

@[expose] public section

noncomputable section

namespace Cert.Proof.Tile1

open Cert.KernelIdeal Cert.KernelIdeal.Gen
open Idealize.ShloMosaic Cert.Proof
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig (HIx 2) (Elt F) ℕ UU ℕ

/-- The block of step `t`. -/
def bk (c : Fin 2) (s : Fin 16) (t : Fin 8) : Fin 256 := ⟨blk c s t.val, blk_lt c s t.isLt⟩

section Run
variable (d : Dev nD) (c : Fin 2) (s : Fin 16) (ft : S1000x128.Idx → Elt F .f32) (fi : S1x32768.Idx → Elt F .i32)
variable (q : PosShare TreeShare) (fo : S32768x128.Idx → Elt F .f32)
variable (O : CellTallies nD τ sig (HIx 2)) (W : Waits sig (HIx 2))

/-- The index slot of step `t` before it: its block under way, or, after the last step, nothing. -/
def inCur (t : ℕ) : sProp 𝕄 := if h : t < 8 then inFly d c s fi (sl2 t) (bk c s ⟨t, h⟩) else iprop(inFree d c s (sl2 t) ∗ inZero d c s (sl2 t))
/-- The row slot of the step before: its rows under way out, or, at the start, nothing. -/
def outPrev (t : ℕ) : sProp 𝕄 := if h : 0 < t ∧ t - 1 < 8 then outFly d c s ft fi (sl2 (t + 1)) (bk c s ⟨t - 1, h.2⟩) else iprop(outFree d c s (sl2 (t + 1)) ∗ outZero d c s (sl2 (t + 1)))
/-- The waits recorded since the tile began are of its own transfers. -/
def owing : sProp 𝕄 := iprop(∃ W', ⌜∀ p ∈ W', p ∈ W ∨ p.2 = none⌝ ∗ owes (thr d c s) O W')

theorem inCur_lt {t : ℕ} (h : t < 8) : inCur d c s fi t ⊢ inFly d c s fi (sl2 t) (bk c s ⟨t, h⟩) := by unfold inCur; rw [dif_pos h]
theorem inCur_ge {t : ℕ} (h : ¬ t < 8) : inCur d c s fi t ⊢ iprop(inFree d c s (sl2 t) ∗ inZero d c s (sl2 t)) := by unfold inCur; rw [dif_neg h]
theorem outPrev_succ {t : ℕ} (h : t < 8) : outFly d c s ft fi (sl2 t) (bk c s ⟨t, h⟩) ⊢ outPrev d c s ft fi (t + 1) := by
  unfold outPrev
  rw [dif_pos ⟨Nat.succ_pos t, by omega⟩, sl2_add]
  exact Entails.of_eq rfl
theorem in_again (t : ℕ) : (iprop(inFree d c s (sl2 t) ∗ inZero d c s (sl2 t)) : sProp 𝕄) ⊢ iprop(inFree d c s (sl2 (t + 1 + 1)) ∗ inZero d c s (sl2 (t + 1 + 1))) := by
  rw [sl2_add]
theorem below8_nothing (R : sProp 𝕄) (Φ : Fin 8 → sProp 𝕄) : R ⊢ bigSep (below8 0) Φ := by
  rw [below8_zero, bigSep_empty]
  exact BI.affine
theorem inCur_start : inFly d c s fi (sl2 0) (bk c s ⟨0, by omega⟩) ⊢ inCur d c s fi 0 := by
  unfold inCur; rw [dif_pos (by omega)]
theorem outPrev_start : (iprop(outFree d c s 1 ∗ outZero d c s 1) : sProp 𝕄) ⊢ outPrev d c s ft fi 0 := by
  unfold outPrev; rw [dif_neg (by omega)]; exact Entails.of_eq rfl
theorem outPrev_end : outPrev d c s ft fi 8 ⊢ outFly d c s ft fi (sl2 9) (bk c s ⟨7, by omega⟩) := by
  unfold outPrev; rw [dif_pos (by omega)]
theorem owing_elim : (owing d c s O W : sProp 𝕄) ⊢ iprop(∃ W', ⌜∀ p ∈ W', p ∈ W ∨ p.2 = none⌝ ∗ owes (thr d c s) O W') := by unfold owing; iintro H; iexact H
theorem owing_intro {W' : Waits sig (HIx 2)} (h : ∀ p ∈ W', p ∈ W ∨ p.2 = none) : (owes (thr d c s) O W' : sProp 𝕄) ⊢ owing d c s O W := by
  unfold owing
  iintro HO
  iexists W'
  isplitr; · ipureintro; exact h
  iexact HO

/-- What a tile is given and gives back of the blocks. -/
def idxAll : sProp 𝕄 := bigSep Finset.univ fun t : Fin 8 => idxPts d c s fi (bk c s t)
def outAll (f : S32768x128.Idx → Elt F .f32) : sProp 𝕄 := bigSep Finset.univ fun t : Fin 8 => outPts d c s (bk c s t) f

theorem idxAll_open : (idxAll d c s fi : sProp 𝕄) ⊢ iprop(idxPts d c s fi (bk c s ⟨0, by omega⟩) ∗ bigSep (from8 (0 + 1)) fun t => idxPts d c s fi (bk c s t)) := by
  unfold idxAll
  rw [← from8_zero, bigSep_from8 0 (by omega)]
theorem idxAll_close : (bigSep (below8 8) fun t => idxPts d c s fi (bk c s t)) ⊢ (idxAll d c s fi : sProp 𝕄) := by
  unfold idxAll; rw [below8_eight]
theorem outAll_open (f : S32768x128.Idx → Elt F .f32) : (outAll d c s f : sProp 𝕄) ⊢ bigSep (from8 0) fun t => outPts d c s (bk c s t) f := by
  unfold outAll; rw [← from8_zero]
theorem outAll_close (f : S32768x128.Idx → Elt F .f32) :
    iprop(outPts d c s (bk c s ⟨7, by omega⟩) f ∗ bigSep (below8 7) fun t => outPts d c s (bk c s t) f) ⊢ (outAll d c s f : sProp 𝕄) := by
  unfold outAll; rw [← below8_eight, bigSep_below8 7 (by omega)]

/-- Before step `t`. -/
def IL (t : ℕ) (acc : BitVec 32 × BitVec 32 × BitVec 32 × BitVec 32 × BitVec 32) : sProp 𝕄 :=
  iprop(levAts (K (F := F)).L (K (F := F)).lev ∗ ⌜acc = accAt t⌝ ∗ owing d c s O W ∗ inCur d c s fi t ∗ (inFree d c s (sl2 (t + 1)) ∗ inZero d c s (sl2 (t + 1)))
    ∗ outPrev d c s ft fi t ∗ (outFree d c s (sl2 t) ∗ outZero d c s (sl2 t)) ∗ gZero d c s ∗ tabPts d c s ft q
    ∗ (bigSep (from8 (t + 1)) fun u => idxPts d c s fi (bk c s u)) ∗ (bigSep (below8 t) fun u => idxPts d c s fi (bk c s u))
    ∗ (bigSep (from8 t) fun u => outPts d c s (bk c s u) fo) ∗ (bigSep (below8 (t - 1)) fun u => outPts d c s (bk c s u) (G ft fi)))

theorem slice_eq {κ : Kind} {sp : Space} {s' : Shape} {e : EltTy} (m : Memref sig κ sp s' e) {off off' size : Fin s'.rank → ℕ} (h : off = off')
    (h1 : ∀ a, off a + size a ≤ s'.size a) (h2 : ∀ a, off' a + size a ≤ s'.size a) :
    m.slice (Rect.unit (s := s') off size h1) (fun _ => rfl) = m.slice (Rect.unit (s := s') off' size h2) (fun _ => rfl) := by subst h; rfl

theorem idx_of (β : Fin 256) {off : Fin 2 → ℕ} (h : off = ![0, 128 * β.val]) (h1 : ∀ a, off a + S1x128.size a ≤ S1x32768.size a) :
    iV.slice (Rect.unit (s := S1x32768) off S1x128.size h1) (fun _ => rfl) = idxB β := by subst h; rfl
theorem out_of (β : Fin 256) {off : Fin 2 → ℕ} (h : off = ![128 * β.val, 0]) (h1 : ∀ a, off a + S128x128.size a ≤ S32768x128.size a) :
    oV.slice (Rect.unit (s := S32768x128) off S128x128.size h1) (fun _ => rfl) = outB β := by subst h; rfl
theorem in_of (p : Fin 2) {off : Fin 3 → ℕ} (h : off = ![p.val, 0, 0]) (h1 : ∀ a, off a + S1x1x128.size a ≤ S2x1x128.size a) :
    (sV.slice (Rect.unit (s := S2x1x128) off S1x1x128.size h1) (fun _ => rfl)).squeeze S1x128 squeezes_S1x1x128_S1x128 = inSl p := by subst h; rfl
theorem off_of (p : Fin 2) {off : Fin 3 → ℕ} (h : off = ![p.val, 0, 0]) (h1 : ∀ a, off a + S1x1x128.size a ≤ S2x1x128.size a) :
    ((((sV.slice (Rect.unit (s := S2x1x128) off S1x1x128.size h1) (fun _ => rfl)).squeeze S1x128 squeezes_S1x1x128_S1x128).slice
      (Rect.unit (s := S1x128) ![0, 0] S1x128.size inb_S1x128_S1x128_0_0) (fun _ => rfl)).squeeze S128 squeezes_S1x128_S128) = offSl p := by subst h; rfl
theorem row_of (p : Fin 2) {off : Fin 3 → ℕ} (h : off = ![p.val, 0, 0]) (h1 : ∀ a, off a + S1x128x128.size a ≤ S2x128x128.size a) :
    (rV.slice (Rect.unit (s := S2x128x128) off S1x128x128.size h1) (fun _ => rfl)).squeeze S128x128 squeezes_S1x128x128_S128x128 = outSl p := by subst h; rfl
theorem isem_of (p : Fin 2) {off : Fin 1 → ℕ} (h : off = ![p.val]) (h1 : ∀ a, off a + S1.size a ≤ S2.size a) :
    ((cc1_scoped1.slice (Rect.unit (s := S2) off S1.size h1)).squeeze S_ squeezes_S1_S_).sem = inSem p := by subst h; rfl
theorem osem_of (p : Fin 2) {off : Fin 1 → ℕ} (h : off = ![p.val]) (h1 : ∀ a, off a + S1.size a ≤ S2.size a) :
    ((cc1_scoped3.slice (Rect.unit (s := S2) off S1.size h1)).squeeze S_ squeezes_S1_S_).sem = outSem p := by subst h; rfl

/-- The copy of the next block, under its condition: not at the last step. -/
theorem wp_load_if (t : Fin 8) {P : Prop} [Decidable P] (hP : P ↔ t.val < 7)
    {src : P → Memref sig (thr d c s).2.kind .hbm S1x128 .i32} {dst : P → Memref sig (thr d c s).2.kind .vmem S1x128 .i32} {sem : P → DmaSem sig}
    (hs : ∀ h, src h = idxB (bk c s ⟨t.val + 1, Nat.succ_lt_succ (hP.1 h)⟩)) (hd : ∀ h, dst h = inSl (sl2 (t.val + 1))) (hm : ∀ h, sem h = inSem (sl2 (t.val + 1)))
    {hsrc : ∀ h, (src h).view.WordExact} {hdst : ∀ h, (dst h).view.WordExact}
    {hsem : ∀ h, DmaTarget.Typed (nD := nD) .hbm (.dma (sem h)) (DmaTarget.here (p := (thr d c s).2) (dst h))}
    {α : Type} {k : Prog (TpuEff nD τ sig (Elt F) Λ₀ (thr d c s).2) α} {Q : α → sProp 𝕄} :
    iprop((bigSep (from8 (t.val + 1)) fun u => idxPts d c s fi (bk c s u)) ∗ (inFree d c s (sl2 (t.val + 1)) ∗ inZero d c s (sl2 (t.val + 1))))
      ⊢ iprop((iprop((bigSep (from8 (t.val + 1 + 1)) fun u => idxPts d c s fi (bk c s u)) ∗ inCur d c s fi (t.val + 1)) -∗ wp frame (wpE (defs₀ (F := F)) 𝒱₀ (thr d c s) none) Set.univ k Q)
        -∗ wp frame (wpE (defs₀ (F := F)) 𝒱₀ (thr d c s) none) Set.univ
            (if h : P then .op (.enqueueDma (src h) (.here (dst h)) (.dma (sem h)) (hsrc h) (hdst h) (hsem h)) (fun _ => k) else k) Q) := by
  by_cases h : P
  · rw [dif_pos h, bigSep_from8 (t.val + 1) (Nat.succ_lt_succ (hP.1 h))]
    unfold inCur
    rw [dif_pos (Nat.succ_lt_succ (hP.1 h))]
    iintro ⟨⟨Hi, Hr⟩, Hf, Hz⟩ Hk
    iapply (wp_load d c s fi (sl2 (t.val + 1)) (bk c s ⟨t.val + 1, Nat.succ_lt_succ (hP.1 h)⟩) (hs h) (hd h) (hm h)) $$ [Hi Hf Hz]
    · isplitl [Hi]; · iexact Hi
      isplitl [Hf]; · iexact Hf
      iexact Hz
    iintro Hfl
    iapply Hk
    isplitl [Hr]; · iexact Hr
    iexact Hfl
  · have ht : t.val = 7 := by have h1 := t.isLt; have h2 : ¬ t.val < 7 := fun h3 => h (hP.2 h3); omega
    rw [dif_neg h]
    unfold inCur
    rw [dif_neg (show ¬ (t.val + 1 < 8) by omega), ht, from8_eight, from8_nine]
    iintro ⟨Hr, Hf⟩ Hk
    iapply Hk
    isplitl [Hr]; · iexact Hr
    iexact Hf

/-- The wait for the previous block's copy out, under its condition: not at the first step. -/
theorem wp_stored_if (t : Fin 8) {P : Prop} [Decidable P] (hP : P ↔ 0 < t.val)
    {srcw : P → Memref sig (thr d c s).2.kind .vmem S128x128 .f32} {dstw : P → Memref sig (thr d c s).2.kind .hbm S128x128 .f32} {sem : P → DmaSem sig}
    (hd : ∀ h, dstw h = outB (bk c s ⟨t.val - 1, lt_of_le_of_lt (Nat.sub_le _ _) t.isLt⟩)) (hm : ∀ h, sem h = outSem (sl2 (t.val + 1)))
    {hsrc : ∀ h, (srcw h).view.WordExact} {hdst : ∀ h, (dstw h).view.WordExact}
    {α : Type} {k : Prog (TpuEff nD τ sig (Elt F) Λ₀ (thr d c s).2) α} {Q : α → sProp 𝕄} :
    iprop(outPrev d c s ft fi t.val ∗ (bigSep (below8 (t.val - 1)) fun u => outPts d c s (bk c s u) (G ft fi)) ∗ owing d c s O W ∗ Transfers.MayWaits (thr d c s) (default : HIx 2) O)
      ⊢ iprop((iprop((outFree d c s (sl2 (t.val + 1)) ∗ outZero d c s (sl2 (t.val + 1))) ∗ (bigSep (below8 t.val) fun u => outPts d c s (bk c s u) (G ft fi)) ∗ owing d c s O W)
            -∗ wp frame (wpE (defs₀ (F := F)) 𝒱₀ (thr d c s) none) Set.univ k Q)
        -∗ wp frame (wpE (defs₀ (F := F)) 𝒱₀ (thr d c s) none) Set.univ
            (if h : P then .op (.waitDma2 (sem h) (srcw h) (dstw h) (hsrc h) (hdst h)) (fun _ => k) else k) Q) := by
  by_cases h : P
  · rw [dif_pos h]
    obtain ⟨u, hu⟩ : ∃ u, t.val = u + 1 := ⟨t.val - 1, by have := hP.1 h; omega⟩
    have hu8 : u < 8 := by have := t.isLt; omega
    have hb := bigSep_below8 (F := F) u hu8 (fun u => outPts d c s (bk c s u) (G ft fi))
    unfold outPrev owing
    rw [dif_pos ⟨hP.1 h, lt_of_le_of_lt (Nat.sub_le _ _) t.isLt⟩]
    have hsub : t.val - 1 = u := by omega
    simp only [hsub] at hd ⊢
    iintro ⟨Hfl, Hb, ⟨%W₀, %hW₀, HO⟩, Hmw⟩ Hk
    iapply (wp_stored d c s ft fi (sl2 (t.val + 1)) (bk c s ⟨u, hu8⟩) (hd h) (hm h)) $$ [Hfl HO Hmw]
    · isplitl [Hfl]; · iexact Hfl
      isplitl [HO]; · iexact HO
      iexact Hmw
    iintro ⟨Ho, Hf, Hz, HO⟩
    iapply Hk
    isplitl [Hf Hz]; · isplitl [Hf]; · iexact Hf
                       iexact Hz
    isplitl [Hb Ho]
    · rw [hu, hb]
      isplitl [Ho]; · iexact Ho
      iexact Hb
    iexists _; isplitr
    swap; · iexact HO
    ipureintro; exact rec_insert _ hW₀
  · have ht : t.val = 0 := by have h2 : ¬ 0 < t.val := fun h3 => h (hP.2 h3); omega
    rw [dif_neg h]
    unfold outPrev
    rw [dif_neg (show ¬ (0 < t.val ∧ t.val - 1 < 8) by omega), ht]
    iintro ⟨Hf, Hb, HO, -⟩ Hk
    iapply Hk
    isplitl [Hf]; · iexact Hf
    isplitl [Hb]; · iexact Hb
    iexact HO

set_option maxRecDepth 16384 in
set_option maxHeartbeats 2000000 in
theorem tile_run (hfi : ∀ k : Fin 32768, (fi (ix2 (0 : Fin 1) k)).toNat < 1000) (hO : ∀ g, O g none = 0) :
    iprop(levAts (K (F := F)).L (K (F := F)).lev ∗ idxAll d c s fi ∗ tabPts d c s ft q ∗ outAll d c s fo
        ∗ (inFree d c s 0 ∗ inFree d c s 1) ∗ (outFree d c s 0 ∗ outFree d c s 1)
        ∗ (inZero d c s 0 ∗ inZero d c s 1) ∗ (outZero d c s 0 ∗ outZero d c s 1) ∗ gZero d c s ∗ owes (thr d c s) O W)
      ⊢ wp frame (wpE (defs₀ (F := F)) 𝒱₀ (thr d c s) none) Set.univ
          (cc1_sc_kernel (co c s) tV (Memref.isWhole_whole _) iV (Memref.isWhole_whole _) oV (Memref.isWhole_whole _)
            sV (Memref.isWhole_whole _) cc1_scoped1 rV (Memref.isWhole_whole _) cc1_scoped3 cc1_scoped4)
          fun _ => iprop(idxAll d c s fi ∗ tabPts d c s ft q ∗ outAll d c s (G ft fi)
            ∗ (inFree d c s 0 ∗ inFree d c s 1) ∗ (outFree d c s 0 ∗ outFree d c s 1)
            ∗ (inZero d c s 0 ∗ inZero d c s 1) ∗ (outZero d c s 0 ∗ outZero d c s 1) ∗ gZero d c s ∗ owing d c s O W) := by
  simp only [cc1_sc_kernel_eq_skeleton]; unfold cc1_sc_kernel_skel
  simp only [k1_part3_eq_skeleton]; unfold k1_part3_skel
  simp only [k1_part4_eq_skeleton]; unfold k1_part4_skel
  simp only [Prog.lift, Prog.bind_op, Prog.bind_ret, Prog.pure_eq_ret, Prog.bind_assoc]
  iintro ⟨#Hlv, Hi, Ht, Ho, ⟨Ha0, Ha1⟩, ⟨Hb0, Hb1⟩, ⟨Hz0, Hz1⟩, ⟨Hy0, Hy1⟩, Hg, HO⟩
  ihave Hi := (idxAll_open d c s fi) $$ Hi
  icases Hi with ⟨Hi0, Hi⟩
  ihave Ho := (outAll_open d c s fo) $$ Ho
  iapply (wp_load d c s fi (sl2 0) (bk c s ⟨0, by omega⟩) (idx_of _ (off2_eq c s) _) (in_of _ off1_eq _) (isem_of _ off3_eq _)) $$ [Hi0 Ha0 Hz0]
  · isplitl [Hi0]; · iexact Hi0
    isplitl [Ha0]; · iexact Ha0
    iexact Hz0
  iintro Hfl
  simp only [Prog.bind, Prog.pure_eq_ret, Prog.bind_ret]
  try dsimp only
  sl_for (IL (F := F) d c s ft fi q fo O W) $$ [HO Hfl Hi Ht Ho Ha1 Hb0 Hb1 Hz1 Hy0 Hy1 Hg]
  · intro k acc
    sl_respell [k1_t1_body]
    unfold IL
    iintro ⟨#Hlv, %hacc, HO, Hcur, Hn, Hprev, ⟨Hfb, Hfy⟩, Hg, Ht, Hi, Hid, Ho, Hod⟩
    subst hacc
    have hk8 : k.val < 8 := trips ▸ k.isLt
    rw [wp_bind]
    simp only [k1_part1_eq_skeleton]; unfold k1_part1_skel
    simp only [Prog.lift, Prog.bind_op, Prog.bind_ret, Prog.pure_eq_ret, Prog.bind_assoc]
    iapply (wp_assume 𝒱₀ (thr d c s) none Set.univ (chk3_ok ⟨k.val, hk8⟩))
    iapply (wp_assume 𝒱₀ (thr d c s) none Set.univ (chk2_ok ⟨k.val, hk8⟩))
    iapply (wp_assume 𝒱₀ (thr d c s) none Set.univ (chk1_ok c s k))
    iapply (wp_load_if d c s fi ⟨k.val, hk8⟩ (cond1_iff c s k) (fun h => idx_of _ (off5_eq c s ⟨k.val, hk8⟩ ((cond1_iff c s k).1 h)) _)
      (fun h => in_of _ (off4_eq ⟨k.val, hk8⟩ ((cond1_iff c s k).1 h)) _) (fun h => isem_of _ (off6_eq ⟨k.val, hk8⟩ ((cond1_iff c s k).1 h)) _)) $$ [Hi Hn]
    · isplitl [Hi]; · iexact Hi
      iexact Hn
    iintro ⟨Hi, Hnext⟩
    rw [wp_ret]; imodintro
    rw [wp_bind]
    simp only [k1_part2_eq_skeleton]; unfold k1_part2_skel
    simp only [Prog.lift, Prog.bind_op, Prog.bind_ret, Prog.pure_eq_ret, Prog.bind_assoc, ite_self]
    rw [dif_pos (cond2_true c s k)]
    ihave Hcur := (inCur_lt d c s fi hk8) $$ Hcur
    ihave HO := (owing_elim d c s O W) $$ HO
    icases HO with ⟨%W₀, %hW₀, HO⟩
    ihave Hmw := (show levAts (K (F := F)).L (K (F := F)).lev ⊢ Transfers.MayWaits (thr d c s) (default : HIx 2) O from
      (K (F := F)).mayWaits_none (thr := thr d c s) hO) $$ Hlv
    iapply (wp_loaded d c s fi (sl2 k.val) (bk c s ⟨k.val, hk8⟩) (in_of _ (off7_eq ⟨k.val, hk8⟩) _) (isem_of _ (off9_eq ⟨k.val, hk8⟩) _)) $$ [Hcur HO]
    · isplitl [Hcur]; · iexact Hcur
      isplitl [HO]; · iexact HO
      iexact Hmw
    iintro ⟨Hin, Hi0, Hiz, HO⟩
    try dsimp only
    iapply (wp_gather d c s ft fi hfi q (sl2 k.val) (bk c s ⟨k.val, hk8⟩) rfl (row_of _ (off10_eq ⟨k.val, hk8⟩) _)
      (off_of _ (off11_eq ⟨k.val, hk8⟩) _) rfl) $$ [Ht Hfb Hin Hg]
    · isplitl [Ht]; · iexact Ht
      isplitl [Hfb]; · iexact Hfb
      isplitl [Hin]; · iexact Hin
      iexact Hg
    iintro Hgf
    simp only [Prog.lift, Prog.bind_op, Prog.bind_ret, Prog.pure_eq_ret, Prog.bind_assoc, ite_self]
    iapply (wp_gathered d c s ft fi q (sl2 k.val) (bk c s ⟨k.val, hk8⟩)
      (row_of _ (off10_eq ⟨k.val, hk8⟩) _) rfl) $$ [Hgf HO Hmw]
    · isplitl [Hgf]; · iexact Hgf
      isplitl [HO]; · iexact HO
      iexact Hmw
    iintro ⟨Hfull, Ht, Hin, Hg, HO⟩
    simp only [Prog.bind, Prog.pure_eq_ret, Prog.bind_ret]
    rw [wp_ret]; imodintro
    rw [dif_pos (cond5_true c s k)]
    ihave Ho := (Entails.of_eq (bigSep_from8 (F := F) k.val hk8 (fun u => outPts d c s (bk c s u) fo))) $$ Ho
    icases Ho with ⟨Ho0, Ho⟩
    iapply (wp_store d c s ft fi (sl2 k.val) (bk c s ⟨k.val, hk8⟩) (row_of _ (off12_eq ⟨k.val, hk8⟩) _)
      (out_of _ (off13_eq c s ⟨k.val, hk8⟩) _) (osem_of _ (off14_eq ⟨k.val, hk8⟩) _)) $$ [Hfull Ho0 Hfy]
    · isplitl [Hfull]; · iexact Hfull
      isplitl [Ho0]; · iexact Ho0
      iexact Hfy
    iintro Hnow
    ihave HO := (owing_intro d c s O W (rec_insert (SemLoc.dma gSem) (rec_insert (SemLoc.dma (inSem (sl2 k.val))) hW₀))) $$ HO
    try dsimp only
    iapply (wp_stored_if d c s ft fi O W ⟨k.val, hk8⟩ (cond7_iff c s k) (fun h => out_of _ (off16_eq c s ⟨k.val, hk8⟩ ((cond7_iff c s k).1 h)) _)
      (fun h => osem_of _ (off17_eq ⟨k.val, hk8⟩ ((cond7_iff c s k).1 h)) _)) $$ [Hprev Hod HO]
    · isplitl [Hprev]; · iexact Hprev
      isplitl [Hod]; · iexact Hod
      isplitl [HO]; · iexact HO
      iexact Hmw
    iintro ⟨Hfree, Hod, HO⟩
    rw [wp_ret]; imodintro
    ihave Hid := (Entails.of_eq (bigSep_below8 (F := F) k.val hk8 (fun u => idxPts d c s fi (bk c s u))).symm) $$ [Hi0 Hid]
    · isplitl [Hi0]; · iexact Hi0
      iexact Hid
    ihave Hnow := (outPrev_succ d c s ft fi hk8) $$ Hnow
    isplitr; · iexact Hlv
    isplitr
    · ipureintro
      clear * - c s k
      revert c s k
      decide +kernel
    isplitl [HO]; · iexact HO
    isplitl [Hnext]; · iexact Hnext
    isplitl [Hin Hiz]
    · iapply (in_again d c s k.val) $$ [Hin Hiz]
      isplitl [Hin]; · iexact Hin
      iexact Hiz
    isplitl [Hnow]; · iexact Hnow
    isplitl [Hfree]; · iexact Hfree
    isplitl [Hg]; · iexact Hg
    isplitl [Ht]; · iexact Ht
    isplitl [Hi]; · iexact Hi
    isplitl [Hid]; · iexact Hid
    isplitl [Ho]; · iexact Ho
    iexact Hod
  · ihave HO := (owing_intro d c s O W (fun p hp => Or.inl hp)) $$ HO
    ihave Hcur := (inCur_start d c s fi) $$ Hfl
    ihave Hprev := (outPrev_start d c s ft fi) $$ [Hb1 Hy1]
    · isplitl [Hb1]; · iexact Hb1
      iexact Hy1
    unfold IL
    isplitr; · iexact Hlv
    isplitr; · ipureintro; rfl
    isplitl [HO]; · iexact HO
    isplitl [Hcur]; · iexact Hcur
    isplitl [Ha1 Hz1]
    · isplitl [Ha1]; · iexact Ha1
      iexact Hz1
    isplitl [Hprev]; · iexact Hprev
    isplitl [Hb0 Hy0]
    · isplitl [Hb0]; · iexact Hb0
      iexact Hy0
    isplitl [Hg]; · iexact Hg
    isplitl [Ht]; · iexact Ht
    isplitl [Hi]; · iexact Hi
    isplitr; · iapply (below8_nothing (F := F) _ _) $$ Hlv
    isplitl [Ho]; · iexact Ho
    iapply (below8_nothing (F := F) _ _) $$ Hlv
  · rw [show Scf.trips k1_t1_loop.lb k1_t1_loop.ub k1_t1_loop.st = 8 from trips]
    unfold IL
    iintro %acc ⟨#Hlv, %hacc, HO, Hcur, ⟨Hin, Hiz⟩, Hprev, ⟨Hfb, Hfy⟩, Hg, Ht, -, Hid, -, Hod⟩
    subst hacc
    unfold tile_run.sl.prog.cont_1
    simp only [Prog.lift, Prog.bind_op, Prog.bind_ret, Prog.pure_eq_ret, Prog.bind_assoc]
    iapply (wp_assume 𝒱₀ (thr d c s) none Set.univ (chk5_ok c s))
    iapply (wp_assume 𝒱₀ (thr d c s) none Set.univ chk4_ok)
    ihave HO := (owing_elim d c s O W) $$ HO
    icases HO with ⟨%W₀, %hW₀, HO⟩
    ihave Hprev := (outPrev_end d c s ft fi) $$ Hprev
    ihave Hcur := (inCur_ge d c s fi (by omega)) $$ Hcur
    icases Hcur with ⟨Hia, Hiza⟩
    ihave Hmw := (show levAts (K (F := F)).L (K (F := F)).lev ⊢ Transfers.MayWaits (thr d c s) (default : HIx 2) O from
      (K (F := F)).mayWaits_none (thr := thr d c s) hO) $$ Hlv
    iapply (wp_stored d c s ft fi (sl2 9) (bk c s ⟨7, by omega⟩) (out_of _ (off19_eq c s) _) (osem_of _ off20_eq _)) $$ [Hprev HO]
    · isplitl [Hprev]; · iexact Hprev
      isplitl [HO]; · iexact HO
      iexact Hmw
    iintro ⟨Hlast, Hfa, Hza, HO⟩
    ihave HO := (owing_intro d c s O W (rec_insert (SemLoc.dma (outSem (sl2 9))) hW₀)) $$ HO
    rw [wp_ret]; imodintro
    isplitl [Hid]; · iapply (idxAll_close d c s fi) $$ Hid
    isplitl [Ht]; · iexact Ht
    isplitl [Hod Hlast]
    · iapply (outAll_close d c s (G ft fi)) $$ [Hod Hlast]
      isplitl [Hlast]; · iexact Hlast
      iexact Hod
    isplitl [Hin Hia]
    · isplitl [Hia]; · iexact Hia
      iexact Hin
    isplitl [Hfb Hfa]
    · isplitl [Hfb]; · iexact Hfb
      iexact Hfa
    isplitl [Hiz Hiza]
    · isplitl [Hiza]; · iexact Hiza
      iexact Hiz
    isplitl [Hfy Hza]
    · isplitl [Hfy]; · iexact Hfy
      iexact Hza
    isplitl [Hg]; · iexact Hg
    iexact HO

end Run

end Cert.Proof.Tile1

end
-- ==== Proof.Task1.lean ====
/-
  A tile of the first gather as the launch hands it its work: the buffers and semaphores that are the tile's own, in the
  pieces the run uses; and the arrays, cut in the tiles' blocks and joined again.
-/
module

public import proofs.«01_k».proof.Proof.Tile1
public import Idealize.ShloMosaic.Lib.ShareLeaves
public import Idealize.ShloMosaic.Lib.Exec.Geometry

@[expose] public section

noncomputable section

namespace Cert.Proof.Tile1

open Cert.KernelIdeal Cert.KernelIdeal.Gen
open Idealize.ShloMosaic Cert.Proof
open Idealize.ShloMosaic.SparseCore (S V T)
open Idealize.ShloMosaic.SparseCore.Cfg (HIx Pay ownCells ownRefs ownSems0 ownBufs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ShareLeaves

variable {F : FTy → Type} [FloatOps F]

local notation "𝕄" => MT nD τ sig (HIx 2) (Elt F) ℕ UU ℕ

/-! ## The tile's staging slots and semaphores -/

/-- The elements of index slot `p`. -/
def inSet (p : Fin 2) : Finset S2x1x128.Idx := (inSl p).view.set
theorem mem_inSet (p : Fin 2) (x : S2x1x128.Idx) : x ∈ inSet p ↔ (x 0).val = p.val := by
  have e : inSet p = (Rect.unit (s := S2x1x128) ![p.val, 0, 0] S1x1x128.size (inb_sl1 p)).set := by
    unfold inSet inSl
    refine (Memref.set_view_squeeze _ _).trans ?_
    exact View.set_slice_whole (cc1_scoped0 : Ref sig .scVector) _
  rw [e, Rect.mem_set_unit]
  constructor
  · intro h
    have h0 : p.val ≤ (x 0).val ∧ (x 0).val < p.val + 1 := h 0
    omega
  · intro h a
    match a with
    | ⟨0, _⟩ => exact (show p.val ≤ (x 0).val ∧ (x 0).val < p.val + 1 by omega)
    | ⟨1, _⟩ => exact ⟨Nat.zero_le _, (x 1).isLt.trans_eq (Nat.zero_add _).symm⟩
    | ⟨2, _⟩ => exact ⟨Nat.zero_le _, (x 2).isLt.trans_eq (Nat.zero_add _).symm⟩
theorem inSet_disjoint : ∀ p ∈ (Finset.univ : Finset (Fin 2)), ∀ p' ∈ (Finset.univ : Finset (Fin 2)), p ≠ p' → Disjoint (inSet p) (inSet p') := by
  intro p _ p' _ h
  refine Finset.disjoint_left.mpr fun x hx hx' => h (Fin.ext ?_)
  exact ((mem_inSet p x).mp hx).symm.trans ((mem_inSet p' x).mp hx')
theorem inSet_cover : (Finset.univ : Finset (Fin 2)).biUnion inSet = Finset.univ :=
  Finset.eq_univ_of_forall fun x => Finset.mem_biUnion.mpr ⟨x 0, Finset.mem_univ _, (mem_inSet (x 0) x).mpr rfl⟩

/-- The elements of row slot `p`. -/
def outSet (p : Fin 2) : Finset S2x128x128.Idx := (outSl p).view.set
theorem mem_outSet (p : Fin 2) (x : S2x128x128.Idx) : x ∈ outSet p ↔ (x 0).val = p.val := by
  have e : outSet p = (Rect.unit (s := S2x128x128) ![p.val, 0, 0] S1x128x128.size (inb_sl2 p)).set := by
    unfold outSet outSl
    refine (Memref.set_view_squeeze _ _).trans ?_
    exact View.set_slice_whole (cc1_scoped2 : Ref sig .scVector) _
  rw [e, Rect.mem_set_unit]
  constructor
  · intro h
    have h0 : p.val ≤ (x 0).val ∧ (x 0).val < p.val + 1 := h 0
    omega
  · intro h a
    match a with
    | ⟨0, _⟩ => exact (show p.val ≤ (x 0).val ∧ (x 0).val < p.val + 1 by omega)
    | ⟨1, _⟩ => exact ⟨Nat.zero_le _, (x 1).isLt.trans_eq (Nat.zero_add _).symm⟩
    | ⟨2, _⟩ => exact ⟨Nat.zero_le _, (x 2).isLt.trans_eq (Nat.zero_add _).symm⟩
theorem outSet_disjoint : ∀ p ∈ (Finset.univ : Finset (Fin 2)), ∀ p' ∈ (Finset.univ : Finset (Fin 2)), p ≠ p' → Disjoint (outSet p) (outSet p') := by
  intro p _ p' _ h
  refine Finset.disjoint_left.mpr fun x hx hx' => h (Fin.ext ?_)
  exact ((mem_outSet p x).mp hx).symm.trans ((mem_outSet p' x).mp hx')
theorem outSet_cover : (Finset.univ : Finset (Fin 2)).biUnion outSet = Finset.univ :=
  Finset.eq_univ_of_forall fun x => Finset.mem_biUnion.mpr ⟨x 0, Finset.mem_univ _, (mem_outSet (x 0) x).mpr rfl⟩

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

section Own
variable (d : Dev nD) (c : Fin 2) (s : Fin 16)

/-- The index staging buffer, whole at some contents, is its two slots; -/
theorem in_slots : (iprop(∃ f, (thr d c s).loc cc1_scoped0 ↦{fullShare} f) : sProp 𝕄) ⊢ iprop(inFree d c s 0 ∗ inFree d c s 1) := by
  iintro ⟨%f, H⟩
  ihave H' := (show ((thr d c s).loc cc1_scoped0 ↦{fullShare} f : sProp 𝕄)
      ⊢ bigSep Finset.univ fun p : Fin 2 => ((thr d c s).loc cc1_scoped0 ↦[inSet p]{fullShare} f) from by
    rw [← pointsTo_biUnion Finset.univ (ℓ := (thr d c s).loc cc1_scoped0) inSet inSet_disjoint, inSet_cover]) $$ H
  ihave H2 := (Entails.of_eq (bigSep_two (F := F) fun p : Fin 2 => iprop((thr d c s).loc cc1_scoped0 ↦[inSet p]{fullShare} f))) $$ H'
  icases H2 with ⟨H0, H1⟩
  unfold inFree
  isplitl [H0]
  · iexists f; iexact H0
  · iexists f; iexact H1
/-- and the slots make the buffer again. -/
theorem in_whole : (iprop(inFree d c s 0 ∗ inFree d c s 1) : sProp 𝕄) ⊢ iprop(∃ f, (thr d c s).loc cc1_scoped0 ↦{fullShare} f) := by
  unfold inFree
  iintro ⟨⟨%f0, H0⟩, ⟨%f1, H1⟩⟩
  ihave H := (show (iprop(((thr d c s).loc cc1_scoped0 ↦[inSet 0]{fullShare} f0) ∗ ((thr d c s).loc cc1_scoped0 ↦[inSet 1]{fullShare} f1)) : sProp 𝕄)
      ⊢ (bigSep Finset.univ fun p : Fin 2 => ((thr d c s).loc cc1_scoped0 ↦[inSet p]{fullShare} (if p = 0 then f0 else f1) : sProp 𝕄)) from by
    rw [bigSep_two]; exact BI.Entails.refl _) $$ [H0 H1]
  · isplitl [H0]
    · iexact H0
    · iexact H1
  ihave H' := (pointsTo_biUnion_join (ℓ := (thr d c s).loc cc1_scoped0) (q := fullShare) (Val := Elt F) Finset.univ inSet
    (fun p => if p = 0 then f0 else f1) f0 inSet_disjoint) $$ H
  icases H' with ⟨%g, -, Hg⟩
  rw [inSet_cover]
  iexists g; iexact Hg

/-- The row staging buffer, whole at some contents, is its two slots; -/
theorem out_slots : (iprop(∃ f, (thr d c s).loc cc1_scoped2 ↦{fullShare} f) : sProp 𝕄) ⊢ iprop(outFree d c s 0 ∗ outFree d c s 1) := by
  iintro ⟨%f, H⟩
  ihave H' := (show ((thr d c s).loc cc1_scoped2 ↦{fullShare} f : sProp 𝕄)
      ⊢ bigSep Finset.univ fun p : Fin 2 => ((thr d c s).loc cc1_scoped2 ↦[outSet p]{fullShare} f) from by
    rw [← pointsTo_biUnion Finset.univ (ℓ := (thr d c s).loc cc1_scoped2) outSet outSet_disjoint, outSet_cover]) $$ H
  ihave H2 := (Entails.of_eq (bigSep_two (F := F) fun p : Fin 2 => iprop((thr d c s).loc cc1_scoped2 ↦[outSet p]{fullShare} f))) $$ H'
  icases H2 with ⟨H0, H1⟩
  unfold outFree
  isplitl [H0]
  · iexists f; iexact H0
  · iexists f; iexact H1
/-- and the slots make the buffer again. -/
theorem out_whole : (iprop(outFree d c s 0 ∗ outFree d c s 1) : sProp 𝕄) ⊢ iprop(∃ f, (thr d c s).loc cc1_scoped2 ↦{fullShare} f) := by
  unfold outFree
  iintro ⟨⟨%f0, H0⟩, ⟨%f1, H1⟩⟩
  ihave H := (show (iprop(((thr d c s).loc cc1_scoped2 ↦[outSet 0]{fullShare} f0) ∗ ((thr d c s).loc cc1_scoped2 ↦[outSet 1]{fullShare} f1)) : sProp 𝕄)
      ⊢ (bigSep Finset.univ fun p : Fin 2 => ((thr d c s).loc cc1_scoped2 ↦[outSet p]{fullShare} (if p = 0 then f0 else f1) : sProp 𝕄)) from by
    rw [bigSep_two]; exact BI.Entails.refl _) $$ [H0 H1]
  · isplitl [H0]
    · iexact H0
    · iexact H1
  ihave H' := (pointsTo_biUnion_join (ℓ := (thr d c s).loc cc1_scoped2) (q := fullShare) (Val := Elt F) Finset.univ outSet
    (fun p => if p = 0 then f0 else f1) f0 outSet_disjoint) $$ H
  icases H' with ⟨%g, -, Hg⟩
  rw [outSet_cover]
  iexists g; iexact Hg

/-- The semaphores of the tile that the kernel waits on, by number. -/
def semOf : Fin 5 → DmaSem sig := ![inSem 0, inSem 1, outSem 0, outSem 1, gSem]
theorem semOf_inj : Function.Injective semOf := by decide
theorem semOf_scoped (k : Fin 5) : (SemLoc.dma (semOf k) : SemLoc sig).isScoped .scVector = true := by revert k; decide
/-- Their cells on this tile. -/
def cellOf (k : Fin 5) : GSem nD τ sig := (thr d c s, SemLoc.dma (semOf k))
theorem cellOf_inj : Function.Injective (cellOf d c s) := fun a b h =>
  semOf_inj (by have h2 := congrArg Prod.snd h; simpa [cellOf] using h2)
def cells5 : Finset (GSem nD τ sig) := Finset.univ.map ⟨cellOf d c s, cellOf_inj d c s⟩
theorem cells5_sub : cells5 d c s ⊆ ownCells (thr d c s) := by
  intro g hg
  obtain ⟨k, -, rfl⟩ := Finset.mem_map.mp hg
  exact mem_ownCells.mpr ⟨rfl, semOf_scoped k⟩

theorem ownSems : (ownSems0 (thr d c s) : sProp 𝕄)
    = iprop((inZero d c s 0 ∗ inZero d c s 1 ∗ outZero d c s 0 ∗ outZero d c s 1 ∗ gZero d c s)
        ∗ bigSep (ownCells (thr d c s) \ cells5 d c s) fun g => semVal g 0) := by
  unfold SparseCore.Cfg.ownSems0
  rw [SparseCore.bigSep_sdiff_split' (cells5_sub d c s)]
  congr 1
  unfold cells5
  rw [bigSep_map, show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  rfl

theorem ownStages : (ownBufs (thr d c s) : sProp 𝕄)
    = iprop((∃ f, (thr d c s).loc cc1_scoped0 ↦{fullShare} f) ∗ (∃ f, (thr d c s).loc cc1_scoped2 ↦{fullShare} f)
        ∗ bigSep (((ownRefs (τ := τ) (thr d c s).2).erase ((thr d c s).2.devRef cc1_scoped0)).erase ((thr d c s).2.devRef cc1_scoped2))
            fun b => iprop(∃ f, ((d, b) : Loc nD τ sig) ↦{fullShare} f)) := by
  unfold SparseCore.Cfg.ownBufs
  refine (SparseCore.bigSep_erase' (SparseCore.Cfg.mem_ownRefs_of_owner (p := (thr d c s).2) (b := (thr d c s).2.devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := (thr d c s).2) (b := (thr d c s).2.devRef cc1_scoped2) rfl⟩)]

variable (ft : S1000x128.Idx → Elt F .f32) (fi : S1x32768.Idx → Elt F .i32)
variable (q : PosShare TreeShare) (fo : S32768x128.Idx → Elt F .f32)

/-- A tile's task, from what the launch hands it to what it hands back. -/
theorem task (hfi : ∀ k : Fin 32768, (fi (ix2 (0 : Fin 1) k)).toNat < 1000) (O : CellTallies nD τ sig (HIx 2)) (W : Waits sig (HIx 2)) (hO : ∀ g, O g none = 0) :
    iprop(levAts (K (F := F)).L (K (F := F)).lev ∗ emp ∗ (idxAll d c s fi ∗ tabPts d c s ft q ∗ outAll d c s fo)
        ∗ scopedBufs (thr d c s) ∗ scopedSems0 (thr d c s) ∗ owes (thr d c s) O W)
      ⊢ wp frame (wpE (defs₀ (F := F)) 𝒱₀ (thr d c s) none) Set.univ
          (cc1_sc_kernel (co c s) tV (Memref.isWhole_whole _) iV (Memref.isWhole_whole _) oV (Memref.isWhole_whole _)
            sV (Memref.isWhole_whole _) cc1_scoped1 rV (Memref.isWhole_whole _) cc1_scoped3 cc1_scoped4)
          fun _ => iprop((idxAll d c s fi ∗ tabPts d c s ft q ∗ outAll d c s (G ft fi))
            ∗ scopedBufs (thr d c s) ∗ scopedSems0 (thr d c s)
            ∗ ∃ W', ⌜∀ p ∈ W', p ∈ W ∨ p.2 = none ∨ p.2 = some (0 : Fin 2)⌝ ∗ owes (thr d c s) O W') := by
  rw [(K (F := F)).scopedBufs_V facts d _ _, SparseCore.Cfg.scopedSems0_V (Val := Elt F) d _ _, ownSems, ownStages]
  iintro ⟨#Hlv, -, ⟨Hi, Ht, Ho⟩, ⟨Hs, Hr, Hbufs⟩, ⟨⟨Hz0, Hz1, Hy0, Hy1, Hg⟩, Hsems⟩, HO⟩
  ihave Hs := (in_slots d c s) $$ Hs
  ihave Hr := (out_slots d c s) $$ Hr
  iapply (wp_mono frame (wpE (defs₀ (F := F)) 𝒱₀ (thr d c s) none) Set.univ (Q := fun _ => iprop((idxAll d c s fi ∗ tabPts d c s ft q ∗ outAll d c s (G ft fi)
            ∗ (inFree d c s 0 ∗ inFree d c s 1) ∗ (outFree d c s 0 ∗ outFree d c s 1)
            ∗ (inZero d c s 0 ∗ inZero d c s 1) ∗ (outZero d c s 0 ∗ outZero d c s 1) ∗ gZero d c s ∗ owing d c s O W)
            ∗ (bigSep (((ownRefs (τ := τ) (thr d c s).2).erase ((thr d c s).2.devRef cc1_scoped0)).erase ((thr d c s).2.devRef cc1_scoped2))
            fun b => iprop(∃ f, ((d, b) : Loc nD τ sig) ↦{fullShare} f)) ∗ bigSep (ownCells (thr d c s) \ cells5 d c s) fun g => semVal g 0)) (fun _ => ?_))
  · iintro ⟨⟨Hi, Ht, Ho, Hs, Hr, ⟨Hz0, Hz1⟩, ⟨Hy0, Hy1⟩, Hg, HO⟩, Hbufs, Hsems⟩
    ihave Hs := (in_whole d c s) $$ Hs
    ihave Hr := (out_whole d c s) $$ Hr
    ihave HO := (owing_elim d c s O W) $$ HO
    icases HO with ⟨%W', %hW, HO⟩
    isplitl [Hi Ht Ho]
    · isplitl [Hi]; · iexact Hi
      isplitl [Ht]; · iexact Ht
      iexact Ho
    isplitl [Hs Hr Hbufs]
    · isplitl [Hs]; · iexact Hs
      isplitl [Hr]; · iexact Hr
      iexact Hbufs
    isplitl [Hz0 Hz1 Hy0 Hy1 Hg Hsems]
    · isplitr [Hsems]
      · isplitl [Hz0]; · iexact Hz0
        isplitl [Hz1]; · iexact Hz1
        isplitl [Hy0]; · iexact Hy0
        isplitl [Hy1]; · iexact Hy1
        iexact Hg
      · iexact Hsems
    iexists W'
    isplitr
    · ipureintro; exact fun p hp => (hW p hp).imp_right Or.inl
    iexact HO
  iapply (wp_frame_r frame (wpE (defs₀ (F := F)) 𝒱₀ (thr d c s) none) Set.univ)
  isplitr [Hbufs Hsems]
  · iapply (tile_run d c s ft fi q fo O W hfi hO)
    isplitr; · iexact Hlv
    isplitl [Hi]; · iexact Hi
    isplitl [Ht]; · iexact Ht
    isplitl [Ho]; · iexact Ho
    isplitl [Hs]; · iexact Hs
    isplitl [Hr]; · iexact Hr
    isplitl [Hz0 Hz1]
    · isplitl [Hz0] <;> iassumption
    isplitl [Hy0 Hy1]
    · isplitl [Hy0] <;> iassumption
    isplitl [Hg]; · iexact Hg
    iexact HO
  · isplitl [Hbufs]; · iexact Hbufs
    iexact Hsems

end Own

/-! ## The arrays in blocks -/

/-- A tile's step, numbered through all tiles. -/
abbrev Blk : Type := Fin 2 × Fin 16 × Fin 8
def bkOf (x : Blk) : Fin 256 := bk x.1 x.2.1 x.2.2
theorem bkOf_bij : Function.Bijective bkOf := by decide +kernel

/-- The elements of block `β` of the index array. -/
def idxSet (β : Fin 256) : Finset S1x32768.Idx := (idxB β).view.set
theorem mem_idxSet (β : Fin 256) (x : S1x32768.Idx) : x ∈ idxSet β ↔ (x 1).val / 128 = β.val := by
  have e : idxSet β = (Rect.unit (s := S1x32768) ![0, 128 * β.val] S1x128.size (inb_idx β)).set :=
    View.set_slice_whole (main_v2_scv : Ref sig .scVector) _
  rw [e, Rect.mem_set_unit]
  constructor
  · intro h
    have h0 : 128 * β.val ≤ (x 1).val ∧ (x 1).val < 128 * β.val + 128 := h 1
    omega
  · intro h a
    match a with
    | ⟨0, _⟩ => exact ⟨Nat.zero_le _, (x 0).isLt.trans_eq (Nat.zero_add _).symm⟩
    | ⟨1, _⟩ => exact (show 128 * β.val ≤ (x 1).val ∧ (x 1).val < 128 * β.val + 128 by omega)
theorem idxSet_disjoint : ∀ x ∈ (Finset.univ : Finset Blk), ∀ y ∈ (Finset.univ : Finset Blk), x ≠ y → Disjoint (idxSet (bkOf x)) (idxSet (bkOf y)) := by
  intro x _ y _ h
  refine Finset.disjoint_left.mpr fun z hz hz' => h (bkOf_bij.1 (Fin.ext ?_))
  exact ((mem_idxSet _ z).mp hz).symm.trans ((mem_idxSet _ z).mp hz')
theorem idxSet_cover : (Finset.univ : Finset Blk).biUnion (fun x => idxSet (bkOf x)) = Finset.univ := by
  refine Finset.eq_univ_of_forall fun z => ?_
  have hz : (z 1).val < 32768 := (z 1).isLt
  obtain ⟨x, hx⟩ := bkOf_bij.2 ⟨(z 1).val / 128, by omega⟩
  exact Finset.mem_biUnion.mpr ⟨x, Finset.mem_univ _, (mem_idxSet _ z).mpr (by rw [hx])⟩

/-- The elements of block `β` of the result. -/
def rowSet (β : Fin 256) : Finset S32768x128.Idx := (outB β).view.set
theorem mem_rowSet (β : Fin 256) (x : S32768x128.Idx) : x ∈ rowSet β ↔ (x 0).val / 128 = β.val := by
  have e : rowSet β = (Rect.unit (s := S32768x128) ![128 * β.val, 0] S128x128.size (inb_out β)).set :=
    View.set_slice_whole (main_v3_scv : Ref sig .scVector) _
  rw [e, Rect.mem_set_unit]
  constructor
  · intro h
    have h0 : 128 * β.val ≤ (x 0).val ∧ (x 0).val < 128 * β.val + 128 := h 0
    omega
  · intro h a
    match a with
    | ⟨0, _⟩ => exact (show 128 * β.val ≤ (x 0).val ∧ (x 0).val < 128 * β.val + 128 by omega)
    | ⟨1, _⟩ => exact ⟨Nat.zero_le _, (x 1).isLt.trans_eq (Nat.zero_add _).symm⟩
theorem rowSet_disjoint : ∀ x ∈ (Finset.univ : Finset Blk), ∀ y ∈ (Finset.univ : Finset Blk), x ≠ y → Disjoint (rowSet (bkOf x)) (rowSet (bkOf y)) := by
  intro x _ y _ h
  refine Finset.disjoint_left.mpr fun z hz hz' => h (bkOf_bij.1 (Fin.ext ?_))
  exact ((mem_rowSet _ z).mp hz).symm.trans ((mem_rowSet _ z).mp hz')
theorem rowSet_cover : (Finset.univ : Finset Blk).biUnion (fun x => rowSet (bkOf x)) = Finset.univ := by
  refine Finset.eq_univ_of_forall fun z => ?_
  have hz : (z 0).val < 32768 := (z 0).isLt
  obtain ⟨x, hx⟩ := bkOf_bij.2 ⟨(z 0).val / 128, by omega⟩
  exact Finset.mem_biUnion.mpr ⟨x, Finset.mem_univ _, (mem_rowSet _ z).mpr (by rw [hx])⟩

theorem bigSep_blk (Φ : Blk → sProp 𝕄) :
    bigSep Finset.univ Φ = bigSep Finset.univ fun c : Fin 2 => bigSep Finset.univ fun s : Fin 16 => bigSep Finset.univ fun t : Fin 8 => Φ (c, s, t) := by
  rw [BI.bigSep_univ_prod]
  refine bigSep_congr fun c _ => ?_
  rw [BI.bigSep_univ_prod]

/-- The index array is the tiles' blocks of it; -/
theorem idx_blocks (d : Dev nD) (fi : S1x32768.Idx → Elt F .i32) :
    ((SparseCore.T d : Thread nD τ).loc main_v2 ↦{fullShare} fi : sProp 𝕄)
      = bigSep Finset.univ fun c : Fin 2 => bigSep Finset.univ fun s : Fin 16 => idxAll d c s fi := by
  have h := pointsTo_biUnion (Val := Elt F) (Ix := HIx 2) (Name := ℕ) (U := UU) (Lvl := ℕ) (q := fullShare) (f := fi) Finset.univ (ℓ := (SparseCore.T d : Thread nD τ).loc main_v2) (fun x : Blk => idxSet (bkOf x)) idxSet_disjoint
  rw [idxSet_cover] at h
  rw [h, bigSep_blk]
  rfl
/-- so is the result array. -/
theorem out_blocks (d : Dev nD) (f : S32768x128.Idx → Elt F .f32) :
    ((SparseCore.T d : Thread nD τ).loc main_v3 ↦{fullShare} f : sProp 𝕄)
      = bigSep Finset.univ fun c : Fin 2 => bigSep Finset.univ fun s : Fin 16 => outAll d c s f := by
  have h := pointsTo_biUnion (Val := Elt F) (Ix := HIx 2) (Name := ℕ) (U := UU) (Lvl := ℕ) (q := fullShare) (f := f) Finset.univ (ℓ := (SparseCore.T d : Thread nD τ).loc main_v3) (fun x : Blk => rowSet (bkOf x)) rowSet_disjoint
  rw [rowSet_cover] at h
  rw [h, bigSep_blk]
  rfl

/-- A tile's share of the table. -/
def shr (c : Fin 2) (s : Fin 16) : PosShare TreeShare := leaf 5 fullShare ((finProdFinEquiv (c, s)).cast (by decide))

def tabSet : Finset S1000x128.Idx := tabV.view.set
theorem tab_set : tabSet = Finset.univ := by
  have e : tabSet = _ := View.set_slice_whole (main_v0_scv : Ref sig .scVector) _
  rw [e]
  refine Finset.eq_univ_of_forall fun x => Rect.mem_set_unit.mpr fun a => ?_
  match a with
  | ⟨0, _⟩ => exact ⟨Nat.zero_le _, (x 0).isLt.trans_eq (Nat.zero_add _).symm⟩
  | ⟨1, _⟩ => exact ⟨Nat.zero_le _, (x 1).isLt.trans_eq (Nat.zero_add _).symm⟩

/-- The table is its thirty-two shares. -/
theorem tab_shares (d : Dev nD) (ft : S1000x128.Idx → Elt F .f32) :
    ((SparseCore.T d : Thread nD τ).loc main_v0 ↦{fullShare} ft : sProp 𝕄)
      = bigSep Finset.univ fun c : Fin 2 => bigSep Finset.univ fun s : Fin 16 => tabPts d c s ft (shr c s) := by
  refine (pointsTo_leaves (ℓ := (SparseCore.T d : Thread nD τ).loc main_v0) Finset.univ ft 5 fullShare).trans ?_
  rw [bigSep_univ_equiv ((finProdFinEquiv (m := 2) (n := 16)).trans (finCongr (by decide)))
      (fun i : Fin (2 ^ 5) => ((SparseCore.T d : Thread nD τ).loc main_v0 ↦[Finset.univ]{leaf 5 fullShare i} ft : sProp 𝕄)), BI.bigSep_univ_prod]
  refine bigSep_congr fun c _ => bigSep_congr fun s _ => ?_
  have e : tabPts d c s ft (shr c s) = ((SparseCore.T d : Thread nD τ).loc main_v0 ↦[tabSet]{shr c s} ft : sProp 𝕄) := rfl
  rw [e, tab_set]
  rfl

end Cert.Proof.Tile1

end
-- ==== Proof.Words3.lean ====
/-
  The words of the second gather's tile program: the five numbers its loop carries, the offsets and conditions computed
  from them, over the thirty-two tiles and the eight steps.
-/
module

public import proofs.«01_k».proof.Proof.Base

@[expose] public section

noncomputable section

namespace Cert.Proof.Tile3

open Cert.KernelIdeal Cert.KernelIdeal.Gen
open Idealize.ShloMosaic Cert.Proof

/-- A pair of a SparseCore and a tile, as the kernel's grid has it. -/
def co (c : Fin 2) (s : Fin 16) : grid3.Coords := fun | 0 => c | 1 => s | ⟨_ + 2, h⟩ => absurd h (Nat.not_lt.2 (Nat.le_add_left _ _))
/-- The block of 256 rows the tile moves at step `t`. -/
def blk (c : Fin 2) (s : Fin 16) (t : ℕ) : ℕ := 8 * (s.val + 16 * c.val) + t
theorem blk_lt (c : Fin 2) (s : Fin 16) {t : ℕ} (h : t < 8) : blk c s t < 256 := by unfold blk; omega
/-- What the loop carries before step `t`. -/
def accAt (t : ℕ) : BitVec 32 × BitVec 32 × BitVec 32 × BitVec 32 × BitVec 32 :=
  (BitVec.ofNat 32 (min (t + 1) 8), BitVec.ofNat 32 t, BitVec.ofNat 32 t, BitVec.ofNat 32 (t - 1), BitVec.ofNat 32 (t % 8))
abbrev a6 (t : ℕ) := (accAt t).1
abbrev a7 (t : ℕ) := (accAt t).2.1
abbrev a8 (t : ℕ) := (accAt t).2.2.1
abbrev a9 (t : ℕ) := (accAt t).2.2.2.1
abbrev a10 (t : ℕ) := (accAt t).2.2.2.2

theorem trips : k3_t1_loop.trips = 8 := by decide +kernel

theorem cond1_iff : ∀ (c : Fin 2) (s : Fin 16) (t : Fin k3_t1_loop.trips), (k3_cond1 (co c s) t (a10 t.val) = 1#1) ↔ t.val < 7 := by decide +kernel
theorem cond2_true : ∀ (c : Fin 2) (s : Fin 16) (t : Fin k3_t1_loop.trips), k3_cond2 (co c s) t (a10 t.val) = 1#1 := by decide +kernel
theorem cond5_true : ∀ (c : Fin 2) (s : Fin 16) (t : Fin k3_t1_loop.trips), k3_cond5 (co c s) t (a10 t.val) = 1#1 := by decide +kernel
theorem cond7_iff : ∀ (c : Fin 2) (s : Fin 16) (t : Fin k3_t1_loop.trips), (k3_cond7 (co c s) t (a10 t.val) = 1#1) ↔ 0 < t.val := by decide +kernel
theorem chk1_ok : ∀ (c : Fin 2) (s : Fin 16) (t : Fin k3_t1_loop.trips), k3_chk1 (co c s) t (a6 t.val) (a7 t.val) (a8 t.val) (a9 t.val) (a10 t.val) := by decide +kernel
theorem chk2_ok : ∀ (t : Fin 8), k3_chk2 (a8 t.val) := by decide +kernel
theorem chk3_ok : ∀ (t : Fin 8), k3_chk3 (a7 t.val) := by decide +kernel
theorem chk4_ok : k3_chk4 (a9 8) := by decide +kernel
theorem chk5_ok : ∀ (c : Fin 2) (s : Fin 16), k3_chk5 (co c s) (a10 8) := by decide +kernel
theorem off1_eq : k3_off1 = ![(sl2 0).val, 0, 0] := by decide +kernel
theorem off2_eq : ∀ (c : Fin 2) (s : Fin 16), k3_off2 (co c s) = ![0, 256 * blk c s 0] := by decide +kernel
theorem off3_eq : k3_off3 = ![(sl2 0).val] := by decide +kernel
theorem off4_eq : ∀ (t : Fin 8), t.val < 7 → k3_off4 (a6 t.val) = ![(sl2 (t.val + 1)).val, 0, 0] := by decide +kernel
theorem off5_eq : ∀ (c : Fin 2) (s : Fin 16) (t : Fin 8), t.val < 7 → k3_off5 (co c s) (a10 t.val) = ![0, 256 * blk c s (t.val + 1)] := by decide +kernel
theorem off6_eq : ∀ (t : Fin 8), t.val < 7 → k3_off6 (a6 t.val) = ![(sl2 (t.val + 1)).val] := by decide +kernel
theorem off7_eq : ∀ (t : Fin 8), k3_off7 (a7 t.val) = ![(sl2 t.val).val, 0, 0] := by decide +kernel
theorem off8_eq : ∀ (c : Fin 2) (s : Fin 16) (t : Fin 8), k3_off8 (co c s) (a10 t.val) = ![0, 256 * blk c s t.val] := by decide +kernel
theorem off9_eq : ∀ (t : Fin 8), k3_off9 (a7 t.val) = ![(sl2 t.val).val] := by decide +kernel
theorem off10_eq : ∀ (t : Fin 8), k3_off10 (a8 t.val) = ![(sl2 t.val).val, 0, 0] := by decide +kernel
theorem off11_eq : ∀ (t : Fin 8), k3_off11 (a7 t.val) = ![(sl2 t.val).val, 0, 0] := by decide +kernel
theorem off12_eq : ∀ (t : Fin 8), k3_off12 (a8 t.val) = ![(sl2 t.val).val, 0, 0] := by decide +kernel
theorem off13_eq : ∀ (c : Fin 2) (s : Fin 16) (t : Fin 8), k3_off13 (co c s) (a10 t.val) = ![256 * blk c s t.val, 0] := by decide +kernel
theorem off14_eq : ∀ (t : Fin 8), k3_off14 (a8 t.val) = ![(sl2 t.val).val] := by decide +kernel
theorem off15_eq : ∀ (t : Fin 8), 0 < t.val → k3_off15 (a9 t.val) = ![(sl2 (t.val + 1)).val, 0, 0] := by decide +kernel
theorem off16_eq : ∀ (c : Fin 2) (s : Fin 16) (t : Fin 8), 0 < t.val → k3_off16 (co c s) (a10 t.val) = ![256 * blk c s (t.val - 1), 0] := by decide +kernel
theorem off17_eq : ∀ (t : Fin 8), 0 < t.val → k3_off17 (a9 t.val) = ![(sl2 (t.val + 1)).val] := by decide +kernel
theorem off19_eq : ∀ (c : Fin 2) (s : Fin 16), k3_off19 (co c s) (a10 8) = ![256 * blk c s 7, 0] := by decide +kernel
theorem off20_eq : k3_off20 (a9 8) = ![(sl2 9).val] := by decide +kernel
theorem off21_eq : k3_off21 (a9 8) = ![(sl2 9).val, 0, 0] := by decide +kernel

end Cert.Proof.Tile3

end
-- ==== Proof.Moves3.lean ====
/-
  The memory a tile of the second gather moves, and one step lemma per kind of transfer: a block of 256 indices copied in,
  the rows it names gathered, a block of 256 gathered rows copied out.
-/
module

public import proofs.«01_k».proof.Proof.Words3
public import Idealize.ShloMosaic.Lib.ValueIdx

@[expose] public section

noncomputable section

namespace Cert.Proof.Tile3

open Cert.KernelIdeal Cert.KernelIdeal.Gen
open Idealize.ShloMosaic Cert.Proof
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig (HIx 2) (Elt F) ℕ UU ℕ

abbrev tV : Memref sig .scVector .hbm S507904x128 .f32 := Memref.whole main_v5_scv
abbrev iV : Memref sig .scVector .hbm S1x65536 .i32 := Memref.whole main_v12_scv
abbrev oV : Memref sig .scVector .hbm S65536x128 .f32 := Memref.whole main_v13_scv
abbrev sV : Memref sig .scVector .vmem S2x1x256 .i32 := Memref.whole cc3_scoped0
abbrev rV : Memref sig .scVector .vmem S2x256x128 .f32 := Memref.whole cc3_scoped2

theorem inb_sl1 (p : Fin 2) : ∀ a, (![p.val, 0, 0] : Fin 3 → ℕ) a + S1x1x256.size a ≤ S2x1x256.size a := by revert p; decide
theorem inb_sl2 (p : Fin 2) : ∀ a, (![p.val, 0, 0] : Fin 3 → ℕ) a + S1x256x128.size a ≤ S2x256x128.size a := by revert p; decide
theorem inb_sm (p : Fin 2) : ∀ a, (![p.val] : Fin 1 → ℕ) a + S1.size a ≤ S2.size a := by revert p; decide
theorem inb_idx (β : Fin 256) : ∀ a, (![0, 256 * β.val] : Fin 2 → ℕ) a + S1x256.size a ≤ S1x65536.size a := by revert β; decide
theorem inb_out (β : Fin 256) : ∀ a, (![256 * β.val, 0] : Fin 2 → ℕ) a + S256x128.size a ≤ S65536x128.size a := by revert β; decide

/-- One of the two staging slots for indices; -/
def inSl (p : Fin 2) : Memref sig .scVector .vmem S1x256 .i32 :=
  (sV.slice (Rect.unit (s := S2x1x256) ![p.val, 0, 0] S1x1x256.size (inb_sl1 p)) (fun _ => rfl)).squeeze S1x256 squeezes_S1x1x256_S1x256
/-- the same slot as a list of 256 offsets; -/
def offSl (p : Fin 2) : Memref sig .scVector .vmem S256 .i32 :=
  ((inSl p).slice (Rect.unit (s := S1x256) ![0, 0] S1x256.size inb_S1x256_S1x256_0_0) (fun _ => rfl)).squeeze S256 squeezes_S1x256_S256
/-- one of the two staging slots for gathered rows; -/
def outSl (p : Fin 2) : Memref sig .scVector .vmem S256x128 .f32 :=
  (rV.slice (Rect.unit (s := S2x256x128) ![p.val, 0, 0] S1x256x128.size (inb_sl2 p)) (fun _ => rfl)).squeeze S256x128 squeezes_S1x256x128_S256x128
/-- block `β` of the index array; -/
def idxB (β : Fin 256) : Memref sig .scVector .hbm S1x256 .i32 :=
  iV.slice (Rect.unit (s := S1x65536) ![0, 256 * β.val] S1x256.size (inb_idx β)) (fun _ => rfl)
/-- block `β` of the result; -/
def outB (β : Fin 256) : Memref sig .scVector .hbm S256x128 .f32 :=
  oV.slice (Rect.unit (s := S65536x128) ![256 * β.val, 0] S256x128.size (inb_out β)) (fun _ => rfl)
/-- the table, whole, as the gather names it. -/
def tabV : Memref sig .scVector .hbm S507904x128 .f32 :=
  tV.slice (Rect.unit (s := S507904x128) ![0, 0] S507904x128.size inb_S507904x128_S507904x128_0_0) (fun _ => rfl)
/-- The semaphore of an index slot, and of a row slot. -/
def inSem (p : Fin 2) : DmaSem sig := ((cc3_scoped1.slice (Rect.unit (s := S2) ![p.val] S1.size (inb_sm p))).squeeze S_ squeezes_S1_S_).sem
def outSem (p : Fin 2) : DmaSem sig := ((cc3_scoped3.slice (Rect.unit (s := S2) ![p.val] S1.size (inb_sm p))).squeeze S_ squeezes_S1_S_).sem

/-- What the gather leaves in the result: at row `r` the table's row the index array names there. -/
def G (ft : S507904x128.Idx → Elt F .f32) (fi : S1x65536.Idx → Elt F .i32) : S65536x128.Idx → Elt F .f32 :=
  fun x => ft (ix2 (⟨(fi (ix2 (0 : Fin 1) (x 0 : Fin 65536))).toNat % 507904, Nat.mod_lt _ (by decide)⟩ : Fin 507904) (x 1 : Fin 128))

/-- The thread of tile `s` of SparseCore `c`. -/
abbrev thr (d : Dev nD) (c : Fin 2) (s : Fin 16) : Thread nD τ := V d ((co c s 0).castLE hcore3) ((co c s 1).castLE hsub3)

section Steps
variable (d : Dev nD) (c : Fin 2) (s : Fin 16) (ft : S507904x128.Idx → Elt F .f32) (fi : S1x65536.Idx → Elt F .i32)

def idxPts (β : Fin 256) : sProp 𝕄 := (idxB β).view.loc (thr d c s) ↦[(idxB β).view.set]{fullShare} fi
def outPts (β : Fin 256) (f : S65536x128.Idx → Elt F .f32) : sProp 𝕄 := (outB β).view.loc (thr d c s) ↦[(outB β).view.set]{fullShare} f
def inFree (p : Fin 2) : sProp 𝕄 := iprop(∃ f, (inSl p).view.loc (thr d c s) ↦[(inSl p).view.set]{fullShare} f)
def outFree (p : Fin 2) : sProp 𝕄 := iprop(∃ f, (outSl p).view.loc (thr d c s) ↦[(outSl p).view.set]{fullShare} f)
/-- An index slot holding block `β`. -/
def inFull (p : Fin 2) (β : Fin 256) : sProp 𝕄 :=
  iprop(∃ f, ⌜(inSl p).view.read (Elt F) f = (idxB β).view.read (Elt F) fi⌝ ∗ (inSl p).view.loc (thr d c s) ↦[(inSl p).view.set]{fullShare} f)
/-- A row slot holding block `β` of the result. -/
def outFull (p : Fin 2) (β : Fin 256) : sProp 𝕄 :=
  iprop(∃ f, ⌜(outSl p).view.read (Elt F) f = (outB β).view.read (Elt F) (G ft fi)⌝ ∗ (outSl p).view.loc (thr d c s) ↦[(outSl p).view.set]{fullShare} f)
def inZero (p : Fin 2) : sProp 𝕄 := semVal (thr d c s, SemLoc.dma (inSem p)) 0
def outZero (p : Fin 2) : sProp 𝕄 := semVal (thr d c s, SemLoc.dma (outSem p)) 0
/-- Block `β` on its way into index slot `p`; -/
def inFly (p : Fin 2) (β : Fin 256) : sProp 𝕄 :=
  Transfers.Flight countersEmb (thr d c s) (.dma (inSem p)) (default : HIx 2) (inSl p).view.dmaCredit
    iprop(inFull d c s fi p β ∗ idxPts d c s fi β)
/-- row slot `p` on its way out to block `β`. -/
def outFly (p : Fin 2) (β : Fin 256) : sProp 𝕄 :=
  Transfers.Flight countersEmb (thr d c s) (.dma (outSem p)) (default : HIx 2) (outB β).view.dmaCredit
    iprop(outPts d c s β (G ft fi) ∗ outFree d c s p)

theorem inCredit (p : Fin 2) : 0 < (inSl p).view.dmaCredit := View.dmaCredit_pos _ (by decide)
theorem outCredit (β : Fin 256) : 0 < (outB β).view.dmaCredit := View.dmaCredit_pos _ (by decide)

/-- The copy of block `β` of the indices into slot `p` starts. -/
theorem wp_load (p : Fin 2) (β : Fin 256) {src : Memref sig (thr d c s).2.kind .hbm S1x256 .i32} {dst : Memref sig (thr d c s).2.kind .vmem S1x256 .i32} {sem : DmaSem sig}
    (hs : src = idxB β) (hd : dst = inSl p) (hm : sem = inSem p) {hsrc : src.view.WordExact} {hdst : dst.view.WordExact}
    {hsem : DmaTarget.Typed (nD := nD) .hbm (.dma sem) (DmaTarget.here (p := (thr d c s).2) dst)}
    {α : Type} {k : PUnit → Prog (TpuEff nD τ sig (Elt F) Λ₀ (thr d c s).2) α} {Q : α → sProp 𝕄} :
    iprop(idxPts d c s fi β ∗ inFree d c s p ∗ inZero d c s p)
      ⊢ iprop((inFly d c s fi p β -∗ wp frame (wpE (defs₀ (F := F)) 𝒱₀ (thr d c s) none) Set.univ (k ⟨⟩) Q)
        -∗ wp frame (wpE (defs₀ (F := F)) 𝒱₀ (thr d c s) none) Set.univ (.op (.enqueueDma src (.here dst) (.dma sem) hsrc hdst hsem) k) Q) := by
  subst hs hd hm
  unfold inFree idxPts inZero inFly
  iintro ⟨Hi, ⟨%f, Hf⟩, Hz⟩ Hk
  iapply (Transfers.wp_dmaLocal countersEmb 𝒱₀ (thr d c s) none (default : HIx 2) (inSl p).view.dmaCredit rfl (inCredit p) (Finset.Subset.refl _)) $$ [Hi Hf Hz]
  · isplitl [Hi]; · iexact Hi
    isplitl [Hf]; · iexact Hf
    iexact Hz
  iintro Hfl
  iapply Hk
  iapply (Transfers.Flight_mono countersEmb (thr d c s) ?_) $$ Hfl
  iintro ⟨Hd, Hi⟩
  unfold inFull idxPts
  isplitl [Hd]
  · iexists _; isplitr
    swap; · iexact Hd
    ipureintro; exact View.read_write_univ _ _
  · iexact Hi

/-- The copy out of slot `p` into block `β` of the result starts. -/
theorem wp_store (p : Fin 2) (β : Fin 256) {src : Memref sig (thr d c s).2.kind .vmem S256x128 .f32} {dst : Memref sig (thr d c s).2.kind .hbm S256x128 .f32} {sem : DmaSem sig}
    (hs : src = outSl p) (hd : dst = outB β) (hm : sem = outSem p) {hsrc : src.view.WordExact} {hdst : dst.view.WordExact}
    {hsem : DmaTarget.Typed (nD := nD) .vmem (.dma sem) (DmaTarget.here (p := (thr d c s).2) dst)} {fo : S65536x128.Idx → Elt F .f32}
    {α : Type} {k : PUnit → Prog (TpuEff nD τ sig (Elt F) Λ₀ (thr d c s).2) α} {Q : α → sProp 𝕄} :
    iprop(outFull d c s ft fi p β ∗ outPts d c s β fo ∗ outZero d c s p)
      ⊢ iprop((outFly d c s ft fi p β -∗ wp frame (wpE (defs₀ (F := F)) 𝒱₀ (thr d c s) none) Set.univ (k ⟨⟩) Q)
        -∗ wp frame (wpE (defs₀ (F := F)) 𝒱₀ (thr d c s) none) Set.univ (.op (.enqueueDma src (.here dst) (.dma sem) hsrc hdst hsem) k) Q) := by
  subst hs hd hm
  unfold outFull outPts outZero outFly
  iintro ⟨⟨%f, %hf, Hf⟩, Ho, Hz⟩ Hk
  iapply (Transfers.wp_dmaLocal countersEmb 𝒱₀ (thr d c s) none (default : HIx 2) (outB β).view.dmaCredit rfl (outCredit β) (Finset.Subset.refl _)) $$ [Hf Ho Hz]
  · isplitl [Hf]; · iexact Hf
    isplitl [Ho]; · iexact Ho
    iexact Hz
  iintro Hfl
  iapply Hk
  iapply (Transfers.Flight_mono countersEmb (thr d c s) ?_) $$ Hfl
  iintro ⟨Hd, Hf⟩
  unfold outFree outPts
  isplitl [Hd]
  · iapply (Entails.of_eq (pointsTo_congr ?_)) $$ Hd
    intro x hx
    obtain ⟨y, -, rfl⟩ := Finset.mem_map.mp hx
    refine (View.write_emb_of_mem _ _ (Finset.mem_univ y)).trans ?_
    exact congrFun hf y
  · iexists _; iexact Hf

/-- A copy in that has been waited for leaves the slot holding its block. -/
theorem wp_loaded (p : Fin 2) (β : Fin 256) {srcw : Memref sig (thr d c s).2.kind .hbm S1x256 .i32} {dstw : Memref sig (thr d c s).2.kind .vmem S1x256 .i32} {sem : DmaSem sig}
    (hd : dstw = inSl p) (hm : sem = inSem p) {hsrc : srcw.view.WordExact} {hdst : dstw.view.WordExact}
    {α : Type} {k : PUnit → Prog (TpuEff nD τ sig (Elt F) Λ₀ (thr d c s).2) α} {Q : α → sProp 𝕄}
    {O : CellTallies nD τ sig (HIx 2)} {W : Waits sig (HIx 2)} :
    iprop(inFly d c s fi p β ∗ owes (thr d c s) O W ∗ Transfers.MayWaits (thr d c s) (default : HIx 2) O)
      ⊢ iprop((iprop(inFull d c s fi p β ∗ idxPts d c s fi β ∗ inZero d c s p ∗ owes (thr d c s) O (insert (SemLoc.dma (inSem p), default) W))
            -∗ wp frame (wpE (defs₀ (F := F)) 𝒱₀ (thr d c s) none) Set.univ (k ⟨⟩) Q)
        -∗ wp frame (wpE (defs₀ (F := F)) 𝒱₀ (thr d c s) none) Set.univ (.op (.waitDma2 sem srcw dstw hsrc hdst) k) Q) := by
  subst hd hm
  unfold inFly inZero
  iintro ⟨Hfl, HO, Hmw⟩ Hk
  iapply (Transfers.wp_waitLocalO countersEmb 𝒱₀ (thr d c s) none (default : HIx 2) (rfl : (inSl p).view.dmaCredit = _)) $$ [Hfl HO Hmw]
  · isplitl [Hfl]; · iexact Hfl
    isplitl [HO]; · iexact HO
    iapply (Transfers.MayWaits.elim (SemLoc.dma (inSem p))) $$ Hmw
  iintro ⟨⟨Hf, Hi⟩, Hz, HO⟩
  iapply Hk
  isplitl [Hf]; · iexact Hf
  isplitl [Hi]; · iexact Hi
  isplitl [Hz]; · iexact Hz
  iexact HO

/-- A copy out that has been waited for leaves its block written and the slot free. -/
theorem wp_stored (p : Fin 2) (β : Fin 256) {srcw : Memref sig (thr d c s).2.kind .vmem S256x128 .f32} {dstw : Memref sig (thr d c s).2.kind .hbm S256x128 .f32} {sem : DmaSem sig}
    (hd : dstw = outB β) (hm : sem = outSem p) {hsrc : srcw.view.WordExact} {hdst : dstw.view.WordExact}
    {α : Type} {k : PUnit → Prog (TpuEff nD τ sig (Elt F) Λ₀ (thr d c s).2) α} {Q : α → sProp 𝕄}
    {O : CellTallies nD τ sig (HIx 2)} {W : Waits sig (HIx 2)} :
    iprop(outFly d c s ft fi p β ∗ owes (thr d c s) O W ∗ Transfers.MayWaits (thr d c s) (default : HIx 2) O)
      ⊢ iprop((iprop(outPts d c s β (G ft fi) ∗ outFree d c s p ∗ outZero d c s p ∗ owes (thr d c s) O (insert (SemLoc.dma (outSem p), default) W))
            -∗ wp frame (wpE (defs₀ (F := F)) 𝒱₀ (thr d c s) none) Set.univ (k ⟨⟩) Q)
        -∗ wp frame (wpE (defs₀ (F := F)) 𝒱₀ (thr d c s) none) Set.univ (.op (.waitDma2 sem srcw dstw hsrc hdst) k) Q) := by
  subst hd hm
  unfold outFly outZero
  iintro ⟨Hfl, HO, Hmw⟩ Hk
  iapply (Transfers.wp_waitLocalO countersEmb 𝒱₀ (thr d c s) none (default : HIx 2) (rfl : (outB β).view.dmaCredit = _)) $$ [Hfl HO Hmw]
  · isplitl [Hfl]; · iexact Hfl
    isplitl [HO]; · iexact HO
    iapply (Transfers.MayWaits.elim (SemLoc.dma (outSem p))) $$ Hmw
  iintro ⟨⟨Hf, Hi⟩, Hz, HO⟩
  iapply Hk
  isplitl [Hf]; · iexact Hf
  isplitl [Hi]; · iexact Hi
  isplitl [Hz]; · iexact Hz
  iexact HO

theorem offSl_idx (k : Fin 256) :
    (Rect.unit (s := S1x256) ![0, 0] S1x256.size inb_S1x256_S1x256_0_0).emb (Shape.reshapeEquiv squeezes_S1x256_S256.numel_eq (ix1 k)) = ix2 (0 : Fin 1) k := by
  rw [show Shape.reshapeEquiv squeezes_S1x256_S256.numel_eq (ix1 k) = ix2 (0 : Fin 1) k from
    (Shape.reshapeEquiv_cons_one _ _).trans (by funext a; match a with | ⟨0, _⟩ => rfl | ⟨1, _⟩ => rfl)]
  funext a; match a with | ⟨0, _⟩ => rfl | ⟨1, _⟩ => exact Fin.ext (by simp [Rect.emb, Rect.unit])

/-- The list of 256 offsets read off slot `p` is the slot's row. -/
theorem offSl_read (p : Fin 2) (f : S2x1x256.Idx → Elt F .i32) (k : Fin 256) :
    (offSl p).view.read (Elt F) f (ix1 k) = (inSl p).view.read (Elt F) f (ix2 (0 : Fin 1) k) := by
  change (inSl p).view.read (Elt F) f ((Rect.unit (s := S1x256) ![0, 0] S1x256.size inb_S1x256_S1x256_0_0).emb (Shape.reshapeEquiv squeezes_S1x256_S256.numel_eq (ix1 k))) = _
  rw [offSl_idx]

/-- The words of a block, as the index array has them. -/
theorem idxB_read (β : Fin 256) (k : Fin 256) :
    (idxB β).view.read (Elt F) fi (ix2 (0 : Fin 1) k) = fi (ix2 (0 : Fin 1) (⟨256 * β.val + k.val, by omega⟩ : Fin 65536)) := by
  change fi ((Rect.unit (s := S1x65536) ![0, 256 * β.val] S1x256.size (inb_idx β)).emb (ix2 (0 : Fin 1) k)) = _
  congr 1
  funext a; match a with | ⟨0, _⟩ => rfl | ⟨1, _⟩ => exact Fin.ext (by simp [Rect.emb, Rect.unit])

theorem outB_read (β : Fin 256) (f : S65536x128.Idx → Elt F .f32) (k : Fin 256) (l : Fin 128) :
    (outB β).view.read (Elt F) f (ix2 k l) = f (ix2 (⟨256 * β.val + k.val, by omega⟩ : Fin 65536) l) := by
  change f ((Rect.unit (s := S65536x128) ![256 * β.val, 0] S256x128.size (inb_out β)).emb (ix2 k l)) = _
  congr 1
  funext a; match a with | ⟨0, _⟩ => exact Fin.ext (by simp [Rect.emb, Rect.unit]) | ⟨1, _⟩ => exact Fin.ext (by simp [Rect.emb, Rect.unit])

theorem tabV_read (f : S507904x128.Idx → Elt F .f32) : tabV.view.read (Elt F) f = f := by
  funext x
  change f ((Rect.unit (s := S507904x128) ![0, 0] S507904x128.size inb_S507904x128_S507904x128_0_0).emb x) = _
  congr 1
  funext a; match a with | ⟨0, _⟩ => exact Fin.ext (by simp [Rect.emb, Rect.unit]) | ⟨1, _⟩ => exact Fin.ext (by simp [Rect.emb, Rect.unit])

/-- The rows a block names, gathered: what the row slot is to hold. -/
theorem payload_eq (p : Fin 2) (β : Fin 256) (f : S2x1x256.Idx → Elt F .i32)
    (hf : (inSl p).view.read (Elt F) f = (idxB β).view.read (Elt F) fi)
    (hin : ∀ x, ((offSl p).view.read (Elt F) f x).toNat < 507904) (hn : S256.numel = S256x128.size (gathers_S507904x128_S256x128).axis') :
    SparseCore.gatherPayload gathers_S507904x128_S256x128 (tabV.view.read (Elt F) ft) (SparseCore.rows ((offSl p).view.read (Elt F) f) hn hin)
      = (outB β).view.read (Elt F) (G ft fi) := by
  funext x
  obtain ⟨k, l, rfl⟩ : ∃ (k : Fin 256) (l : Fin 128), x = ix2 k l := ⟨x 0, x 1, eq_ix2 x⟩
  rw [outB_read, tabV_read]
  unfold SparseCore.gatherPayload G
  congr 1
  have hk : ∀ y : S256.Idx, y = ix1 (y 0) := fun y => eq_ix1 y
  have hr : (S256.rowMajor.symm (Fin.cast hn.symm (k : Fin 256))) = ix1 k := by
    apply S256.rowMajor.injective; rw [Equiv.apply_symm_apply]; apply Fin.ext
    exact (Shape.rowMajor_val_one (ix1 k)).symm
  funext a
  match a with
  | ⟨0, _⟩ =>
    refine (Shape.Gathers.idx_axis gathers_S507904x128_S256x128 _ _).trans ?_
    apply Fin.ext
    change ((offSl p).view.read (Elt F) f (S256.rowMajor.symm (Fin.cast hn.symm (k : Fin 256)))).toNat = _
    have hlt := hin (ix1 k)
    rw [hr, offSl_read, hf, idxB_read] at *
    exact (Nat.mod_eq_of_lt hlt).symm
  | ⟨1, _⟩ => exact Fin.ext (Shape.Gathers.idx_of_ne gathers_S507904x128_S256x128 _ (ix2 k l) ⟨1, by decide⟩ (by decide))

theorem offSl_set (p : Fin 2) : (offSl p).view.set = (inSl p).view.set := by
  ext x
  constructor
  · intro hx
    obtain ⟨y, -, rfl⟩ := Finset.mem_map.mp hx
    exact Finset.mem_map.mpr ⟨_, Finset.mem_univ _, rfl⟩
  · intro hx
    obtain ⟨y, -, rfl⟩ := Finset.mem_map.mp hx
    obtain ⟨k, rfl⟩ : ∃ k : Fin 256, y = ix2 (0 : Fin 1) k := ⟨y 1, by
      funext a; match a with | ⟨0, _⟩ => exact Subsingleton.elim (α := Fin 1) _ _ | ⟨1, _⟩ => rfl⟩
    exact Finset.mem_map.mpr ⟨ix1 k, Finset.mem_univ _, congrArg (inSl p).view.emb (offSl_idx k)⟩

def tabPts (q : PosShare TreeShare) : sProp 𝕄 := tabV.view.loc (thr d c s) ↦[tabV.view.set]{q} ft
/-- The semaphore the gathers end on. -/
def gSem : DmaSem sig := cc3_scoped4.sem
def gZero : sProp 𝕄 := semVal (thr d c s, SemLoc.dma gSem) 0
/-- The rows of block `β` on their way into row slot `p`. -/
def gFly (q : PosShare TreeShare) (p : Fin 2) (β : Fin 256) : sProp 𝕄 :=
  Transfers.Flight countersEmb (thr d c s) (.dma gSem) (default : HIx 2) (outSl p).view.dmaCredit
    iprop(outFull d c s ft fi p β ∗ tabPts d c s ft q ∗ inFree d c s p)

/-- The gather of the rows block `β` names starts. -/
theorem wp_gather (hfi : ∀ k : Fin 65536, (fi (ix2 (0 : Fin 1) k)).toNat < 507904) (q : PosShare TreeShare) (p : Fin 2) (β : Fin 256)
    {src : Memref sig (thr d c s).2.kind .hbm S507904x128 .f32} {dst : Memref sig (thr d c s).2.kind .vmem S256x128 .f32}
    {offs : Memref sig (thr d c s).2.kind .vmem S256 .i32} {sem : DmaSem sig}
    (hs : src = tabV) (hd : dst = outSl p) (ho : offs = offSl p) (hm : sem = gSem)
    {hg : S507904x128.Gathers 0 S256x128} {hn : S256.numel = S256x128.size hg.axis'}
    {hp : (thr d c s).2.kind = .scVector} {hsrc : src.view.WordExact} {he : EltTy.f32.bits = 32} {hsp : Space.hbm = .hbm ∨ Space.hbm = .shared} {hr : S507904x128.StreamRows 0}
    {α : Type} {k : PUnit → Prog (TpuEff nD τ sig (Elt F) Λ₀ (thr d c s).2) α} {Q : α → sProp 𝕄} :
    iprop(tabPts d c s ft q ∗ outFree d c s p ∗ inFull d c s fi p β ∗ gZero d c s)
      ⊢ iprop((gFly d c s ft fi q p β -∗ wp frame (wpE (defs₀ (F := F)) 𝒱₀ (thr d c s) none) Set.univ (k ⟨⟩) Q)
        -∗ wp frame (wpE (defs₀ (F := F)) 𝒱₀ (thr d c s) none) Set.univ (SparseCore.enqueueIndirectGather hp src dst hg offs hn sem hsrc he hsp hr >>= k) Q) := by
  subst hs hd ho hm
  unfold outFree inFull gZero gFly tabPts
  iintro ⟨Ht, ⟨%f, Hf⟩, ⟨%fo, %hfo, Ho⟩, Hz⟩ Hk
  have hin : ∀ x, ((offSl p).view.read (Elt F) fo x).toNat < S507904x128.size hg.axis := by
    intro x
    rw [eq_ix1 x]
    refine lt_of_eq_of_lt (congrArg BitVec.toNat ?_) (hfi ⟨256 * β.val + (x 0 : Fin 256).val, by have h0 : (x 0 : Fin 256).val < 256 := (x 0 : Fin 256).isLt; have h1 := β.isLt; exact (show 256 * β.val + (x 0 : Fin 256).val < 65536 by omega)⟩)
    exact ((offSl_read p fo _).trans (congrFun hfo _)).trans (idxB_read fi β _)
  ihave Ho' := (Entails.of_eq (show ((inSl p).view.loc (thr d c s) ↦[(inSl p).view.set]{fullShare} fo : sProp 𝕄)
      = (offSl p).view.loc (thr d c s) ↦[(offSl p).view.set]{fullShare} fo by rw [offSl_set]; rfl)) $$ Ho
  iapply (SparseCore.wp_indirectGatherLocal countersEmb 𝒱₀ (thr d c s) none (hg := hg) (default : HIx 2)
      (outSl p).view.dmaCredit (SparseCore.sum_rowCredit_eq_dmaCredit _ _ (fun _ => rfl)) (by decide) hin) $$ [Ht Hf Ho' Hz]
  · isplitl [Ht]; · iexact Ht
    isplitl [Hf]; · iexact Hf
    isplitl [Ho']; · iexact Ho'
    iexact Hz
  iintro Hfl
  iapply Hk
  iapply (Transfers.Flight_mono countersEmb (thr d c s) ?_) $$ Hfl
  iintro ⟨Hd, Ht, Ho⟩
  unfold outFull inFree
  isplitl [Hd]
  · iexists _; isplitr
    swap; · iexact Hd
    ipureintro; exact (View.read_write_univ _ _).trans (payload_eq ft fi p β fo hfo hin hn)
  isplitl [Ht]; · iexact Ht
  iexists fo
  iapply (Entails.of_eq (show ((offSl p).view.loc (thr d c s) ↦[(offSl p).view.set]{fullShare} fo : sProp 𝕄)
      = (inSl p).view.loc (thr d c s) ↦[(inSl p).view.set]{fullShare} fo by rw [offSl_set]; rfl)) $$ Ho

/-- The gather waited for. -/
theorem wp_gathered (q : PosShare TreeShare) (p : Fin 2) (β : Fin 256) {sp : Space} {s' : Shape} {srcw : Memref sig (thr d c s).2.kind sp s' .f32} {dstw : Memref sig (thr d c s).2.kind .vmem S256x128 .f32} {sem : DmaSem sig}
    (hd : dstw = outSl p) (hm : sem = gSem) {hsrc : srcw.view.WordExact} {hdst : dstw.view.WordExact}
    {α : Type} {k : PUnit → Prog (TpuEff nD τ sig (Elt F) Λ₀ (thr d c s).2) α} {Q : α → sProp 𝕄}
    {O : CellTallies nD τ sig (HIx 2)} {W : Waits sig (HIx 2)} :
    iprop(gFly d c s ft fi q p β ∗ owes (thr d c s) O W ∗ Transfers.MayWaits (thr d c s) (default : HIx 2) O)
      ⊢ iprop((iprop(outFull d c s ft fi p β ∗ tabPts d c s ft q ∗ inFree d c s p ∗ gZero d c s ∗ owes (thr d c s) O (insert (SemLoc.dma gSem, default) W))
            -∗ wp frame (wpE (defs₀ (F := F)) 𝒱₀ (thr d c s) none) Set.univ (k ⟨⟩) Q)
        -∗ wp frame (wpE (defs₀ (F := F)) 𝒱₀ (thr d c s) none) Set.univ (.op (.waitDma2 sem srcw dstw hsrc hdst) k) Q) := by
  subst hd hm
  unfold gFly gZero
  iintro ⟨Hfl, HO, Hmw⟩ Hk
  iapply (Transfers.wp_waitLocalO countersEmb 𝒱₀ (thr d c s) none (default : HIx 2) (rfl : (outSl p).view.dmaCredit = _)) $$ [Hfl HO Hmw]
  · isplitl [Hfl]; · iexact Hfl
    isplitl [HO]; · iexact HO
    iapply (Transfers.MayWaits.elim (SemLoc.dma gSem)) $$ Hmw
  iintro ⟨⟨Hf, Ht, Hi⟩, Hz, HO⟩
  iapply Hk
  isplitl [Hf]; · iexact Hf
  isplitl [Ht]; · iexact Ht
  isplitl [Hi]; · iexact Hi
  isplitl [Hz]; · iexact Hz
  iexact HO

end Steps

end Cert.Proof.Tile3

end
-- ==== Proof.Tile3.lean ====
/-
  One tile of the second gather, run once at a symbolic pair of a SparseCore and a tile: eight steps over two staging
  slots, the next block's indices copied in and the previous block's rows copied out while this block's rows are gathered.
-/
module

public import proofs.«01_k».proof.Proof.Moves3

@[expose] public section

noncomputable section

namespace Cert.Proof.Tile3

open Cert.KernelIdeal Cert.KernelIdeal.Gen
open Idealize.ShloMosaic Cert.Proof
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig (HIx 2) (Elt F) ℕ UU ℕ

/-- The block of step `t`. -/
def bk (c : Fin 2) (s : Fin 16) (t : Fin 8) : Fin 256 := ⟨blk c s t.val, blk_lt c s t.isLt⟩

section Run
variable (d : Dev nD) (c : Fin 2) (s : Fin 16) (ft : S507904x128.Idx → Elt F .f32) (fi : S1x65536.Idx → Elt F .i32)
variable (q : PosShare TreeShare) (fo : S65536x128.Idx → Elt F .f32)
variable (O : CellTallies nD τ sig (HIx 2)) (W : Waits sig (HIx 2))

/-- The index slot of step `t` before it: its block under way, or, after the last step, nothing. -/
def inCur (t : ℕ) : sProp 𝕄 := if h : t < 8 then inFly d c s fi (sl2 t) (bk c s ⟨t, h⟩) else iprop(inFree d c s (sl2 t) ∗ inZero d c s (sl2 t))
/-- The row slot of the step before: its rows under way out, or, at the start, nothing. -/
def outPrev (t : ℕ) : sProp 𝕄 := if h : 0 < t ∧ t - 1 < 8 then outFly d c s ft fi (sl2 (t + 1)) (bk c s ⟨t - 1, h.2⟩) else iprop(outFree d c s (sl2 (t + 1)) ∗ outZero d c s (sl2 (t + 1)))
/-- The waits recorded since the tile began are of its own transfers. -/
def owing : sProp 𝕄 := iprop(∃ W', ⌜∀ p ∈ W', p ∈ W ∨ p.2 = none⌝ ∗ owes (thr d c s) O W')

theorem inCur_lt {t : ℕ} (h : t < 8) : inCur d c s fi t ⊢ inFly d c s fi (sl2 t) (bk c s ⟨t, h⟩) := by unfold inCur; rw [dif_pos h]
theorem inCur_ge {t : ℕ} (h : ¬ t < 8) : inCur d c s fi t ⊢ iprop(inFree d c s (sl2 t) ∗ inZero d c s (sl2 t)) := by unfold inCur; rw [dif_neg h]
theorem outPrev_succ {t : ℕ} (h : t < 8) : outFly d c s ft fi (sl2 t) (bk c s ⟨t, h⟩) ⊢ outPrev d c s ft fi (t + 1) := by
  unfold outPrev
  rw [dif_pos ⟨Nat.succ_pos t, by omega⟩, sl2_add]
  exact Entails.of_eq rfl
theorem in_again (t : ℕ) : (iprop(inFree d c s (sl2 t) ∗ inZero d c s (sl2 t)) : sProp 𝕄) ⊢ iprop(inFree d c s (sl2 (t + 1 + 1)) ∗ inZero d c s (sl2 (t + 1 + 1))) := by
  rw [sl2_add]
theorem below8_nothing (R : sProp 𝕄) (Φ : Fin 8 → sProp 𝕄) : R ⊢ bigSep (below8 0) Φ := by
  rw [below8_zero, bigSep_empty]
  exact BI.affine
theorem inCur_start : inFly d c s fi (sl2 0) (bk c s ⟨0, by omega⟩) ⊢ inCur d c s fi 0 := by
  unfold inCur; rw [dif_pos (by omega)]
theorem outPrev_start : (iprop(outFree d c s 1 ∗ outZero d c s 1) : sProp 𝕄) ⊢ outPrev d c s ft fi 0 := by
  unfold outPrev; rw [dif_neg (by omega)]; exact Entails.of_eq rfl
theorem outPrev_end : outPrev d c s ft fi 8 ⊢ outFly d c s ft fi (sl2 9) (bk c s ⟨7, by omega⟩) := by
  unfold outPrev; rw [dif_pos (by omega)]
theorem owing_elim : (owing d c s O W : sProp 𝕄) ⊢ iprop(∃ W', ⌜∀ p ∈ W', p ∈ W ∨ p.2 = none⌝ ∗ owes (thr d c s) O W') := by unfold owing; iintro H; iexact H
theorem owing_intro {W' : Waits sig (HIx 2)} (h : ∀ p ∈ W', p ∈ W ∨ p.2 = none) : (owes (thr d c s) O W' : sProp 𝕄) ⊢ owing d c s O W := by
  unfold owing
  iintro HO
  iexists W'
  isplitr; · ipureintro; exact h
  iexact HO

/-- What a tile is given and gives back of the blocks. -/
def idxAll : sProp 𝕄 := bigSep Finset.univ fun t : Fin 8 => idxPts d c s fi (bk c s t)
def outAll (f : S65536x128.Idx → Elt F .f32) : sProp 𝕄 := bigSep Finset.univ fun t : Fin 8 => outPts d c s (bk c s t) f

theorem idxAll_open : (idxAll d c s fi : sProp 𝕄) ⊢ iprop(idxPts d c s fi (bk c s ⟨0, by omega⟩) ∗ bigSep (from8 (0 + 1)) fun t => idxPts d c s fi (bk c s t)) := by
  unfold idxAll
  rw [← from8_zero, bigSep_from8 0 (by omega)]
theorem idxAll_close : (bigSep (below8 8) fun t => idxPts d c s fi (bk c s t)) ⊢ (idxAll d c s fi : sProp 𝕄) := by
  unfold idxAll; rw [below8_eight]
theorem outAll_open (f : S65536x128.Idx → Elt F .f32) : (outAll d c s f : sProp 𝕄) ⊢ bigSep (from8 0) fun t => outPts d c s (bk c s t) f := by
  unfold outAll; rw [← from8_zero]
theorem outAll_close (f : S65536x128.Idx → Elt F .f32) :
    iprop(outPts d c s (bk c s ⟨7, by omega⟩) f ∗ bigSep (below8 7) fun t => outPts d c s (bk c s t) f) ⊢ (outAll d c s f : sProp 𝕄) := by
  unfold outAll; rw [← below8_eight, bigSep_below8 7 (by omega)]

/-- Before step `t`. -/
def IL (t : ℕ) (acc : BitVec 32 × BitVec 32 × BitVec 32 × BitVec 32 × BitVec 32) : sProp 𝕄 :=
  iprop(levAts (K (F := F)).L (K (F := F)).lev ∗ ⌜acc = accAt t⌝ ∗ owing d c s O W ∗ inCur d c s fi t ∗ (inFree d c s (sl2 (t + 1)) ∗ inZero d c s (sl2 (t + 1)))
    ∗ outPrev d c s ft fi t ∗ (outFree d c s (sl2 t) ∗ outZero d c s (sl2 t)) ∗ gZero d c s ∗ tabPts d c s ft q
    ∗ (bigSep (from8 (t + 1)) fun u => idxPts d c s fi (bk c s u)) ∗ (bigSep (below8 t) fun u => idxPts d c s fi (bk c s u))
    ∗ (bigSep (from8 t) fun u => outPts d c s (bk c s u) fo) ∗ (bigSep (below8 (t - 1)) fun u => outPts d c s (bk c s u) (G ft fi)))

theorem slice_eq {κ : Kind} {sp : Space} {s' : Shape} {e : EltTy} (m : Memref sig κ sp s' e) {off off' size : Fin s'.rank → ℕ} (h : off = off')
    (h1 : ∀ a, off a + size a ≤ s'.size a) (h2 : ∀ a, off' a + size a ≤ s'.size a) :
    m.slice (Rect.unit (s := s') off size h1) (fun _ => rfl) = m.slice (Rect.unit (s := s') off' size h2) (fun _ => rfl) := by subst h; rfl

theorem idx_of (β : Fin 256) {off : Fin 2 → ℕ} (h : off = ![0, 256 * β.val]) (h1 : ∀ a, off a + S1x256.size a ≤ S1x65536.size a) :
    iV.slice (Rect.unit (s := S1x65536) off S1x256.size h1) (fun _ => rfl) = idxB β := by subst h; rfl
theorem out_of (β : Fin 256) {off : Fin 2 → ℕ} (h : off = ![256 * β.val, 0]) (h1 : ∀ a, off a + S256x128.size a ≤ S65536x128.size a) :
    oV.slice (Rect.unit (s := S65536x128) off S256x128.size h1) (fun _ => rfl) = outB β := by subst h; rfl
theorem in_of (p : Fin 2) {off : Fin 3 → ℕ} (h : off = ![p.val, 0, 0]) (h1 : ∀ a, off a + S1x1x256.size a ≤ S2x1x256.size a) :
    (sV.slice (Rect.unit (s := S2x1x256) off S1x1x256.size h1) (fun _ => rfl)).squeeze S1x256 squeezes_S1x1x256_S1x256 = inSl p := by subst h; rfl
theorem off_of (p : Fin 2) {off : Fin 3 → ℕ} (h : off = ![p.val, 0, 0]) (h1 : ∀ a, off a + S1x1x256.size a ≤ S2x1x256.size a) :
    ((((sV.slice (Rect.unit (s := S2x1x256) off S1x1x256.size h1) (fun _ => rfl)).squeeze S1x256 squeezes_S1x1x256_S1x256).slice
      (Rect.unit (s := S1x256) ![0, 0] S1x256.size inb_S1x256_S1x256_0_0) (fun _ => rfl)).squeeze S256 squeezes_S1x256_S256) = offSl p := by subst h; rfl
theorem row_of (p : Fin 2) {off : Fin 3 → ℕ} (h : off = ![p.val, 0, 0]) (h1 : ∀ a, off a + S1x256x128.size a ≤ S2x256x128.size a) :
    (rV.slice (Rect.unit (s := S2x256x128) off S1x256x128.size h1) (fun _ => rfl)).squeeze S256x128 squeezes_S1x256x128_S256x128 = outSl p := by subst h; rfl
theorem isem_of (p : Fin 2) {off : Fin 1 → ℕ} (h : off = ![p.val]) (h1 : ∀ a, off a + S1.size a ≤ S2.size a) :
    ((cc3_scoped1.slice (Rect.unit (s := S2) off S1.size h1)).squeeze S_ squeezes_S1_S_).sem = inSem p := by subst h; rfl
theorem osem_of (p : Fin 2) {off : Fin 1 → ℕ} (h : off = ![p.val]) (h1 : ∀ a, off a + S1.size a ≤ S2.size a) :
    ((cc3_scoped3.slice (Rect.unit (s := S2) off S1.size h1)).squeeze S_ squeezes_S1_S_).sem = outSem p := by subst h; rfl

/-- The copy of the next block, under its condition: not at the last step. -/
theorem wp_load_if (t : Fin 8) {P : Prop} [Decidable P] (hP : P ↔ t.val < 7)
    {src : P → Memref sig (thr d c s).2.kind .hbm S1x256 .i32} {dst : P → Memref sig (thr d c s).2.kind .vmem S1x256 .i32} {sem : P → DmaSem sig}
    (hs : ∀ h, src h = idxB (bk c s ⟨t.val + 1, Nat.succ_lt_succ (hP.1 h)⟩)) (hd : ∀ h, dst h = inSl (sl2 (t.val + 1))) (hm : ∀ h, sem h = inSem (sl2 (t.val + 1)))
    {hsrc : ∀ h, (src h).view.WordExact} {hdst : ∀ h, (dst h).view.WordExact}
    {hsem : ∀ h, DmaTarget.Typed (nD := nD) .hbm (.dma (sem h)) (DmaTarget.here (p := (thr d c s).2) (dst h))}
    {α : Type} {k : Prog (TpuEff nD τ sig (Elt F) Λ₀ (thr d c s).2) α} {Q : α → sProp 𝕄} :
    iprop((bigSep (from8 (t.val + 1)) fun u => idxPts d c s fi (bk c s u)) ∗ (inFree d c s (sl2 (t.val + 1)) ∗ inZero d c s (sl2 (t.val + 1))))
      ⊢ iprop((iprop((bigSep (from8 (t.val + 1 + 1)) fun u => idxPts d c s fi (bk c s u)) ∗ inCur d c s fi (t.val + 1)) -∗ wp frame (wpE (defs₀ (F := F)) 𝒱₀ (thr d c s) none) Set.univ k Q)
        -∗ wp frame (wpE (defs₀ (F := F)) 𝒱₀ (thr d c s) none) Set.univ
            (if h : P then .op (.enqueueDma (src h) (.here (dst h)) (.dma (sem h)) (hsrc h) (hdst h) (hsem h)) (fun _ => k) else k) Q) := by
  by_cases h : P
  · rw [dif_pos h, bigSep_from8 (t.val + 1) (Nat.succ_lt_succ (hP.1 h))]
    unfold inCur
    rw [dif_pos (Nat.succ_lt_succ (hP.1 h))]
    iintro ⟨⟨Hi, Hr⟩, Hf, Hz⟩ Hk
    iapply (wp_load d c s fi (sl2 (t.val + 1)) (bk c s ⟨t.val + 1, Nat.succ_lt_succ (hP.1 h)⟩) (hs h) (hd h) (hm h)) $$ [Hi Hf Hz]
    · isplitl [Hi]; · iexact Hi
      isplitl [Hf]; · iexact Hf
      iexact Hz
    iintro Hfl
    iapply Hk
    isplitl [Hr]; · iexact Hr
    iexact Hfl
  · have ht : t.val = 7 := by have h1 := t.isLt; have h2 : ¬ t.val < 7 := fun h3 => h (hP.2 h3); omega
    rw [dif_neg h]
    unfold inCur
    rw [dif_neg (show ¬ (t.val + 1 < 8) by omega), ht, from8_eight, from8_nine]
    iintro ⟨Hr, Hf⟩ Hk
    iapply Hk
    isplitl [Hr]; · iexact Hr
    iexact Hf

/-- The wait for the previous block's copy out, under its condition: not at the first step. -/
theorem wp_stored_if (t : Fin 8) {P : Prop} [Decidable P] (hP : P ↔ 0 < t.val)
    {srcw : P → Memref sig (thr d c s).2.kind .vmem S256x128 .f32} {dstw : P → Memref sig (thr d c s).2.kind .hbm S256x128 .f32} {sem : P → DmaSem sig}
    (hd : ∀ h, dstw h = outB (bk c s ⟨t.val - 1, lt_of_le_of_lt (Nat.sub_le _ _) t.isLt⟩)) (hm : ∀ h, sem h = outSem (sl2 (t.val + 1)))
    {hsrc : ∀ h, (srcw h).view.WordExact} {hdst : ∀ h, (dstw h).view.WordExact}
    {α : Type} {k : Prog (TpuEff nD τ sig (Elt F) Λ₀ (thr d c s).2) α} {Q : α → sProp 𝕄} :
    iprop(outPrev d c s ft fi t.val ∗ (bigSep (below8 (t.val - 1)) fun u => outPts d c s (bk c s u) (G ft fi)) ∗ owing d c s O W ∗ Transfers.MayWaits (thr d c s) (default : HIx 2) O)
      ⊢ iprop((iprop((outFree d c s (sl2 (t.val + 1)) ∗ outZero d c s (sl2 (t.val + 1))) ∗ (bigSep (below8 t.val) fun u => outPts d c s (bk c s u) (G ft fi)) ∗ owing d c s O W)
            -∗ wp frame (wpE (defs₀ (F := F)) 𝒱₀ (thr d c s) none) Set.univ k Q)
        -∗ wp frame (wpE (defs₀ (F := F)) 𝒱₀ (thr d c s) none) Set.univ
            (if h : P then .op (.waitDma2 (sem h) (srcw h) (dstw h) (hsrc h) (hdst h)) (fun _ => k) else k) Q) := by
  by_cases h : P
  · rw [dif_pos h]
    obtain ⟨u, hu⟩ : ∃ u, t.val = u + 1 := ⟨t.val - 1, by have := hP.1 h; omega⟩
    have hu8 : u < 8 := by have := t.isLt; omega
    have hb := bigSep_below8 (F := F) u hu8 (fun u => outPts d c s (bk c s u) (G ft fi))
    unfold outPrev owing
    rw [dif_pos ⟨hP.1 h, lt_of_le_of_lt (Nat.sub_le _ _) t.isLt⟩]
    have hsub : t.val - 1 = u := by omega
    simp only [hsub] at hd ⊢
    iintro ⟨Hfl, Hb, ⟨%W₀, %hW₀, HO⟩, Hmw⟩ Hk
    iapply (wp_stored d c s ft fi (sl2 (t.val + 1)) (bk c s ⟨u, hu8⟩) (hd h) (hm h)) $$ [Hfl HO Hmw]
    · isplitl [Hfl]; · iexact Hfl
      isplitl [HO]; · iexact HO
      iexact Hmw
    iintro ⟨Ho, Hf, Hz, HO⟩
    iapply Hk
    isplitl [Hf Hz]; · isplitl [Hf]; · iexact Hf
                       iexact Hz
    isplitl [Hb Ho]
    · rw [hu, hb]
      isplitl [Ho]; · iexact Ho
      iexact Hb
    iexists _; isplitr
    swap; · iexact HO
    ipureintro; exact rec_insert _ hW₀
  · have ht : t.val = 0 := by have h2 : ¬ 0 < t.val := fun h3 => h (hP.2 h3); omega
    rw [dif_neg h]
    unfold outPrev
    rw [dif_neg (show ¬ (0 < t.val ∧ t.val - 1 < 8) by omega), ht]
    iintro ⟨Hf, Hb, HO, -⟩ Hk
    iapply Hk
    isplitl [Hf]; · iexact Hf
    isplitl [Hb]; · iexact Hb
    iexact HO

set_option maxRecDepth 16384 in
set_option maxHeartbeats 2000000 in
theorem tile_run (hfi : ∀ k : Fin 65536, (fi (ix2 (0 : Fin 1) k)).toNat < 507904) (hO : ∀ g, O g none = 0) :
    iprop(levAts (K (F := F)).L (K (F := F)).lev ∗ idxAll d c s fi ∗ tabPts d c s ft q ∗ outAll d c s fo
        ∗ (inFree d c s 0 ∗ inFree d c s 1) ∗ (outFree d c s 0 ∗ outFree d c s 1)
        ∗ (inZero d c s 0 ∗ inZero d c s 1) ∗ (outZero d c s 0 ∗ outZero d c s 1) ∗ gZero d c s ∗ owes (thr d c s) O W)
      ⊢ wp frame (wpE (defs₀ (F := F)) 𝒱₀ (thr d c s) none) Set.univ
          (cc3_sc_kernel (co c s) tV (Memref.isWhole_whole _) iV (Memref.isWhole_whole _) oV (Memref.isWhole_whole _)
            sV (Memref.isWhole_whole _) cc3_scoped1 rV (Memref.isWhole_whole _) cc3_scoped3 cc3_scoped4)
          fun _ => iprop(idxAll d c s fi ∗ tabPts d c s ft q ∗ outAll d c s (G ft fi)
            ∗ (inFree d c s 0 ∗ inFree d c s 1) ∗ (outFree d c s 0 ∗ outFree d c s 1)
            ∗ (inZero d c s 0 ∗ inZero d c s 1) ∗ (outZero d c s 0 ∗ outZero d c s 1) ∗ gZero d c s ∗ owing d c s O W) := by
  simp only [cc3_sc_kernel_eq_skeleton]; unfold cc3_sc_kernel_skel
  simp only [k3_part3_eq_skeleton]; unfold k3_part3_skel
  simp only [k3_part4_eq_skeleton]; unfold k3_part4_skel
  simp only [Prog.lift, Prog.bind_op, Prog.bind_ret, Prog.pure_eq_ret, Prog.bind_assoc]
  iintro ⟨#Hlv, Hi, Ht, Ho, ⟨Ha0, Ha1⟩, ⟨Hb0, Hb1⟩, ⟨Hz0, Hz1⟩, ⟨Hy0, Hy1⟩, Hg, HO⟩
  ihave Hi := (idxAll_open d c s fi) $$ Hi
  icases Hi with ⟨Hi0, Hi⟩
  ihave Ho := (outAll_open d c s fo) $$ Ho
  iapply (wp_load d c s fi (sl2 0) (bk c s ⟨0, by omega⟩) (idx_of _ (off2_eq c s) _) (in_of _ off1_eq _) (isem_of _ off3_eq _)) $$ [Hi0 Ha0 Hz0]
  · isplitl [Hi0]; · iexact Hi0
    isplitl [Ha0]; · iexact Ha0
    iexact Hz0
  iintro Hfl
  simp only [Prog.bind, Prog.pure_eq_ret, Prog.bind_ret]
  try dsimp only
  sl_for (IL (F := F) d c s ft fi q fo O W) $$ [HO Hfl Hi Ht Ho Ha1 Hb0 Hb1 Hz1 Hy0 Hy1 Hg]
  · intro k acc
    sl_respell [k3_t1_body]
    unfold IL
    iintro ⟨#Hlv, %hacc, HO, Hcur, Hn, Hprev, ⟨Hfb, Hfy⟩, Hg, Ht, Hi, Hid, Ho, Hod⟩
    subst hacc
    have hk8 : k.val < 8 := trips ▸ k.isLt
    rw [wp_bind]
    simp only [k3_part1_eq_skeleton]; unfold k3_part1_skel
    simp only [Prog.lift, Prog.bind_op, Prog.bind_ret, Prog.pure_eq_ret, Prog.bind_assoc]
    iapply (wp_assume 𝒱₀ (thr d c s) none Set.univ (chk3_ok ⟨k.val, hk8⟩))
    iapply (wp_assume 𝒱₀ (thr d c s) none Set.univ (chk2_ok ⟨k.val, hk8⟩))
    iapply (wp_assume 𝒱₀ (thr d c s) none Set.univ (chk1_ok c s k))
    iapply (wp_load_if d c s fi ⟨k.val, hk8⟩ (cond1_iff c s k) (fun h => idx_of _ (off5_eq c s ⟨k.val, hk8⟩ ((cond1_iff c s k).1 h)) _)
      (fun h => in_of _ (off4_eq ⟨k.val, hk8⟩ ((cond1_iff c s k).1 h)) _) (fun h => isem_of _ (off6_eq ⟨k.val, hk8⟩ ((cond1_iff c s k).1 h)) _)) $$ [Hi Hn]
    · isplitl [Hi]; · iexact Hi
      iexact Hn
    iintro ⟨Hi, Hnext⟩
    rw [wp_ret]; imodintro
    rw [wp_bind]
    simp only [k3_part2_eq_skeleton]; unfold k3_part2_skel
    simp only [Prog.lift, Prog.bind_op, Prog.bind_ret, Prog.pure_eq_ret, Prog.bind_assoc, ite_self]
    rw [dif_pos (cond2_true c s k)]
    ihave Hcur := (inCur_lt d c s fi hk8) $$ Hcur
    ihave HO := (owing_elim d c s O W) $$ HO
    icases HO with ⟨%W₀, %hW₀, HO⟩
    ihave Hmw := (show levAts (K (F := F)).L (K (F := F)).lev ⊢ Transfers.MayWaits (thr d c s) (default : HIx 2) O from
      (K (F := F)).mayWaits_none (thr := thr d c s) hO) $$ Hlv
    iapply (wp_loaded d c s fi (sl2 k.val) (bk c s ⟨k.val, hk8⟩) (in_of _ (off7_eq ⟨k.val, hk8⟩) _) (isem_of _ (off9_eq ⟨k.val, hk8⟩) _)) $$ [Hcur HO]
    · isplitl [Hcur]; · iexact Hcur
      isplitl [HO]; · iexact HO
      iexact Hmw
    iintro ⟨Hin, Hi0, Hiz, HO⟩
    try dsimp only
    iapply (wp_gather d c s ft fi hfi q (sl2 k.val) (bk c s ⟨k.val, hk8⟩) rfl (row_of _ (off10_eq ⟨k.val, hk8⟩) _)
      (off_of _ (off11_eq ⟨k.val, hk8⟩) _) rfl) $$ [Ht Hfb Hin Hg]
    · isplitl [Ht]; · iexact Ht
      isplitl [Hfb]; · iexact Hfb
      isplitl [Hin]; · iexact Hin
      iexact Hg
    iintro Hgf
    simp only [Prog.lift, Prog.bind_op, Prog.bind_ret, Prog.pure_eq_ret, Prog.bind_assoc, ite_self]
    iapply (wp_gathered d c s ft fi q (sl2 k.val) (bk c s ⟨k.val, hk8⟩)
      (row_of _ (off10_eq ⟨k.val, hk8⟩) _) rfl) $$ [Hgf HO Hmw]
    · isplitl [Hgf]; · iexact Hgf
      isplitl [HO]; · iexact HO
      iexact Hmw
    iintro ⟨Hfull, Ht, Hin, Hg, HO⟩
    simp only [Prog.bind, Prog.pure_eq_ret, Prog.bind_ret]
    rw [wp_ret]; imodintro
    rw [dif_pos (cond5_true c s k)]
    ihave Ho := (Entails.of_eq (bigSep_from8 (F := F) k.val hk8 (fun u => outPts d c s (bk c s u) fo))) $$ Ho
    icases Ho with ⟨Ho0, Ho⟩
    iapply (wp_store d c s ft fi (sl2 k.val) (bk c s ⟨k.val, hk8⟩) (row_of _ (off12_eq ⟨k.val, hk8⟩) _)
      (out_of _ (off13_eq c s ⟨k.val, hk8⟩) _) (osem_of _ (off14_eq ⟨k.val, hk8⟩) _)) $$ [Hfull Ho0 Hfy]
    · isplitl [Hfull]; · iexact Hfull
      isplitl [Ho0]; · iexact Ho0
      iexact Hfy
    iintro Hnow
    ihave HO := (owing_intro d c s O W (rec_insert (SemLoc.dma gSem) (rec_insert (SemLoc.dma (inSem (sl2 k.val))) hW₀))) $$ HO
    try dsimp only
    iapply (wp_stored_if d c s ft fi O W ⟨k.val, hk8⟩ (cond7_iff c s k) (fun h => out_of _ (off16_eq c s ⟨k.val, hk8⟩ ((cond7_iff c s k).1 h)) _)
      (fun h => osem_of _ (off17_eq ⟨k.val, hk8⟩ ((cond7_iff c s k).1 h)) _)) $$ [Hprev Hod HO]
    · isplitl [Hprev]; · iexact Hprev
      isplitl [Hod]; · iexact Hod
      isplitl [HO]; · iexact HO
      iexact Hmw
    iintro ⟨Hfree, Hod, HO⟩
    rw [wp_ret]; imodintro
    ihave Hid := (Entails.of_eq (bigSep_below8 (F := F) k.val hk8 (fun u => idxPts d c s fi (bk c s u))).symm) $$ [Hi0 Hid]
    · isplitl [Hi0]; · iexact Hi0
      iexact Hid
    ihave Hnow := (outPrev_succ d c s ft fi hk8) $$ Hnow
    isplitr; · iexact Hlv
    isplitr
    · ipureintro
      clear * - c s k
      revert c s k
      decide +kernel
    isplitl [HO]; · iexact HO
    isplitl [Hnext]; · iexact Hnext
    isplitl [Hin Hiz]
    · iapply (in_again d c s k.val) $$ [Hin Hiz]
      isplitl [Hin]; · iexact Hin
      iexact Hiz
    isplitl [Hnow]; · iexact Hnow
    isplitl [Hfree]; · iexact Hfree
    isplitl [Hg]; · iexact Hg
    isplitl [Ht]; · iexact Ht
    isplitl [Hi]; · iexact Hi
    isplitl [Hid]; · iexact Hid
    isplitl [Ho]; · iexact Ho
    iexact Hod
  · ihave HO := (owing_intro d c s O W (fun p hp => Or.inl hp)) $$ HO
    ihave Hcur := (inCur_start d c s fi) $$ Hfl
    ihave Hprev := (outPrev_start d c s ft fi) $$ [Hb1 Hy1]
    · isplitl [Hb1]; · iexact Hb1
      iexact Hy1
    unfold IL
    isplitr; · iexact Hlv
    isplitr; · ipureintro; rfl
    isplitl [HO]; · iexact HO
    isplitl [Hcur]; · iexact Hcur
    isplitl [Ha1 Hz1]
    · isplitl [Ha1]; · iexact Ha1
      iexact Hz1
    isplitl [Hprev]; · iexact Hprev
    isplitl [Hb0 Hy0]
    · isplitl [Hb0]; · iexact Hb0
      iexact Hy0
    isplitl [Hg]; · iexact Hg
    isplitl [Ht]; · iexact Ht
    isplitl [Hi]; · iexact Hi
    isplitr; · iapply (below8_nothing (F := F) _ _) $$ Hlv
    isplitl [Ho]; · iexact Ho
    iapply (below8_nothing (F := F) _ _) $$ Hlv
  · rw [show Scf.trips k3_t1_loop.lb k3_t1_loop.ub k3_t1_loop.st = 8 from trips]
    unfold IL
    iintro %acc ⟨#Hlv, %hacc, HO, Hcur, ⟨Hin, Hiz⟩, Hprev, ⟨Hfb, Hfy⟩, Hg, Ht, -, Hid, -, Hod⟩
    subst hacc
    unfold tile_run.sl.prog.cont_1
    simp only [Prog.lift, Prog.bind_op, Prog.bind_ret, Prog.pure_eq_ret, Prog.bind_assoc]
    iapply (wp_assume 𝒱₀ (thr d c s) none Set.univ (chk5_ok c s))
    iapply (wp_assume 𝒱₀ (thr d c s) none Set.univ chk4_ok)
    ihave HO := (owing_elim d c s O W) $$ HO
    icases HO with ⟨%W₀, %hW₀, HO⟩
    ihave Hprev := (outPrev_end d c s ft fi) $$ Hprev
    ihave Hcur := (inCur_ge d c s fi (by omega)) $$ Hcur
    icases Hcur with ⟨Hia, Hiza⟩
    ihave Hmw := (show levAts (K (F := F)).L (K (F := F)).lev ⊢ Transfers.MayWaits (thr d c s) (default : HIx 2) O from
      (K (F := F)).mayWaits_none (thr := thr d c s) hO) $$ Hlv
    iapply (wp_stored d c s ft fi (sl2 9) (bk c s ⟨7, by omega⟩) (out_of _ (off19_eq c s) _) (osem_of _ off20_eq _)) $$ [Hprev HO]
    · isplitl [Hprev]; · iexact Hprev
      isplitl [HO]; · iexact HO
      iexact Hmw
    iintro ⟨Hlast, Hfa, Hza, HO⟩
    ihave HO := (owing_intro d c s O W (rec_insert (SemLoc.dma (outSem (sl2 9))) hW₀)) $$ HO
    rw [wp_ret]; imodintro
    isplitl [Hid]; · iapply (idxAll_close d c s fi) $$ Hid
    isplitl [Ht]; · iexact Ht
    isplitl [Hod Hlast]
    · iapply (outAll_close d c s (G ft fi)) $$ [Hod Hlast]
      isplitl [Hlast]; · iexact Hlast
      iexact Hod
    isplitl [Hin Hia]
    · isplitl [Hia]; · iexact Hia
      iexact Hin
    isplitl [Hfb Hfa]
    · isplitl [Hfb]; · iexact Hfb
      iexact Hfa
    isplitl [Hiz Hiza]
    · isplitl [Hiza]; · iexact Hiza
      iexact Hiz
    isplitl [Hfy Hza]
    · isplitl [Hfy]; · iexact Hfy
      iexact Hza
    isplitl [Hg]; · iexact Hg
    iexact HO

end Run

end Cert.Proof.Tile3

end
-- ==== Proof.Task3.lean ====
/-
  A tile of the second gather as the launch hands it its work: the buffers and semaphores that are the tile's own, in the
  pieces the run uses; and the arrays, cut in the tiles' blocks and joined again.
-/
module

public import proofs.«01_k».proof.Proof.Tile3
public import Idealize.ShloMosaic.Lib.ShareLeaves
public import Idealize.ShloMosaic.Lib.Exec.Geometry

@[expose] public section

noncomputable section

namespace Cert.Proof.Tile3

open Cert.KernelIdeal Cert.KernelIdeal.Gen
open Idealize.ShloMosaic Cert.Proof
open Idealize.ShloMosaic.SparseCore (S V T)
open Idealize.ShloMosaic.SparseCore.Cfg (HIx Pay ownCells ownRefs ownSems0 ownBufs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.ShareLeaves

variable {F : FTy → Type} [FloatOps F]

local notation "𝕄" => MT nD τ sig (HIx 2) (Elt F) ℕ UU ℕ

/-! ## The tile's staging slots and semaphores -/

/-- The elements of index slot `p`. -/
def inSet (p : Fin 2) : Finset S2x1x256.Idx := (inSl p).view.set
theorem mem_inSet (p : Fin 2) (x : S2x1x256.Idx) : x ∈ inSet p ↔ (x 0).val = p.val := by
  have e : inSet p = (Rect.unit (s := S2x1x256) ![p.val, 0, 0] S1x1x256.size (inb_sl1 p)).set := by
    unfold inSet inSl
    refine (Memref.set_view_squeeze _ _).trans ?_
    exact View.set_slice_whole (cc3_scoped0 : Ref sig .scVector) _
  rw [e, Rect.mem_set_unit]
  constructor
  · intro h
    have h0 : p.val ≤ (x 0).val ∧ (x 0).val < p.val + 1 := h 0
    omega
  · intro h a
    match a with
    | ⟨0, _⟩ => exact (show p.val ≤ (x 0).val ∧ (x 0).val < p.val + 1 by omega)
    | ⟨1, _⟩ => exact ⟨Nat.zero_le _, (x 1).isLt.trans_eq (Nat.zero_add _).symm⟩
    | ⟨2, _⟩ => exact ⟨Nat.zero_le _, (x 2).isLt.trans_eq (Nat.zero_add _).symm⟩
theorem inSet_disjoint : ∀ p ∈ (Finset.univ : Finset (Fin 2)), ∀ p' ∈ (Finset.univ : Finset (Fin 2)), p ≠ p' → Disjoint (inSet p) (inSet p') := by
  intro p _ p' _ h
  refine Finset.disjoint_left.mpr fun x hx hx' => h (Fin.ext ?_)
  exact ((mem_inSet p x).mp hx).symm.trans ((mem_inSet p' x).mp hx')
theorem inSet_cover : (Finset.univ : Finset (Fin 2)).biUnion inSet = Finset.univ :=
  Finset.eq_univ_of_forall fun x => Finset.mem_biUnion.mpr ⟨x 0, Finset.mem_univ _, (mem_inSet (x 0) x).mpr rfl⟩

/-- The elements of row slot `p`. -/
def outSet (p : Fin 2) : Finset S2x256x128.Idx := (outSl p).view.set
theorem mem_outSet (p : Fin 2) (x : S2x256x128.Idx) : x ∈ outSet p ↔ (x 0).val = p.val := by
  have e : outSet p = (Rect.unit (s := S2x256x128) ![p.val, 0, 0] S1x256x128.size (inb_sl2 p)).set := by
    unfold outSet outSl
    refine (Memref.set_view_squeeze _ _).trans ?_
    exact View.set_slice_whole (cc3_scoped2 : Ref sig .scVector) _
  rw [e, Rect.mem_set_unit]
  constructor
  · intro h
    have h0 : p.val ≤ (x 0).val ∧ (x 0).val < p.val + 1 := h 0
    omega
  · intro h a
    match a with
    | ⟨0, _⟩ => exact (show p.val ≤ (x 0).val ∧ (x 0).val < p.val + 1 by omega)
    | ⟨1, _⟩ => exact ⟨Nat.zero_le _, (x 1).isLt.trans_eq (Nat.zero_add _).symm⟩
    | ⟨2, _⟩ => exact ⟨Nat.zero_le _, (x 2).isLt.trans_eq (Nat.zero_add _).symm⟩
theorem outSet_disjoint : ∀ p ∈ (Finset.univ : Finset (Fin 2)), ∀ p' ∈ (Finset.univ : Finset (Fin 2)), p ≠ p' → Disjoint (outSet p) (outSet p') := by
  intro p _ p' _ h
  refine Finset.disjoint_left.mpr fun x hx hx' => h (Fin.ext ?_)
  exact ((mem_outSet p x).mp hx).symm.trans ((mem_outSet p' x).mp hx')
theorem outSet_cover : (Finset.univ : Finset (Fin 2)).biUnion outSet = Finset.univ :=
  Finset.eq_univ_of_forall fun x => Finset.mem_biUnion.mpr ⟨x 0, Finset.mem_univ _, (mem_outSet (x 0) x).mpr rfl⟩

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

section Own
variable (d : Dev nD) (c : Fin 2) (s : Fin 16)

/-- The index staging buffer, whole at some contents, is its two slots; -/
theorem in_slots : (iprop(∃ f, (thr d c s).loc cc3_scoped0 ↦{fullShare} f) : sProp 𝕄) ⊢ iprop(inFree d c s 0 ∗ inFree d c s 1) := by
  iintro ⟨%f, H⟩
  ihave H' := (show ((thr d c s).loc cc3_scoped0 ↦{fullShare} f : sProp 𝕄)
      ⊢ bigSep Finset.univ fun p : Fin 2 => ((thr d c s).loc cc3_scoped0 ↦[inSet p]{fullShare} f) from by
    rw [← pointsTo_biUnion Finset.univ (ℓ := (thr d c s).loc cc3_scoped0) inSet inSet_disjoint, inSet_cover]) $$ H
  ihave H2 := (Entails.of_eq (bigSep_two (F := F) fun p : Fin 2 => iprop((thr d c s).loc cc3_scoped0 ↦[inSet p]{fullShare} f))) $$ H'
  icases H2 with ⟨H0, H1⟩
  unfold inFree
  isplitl [H0]
  · iexists f; iexact H0
  · iexists f; iexact H1
/-- and the slots make the buffer again. -/
theorem in_whole : (iprop(inFree d c s 0 ∗ inFree d c s 1) : sProp 𝕄) ⊢ iprop(∃ f, (thr d c s).loc cc3_scoped0 ↦{fullShare} f) := by
  unfold inFree
  iintro ⟨⟨%f0, H0⟩, ⟨%f1, H1⟩⟩
  ihave H := (show (iprop(((thr d c s).loc cc3_scoped0 ↦[inSet 0]{fullShare} f0) ∗ ((thr d c s).loc cc3_scoped0 ↦[inSet 1]{fullShare} f1)) : sProp 𝕄)
      ⊢ (bigSep Finset.univ fun p : Fin 2 => ((thr d c s).loc cc3_scoped0 ↦[inSet p]{fullShare} (if p = 0 then f0 else f1) : sProp 𝕄)) from by
    rw [bigSep_two]; exact BI.Entails.refl _) $$ [H0 H1]
  · isplitl [H0]
    · iexact H0
    · iexact H1
  ihave H' := (pointsTo_biUnion_join (ℓ := (thr d c s).loc cc3_scoped0) (q := fullShare) (Val := Elt F) Finset.univ inSet
    (fun p => if p = 0 then f0 else f1) f0 inSet_disjoint) $$ H
  icases H' with ⟨%g, -, Hg⟩
  rw [inSet_cover]
  iexists g; iexact Hg

/-- The row staging buffer, whole at some contents, is its two slots; -/
theorem out_slots : (iprop(∃ f, (thr d c s).loc cc3_scoped2 ↦{fullShare} f) : sProp 𝕄) ⊢ iprop(outFree d c s 0 ∗ outFree d c s 1) := by
  iintro ⟨%f, H⟩
  ihave H' := (show ((thr d c s).loc cc3_scoped2 ↦{fullShare} f : sProp 𝕄)
      ⊢ bigSep Finset.univ fun p : Fin 2 => ((thr d c s).loc cc3_scoped2 ↦[outSet p]{fullShare} f) from by
    rw [← pointsTo_biUnion Finset.univ (ℓ := (thr d c s).loc cc3_scoped2) outSet outSet_disjoint, outSet_cover]) $$ H
  ihave H2 := (Entails.of_eq (bigSep_two (F := F) fun p : Fin 2 => iprop((thr d c s).loc cc3_scoped2 ↦[outSet p]{fullShare} f))) $$ H'
  icases H2 with ⟨H0, H1⟩
  unfold outFree
  isplitl [H0]
  · iexists f; iexact H0
  · iexists f; iexact H1
/-- and the slots make the buffer again. -/
theorem out_whole : (iprop(outFree d c s 0 ∗ outFree d c s 1) : sProp 𝕄) ⊢ iprop(∃ f, (thr d c s).loc cc3_scoped2 ↦{fullShare} f) := by
  unfold outFree
  iintro ⟨⟨%f0, H0⟩, ⟨%f1, H1⟩⟩
  ihave H := (show (iprop(((thr d c s).loc cc3_scoped2 ↦[outSet 0]{fullShare} f0) ∗ ((thr d c s).loc cc3_scoped2 ↦[outSet 1]{fullShare} f1)) : sProp 𝕄)
      ⊢ (bigSep Finset.univ fun p : Fin 2 => ((thr d c s).loc cc3_scoped2 ↦[outSet p]{fullShare} (if p = 0 then f0 else f1) : sProp 𝕄)) from by
    rw [bigSep_two]; exact BI.Entails.refl _) $$ [H0 H1]
  · isplitl [H0]
    · iexact H0
    · iexact H1
  ihave H' := (pointsTo_biUnion_join (ℓ := (thr d c s).loc cc3_scoped2) (q := fullShare) (Val := Elt F) Finset.univ outSet
    (fun p => if p = 0 then f0 else f1) f0 outSet_disjoint) $$ H
  icases H' with ⟨%g, -, Hg⟩
  rw [outSet_cover]
  iexists g; iexact Hg

/-- The semaphores of the tile that the kernel waits on, by number. -/
def semOf : Fin 5 → DmaSem sig := ![inSem 0, inSem 1, outSem 0, outSem 1, gSem]
theorem semOf_inj : Function.Injective semOf := by decide
theorem semOf_scoped (k : Fin 5) : (SemLoc.dma (semOf k) : SemLoc sig).isScoped .scVector = true := by revert k; decide
/-- Their cells on this tile. -/
def cellOf (k : Fin 5) : GSem nD τ sig := (thr d c s, SemLoc.dma (semOf k))
theorem cellOf_inj : Function.Injective (cellOf d c s) := fun a b h =>
  semOf_inj (by have h2 := congrArg Prod.snd h; simpa [cellOf] using h2)
def cells5 : Finset (GSem nD τ sig) := Finset.univ.map ⟨cellOf d c s, cellOf_inj d c s⟩
theorem cells5_sub : cells5 d c s ⊆ ownCells (thr d c s) := by
  intro g hg
  obtain ⟨k, -, rfl⟩ := Finset.mem_map.mp hg
  exact mem_ownCells.mpr ⟨rfl, semOf_scoped k⟩

theorem ownSems : (ownSems0 (thr d c s) : sProp 𝕄)
    = iprop((inZero d c s 0 ∗ inZero d c s 1 ∗ outZero d c s 0 ∗ outZero d c s 1 ∗ gZero d c s)
        ∗ bigSep (ownCells (thr d c s) \ cells5 d c s) fun g => semVal g 0) := by
  unfold SparseCore.Cfg.ownSems0
  rw [SparseCore.bigSep_sdiff_split' (cells5_sub d c s)]
  congr 1
  unfold cells5
  rw [bigSep_map, show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  rfl

theorem ownStages : (ownBufs (thr d c s) : sProp 𝕄)
    = iprop((∃ f, (thr d c s).loc cc3_scoped0 ↦{fullShare} f) ∗ (∃ f, (thr d c s).loc cc3_scoped2 ↦{fullShare} f)
        ∗ bigSep (((ownRefs (τ := τ) (thr d c s).2).erase ((thr d c s).2.devRef cc3_scoped0)).erase ((thr d c s).2.devRef cc3_scoped2))
            fun b => iprop(∃ f, ((d, b) : Loc nD τ sig) ↦{fullShare} f)) := by
  unfold SparseCore.Cfg.ownBufs
  refine (SparseCore.bigSep_erase' (SparseCore.Cfg.mem_ownRefs_of_owner (p := (thr d c s).2) (b := (thr d c s).2.devRef cc3_scoped0) rfl)).trans ?_
  rw [SparseCore.bigSep_erase' (Finset.mem_erase.mpr ⟨fun e => absurd (Proc.devRef_injective _ e) (show (cc3_scoped2 : Ref sig .scVector) ≠ cc3_scoped0 by decide),
    SparseCore.Cfg.mem_ownRefs_of_owner (p := (thr d c s).2) (b := (thr d c s).2.devRef cc3_scoped2) rfl⟩)]

variable (ft : S507904x128.Idx → Elt F .f32) (fi : S1x65536.Idx → Elt F .i32)
variable (q : PosShare TreeShare) (fo : S65536x128.Idx → Elt F .f32)

/-- A tile's task, from what the launch hands it to what it hands back. -/
theorem task (hfi : ∀ k : Fin 65536, (fi (ix2 (0 : Fin 1) k)).toNat < 507904) (O : CellTallies nD τ sig (HIx 2)) (W : Waits sig (HIx 2)) (hO : ∀ g, O g none = 0) :
    iprop(levAts (K (F := F)).L (K (F := F)).lev ∗ emp ∗ (idxAll d c s fi ∗ tabPts d c s ft q ∗ outAll d c s fo)
        ∗ scopedBufs (thr d c s) ∗ scopedSems0 (thr d c s) ∗ owes (thr d c s) O W)
      ⊢ wp frame (wpE (defs₀ (F := F)) 𝒱₀ (thr d c s) none) Set.univ
          (cc3_sc_kernel (co c s) tV (Memref.isWhole_whole _) iV (Memref.isWhole_whole _) oV (Memref.isWhole_whole _)
            sV (Memref.isWhole_whole _) cc3_scoped1 rV (Memref.isWhole_whole _) cc3_scoped3 cc3_scoped4)
          fun _ => iprop((idxAll d c s fi ∗ tabPts d c s ft q ∗ outAll d c s (G ft fi))
            ∗ scopedBufs (thr d c s) ∗ scopedSems0 (thr d c s)
            ∗ ∃ W', ⌜∀ p ∈ W', p ∈ W ∨ p.2 = none ∨ p.2 = some (1 : Fin 2)⌝ ∗ owes (thr d c s) O W') := by
  rw [(K (F := F)).scopedBufs_V facts d _ _, SparseCore.Cfg.scopedSems0_V (Val := Elt F) d _ _, ownSems, ownStages]
  iintro ⟨#Hlv, -, ⟨Hi, Ht, Ho⟩, ⟨Hs, Hr, Hbufs⟩, ⟨⟨Hz0, Hz1, Hy0, Hy1, Hg⟩, Hsems⟩, HO⟩
  ihave Hs := (in_slots d c s) $$ Hs
  ihave Hr := (out_slots d c s) $$ Hr
  iapply (wp_mono frame (wpE (defs₀ (F := F)) 𝒱₀ (thr d c s) none) Set.univ (Q := fun _ => iprop((idxAll d c s fi ∗ tabPts d c s ft q ∗ outAll d c s (G ft fi)
            ∗ (inFree d c s 0 ∗ inFree d c s 1) ∗ (outFree d c s 0 ∗ outFree d c s 1)
            ∗ (inZero d c s 0 ∗ inZero d c s 1) ∗ (outZero d c s 0 ∗ outZero d c s 1) ∗ gZero d c s ∗ owing d c s O W)
            ∗ (bigSep (((ownRefs (τ := τ) (thr d c s).2).erase ((thr d c s).2.devRef cc3_scoped0)).erase ((thr d c s).2.devRef cc3_scoped2))
            fun b => iprop(∃ f, ((d, b) : Loc nD τ sig) ↦{fullShare} f)) ∗ bigSep (ownCells (thr d c s) \ cells5 d c s) fun g => semVal g 0)) (fun _ => ?_))
  · iintro ⟨⟨Hi, Ht, Ho, Hs, Hr, ⟨Hz0, Hz1⟩, ⟨Hy0, Hy1⟩, Hg, HO⟩, Hbufs, Hsems⟩
    ihave Hs := (in_whole d c s) $$ Hs
    ihave Hr := (out_whole d c s) $$ Hr
    ihave HO := (owing_elim d c s O W) $$ HO
    icases HO with ⟨%W', %hW, HO⟩
    isplitl [Hi Ht Ho]
    · isplitl [Hi]; · iexact Hi
      isplitl [Ht]; · iexact Ht
      iexact Ho
    isplitl [Hs Hr Hbufs]
    · isplitl [Hs]; · iexact Hs
      isplitl [Hr]; · iexact Hr
      iexact Hbufs
    isplitl [Hz0 Hz1 Hy0 Hy1 Hg Hsems]
    · isplitr [Hsems]
      · isplitl [Hz0]; · iexact Hz0
        isplitl [Hz1]; · iexact Hz1
        isplitl [Hy0]; · iexact Hy0
        isplitl [Hy1]; · iexact Hy1
        iexact Hg
      · iexact Hsems
    iexists W'
    isplitr
    · ipureintro; exact fun p hp => (hW p hp).imp_right Or.inl
    iexact HO
  iapply (wp_frame_r frame (wpE (defs₀ (F := F)) 𝒱₀ (thr d c s) none) Set.univ)
  isplitr [Hbufs Hsems]
  · iapply (tile_run d c s ft fi q fo O W hfi hO)
    isplitr; · iexact Hlv
    isplitl [Hi]; · iexact Hi
    isplitl [Ht]; · iexact Ht
    isplitl [Ho]; · iexact Ho
    isplitl [Hs]; · iexact Hs
    isplitl [Hr]; · iexact Hr
    isplitl [Hz0 Hz1]
    · isplitl [Hz0] <;> iassumption
    isplitl [Hy0 Hy1]
    · isplitl [Hy0] <;> iassumption
    isplitl [Hg]; · iexact Hg
    iexact HO
  · isplitl [Hbufs]; · iexact Hbufs
    iexact Hsems

end Own

/-! ## The arrays in blocks -/

/-- A tile's step, numbered through all tiles. -/
abbrev Blk : Type := Fin 2 × Fin 16 × Fin 8
def bkOf (x : Blk) : Fin 256 := bk x.1 x.2.1 x.2.2
theorem bkOf_bij : Function.Bijective bkOf := by decide +kernel

/-- The elements of block `β` of the index array. -/
def idxSet (β : Fin 256) : Finset S1x65536.Idx := (idxB β).view.set
theorem mem_idxSet (β : Fin 256) (x : S1x65536.Idx) : x ∈ idxSet β ↔ (x 1).val / 256 = β.val := by
  have e : idxSet β = (Rect.unit (s := S1x65536) ![0, 256 * β.val] S1x256.size (inb_idx β)).set :=
    View.set_slice_whole (main_v12_scv : Ref sig .scVector) _
  rw [e, Rect.mem_set_unit]
  constructor
  · intro h
    have h0 : 256 * β.val ≤ (x 1).val ∧ (x 1).val < 256 * β.val + 256 := h 1
    omega
  · intro h a
    match a with
    | ⟨0, _⟩ => exact ⟨Nat.zero_le _, (x 0).isLt.trans_eq (Nat.zero_add _).symm⟩
    | ⟨1, _⟩ => exact (show 256 * β.val ≤ (x 1).val ∧ (x 1).val < 256 * β.val + 256 by omega)
theorem idxSet_disjoint : ∀ x ∈ (Finset.univ : Finset Blk), ∀ y ∈ (Finset.univ : Finset Blk), x ≠ y → Disjoint (idxSet (bkOf x)) (idxSet (bkOf y)) := by
  intro x _ y _ h
  refine Finset.disjoint_left.mpr fun z hz hz' => h (bkOf_bij.1 (Fin.ext ?_))
  exact ((mem_idxSet _ z).mp hz).symm.trans ((mem_idxSet _ z).mp hz')
theorem idxSet_cover : (Finset.univ : Finset Blk).biUnion (fun x => idxSet (bkOf x)) = Finset.univ := by
  refine Finset.eq_univ_of_forall fun z => ?_
  have hz : (z 1).val < 65536 := (z 1).isLt
  obtain ⟨x, hx⟩ := bkOf_bij.2 ⟨(z 1).val / 256, by omega⟩
  exact Finset.mem_biUnion.mpr ⟨x, Finset.mem_univ _, (mem_idxSet _ z).mpr (by rw [hx])⟩

/-- The elements of block `β` of the result. -/
def rowSet (β : Fin 256) : Finset S65536x128.Idx := (outB β).view.set
theorem mem_rowSet (β : Fin 256) (x : S65536x128.Idx) : x ∈ rowSet β ↔ (x 0).val / 256 = β.val := by
  have e : rowSet β = (Rect.unit (s := S65536x128) ![256 * β.val, 0] S256x128.size (inb_out β)).set :=
    View.set_slice_whole (main_v13_scv : Ref sig .scVector) _
  rw [e, Rect.mem_set_unit]
  constructor
  · intro h
    have h0 : 256 * β.val ≤ (x 0).val ∧ (x 0).val < 256 * β.val + 256 := h 0
    omega
  · intro h a
    match a with
    | ⟨0, _⟩ => exact (show 256 * β.val ≤ (x 0).val ∧ (x 0).val < 256 * β.val + 256 by omega)
    | ⟨1, _⟩ => exact ⟨Nat.zero_le _, (x 1).isLt.trans_eq (Nat.zero_add _).symm⟩
theorem rowSet_disjoint : ∀ x ∈ (Finset.univ : Finset Blk), ∀ y ∈ (Finset.univ : Finset Blk), x ≠ y → Disjoint (rowSet (bkOf x)) (rowSet (bkOf y)) := by
  intro x _ y _ h
  refine Finset.disjoint_left.mpr fun z hz hz' => h (bkOf_bij.1 (Fin.ext ?_))
  exact ((mem_rowSet _ z).mp hz).symm.trans ((mem_rowSet _ z).mp hz')
theorem rowSet_cover : (Finset.univ : Finset Blk).biUnion (fun x => rowSet (bkOf x)) = Finset.univ := by
  refine Finset.eq_univ_of_forall fun z => ?_
  have hz : (z 0).val < 65536 := (z 0).isLt
  obtain ⟨x, hx⟩ := bkOf_bij.2 ⟨(z 0).val / 256, by omega⟩
  exact Finset.mem_biUnion.mpr ⟨x, Finset.mem_univ _, (mem_rowSet _ z).mpr (by rw [hx])⟩

theorem bigSep_blk (Φ : Blk → sProp 𝕄) :
    bigSep Finset.univ Φ = bigSep Finset.univ fun c : Fin 2 => bigSep Finset.univ fun s : Fin 16 => bigSep Finset.univ fun t : Fin 8 => Φ (c, s, t) := by
  rw [BI.bigSep_univ_prod]
  refine bigSep_congr fun c _ => ?_
  rw [BI.bigSep_univ_prod]

/-- The index array is the tiles' blocks of it; -/
theorem idx_blocks (d : Dev nD) (fi : S1x65536.Idx → Elt F .i32) :
    ((SparseCore.T d : Thread nD τ).loc main_v12 ↦{fullShare} fi : sProp 𝕄)
      = bigSep Finset.univ fun c : Fin 2 => bigSep Finset.univ fun s : Fin 16 => idxAll d c s fi := by
  have h := pointsTo_biUnion (Val := Elt F) (Ix := HIx 2) (Name := ℕ) (U := UU) (Lvl := ℕ) (q := fullShare) (f := fi) Finset.univ (ℓ := (SparseCore.T d : Thread nD τ).loc main_v12) (fun x : Blk => idxSet (bkOf x)) idxSet_disjoint
  rw [idxSet_cover] at h
  rw [h, bigSep_blk]
  rfl
/-- so is the result array. -/
theorem out_blocks (d : Dev nD) (f : S65536x128.Idx → Elt F .f32) :
    ((SparseCore.T d : Thread nD τ).loc main_v13 ↦{fullShare} f : sProp 𝕄)
      = bigSep Finset.univ fun c : Fin 2 => bigSep Finset.univ fun s : Fin 16 => outAll d c s f := by
  have h := pointsTo_biUnion (Val := Elt F) (Ix := HIx 2) (Name := ℕ) (U := UU) (Lvl := ℕ) (q := fullShare) (f := f) Finset.univ (ℓ := (SparseCore.T d : Thread nD τ).loc main_v13) (fun x : Blk => rowSet (bkOf x)) rowSet_disjoint
  rw [rowSet_cover] at h
  rw [h, bigSep_blk]
  rfl

/-- A tile's share of the table. -/
def shr (c : Fin 2) (s : Fin 16) : PosShare TreeShare := leaf 5 fullShare ((finProdFinEquiv (c, s)).cast (by decide))

def tabSet : Finset S507904x128.Idx := tabV.view.set
theorem tab_set : tabSet = Finset.univ := by
  have e : tabSet = _ := View.set_slice_whole (main_v5_scv : Ref sig .scVector) _
  rw [e]
  refine Finset.eq_univ_of_forall fun x => Rect.mem_set_unit.mpr fun a => ?_
  match a with
  | ⟨0, _⟩ => exact ⟨Nat.zero_le _, (x 0).isLt.trans_eq (Nat.zero_add _).symm⟩
  | ⟨1, _⟩ => exact ⟨Nat.zero_le _, (x 1).isLt.trans_eq (Nat.zero_add _).symm⟩

/-- The table is its thirty-two shares. -/
theorem tab_shares (d : Dev nD) (ft : S507904x128.Idx → Elt F .f32) :
    ((SparseCore.T d : Thread nD τ).loc main_v5 ↦{fullShare} ft : sProp 𝕄)
      = bigSep Finset.univ fun c : Fin 2 => bigSep Finset.univ fun s : Fin 16 => tabPts d c s ft (shr c s) := by
  refine (pointsTo_leaves (ℓ := (SparseCore.T d : Thread nD τ).loc main_v5) Finset.univ ft 5 fullShare).trans ?_
  rw [bigSep_univ_equiv ((finProdFinEquiv (m := 2) (n := 16)).trans (finCongr (by decide)))
      (fun i : Fin (2 ^ 5) => ((SparseCore.T d : Thread nD τ).loc main_v5 ↦[Finset.univ]{leaf 5 fullShare i} ft : sProp 𝕄)), BI.bigSep_univ_prod]
  refine bigSep_congr fun c _ => bigSep_congr fun s _ => ?_
  have e : tabPts d c s ft (shr c s) = ((SparseCore.T d : Thread nD τ).loc main_v5 ↦[tabSet]{shr c s} ft : sProp 𝕄) := rfl
  rw [e, tab_set]
  rfl

end Cert.Proof.Tile3

end
-- ==== Proof.Calls.lean ====
/-
  The launch: what the two gathers' calls hand their tiles and get back, and the calls as steps on the buffers held.
-/
module

public import proofs.«01_k».proof.Proof.Steps
public import proofs.«01_k».proof.Proof.Task1
public import proofs.«01_k».proof.Proof.Task3

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.StableHlo
open Idealize.ShloMosaic.Pipeline (RDat WinFacts₀)

variable {F : FTy → Type} [FloatOps F]

local notation "𝕄" => MT nD τ sig (HIx 2) (Elt F) ℕ UU ℕ

/-! ## The values the calls pass on, from the launch's memory -/

section Values
variable (m : (ℓ : Loc nD τ sig) → Buf (Elt F) ℓ) (d : Dev nD)

abbrev V₀ : Valuation τ sig (Elt F) := launchContents m d
/-- The relation table the first region makes; -/
def wt : S1000x128.Idx → Elt F .f32 := k0_pay1 (V₀ m d (rf main_arg2)) (V₀ m d (rf main_arg1))
/-- the relations asked for, the positive triples' and the negative ones'; -/
def i1 : S1x32768.Idx → Elt F .i32 := idxRel (V₀ m d (rf main_arg4)) (V₀ m d (rf main_arg7))
/-- the entity table, transposed; -/
def te : S64x1000000.Idx → Elt F .f32 := transpose S64x1000000 [1, 0] (V₀ m d (rf main_arg0)) (by decide)
/-- the entities asked for: heads and tails, positive and negative; -/
def ient : S65536.Idx → Elt F .i32 := idxEnt (V₀ m d (rf main_arg3)) (V₀ m d (rf main_arg5)) (V₀ m d (rf main_arg6)) (V₀ m d (rf main_arg8))
/-- their rows in the paired table; -/
def i3 : S1x65536.Idx → Elt F .i32 := idxRow (ient m d)
/-- and which half of the row each is. -/
def sel : S8x65536.Idx → Elt F .f32 := selRow (ient m d)
/-- The relation rows gathered. -/
def relRows : S32768x128.Idx → Elt F .f32 := Tile1.G (wt m d) (i1 m d)

/-- Rows gathered from a paired table of the entities. -/
def Rows (f : S65536x128.Idx → Elt F .f32) : Prop := ∀ x, ∃ ft, Good (te m d) ft ∧ f x = Tile3.G ft (i3 m d) x

/-- The indices asked for are in their tables. -/
def PreOK : Prop := ∀ d, (∀ k : Fin 32768, (i1 m d (ix2 (0 : Fin 1) k)).toNat < 1000) ∧ ∀ k : Fin 65536, (i3 m d (ix2 (0 : Fin 1) k)).toNat < 507904
end Values

/-! ## What the handshakes carry -/

abbrev c0 (c : Fin ((K (F := F)).nCore 0)) : Fin 2 := c
abbrev s0 (s : Fin ((K (F := F)).nSub 0)) : Fin 16 := s
abbrev c1 (c : Fin ((K (F := F)).nCore 1)) : Fin 2 := c
abbrev s1 (s : Fin ((K (F := F)).nSub 1)) : Fin 16 := s

section Carried
variable (m : (ℓ : Loc nD τ sig) → Buf (Elt F) ℓ) (d : Dev nD) (c : Fin 2) (s : Fin 16)

def go0 : sProp 𝕄 := iprop(Tile1.idxAll d c s (i1 m d) ∗ Tile1.tabPts d c s (wt m d) (Tile1.shr c s) ∗ ∃ fo, Tile1.outAll d c s fo)
def td0 : sProp 𝕄 := iprop(Tile1.idxAll d c s (i1 m d) ∗ Tile1.tabPts d c s (wt m d) (Tile1.shr c s) ∗ Tile1.outAll d c s (relRows m d))
def go1 : sProp 𝕄 := iprop(Tile3.idxAll d c s (i3 m d) ∗ (∃ ft, ⌜Good (te m d) ft⌝ ∗ Tile3.tabPts d c s ft (Tile3.shr c s)) ∗ ∃ fo, Tile3.outAll d c s fo)
def td1 : sProp 𝕄 := iprop(Tile3.idxAll d c s (i3 m d) ∗ ∃ ft, ⌜Good (te m d) ft⌝ ∗ Tile3.outAll d c s (Tile3.G ft (i3 m d)))

theorem pts_storable (ℓ : Loc nD τ sig) (I : Finset (Idx ℓ)) (q : PosShare TreeShare) (f : Buf (Elt F) ℓ) : BI.Storable (upEmb : UEmb _ 𝕄) (iprop(ℓ ↦[I]{q} f)) := inferInstance
instance (f : S1x32768.Idx → Elt F .i32) : BI.Storable (upEmb : UEmb _ 𝕄) (Tile1.idxAll d c s f) := by
  haveI : ∀ t : Fin 8, BI.Storable (upEmb : UEmb _ 𝕄) (Tile1.idxPts d c s f (Tile1.bk c s t)) := fun t =>
    pts_storable ((Tile1.idxB (Tile1.bk c s t)).view.loc (Tile1.thr d c s)) _ _ f
  unfold Tile1.idxAll; infer_instance
instance (f : S1000x128.Idx → Elt F .f32) (q : PosShare TreeShare) : BI.Storable (upEmb : UEmb _ 𝕄) (Tile1.tabPts d c s f q) :=
  pts_storable (Tile1.tabV.view.loc (Tile1.thr d c s)) _ _ f
instance (f : S32768x128.Idx → Elt F .f32) : BI.Storable (upEmb : UEmb _ 𝕄) (Tile1.outAll d c s f) := by
  haveI : ∀ t : Fin 8, BI.Storable (upEmb : UEmb _ 𝕄) (Tile1.outPts d c s (Tile1.bk c s t) f) := fun t =>
    pts_storable ((Tile1.outB (Tile1.bk c s t)).view.loc (Tile1.thr d c s)) _ _ f
  unfold Tile1.outAll; infer_instance
instance (f : S1x65536.Idx → Elt F .i32) : BI.Storable (upEmb : UEmb _ 𝕄) (Tile3.idxAll d c s f) := by
  haveI : ∀ t : Fin 8, BI.Storable (upEmb : UEmb _ 𝕄) (Tile3.idxPts d c s f (Tile3.bk c s t)) := fun t =>
    pts_storable ((Tile3.idxB (Tile3.bk c s t)).view.loc (Tile3.thr d c s)) _ _ f
  unfold Tile3.idxAll; infer_instance
instance (f : S507904x128.Idx → Elt F .f32) (q : PosShare TreeShare) : BI.Storable (upEmb : UEmb _ 𝕄) (Tile3.tabPts d c s f q) :=
  pts_storable (Tile3.tabV.view.loc (Tile3.thr d c s)) _ _ f
instance (f : S65536x128.Idx → Elt F .f32) : BI.Storable (upEmb : UEmb _ 𝕄) (Tile3.outAll d c s f) := by
  haveI : ∀ t : Fin 8, BI.Storable (upEmb : UEmb _ 𝕄) (Tile3.outPts d c s (Tile3.bk c s t) f) := fun t =>
    pts_storable ((Tile3.outB (Tile3.bk c s t)).view.loc (Tile3.thr d c s)) _ _ f
  unfold Tile3.outAll; infer_instance
instance : BI.Storable (upEmb : UEmb _ 𝕄) (go0 m d c s) := by unfold go0; infer_instance
instance : BI.Storable (upEmb : UEmb _ 𝕄) (td0 m d c s) := by unfold td0; infer_instance
instance : BI.Storable (upEmb : UEmb _ 𝕄) (go1 m d c s) := by unfold go1; infer_instance
instance : BI.Storable (upEmb : UEmb _ 𝕄) (td1 m d c s) := by unfold td1; infer_instance
end Carried

variable (m : (ℓ : Loc nD τ sig) → Buf (Elt F) ℓ)

def P : (K (F := F)).Pay (nD := nD) (Val := Elt F) (Name := ℕ) (U := UU) where
  st := fun q d => match q with
    | 0 => fun c => bigSep Finset.univ fun s : Fin 16 => go0 m d (c0 (F := F) c) s
    | 1 => fun c => bigSep Finset.univ fun s : Fin 16 => go1 m d (c1 (F := F) c) s
  dn := fun q d => match q with
    | 0 => fun c => bigSep Finset.univ fun s : Fin 16 => td0 m d (c0 (F := F) c) s
    | 1 => fun c => bigSep Finset.univ fun s : Fin 16 => td1 m d (c1 (F := F) c) s
  go := fun q d => match q with
    | 0 => fun c s => go0 m d (c0 (F := F) c) (s0 (F := F) s)
    | 1 => fun c s => go1 m d (c1 (F := F) c) (s1 (F := F) s)
  td := fun q d => match q with
    | 0 => fun c s => td0 m d (c0 (F := F) c) (s0 (F := F) s)
    | 1 => fun c s => td1 m d (c1 (F := F) c) (s1 (F := F) s)
  x := fun _ _ => iprop(emp)

instance P_storable : (P m).IsStorable where
  st q d c := match q with
    | 0 => (inferInstance : BI.Storable (upEmb : UEmb _ 𝕄) (bigSep Finset.univ fun s : Fin 16 => go0 m d (c0 (F := F) c) s))
    | 1 => (inferInstance : BI.Storable (upEmb : UEmb _ 𝕄) (bigSep Finset.univ fun s : Fin 16 => go1 m d (c1 (F := F) c) s))
  dn q d c := match q with
    | 0 => (inferInstance : BI.Storable (upEmb : UEmb _ 𝕄) (bigSep Finset.univ fun s : Fin 16 => td0 m d (c0 (F := F) c) s))
    | 1 => (inferInstance : BI.Storable (upEmb : UEmb _ 𝕄) (bigSep Finset.univ fun s : Fin 16 => td1 m d (c1 (F := F) c) s))
  go q d c s := match q with
    | 0 => (inferInstance : BI.Storable (upEmb : UEmb _ 𝕄) (go0 m d (c0 (F := F) c) (s0 (F := F) s)))
    | 1 => (inferInstance : BI.Storable (upEmb : UEmb _ 𝕄) (go1 m d (c1 (F := F) c) (s1 (F := F) s)))
  td q d c s := match q with
    | 0 => (inferInstance : BI.Storable (upEmb : UEmb _ 𝕄) (td0 m d (c0 (F := F) c) (s0 (F := F) s)))
    | 1 => (inferInstance : BI.Storable (upEmb : UEmb _ 𝕄) (td1 m d (c1 (F := F) c) (s1 (F := F) s)))

theorem vecSplit0 : (K (F := F)).VecSplit' (P m) 0 := by
  intro d c
  show (bigSep Finset.univ fun s : Fin 16 => go0 m d (c0 (F := F) c) s) ⊢ |={Set.univ}=> iprop((bigSep Finset.univ fun s : Fin 16 => go0 m d (c0 (F := F) c) s)
    ∗ ((bigSep Finset.univ fun s : Fin 16 => td0 m d (c0 (F := F) c) s) -∗ bigSep Finset.univ fun s : Fin 16 => td0 m d (c0 (F := F) c) s))
  iintro H; imodintro
  isplitl [H]; · iexact H
  iintro H; iexact H
theorem vecSplit1 : (K (F := F)).VecSplit' (P m) 1 := by
  intro d c
  show (bigSep Finset.univ fun s : Fin 16 => go1 m d (c1 (F := F) c) s) ⊢ |={Set.univ}=> iprop((bigSep Finset.univ fun s : Fin 16 => go1 m d (c1 (F := F) c) s)
    ∗ ((bigSep Finset.univ fun s : Fin 16 => td1 m d (c1 (F := F) c) s) -∗ bigSep Finset.univ fun s : Fin 16 => td1 m d (c1 (F := F) c) s))
  iintro H; imodintro
  isplitl [H]; · iexact H
  iintro H; iexact H

/-! ## The tiles' obligations -/

section Tasks
variable (d : Dev nD) (c : Fin 2) (s : Fin 16) (O : CellTallies nD τ sig (HIx 2)) (W : Waits sig (HIx 2))

theorem task0 (hpre : PreOK m) (hO : ∀ g, O g none = 0) :
    iprop(levAts (K (F := F)).L (K (F := F)).lev ∗ emp ∗ go0 m d c s ∗ scopedBufs (Tile1.thr d c s) ∗ scopedSems0 (Tile1.thr d c s) ∗ owes (Tile1.thr d c s) O W)
      ⊢ wp frame (wpE (defs₀ (F := F)) 𝒱₀ (Tile1.thr d c s) none) Set.univ
          (cc1_sc_kernel (Tile1.co c s) Tile1.tV (Memref.isWhole_whole _) Tile1.iV (Memref.isWhole_whole _) Tile1.oV (Memref.isWhole_whole _)
            Tile1.sV (Memref.isWhole_whole _) cc1_scoped1 Tile1.rV (Memref.isWhole_whole _) cc1_scoped3 cc1_scoped4)
          fun _ => iprop(td0 m d c s ∗ scopedBufs (Tile1.thr d c s) ∗ scopedSems0 (Tile1.thr d c s)
            ∗ ∃ W', ⌜∀ p ∈ W', p ∈ W ∨ p.2 = none ∨ p.2 = some (0 : Fin 2)⌝ ∗ owes (Tile1.thr d c s) O W') := by
  unfold go0
  iintro ⟨#Hlv, He, ⟨Hi, Ht, ⟨%fo, Ho⟩⟩, Hb, Hs, HO⟩
  iapply (Tile1.task d c s (wt m d) (i1 m d) (Tile1.shr c s) fo (hpre d).1 O W hO)
  isplitr; · iexact Hlv
  isplitl [He]; · iexact He
  isplitl [Hi Ht Ho]
  · isplitl [Hi]; · iexact Hi
    isplitl [Ht]; · iexact Ht
    iexact Ho
  isplitl [Hb]; · iexact Hb
  isplitl [Hs]; · iexact Hs
  iexact HO

theorem task1 (hpre : PreOK m) (hO : ∀ g, O g none = 0) :
    iprop(levAts (K (F := F)).L (K (F := F)).lev ∗ emp ∗ go1 m d c s ∗ scopedBufs (Tile3.thr d c s) ∗ scopedSems0 (Tile3.thr d c s) ∗ owes (Tile3.thr d c s) O W)
      ⊢ wp frame (wpE (defs₀ (F := F)) 𝒱₀ (Tile3.thr d c s) none) Set.univ
          (cc3_sc_kernel (Tile3.co c s) Tile3.tV (Memref.isWhole_whole _) Tile3.iV (Memref.isWhole_whole _) Tile3.oV (Memref.isWhole_whole _)
            Tile3.sV (Memref.isWhole_whole _) cc3_scoped1 Tile3.rV (Memref.isWhole_whole _) cc3_scoped3 cc3_scoped4)
          fun _ => iprop(td1 m d c s ∗ scopedBufs (Tile3.thr d c s) ∗ scopedSems0 (Tile3.thr d c s)
            ∗ ∃ W', ⌜∀ p ∈ W', p ∈ W ∨ p.2 = none ∨ p.2 = some (1 : Fin 2)⌝ ∗ owes (Tile3.thr d c s) O W') := by
  unfold go1
  iintro ⟨#Hlv, He, ⟨Hi, ⟨%ft, %hft, Ht⟩, ⟨%fo, Ho⟩⟩, Hb, Hs, HO⟩
  iapply (wp_mono frame (wpE (defs₀ (F := F)) 𝒱₀ (Tile3.thr d c s) none) Set.univ (fun _ => ?_)) $$ [Hlv He Hi Ht Ho Hb Hs HO]
  rotate_left
  · iapply (Tile3.task d c s ft (i3 m d) (Tile3.shr c s) fo (hpre d).2 O W hO)
    isplitr; · iexact Hlv
    isplitl [He]; · iexact He
    isplitl [Hi Ht Ho]
    · isplitl [Hi]; · iexact Hi
      isplitl [Ht]; · iexact Ht
      iexact Ho
    isplitl [Hb]; · iexact Hb
    isplitl [Hs]; · iexact Hs
    iexact HO
  unfold td1
  iintro ⟨⟨Hi, -, Ho⟩, Hb, Hs, HO⟩
  isplitl [Hi Ho]
  · isplitl [Hi]; · iexact Hi
    iexists ft; isplitr; · ipureintro; exact hft
    iexact Ho
  isplitl [Hb]; · iexact Hb
  isplitl [Hs]; · iexact Hs
  iexact HO
end Tasks

theorem defs₀_vector0 (c : Fin τ.nSC) (s : Fin τ.nSub) :
    defs₀ (F := F) (.scVector c s) 1 ()
      = SparseCore.onTile hcore1 hsub1 (fun c s => cc1_sc_kernel (Tile1.co c s) Tile1.tV (Memref.isWhole_whole _) Tile1.iV (Memref.isWhole_whole _)
          Tile1.oV (Memref.isWhole_whole _) Tile1.sV (Memref.isWhole_whole _) cc1_scoped1 Tile1.rV (Memref.isWhole_whole _) cc1_scoped3 cc1_scoped4) ⟨⟩ c s := rfl
theorem defs₀_vector1 (c : Fin τ.nSC) (s : Fin τ.nSub) :
    defs₀ (F := F) (.scVector c s) 3 ()
      = SparseCore.onTile hcore3 hsub3 (fun c s => cc3_sc_kernel (Tile3.co c s) Tile3.tV (Memref.isWhole_whole _) Tile3.iV (Memref.isWhole_whole _)
          Tile3.oV (Memref.isWhole_whole _) Tile3.sV (Memref.isWhole_whole _) cc3_scoped1 Tile3.rV (Memref.isWhole_whole _) cc3_scoped3 cc3_scoped4) ⟨⟩ c s := rfl

set_option maxRecDepth 16384 in
theorem tileObl0 (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact task0 m d c i O W hpre hO

set_option maxRecDepth 16384 in
theorem tileObl1 (hpre : PreOK m) : (K (F := F)).TileObl (D (F := F)) 𝒱 (P m) v₀ 1 := by
  intro d c i O W hO _ _
  simp only [show (P m).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact task1 m d c i O W hpre hO

end Cert.Proof

end
-- ==== Proof.Runs.lean ====
/-
  The two SparseCore calls as steps on the unscoped buffers held together: a call hands the tiles their blocks of the
  index and result arrays and their shares of the table, and takes the result's blocks back, gathered.
-/
module

public import proofs.«01_k».proof.Proof.Calls
public import proofs.«01_k».proof.Proof.Steps

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.StableHlo
open Idealize.ShloMosaic.Pipeline (RDat WinFacts₀)

variable {F : FTy → Type} [FloatOps F]

local notation "𝕄" => MT nD τ sig (HIx 2) (Elt F) ℕ UU ℕ

section Runs
variable (m : (ℓ : Loc nD τ sig) → Buf (Elt F) ℓ) (d : Dev nD) (V : Valuation τ sig (Elt F))

theorem swap3 (A B C : sProp 𝕄) : (iprop(A ∗ B ∗ C) : sProp 𝕄) ⊢ iprop(B ∗ A ∗ C) := by
  iintro ⟨Ha, Hb, Hc⟩
  isplitl [Hb]; · iexact Hb
  isplitl [Ha]; · iexact Ha
  iexact Hc

theorem over2 {n : ℕ} (h : n = 2) (f : Fin n → Fin 2) (hf : ∀ c, (f c).val = c.val) (Φ : Fin 2 → sProp 𝕄) :
    (bigSep Finset.univ fun c : Fin n => Φ (f c)) = bigSep Finset.univ Φ := by
  subst h
  exact bigSep_congr fun c _ => congrArg Φ (Fin.ext (hf c))

/-- A call, from what its payloads are dealt from to what they are collected into. -/
theorem run_step (κ : GSem nD τ sig → ℕ) (q : Fin 2) (X Y : sProp 𝕄)
    (hX : X ⊢ bigSep Finset.univ fun c : Fin ((K (F := F)).nCore q) => (P m).st q d c)
    (hY : (bigSep Finset.univ fun c : Fin ((K (F := F)).nCore q) => (P m).dn q d c) ⊢ Y) :
    (iprop((K (F := F)).ctx EH (P m) κ ∗ (K (F := F)).tcSt EH d q.val ∗ X) : sProp 𝕄)
      ⊢ wp frame (wpE ((K (F := F)).defs (D (F := F))) 𝒱 (T d) none) Set.univ ((K (F := F)).run d q) fun _ =>
          iprop((K (F := F)).tcSt EH d (q.val + 1) ∗ Y) := by
  iintro ⟨#Hctx, Hst, HX⟩
  iapply ((K (F := F)).wp_run (D (F := F)) 𝒱 (EH := EH) (P := P m) κ d q)
  isplitr; · iexact Hctx
  isplitl [Hst]; · iexact Hst
  isplitl [HX]
  · iapply hX; iexact HX
  iintro ⟨Hst, Hdn⟩
  ihave HY := hY $$ Hdn
  isplitl [Hst]; · iexact Hst
  iexact HY

/-! ## The first call -/

theorem go0_of (c : Fin 2) (s : Fin 16) (fo : S32768x128.Idx → Elt F .f32) :
    (iprop(Tile1.idxAll d c s (i1 m d) ∗ Tile1.tabPts d c s (wt m d) (Tile1.shr c s) ∗ Tile1.outAll d c s fo) : sProp 𝕄) ⊢ go0 m d c s := by
  unfold go0
  iintro ⟨Hi, Ht, Ho⟩
  isplitl [Hi]; · iexact Hi
  isplitl [Ht]; · iexact Ht
  iexists fo; iexact Ho
theorem st0_in (fo : S32768x128.Idx → Elt F .f32) :
    (iprop(((T d : Thread nD τ).loc main_v0 ↦{fullShare} wt m d) ∗ ((T d : Thread nD τ).loc main_v2 ↦{fullShare} i1 m d)
        ∗ ((T d : Thread nD τ).loc main_v3 ↦{fullShare} fo)) : sProp 𝕄)
      ⊢ bigSep Finset.univ fun c : Fin 2 => bigSep Finset.univ fun s : Fin 16 => go0 m d c s := by
  rw [Tile1.tab_shares, Tile1.idx_blocks, Tile1.out_blocks]
  refine BI.Entails.trans (Q := iprop(bigSep Finset.univ fun c : Fin 2 => bigSep Finset.univ fun s : Fin 16 =>
    iprop(Tile1.idxAll d c s (i1 m d) ∗ Tile1.tabPts d c s (wt m d) (Tile1.shr c s) ∗ Tile1.outAll d c s fo))) ?_ ?_
  · simp only [bigSep_sep']
    exact swap3 _ _ _
  · exact bigSep_mono fun c _ => bigSep_mono fun s _ => go0_of m d c s fo
theorem n0 : (K (F := F)).nCore 0 = 2 := rfl
theorem st0_c (c : Fin ((K (F := F)).nCore 0)) : (P m).st 0 d c = bigSep Finset.univ fun s : Fin 16 => go0 m d (c0 (F := F) c) s := by rfl
theorem dn0_c (c : Fin ((K (F := F)).nCore 0)) : (P m).dn 0 d c = bigSep Finset.univ fun s : Fin 16 => td0 m d (c0 (F := F) c) s := by rfl
theorem st0_eq : (bigSep Finset.univ fun c : Fin ((K (F := F)).nCore 0) => (P m).st 0 d c)
    = bigSep Finset.univ fun c : Fin 2 => bigSep Finset.univ fun s : Fin 16 => go0 m d c s :=
  (bigSep_congr fun c _ => st0_c m d c).trans (over2 (F := F) n0 (c0 (F := F)) (fun _ => rfl) fun c => bigSep Finset.univ fun s : Fin 16 => go0 m d c s)
theorem dn0_eq : (bigSep Finset.univ fun c : Fin ((K (F := F)).nCore 0) => (P m).dn 0 d c)
    = bigSep Finset.univ fun c : Fin 2 => bigSep Finset.univ fun s : Fin 16 => td0 m d c s :=
  (bigSep_congr fun c _ => dn0_c m d c).trans (over2 (F := F) n0 (c0 (F := F)) (fun _ => rfl) fun c => bigSep Finset.univ fun s : Fin 16 => td0 m d c s)
theorem dn0_out :
    (bigSep Finset.univ fun c : Fin 2 => bigSep Finset.univ fun s : Fin 16 => td0 m d c s)
      ⊢ (iprop(((T d : Thread nD τ).loc main_v0 ↦{fullShare} wt m d) ∗ ((T d : Thread nD τ).loc main_v2 ↦{fullShare} i1 m d)
        ∗ ((T d : Thread nD τ).loc main_v3 ↦{fullShare} relRows m d)) : sProp 𝕄) := by
  rw [Tile1.tab_shares, Tile1.idx_blocks, Tile1.out_blocks]
  unfold td0
  simp only [bigSep_sep']
  iintro ⟨Hi, Ht, Ho⟩
  isplitl [Ht]; · iexact Ht
  isplitl [Hi]; · iexact Hi
  iexact Ho

/-- The relation rows' call. -/
theorem run0 (κ : GSem nD τ sig → ℕ) (h0 : V (rf main_v0) = wt m d) (h2 : V (rf main_v2) = i1 m d) :
    (iprop((K (F := F)).ctx EH (P m) κ ∗ (K (F := F)).tcSt EH d 0 ∗ held (T d) UC V) : sProp 𝕄)
      ⊢ wp frame (wpE ((K (F := F)).defs (D (F := F))) 𝒱 (T d) none) Set.univ ((K (F := F)).run d 0) fun _ =>
          iprop((K (F := F)).tcSt EH d 1 ∗ held (T d) UC (Function.update V (rf main_v3) (relRows m d))) := by
  rw [held_take d V main_v0 (mem_uc _ rfl), held_take d V main_v2 (mem_er (by decide) (mem_uc _ rfl)),
    held_take d V main_v3 (mem_er (by decide) (mem_er (by decide) (mem_uc _ rfl))), h0, h2]
  iintro ⟨#Hctx, Hst, H0, H2, H3, Hrest⟩
  iapply (wp_mono frame (wpE ((K (F := F)).defs (D (F := F))) 𝒱 (T d) none) Set.univ (Q := fun _ => iprop(((K (F := F)).tcSt EH d 1
      ∗ ((T d : Thread nD τ).loc main_v0 ↦{fullShare} wt m d) ∗ ((T d : Thread nD τ).loc main_v2 ↦{fullShare} i1 m d)
        ∗ ((T d : Thread nD τ).loc main_v3 ↦{fullShare} relRows m d))
      ∗ held (T d) (((UC.erase (rf main_v0)).erase (rf main_v2)).erase (rf main_v3)) V)) (fun _ => ?_))
  rotate_left
  · iapply (wp_frame_r frame (wpE ((K (F := F)).defs (D (F := F))) 𝒱 (T d) none) Set.univ)
    isplitr [Hrest]
    · iapply (run_step m d κ 0 iprop(((T d : Thread nD τ).loc main_v0 ↦{fullShare} wt m d) ∗ ((T d : Thread nD τ).loc main_v2 ↦{fullShare} i1 m d)
        ∗ ((T d : Thread nD τ).loc main_v3 ↦{fullShare} V (rf main_v3)))
        iprop(((T d : Thread nD τ).loc main_v0 ↦{fullShare} wt m d) ∗ ((T d : Thread nD τ).loc main_v2 ↦{fullShare} i1 m d)
        ∗ ((T d : Thread nD τ).loc main_v3 ↦{fullShare} relRows m d)) ((st0_in m d (V (rf main_v3))).trans (Entails.of_eq (st0_eq m d).symm)) ((Entails.of_eq (dn0_eq m d)).trans (dn0_out m d)))
      isplitr; · iexact Hctx
      isplitl [Hst]; · iexact Hst
      isplitl [H0]; · iexact H0
      isplitl [H2]; · iexact H2
      iexact H3
    iexact Hrest
  iintro ⟨⟨Hst, H0, H2, H3⟩, Hrest⟩
  isplitl [Hst]; · iexact Hst
  iapply (held_back d _ main_v0 (mem_uc _ rfl) _ ((Function.update_of_ne (rf_ne (by decide)) _ _).trans h0))
  isplitl [H0]; · iexact H0
  iapply (held_back d _ main_v2 (mem_er (by decide) (mem_uc _ rfl)) _ ((Function.update_of_ne (rf_ne (by decide)) _ _).trans h2))
  isplitl [H2]; · iexact H2
  iapply (held_put d V main_v3 (mem_er (by decide) (mem_er (by decide) (mem_uc _ rfl))) _)
  isplitl [H3]; · iexact H3
  iexact Hrest

/-! ## The second call -/

theorem go1_of (c : Fin 2) (s : Fin 16) (ft : S507904x128.Idx → Elt F .f32) (hft : Good (te m d) ft) (fo : S65536x128.Idx → Elt F .f32) :
    (iprop(Tile3.idxAll d c s (i3 m d) ∗ Tile3.tabPts d c s ft (Tile3.shr c s) ∗ Tile3.outAll d c s fo) : sProp 𝕄) ⊢ go1 m d c s := by
  unfold go1
  iintro ⟨Hi, Ht, Ho⟩
  isplitl [Hi]; · iexact Hi
  isplitl [Ht]
  · iexists ft; isplitr; · ipureintro; exact hft
    iexact Ht
  iexists fo; iexact Ho
theorem st1_in (ft : S507904x128.Idx → Elt F .f32) (hft : Good (te m d) ft) (fo : S65536x128.Idx → Elt F .f32) :
    (iprop(((T d : Thread nD τ).loc main_v5 ↦{fullShare} ft) ∗ ((T d : Thread nD τ).loc main_v12 ↦{fullShare} i3 m d)
        ∗ ((T d : Thread nD τ).loc main_v13 ↦{fullShare} fo)) : sProp 𝕄)
      ⊢ bigSep Finset.univ fun c : Fin 2 => bigSep Finset.univ fun s : Fin 16 => go1 m d c s := by
  rw [Tile3.tab_shares, Tile3.idx_blocks, Tile3.out_blocks]
  refine BI.Entails.trans (Q := iprop(bigSep Finset.univ fun c : Fin 2 => bigSep Finset.univ fun s : Fin 16 =>
    iprop(Tile3.idxAll d c s (i3 m d) ∗ Tile3.tabPts d c s ft (Tile3.shr c s) ∗ Tile3.outAll d c s fo))) ?_ ?_
  · simp only [bigSep_sep']
    exact swap3 _ _ _
  · exact bigSep_mono fun c _ => bigSep_mono fun s _ => go1_of m d c s ft hft fo

/-- The block of the result a tile wrote at a step. -/
def part1 (x : Tile3.Blk) (ft : S507904x128.Idx → Elt F .f32) : sProp 𝕄 :=
  iprop(((T d : Thread nD τ).loc main_v13) ↦[Tile3.rowSet (Tile3.bkOf x)]{fullShare} Tile3.G ft (i3 m d))

theorem out_parts (c : Fin 2) (s : Fin 16) (ft : S507904x128.Idx → Elt F .f32) :
    (Tile3.outAll d c s (Tile3.G ft (i3 m d)) : sProp 𝕄) ⊢ bigSep Finset.univ fun t : Fin 8 => part1 m d (c, s, t) ft := Entails.of_eq rfl

instance tableNonempty : Nonempty (S507904x128.Idx → Elt F .f32) := ⟨fun _ => Scalar.ofBits .f32 0⟩

theorem join1 :
    (bigSep Finset.univ fun x : Tile3.Blk => iprop(∃ ft, ⌜Good (te m d) ft⌝ ∗ part1 m d x ft))
      ⊢ (iprop(∃ f, ⌜Rows m d f⌝ ∗ ((T d : Thread nD τ).loc main_v13 ↦{fullShare} f)) : sProp 𝕄) := by
  refine (bigSep_exists_pi Finset.univ (fun (x : Tile3.Blk) ft => iprop(⌜Good (te m d) ft⌝ ∗ part1 m d x ft))).trans ?_
  iintro ⟨%y, H⟩
  ihave H := (bigSep_pure_sep Finset.univ (fun x : Tile3.Blk => Good (te m d) (y x)) (fun x => part1 m d x (y x))) $$ H
  icases H with ⟨%hy, H⟩
  ihave H := (show (bigSep Finset.univ fun x : Tile3.Blk => part1 m d x (y x))
      ⊢ (iprop(∃ g : S65536x128.Idx → Elt F .f32, ⌜∀ t ∈ (Finset.univ : Finset Tile3.Blk), ∀ i ∈ Tile3.rowSet (Tile3.bkOf t), g i = Tile3.G (y t) (i3 m d) i⌝
        ∗ (((T d : Thread nD τ).loc main_v13) ↦[(Finset.univ : Finset Tile3.Blk).biUnion fun x => Tile3.rowSet (Tile3.bkOf x)]{fullShare} g)) : sProp 𝕄) from
    pointsTo_biUnion_join (Val := Elt F) (ℓ := (T d : Thread nD τ).loc main_v13) Finset.univ (fun x : Tile3.Blk => Tile3.rowSet (Tile3.bkOf x))
      (fun x => Tile3.G (y x) (i3 m d)) (Tile3.G (y (0, 0, 0)) (i3 m d)) Tile3.rowSet_disjoint) $$ H
  icases H with ⟨%g, %hg, H⟩
  rw [Tile3.rowSet_cover]
  iexists g
  isplitr
  · ipureintro
    intro i
    obtain ⟨x, hx, hi⟩ := Finset.mem_biUnion.mp (show i ∈ (Finset.univ : Finset Tile3.Blk).biUnion (fun x => Tile3.rowSet (Tile3.bkOf x)) by
      rw [Tile3.rowSet_cover]; exact Finset.mem_univ _)
    exact ⟨y x, hy x hx, hg x hx i hi⟩
  · iexact H

theorem n1 : (K (F := F)).nCore 1 = 2 := rfl
theorem st1_c (c : Fin ((K (F := F)).nCore 1)) : (P m).st 1 d c = bigSep Finset.univ fun s : Fin 16 => go1 m d (c1 (F := F) c) s := by rfl
theorem dn1_c (c : Fin ((K (F := F)).nCore 1)) : (P m).dn 1 d c = bigSep Finset.univ fun s : Fin 16 => td1 m d (c1 (F := F) c) s := by rfl
theorem st1_eq : (bigSep Finset.univ fun c : Fin ((K (F := F)).nCore 1) => (P m).st 1 d c)
    = bigSep Finset.univ fun c : Fin 2 => bigSep Finset.univ fun s : Fin 16 => go1 m d c s :=
  (bigSep_congr fun c _ => st1_c m d c).trans (over2 (F := F) n1 (c1 (F := F)) (fun _ => rfl) fun c => bigSep Finset.univ fun s : Fin 16 => go1 m d c s)
theorem dn1_eq : (bigSep Finset.univ fun c : Fin ((K (F := F)).nCore 1) => (P m).dn 1 d c)
    = bigSep Finset.univ fun c : Fin 2 => bigSep Finset.univ fun s : Fin 16 => td1 m d c s :=
  (bigSep_congr fun c _ => dn1_c m d c).trans (over2 (F := F) n1 (c1 (F := F)) (fun _ => rfl) fun c => bigSep Finset.univ fun s : Fin 16 => td1 m d c s)
theorem part_intro (x : Tile3.Blk) (ft : S507904x128.Idx → Elt F .f32) (hft : Good (te m d) ft) :
    (part1 m d x ft : sProp 𝕄) ⊢ iprop(∃ ft, ⌜Good (te m d) ft⌝ ∗ part1 m d x ft) := by
  iintro H; iexists ft; isplitr; · ipureintro; exact hft
  iexact H
theorem td_parts (c : Fin 2) (s : Fin 16) :
    (iprop(∃ ft, ⌜Good (te m d) ft⌝ ∗ Tile3.outAll d c s (Tile3.G ft (i3 m d))) : sProp 𝕄)
      ⊢ bigSep Finset.univ fun t : Fin 8 => iprop(∃ ft, ⌜Good (te m d) ft⌝ ∗ part1 m d (c, s, t) ft) := by
  iintro ⟨%ft, %hft, H⟩
  iapply (show (Tile3.outAll d c s (Tile3.G ft (i3 m d)) : sProp 𝕄)
      ⊢ bigSep Finset.univ fun t : Fin 8 => iprop(∃ ft, ⌜Good (te m d) ft⌝ ∗ part1 m d (c, s, t) ft) from
    (out_parts m d c s ft).trans (bigSep_mono fun t _ => part_intro m d (c, s, t) ft hft))
  iexact H
theorem dn1_out :
    (bigSep Finset.univ fun c : Fin 2 => bigSep Finset.univ fun s : Fin 16 => td1 m d c s)
      ⊢ (iprop(((T d : Thread nD τ).loc main_v12 ↦{fullShare} i3 m d)
        ∗ ∃ f, ⌜Rows m d f⌝ ∗ ((T d : Thread nD τ).loc main_v13 ↦{fullShare} f)) : sProp 𝕄) := by
  rw [Tile3.idx_blocks]
  unfold td1
  simp only [bigSep_sep']
  refine sep_mono_right (BI.Entails.trans ?_ (join1 m d))
  rw [Tile3.bigSep_blk]
  exact bigSep_mono fun c _ => bigSep_mono fun s _ => td_parts m d c s

/-- The entity rows' call: the table it read is not held afterwards. -/
theorem run1 (κ : GSem nD τ sig → ℕ) (h5 : Good (te m d) (V (rf main_v5))) (h12 : V (rf main_v12) = i3 m d) :
    (iprop((K (F := F)).ctx EH (P m) κ ∗ (K (F := F)).tcSt EH d 1 ∗ held (T d) UC V) : sProp 𝕄)
      ⊢ wp frame (wpE ((K (F := F)).defs (D (F := F))) 𝒱 (T d) none) Set.univ ((K (F := F)).run d 1) fun _ =>
          iprop((K (F := F)).tcSt EH d 2 ∗ ∃ f, ⌜Rows m d f⌝ ∗ held (T d) (UC.erase (rf main_v5)) (Function.update V (rf main_v13) f)) := by
  rw [held_take d V main_v5 (mem_uc _ rfl), held_take d V main_v12 (mem_er (by decide) (mem_uc _ rfl)),
    held_take d V main_v13 (mem_er (by decide) (mem_er (by decide) (mem_uc _ rfl))), h12]
  iintro ⟨#Hctx, Hst, H0, H2, H3, Hrest⟩
  iapply (wp_mono frame (wpE ((K (F := F)).defs (D (F := F))) 𝒱 (T d) none) Set.univ (Q := fun _ => iprop(((K (F := F)).tcSt EH d 2
      ∗ ((T d : Thread nD τ).loc main_v12 ↦{fullShare} i3 m d)
        ∗ ∃ f, ⌜Rows m d f⌝ ∗ ((T d : Thread nD τ).loc main_v13 ↦{fullShare} f))
      ∗ held (T d) (((UC.erase (rf main_v5)).erase (rf main_v12)).erase (rf main_v13)) V)) (fun _ => ?_))
  rotate_left
  · iapply (wp_frame_r frame (wpE ((K (F := F)).defs (D (F := F))) 𝒱 (T d) none) Set.univ)
    isplitr [Hrest]
    · iapply (run_step m d κ 1 iprop(((T d : Thread nD τ).loc main_v5 ↦{fullShare} V (rf main_v5)) ∗ ((T d : Thread nD τ).loc main_v12 ↦{fullShare} i3 m d)
        ∗ ((T d : Thread nD τ).loc main_v13 ↦{fullShare} V (rf main_v13)))
        iprop(((T d : Thread nD τ).loc main_v12 ↦{fullShare} i3 m d)
        ∗ ∃ f, ⌜Rows m d f⌝ ∗ ((T d : Thread nD τ).loc main_v13 ↦{fullShare} f)) ((st1_in m d (V (rf main_v5)) h5 (V (rf main_v13))).trans (Entails.of_eq (st1_eq m d).symm)) ((Entails.of_eq (dn1_eq m d)).trans (dn1_out m d)))
      isplitr; · iexact Hctx
      isplitl [Hst]; · iexact Hst
      isplitl [H0]; · iexact H0
      isplitl [H2]; · iexact H2
      iexact H3
    iexact Hrest
  iintro ⟨⟨Hst, H2, ⟨%f, %hf, H3⟩⟩, Hrest⟩
  isplitl [Hst]; · iexact Hst
  iexists f
  isplitr; · ipureintro; exact hf
  iapply (held_back d _ main_v12 (mem_er (by decide) (mem_uc _ rfl)) _ ((Function.update_of_ne (rf_ne (by decide)) _ _).trans h12))
  isplitl [H2]; · iexact H2
  iapply (held_put d V main_v13 (mem_er (by decide) (mem_er (by decide) (mem_uc _ rfl))) _)
  isplitl [H3]; · iexact H3
  iexact Hrest

end Runs

end Cert.Proof

end
-- ==== Proof.Launch.lean ====
/-
  @main step by step — five stretches of host operations, three regions, two SparseCore calls — and the program's run:
  it ends with every argument as it was and the result computed from rows gathered out of the two tables.
-/
module

public import proofs.«01_k».proof.Proof.Runs

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.StableHlo
open Idealize.ShloMosaic.Pipeline (RDat WinFacts₀)

variable {F : FTy → Type} [FloatOps F]

local notation "𝕄" => MT nD τ sig (HIx 2) (Elt F) ℕ UU ℕ

variable (m : (ℓ : Loc nD τ sig) → Buf (Elt F) ℓ) (ρ : Dev nD → PrngReg) (d : Dev nD)

/-! ## What is known of the buffers after each step -/

/-- The program's arguments. -/
abbrev argL : List (Ref sig .tc) := [main_arg0, main_arg1, main_arg2, main_arg3, main_arg4, main_arg5, main_arg6, main_arg7, main_arg8]

/-- The arguments are as they were; -/
def A0 (V : Valuation τ sig (Elt F)) : Prop := ∀ a ∈ argL, V (rf a) = V₀ m d (rf a)

theorem A0.keep {V W : Valuation τ sig (Elt F)} (h : A0 m d V) (hk : ∀ a ∈ argL, W (rf a) = V (rf a)) : A0 m d W :=
  fun a ha => (hk a ha).trans (h a ha)
theorem A0.update {V : Valuation τ sig (Elt F)} (h : A0 m d V) (r : Ref sig .tc) (hr : ∀ a ∈ argL, a ≠ r) (x : Buf (Elt F) ((T d : Thread nD τ).loc r)) :
    A0 m d (Function.update V (rf r) x) :=
  fun a ha => (Function.update_of_ne (rf_ne (hr a ha)) _ _).trans (h a ha)

/-- The result, of the entity rows gathered. -/
def lossOf (f : S65536x128.Idx → Elt F .f32) : S_.Idx → Elt F .f32 :=
  addf (constant S_ .f32 0x00000000#32) (shapeCast S_ (fun _ : S1x1.Idx => acc f (relRows m d) (sel m d) 8) shapeCasts_S1x1_S_)

/-- then the relation table is made, -/
def F1 (V : Valuation τ sig (Elt F)) : Prop := A0 m d V ∧ V (rf main_v0) = wt m d
/-- its indices, -/
def F2 (V : Valuation τ sig (Elt F)) : Prop := A0 m d V ∧ V (rf main_v0) = wt m d ∧ V (rf main_v2) = i1 m d
/-- the rows gathered, -/
def F3 (V : Valuation τ sig (Elt F)) : Prop := A0 m d V ∧ V (rf main_v3) = relRows m d
/-- the entity table transposed, -/
def F4 (V : Valuation τ sig (Elt F)) : Prop := A0 m d V ∧ V (rf main_v3) = relRows m d ∧ V (rf main_v4) = te m d
/-- paired, -/
def F5 (V : Valuation τ sig (Elt F)) : Prop := A0 m d V ∧ V (rf main_v3) = relRows m d ∧ Good (te m d) (V (rf main_v5))
/-- its indices, -/
def F6 (V : Valuation τ sig (Elt F)) : Prop :=
  A0 m d V ∧ V (rf main_v3) = relRows m d ∧ Good (te m d) (V (rf main_v5)) ∧ V (rf main_v6) = ient m d ∧ V (rf main_v12) = i3 m d
/-- the rows gathered, -/
def F7 (V : Valuation τ sig (Elt F)) : Prop := A0 m d V ∧ V (rf main_v3) = relRows m d ∧ V (rf main_v6) = ient m d ∧ Rows m d (V (rf main_v13))
/-- the halves, -/
def F8 (V : Valuation τ sig (Elt F)) : Prop := A0 m d V ∧ V (rf main_v3) = relRows m d ∧ V (rf main_v18) = sel m d ∧ Rows m d (V (rf main_v13))
/-- the sum, -/
def F9 (V : Valuation τ sig (Elt F)) : Prop := A0 m d V ∧ ∃ f, Rows m d f ∧ V (rf main_v19) = fun _ => acc f (relRows m d) (sel m d) 8
/-- and the result. -/
def F10 (V : Valuation τ sig (Elt F)) : Prop := A0 m d V ∧ ∃ f, Rows m d f ∧ V (rf main_v21) = lossOf m d f

/-- The unscoped buffers, but the paired table, which the second call's tiles keep. -/
abbrev UE : Finset (DevRef τ sig) := UC.erase (rf main_v5)

/-- The buffers of a set held at a valuation of which a fact is known. -/
def known (S : Finset (DevRef τ sig)) (φ : Valuation τ sig (Elt F) → Prop) : sProp 𝕄 := iprop(∃ V, ⌜φ V⌝ ∗ held (T d) S V)

/-! ## The steps -/

section Chain
variable {β : Type} {φ ψ : Valuation τ sig (Elt F) → Prop}

abbrev WP (c : Prog (TpuEff nD τ sig (Elt F) (SparseCore.Sig (ΛP (F := F)) 2) .tc) β) (Q : β → sProp 𝕄) : sProp 𝕄 :=
  wp frame (wpE ((K (F := F)).defs (D (F := F))) 𝒱 (T d) none) Set.univ c Q

/-- A step at the head of a program. -/
theorem bind_step {X Y : sProp 𝕄} (c : Prog (TpuEff nD τ sig (Elt F) (SparseCore.Sig (ΛP (F := F)) 2) .tc) PUnit)
    (k : PUnit → Prog (TpuEff nD τ sig (Elt F) (SparseCore.Sig (ΛP (F := F)) 2) .tc) β) {Q : β → sProp 𝕄}
    (h : X ⊢ WP d c fun _ => Y) : iprop(X ∗ (Y -∗ WP d (k ⟨⟩) Q)) ⊢ WP d (c >>= k) Q := by
  rw [show WP d (c >>= k) Q = WP d c fun x => WP d (k x) Q from wp_bind ..]
  iintro ⟨HX, Hk⟩
  iapply (wp_mono frame (wpE ((K (F := F)).defs (D (F := F))) 𝒱 (T d) none) Set.univ (Q := fun _ => iprop(Y ∗ (Y -∗ WP d (k ⟨⟩) Q))) (fun _ => ?_))
  · iintro ⟨HY, Hk⟩
    iapply Hk; iexact HY
  iapply (wp_frame_r frame (wpE ((K (F := F)).defs (D (F := F))) 𝒱 (T d) none) Set.univ)
  isplitl [HX]
  · iapply h; iexact HX
  iexact Hk

/-- A stretch of host operations. -/
theorem ops_step (S : Finset (DevRef τ sig)) (ops : List (HloOp τ sig (Elt F))) (hS : ∀ op ∈ ops, op.bufs ⊆ S) (hF : ∀ op ∈ ops, op.fresh = ∅)
    (h : ∀ V, φ V → ψ (after ops V)) (k : PUnit → Prog (TpuEff nD τ sig (Elt F) (SparseCore.Sig (ΛP (F := F)) 2) .tc) β) {Q : β → sProp 𝕄} :
    iprop((boundary (T d) ∗ known d S φ) ∗ ((boundary (T d) ∗ known d S ψ) -∗ WP d (k ⟨⟩) Q)) ⊢ WP d (seq ops >>= k) Q := by
  unfold known
  iintro ⟨⟨Hb, %V, %hV, H⟩, Hk⟩
  ihave Hw := (wp_seq 𝒱 none Set.univ d S k (K := Q) (defs := (K (F := F)).defs (D (F := F))) ops hS hF V) $$ [Hb H]
  · isplitl [Hb]; · iexact Hb
    iexact H
  iapply Hw
  iintro ⟨Hb, H⟩
  iapply Hk
  isplitl [Hb]; · iexact Hb
  iexists (after ops V)
  isplitr; · ipureintro; exact h V hV
  iexact H
end Chain

set_option maxRecDepth 8192

theorem a_ne (r : Ref sig .tc) (h : r ∉ argL) : ∀ a ∈ argL, a ≠ r := fun _ ha e => h (e ▸ ha)

theorem factA (V : Valuation τ sig (Elt F)) (h : F1 m d V) : F2 m d (after opsA V) :=
  ⟨h.1.keep m d fun a ha => opsA_keep V a ((show ∀ a ∈ argL, a ∉ opsAW by decide) a ha),
    (opsA_keep V main_v0 (by decide)).trans h.2,
    (opsA_v2 V).trans (congrArg₂ idxRel (h.1 main_arg4 (by decide)) (h.1 main_arg7 (by decide)))⟩
theorem factB (V : Valuation τ sig (Elt F)) (h : F3 m d V) : F4 m d (after opsB V) :=
  ⟨h.1.keep m d fun a ha => opsB_keep V a ((show ∀ a ∈ argL, a ∉ opsBW by decide) a ha),
    (opsB_keep V main_v3 (by decide)).trans h.2,
    (opsB_v4 V).trans (congrArg (fun x => transpose S64x1000000 [1, 0] x transposes_S1000000x64_S64x1000000_1_0) (h.1 main_arg0 (by decide)))⟩
theorem ent_of (V : Valuation τ sig (Elt F)) (h : A0 m d V) :
    idxEnt (V (rf main_arg3)) (V (rf main_arg5)) (V (rf main_arg6)) (V (rf main_arg8)) = ient m d := by
  rw [h main_arg3 (by decide), h main_arg5 (by decide), h main_arg6 (by decide), h main_arg8 (by decide)]; rfl
theorem factC (V : Valuation τ sig (Elt F)) (h : F5 m d V) : F6 m d (after opsC V) :=
  ⟨h.1.keep m d fun a ha => opsC_keep V a ((show ∀ a ∈ argL, a ∉ opsC₀W ++ opsC₁W ++ opsC₂W ++ opsC₃W ++ opsC₄W by decide) a ha),
    (opsC_keep V main_v3 (by decide)).trans h.2.1,
    (opsC_keep V main_v5 (by decide)).symm ▸ h.2.2,
    (opsC_v6 V).trans (ent_of m d V h.1), (opsC_v12 V).trans (congrArg idxRow (ent_of m d V h.1))⟩
theorem factD (V : Valuation τ sig (Elt F)) (h : F7 m d V) : F8 m d (after opsD V) :=
  ⟨h.1.keep m d fun a ha => opsD_keep V a ((show ∀ a ∈ argL, a ∉ opsD₀W ++ opsD₁W ++ opsD₂W ++ opsD₃W ++ opsD₄W by decide) a ha),
    (opsD_keep V main_v3 (by decide)).trans h.2.1,
    (opsD_v18 V).trans (congrArg selRow h.2.2.1),
    (opsD_keep V main_v13 (by decide)).symm ▸ h.2.2.2⟩
theorem factE (V : Valuation τ sig (Elt F)) (h : F9 m d V) : F10 m d (after opsE V) := by
  obtain ⟨ha, f, hf, hv⟩ := h
  refine ⟨ha.keep m d fun a ha => opsE_keep V a ((show ∀ a ∈ argL, a ∉ opsEW by decide) a ha), f, hf, ?_⟩
  rw [opsE_v21, hv]; rfl

/-- The stretches after the second call do not name the paired table. -/
theorem but5 (op : HloOp τ sig (Elt F)) (h : op.bufs ⊆ UC) (h5 : rf main_v5 ∉ op.bufs) : op.bufs ⊆ UE :=
  fun b hb => Finset.mem_erase.mpr ⟨fun e => h5 (e ▸ hb), h hb⟩
theorem out1 {a r : Ref sig .tc} (h : r ≠ a) : rf r ∉ ({rf a} : Finset (DevRef τ sig)) := fun e => rf_ne h (Finset.mem_singleton.mp e)
theorem out2 {a b r : Ref sig .tc} (h : r ≠ a) (h' : r ≠ b) : rf r ∉ ({rf a, rf b} : Finset (DevRef τ sig)) := fun e =>
  (Finset.mem_insert.mp e).elim (rf_ne h) (out1 h')
theorem out3 {a b c r : Ref sig .tc} (h : r ≠ a) (h' : r ≠ b) (h'' : r ≠ c) : rf r ∉ ({rf a, rf b, rf c} : Finset (DevRef τ sig)) := fun e =>
  (Finset.mem_insert.mp e).elim (rf_ne h) (out2 h' h'')
theorem out4 {a b c e r : Ref sig .tc} (h : r ≠ a) (h' : r ≠ b) (h'' : r ≠ c) (h₃ : r ≠ e) : rf r ∉ ({rf a, rf b, rf c, rf e} : Finset (DevRef τ sig)) := fun x =>
  (Finset.mem_insert.mp x).elim (rf_ne h) (out3 h' h'' h₃)
theorem opsE_no5 : ∀ op ∈ (opsE : List (HloOp τ sig (Elt F))), rf main_v5 ∉ op.bufs := fun op h =>
  List.forall_iff_forall_mem.mp (show List.Forall (fun op => rf main_v5 ∉ op.bufs) (opsE : List (HloOp τ sig (Elt F))) from ⟨out2 (by decide) (by decide), out1 (by decide), out3 (by decide) (by decide) (by decide)⟩) op h
theorem opsD₀_no5 : ∀ op ∈ (opsD₀ : List (HloOp τ sig (Elt F))), rf main_v5 ∉ op.bufs := fun op h =>
  List.forall_iff_forall_mem.mp (show List.Forall (fun op => rf main_v5 ∉ op.bufs) (opsD₀ : List (HloOp τ sig (Elt F))) from out1 (by decide)) op h
theorem opsD₁_no5 : ∀ op ∈ (divOps (.of main_v6) (.of main_c_2) main_call2 : List (HloOp τ sig (Elt F))), rf main_v5 ∉ op.bufs := fun op h =>
  List.forall_iff_forall_mem.mp (show List.Forall (fun op => rf main_v5 ∉ op.bufs) (divOps (.of main_v6) (.of main_c_2) main_call2 : List (HloOp τ sig (Elt F))) from ⟨out2 (by decide) (by decide), out2 (by decide) (by decide), out3 (by decide) (by decide) (by decide), out2 (by decide) (by decide), out2 (by decide) (by decide), out2 (by decide) (by decide), out3 (by decide) (by decide) (by decide), out2 (by decide) (by decide), out3 (by decide) (by decide) (by decide), out1 (by decide), out2 (by decide) (by decide), out3 (by decide) (by decide) (by decide), out3 (by decide) (by decide) (by decide), out1 (by decide), out2 (by decide) (by decide), out3 (by decide) (by decide) (by decide), out4 (by decide) (by decide) (by decide) (by decide)⟩) op h
theorem opsD₂_no5 : ∀ op ∈ (opsD₂ : List (HloOp τ sig (Elt F))), rf main_v5 ∉ op.bufs := fun op h =>
  List.forall_iff_forall_mem.mp (show List.Forall (fun op => rf main_v5 ∉ op.bufs) (opsD₂ : List (HloOp τ sig (Elt F))) from out1 (by decide)) op h
theorem opsD₃_no5 : ∀ op ∈ (remOps (.of main_v14) (.of main_c_3) main_call3 : List (HloOp τ sig (Elt F))), rf main_v5 ∉ op.bufs := fun op h =>
  List.forall_iff_forall_mem.mp (show List.Forall (fun op => rf main_v5 ∉ op.bufs) (remOps (.of main_v14) (.of main_c_3) main_call3 : List (HloOp τ sig (Elt F))) from ⟨out2 (by decide) (by decide), out1 (by decide), out3 (by decide) (by decide) (by decide), out1 (by decide), out4 (by decide) (by decide) (by decide) (by decide), out2 (by decide) (by decide), out3 (by decide) (by decide) (by decide), out1 (by decide), out2 (by decide) (by decide), out3 (by decide) (by decide) (by decide), out1 (by decide), out2 (by decide) (by decide), out3 (by decide) (by decide) (by decide), out1 (by decide), out3 (by decide) (by decide) (by decide), out2 (by decide) (by decide), out3 (by decide) (by decide) (by decide), out3 (by decide) (by decide) (by decide), out2 (by decide) (by decide), out3 (by decide) (by decide) (by decide), out4 (by decide) (by decide) (by decide) (by decide)⟩) op h
theorem opsD₄_no5 : ∀ op ∈ (opsD₄ : List (HloOp τ sig (Elt F))), rf main_v5 ∉ op.bufs := fun op h =>
  List.forall_iff_forall_mem.mp (show List.Forall (fun op => rf main_v5 ∉ op.bufs) (opsD₄ : List (HloOp τ sig (Elt F))) from ⟨out2 (by decide) (by decide), out2 (by decide) (by decide), out2 (by decide) (by decide)⟩) op h
theorem opsD_ue : ∀ op ∈ (opsD : List (HloOp τ sig (Elt F))), op.bufs ⊆ UE := fun op h => by
  refine but5 op (opsD_sub op h) ?_
  simp only [opsD, List.mem_append] at h
  rcases h with (((h | h) | h) | h) | h
  exacts [opsD₀_no5 op h, opsD₁_no5 op h, opsD₂_no5 op h, opsD₃_no5 op h, opsD₄_no5 op h]
theorem opsE_ue : ∀ op ∈ (opsE : List (HloOp τ sig (Elt F))), op.bufs ⊆ UE := fun op h => but5 op (opsE_sub op h) (opsE_no5 op h)

/-- The relation table's region, -/
theorem region0 :
    (iprop(levAts (K (F := F)).L (K (F := F)).lev ∗ (K (F := F)).tcSt EH d 0 ∗ boundary (T d) ∗ known d UC (A0 m d)
        ∗ Pipeline.cellsGhost cfgs EP 0 d ∗ Pipeline.toksInit cfgs EP 0 d) : sProp 𝕄)
      ⊢ WP d (callTc 0) fun _ => iprop((K (F := F)).tcSt EH d 0 ∗ boundary (T d) ∗ known d UC (F1 m d)) := by
  unfold known
  iintro ⟨#Hl, Hst, Hb, ⟨%V, %hV, H⟩, Hg, Ht⟩
  iapply (wp_mono frame (wpE ((K (F := F)).defs (D (F := F))) 𝒱 (T d) none) Set.univ (fun _ => ?_))
  rotate_left
  · iapply (step0 d V)
    isplitr; · iexact Hl
    isplitl [Hst]; · iexact Hst
    isplitl [Hb]; · iexact Hb
    isplitl [H]; · iexact H
    isplitl [Hg]; · iexact Hg
    iexact Ht
  iintro ⟨Hst, Hb, H⟩
  isplitl [Hst]; · iexact Hst
  isplitl [Hb]; · iexact Hb
  iexists _
  isplitr [H]
  rotate_left
  · iexact H
  ipureintro
  exact ⟨hV.update m d main_v0 (a_ne _ (by decide)) _, (Function.update_self _ _ _).trans (congrArg₂ k0_pay1 (hV main_arg2 (by decide)) (hV main_arg1 (by decide)))⟩
/-- the pairing's, -/
theorem region1 :
    (iprop(levAts (K (F := F)).L (K (F := F)).lev ∗ (K (F := F)).tcSt EH d 1 ∗ boundary (T d) ∗ known d UC (F4 m d)
        ∗ Pipeline.cellsGhost cfgs EP 1 d ∗ Pipeline.toksInit cfgs EP 1 d) : sProp 𝕄)
      ⊢ WP d (callTc 1) fun _ => iprop((K (F := F)).tcSt EH d 1 ∗ boundary (T d) ∗ known d UC (F5 m d)) := by
  unfold known
  iintro ⟨#Hl, Hst, Hb, ⟨%V, %hV, H⟩, Hg, Ht⟩
  iapply (wp_mono frame (wpE ((K (F := F)).defs (D (F := F))) 𝒱 (T d) none) Set.univ (fun _ => ?_))
  rotate_left
  · iapply (step1 d V)
    isplitr; · iexact Hl
    isplitl [Hst]; · iexact Hst
    isplitl [Hb]; · iexact Hb
    isplitl [H]; · iexact H
    isplitl [Hg]; · iexact Hg
    iexact Ht
  iintro ⟨Hst, Hb, ⟨%f5, %h5, H⟩⟩
  isplitl [Hst]; · iexact Hst
  isplitl [Hb]; · iexact Hb
  iexists _
  isplitr [H]
  rotate_left
  · iexact H
  ipureintro
  refine ⟨hV.1.update m d main_v5 (a_ne _ (by decide)) _, (Function.update_of_ne (rf_ne (by decide)) _ _).trans hV.2.1, ?_⟩
  rw [Function.update_self]; exact hV.2.2 ▸ h5
/-- the loss's; -/
theorem region2 :
    (iprop(levAts (K (F := F)).L (K (F := F)).lev ∗ (K (F := F)).tcSt EH d 2 ∗ boundary (T d) ∗ known d UE (F8 m d)
        ∗ Pipeline.cellsGhost cfgs EP 2 d ∗ Pipeline.toksInit cfgs EP 2 d) : sProp 𝕄)
      ⊢ WP d (callTc 2) fun _ => iprop((K (F := F)).tcSt EH d 2 ∗ boundary (T d) ∗ known d UE (F9 m d)) := by
  unfold known
  iintro ⟨#Hl, Hst, Hb, ⟨%V, %hV, H⟩, Hg, Ht⟩
  iapply (wp_mono frame (wpE ((K (F := F)).defs (D (F := F))) 𝒱 (T d) none) Set.univ (fun _ => ?_))
  rotate_left
  · iapply (step2 d V UE (mem_er (by decide) (mem_uc _ rfl)) (mem_er (by decide) (mem_uc _ rfl)) (mem_er (by decide) (mem_uc _ rfl)) (mem_er (by decide) (mem_uc _ rfl)))
    isplitr; · iexact Hl
    isplitl [Hst]; · iexact Hst
    isplitl [Hb]; · iexact Hb
    isplitl [H]; · iexact H
    isplitl [Hg]; · iexact Hg
    iexact Ht
  iintro ⟨Hst, Hb, H⟩
  isplitl [Hst]; · iexact Hst
  isplitl [Hb]; · iexact Hb
  iexists _
  isplitr [H]
  rotate_left
  · iexact H
  ipureintro
  refine ⟨hV.1.update m d main_v19 (a_ne _ (by decide)) _, V (rf main_v13), hV.2.2.2, ?_⟩
  rw [Function.update_self, hV.2.1, hV.2.2.1]
/-- the relation rows' call, -/
theorem call0 (κ : GSem nD τ sig → ℕ) :
    (iprop((K (F := F)).ctx EH (P m) κ ∗ (K (F := F)).tcSt EH d 0 ∗ known d UC (F2 m d)) : sProp 𝕄)
      ⊢ WP d ((K (F := F)).run d 0) fun _ => iprop((K (F := F)).tcSt EH d 1 ∗ known d UC (F3 m d)) := by
  unfold known
  iintro ⟨#Hl, Hst, ⟨%V, %hV, H⟩⟩
  iapply (wp_mono frame (wpE ((K (F := F)).defs (D (F := F))) 𝒱 (T d) none) Set.univ (fun _ => ?_))
  rotate_left
  · iapply (run0 m d V κ hV.2.1 hV.2.2)
    isplitr; · iexact Hl
    isplitl [Hst]; · iexact Hst
    iexact H
  iintro ⟨Hst, H⟩
  isplitl [Hst]; · iexact Hst
  iexists _
  isplitr [H]
  rotate_left
  · iexact H
  ipureintro
  exact ⟨hV.1.update m d main_v3 (a_ne _ (by decide)) _, Function.update_self _ _ _⟩
/-- and the entity rows'. -/
theorem call1 (κ : GSem nD τ sig → ℕ) :
    (iprop((K (F := F)).ctx EH (P m) κ ∗ (K (F := F)).tcSt EH d 1 ∗ known d UC (F6 m d)) : sProp 𝕄)
      ⊢ WP d ((K (F := F)).run d 1) fun _ => iprop((K (F := F)).tcSt EH d 2 ∗ known d UE (F7 m d)) := by
  unfold known
  iintro ⟨#Hl, Hst, ⟨%V, %hV, H⟩⟩
  iapply (wp_mono frame (wpE ((K (F := F)).defs (D (F := F))) 𝒱 (T d) none) Set.univ (fun _ => ?_))
  rotate_left
  · iapply (run1 m d V κ hV.2.2.1 hV.2.2.2.2)
    isplitr; · iexact Hl
    isplitl [Hst]; · iexact Hst
    iexact H
  iintro ⟨Hst, ⟨%f, %hf, H⟩⟩
  isplitl [Hst]; · iexact Hst
  iexists _
  isplitr [H]
  rotate_left
  · iexact H
  ipureintro
  refine ⟨hV.1.update m d main_v13 (a_ne _ (by decide)) _, (Function.update_of_ne (rf_ne (by decide)) _ _).trans hV.2.1,
    (Function.update_of_ne (rf_ne (by decide)) _ _).trans hV.2.2.2.1, ?_⟩
  rw [Function.update_self]; exact hf

/-! ## The launch -/

/-- The ghost state @main takes beside its buffers: the three pipelines' rounds. -/
def G : sProp 𝕄 := iprop((bigSep Finset.univ fun p : Fin 3 => Pipeline.cellsGhost cfgs EP p d) ∗ bigSep Finset.univ fun p : Fin 3 => Pipeline.toksInit cfgs EP p d)

/-- What @main ends with. -/
abbrev FIN : sProp 𝕄 := known d UE (F10 m d)

theorem bigSep3 (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem hmain (κ : GSem nD τ sig → ℕ) (d : Dev nD) :
    (iprop((K (F := F)).ctx EH (P m) κ ∗ (K (F := F)).tcSt EH d 0 ∗ (K (F := F)).tcRes m ρ d ∗ G d) : sProp 𝕄)
      ⊢ wp frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd G
  rw [main_stretches, bigSep3, bigSep3]
  iintro ⟨#Hctx, Hst, ⟨Hb, Hu, Hts, -⟩, ⟨Hg0, Hg1, Hg2⟩, ⟨Ht0, Ht1, Ht2⟩⟩
  ihave #Hlv := (SparseCore.Cfg.ctx_levAts κ) $$ Hctx
  ihave Hu := (show (unscopedBufs d (fun b => m ((T d : Thread nD τ).loc b)) : sProp 𝕄) ⊢ known d UC (A0 m d) from by
    unfold known
    refine (Entails.of_eq (Pipeline.unscopedBufs_held d (V₀ m d))).trans ?_
    show held (T d) UC (V₀ m d) ⊢ (iprop(∃ V, ⌜A0 m d V⌝ ∗ held (T d) UC V) : sProp 𝕄)
    iintro H; iexists _
    isplitr [H]
    rotate_left
    · iexact H
    ipureintro; exact fun _ _ => rfl) $$ Hu
  iapply (bind_step d _ _ (region0 m d))
  isplitl [Hst Hb Hu Hg0 Ht0]
  · isplitr; · iexact Hlv
    isplitl [Hst]; · iexact Hst
    isplitl [Hb]; · iexact Hb
    isplitl [Hu]; · iexact Hu
    isplitl [Hg0]; · iexact Hg0
    iexact Ht0
  iintro ⟨Hst, Hb, Hu⟩
  iapply (ops_step d UC opsA opsA_sub opsA_fresh (factA m d))
  isplitl [Hb Hu]
  · isplitl [Hb]; · iexact Hb
    iexact Hu
  iintro ⟨Hb, Hu⟩
  iapply (bind_step d _ _ (call0 m d κ))
  isplitl [Hst Hu]
  · isplitr; · iexact Hctx
    isplitl [Hst]; · iexact Hst
    iexact Hu
  iintro ⟨Hst, Hu⟩
  iapply (ops_step d UC opsB opsB_sub opsB_fresh (factB m d))
  isplitl [Hb Hu]
  · isplitl [Hb]; · iexact Hb
    iexact Hu
  iintro ⟨Hb, Hu⟩
  iapply (bind_step d _ _ (region1 m d))
  isplitl [Hst Hb Hu Hg1 Ht1]
  · isplitr; · iexact Hlv
    isplitl [Hst]; · iexact Hst
    isplitl [Hb]; · iexact Hb
    isplitl [Hu]; · iexact Hu
    isplitl [Hg1]; · iexact Hg1
    iexact Ht1
  iintro ⟨Hst, Hb, Hu⟩
  iapply (ops_step d UC opsC opsC_sub opsC_fresh (factC m d))
  isplitl [Hb Hu]
  · isplitl [Hb]; · iexact Hb
    iexact Hu
  iintro ⟨Hb, Hu⟩
  iapply (bind_step d _ _ (call1 m d κ))
  isplitl [Hst Hu]
  · isplitr; · iexact Hctx
    isplitl [Hst]; · iexact Hst
    iexact Hu
  iintro ⟨Hst, Hu⟩
  iapply (ops_step d UE opsD opsD_ue opsD_fresh (factD m d))
  isplitl [Hb Hu]
  · isplitl [Hb]; · iexact Hb
    iexact Hu
  iintro ⟨Hb, Hu⟩
  iapply (bind_step d _ _ (region2 m d))
  isplitl [Hst Hb Hu Hg2 Ht2]
  · isplitr; · iexact Hlv
    isplitl [Hst]; · iexact Hst
    isplitl [Hb]; · iexact Hb
    isplitl [Hu]; · iexact Hu
    isplitl [Hg2]; · iexact Hg2
    iexact Ht2
  iintro ⟨Hst, Hb, Hu⟩
  iapply (ops_step d UE opsE opsE_ue opsE_fresh (factE m d))
  isplitl [Hb Hu]
  · isplitl [Hb]; · iexact Hb
    iexact Hu
  iintro ⟨Hb, Hu⟩
  rw [Prog.pure_eq_ret]; unfold WP; rw [wp_ret]
  imodintro
  isplitl [Hst]; · iexact Hst
  isplitl [Hu]; · iexact Hu
  isplitl [Hb]; · iexact Hb
  iexact Hts

/-- The launch element: the handshakes' rounds, the staging cells' rounds, no transfer. -/
def u₀ : UU := (initOf (K (F := F)).hsCells (K (F := F)).hsToks, (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (P m).x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UPI × Counters)) $$ Hu
  icases H with ⟨HH, HP⟩
  ihave H := (own_pair_emb embR (initOf (Pipeline.cells cfgs cellOf_inj) (Pipeline.launchToks cfgs cellOf_inj)) (1 : Counters)) $$ HP
  icases H with ⟨HP, -⟩
  imod (Pipeline.fund_ghost cfgs EP cellOf_inj) $$ HP with ⟨Hc, Ht⟩
  imodintro
  isplitl [HH]; · iexact HH
  isplitl [Hc Ht]
  · unfold G
    rw [bigSep_sep']
    isplitl [Hc]; · iexact Hc
    iexact Ht
  rw [show (bigSep Finset.univ fun thr : Thread nD τ => bigSep Finset.univ fun q : Fin 2 => (P (F := F) m).x q thr) = bigSep Finset.univ fun _ => iprop(emp) from
    bigSep_congr fun _ _ => bigSep_emp_const _, show (bigSep (Finset.univ : Finset (Thread nD τ)) fun _ => (iprop(emp) : sProp 𝕄)) = iprop(emp) from bigSep_emp_const _]
  iempintro

/-- What is read off the end of a run. -/
def fq (d : Dev nD) (s' : Phys nD τ sig (Elt F)) : Prop :=
  (∀ a ∈ argL, s'.mem.mem ((T d : Thread nD τ).loc a) = m ((T d : Thread nD τ).loc a))
    ∧ ∃ f, Rows m d f ∧ s'.mem.mem ((T d : Thread nD τ).loc main_v21) = lossOf m d f

theorem hfin (d : Dev nD) (s' : Phys nD τ sig (Elt F)) : (iprop(FIN m d ∗ SI s') : sProp 𝕄) ⊢ (⌜fq m d s'⌝ : sProp 𝕄) := by
  unfold FIN known held
  iintro ⟨⟨%V, %hV, H⟩, HSI⟩
  ihave %h := (SI_pointsTo_bufs_agree (qs := fun _ => fullShare) UE) $$ [HSI H]
  · isplitl [HSI]; · iexact HSI
    iexact H
  ipureintro
  have hm : ∀ r : Ref sig .tc, r.isScoped = false → r ≠ main_v5 → s'.mem.mem (d, rf r) = V (rf r) := fun r h1 h2 => h _ (mem_er h2 (mem_uc r h1))
  obtain ⟨ha, f, hf, hv⟩ := hV
  refine ⟨fun a haa => ?_, f, hf, (hm main_v21 rfl (by decide)).trans hv⟩
  exact (hm a ((show ∀ a ∈ argL, a.isScoped = false by decide) a haa) ((show ∀ a ∈ argL, a ≠ main_v5 by decide) a haa)).trans (ha a haa)

/-- What every run of the program ends with. -/
def QC : PUnit × MemSt nD τ sig (Elt F) → Prop := fun r =>
  (∀ d : Dev nD, (∀ a ∈ argL, r.2.mem ((T d : Thread nD τ).loc a) = m ((T d : Thread nD τ).loc a))
    ∧ ∃ f, Rows m d f ∧ r.2.mem ((T d : Thread nD τ).loc main_v21) = lossOf m d f) ∧ r.2.sem = fun _ => 0

/-- Every run of the program ends, quiescent, with the arguments kept and the result read off gathered rows. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hpre | 1 => tileObl1 m hpre)
    (fun q _ => match q with | 0 => SparseCore.Cfg.VecSplit.of_plain (vecSplit0 m) | 1 => SparseCore.Cfg.VecSplit.of_plain (vecSplit1 m))
    m ρ main (fun d => G d) (FIN m) (u₀ (F := F)) (sep_elim_left.trans (hu₀ m)) (hmain m ρ) (fq m) (hfin m) (QC m) (fun _ h hz => ⟨h, hz⟩)

end Cert.Proof

end
-- ==== Proof.Index.lean ====
/-
  The indices: the precondition bounds them, and the host arithmetic on them is a quotient and a remainder.
  Entity `x` lies in row `x / 32768 * 16384 + x % 16384` of the paired table, in its half `x / 16384 % 2`.
-/
module

public import proofs.«01_k».proof.Proof.Calls
public import proofs.«01_k».proof.Defs
public import proofs.«01_k».proof.Proof.Gen.Pre_in_range
public import Idealize.ShloMosaic.Lib.ReduceAll
public import Idealize.ShloMosaic.Lib.WordCmp
public import Idealize.ShloMosaic.Lib.Routing.Words
public import Idealize.ShloMosaic.Lib.Pipeline.Value
public import Idealize.ShloMosaic.Lib.Pipeline.Value
public import Idealize.ShloMosaic.Lib.Pipeline.Value
public import Idealize.ShloMosaic.Lib.Pipeline.Value

@[expose] public section

noncomputable section

namespace Cert.Proof

open Cert.KernelIdeal Cert.KernelIdeal.Gen
open Idealize.ShloMosaic Idealize.ShloMosaic.TcCoe
open Idealize.ShloMosaic.SparseCore (S V T)
open Idealize.SL Idealize.SL.Sem
open Idealize.ShloMosaic.StableHlo Idealize.ShloMosaic.ValueIdx

variable {F : FTy → Type} [FloatOps F]

/-! ## The precondition -/

/-- A word at least zero and below `n`, as the precondition tests it, is below `n` read unsigned. -/
theorem lt_of_tests (v : BitVec 32) (n : ℕ) (hn : n < 2 ^ 31)
    (e : IntOp.andi (IntOp.cmpi .sge v 0#32) (IntOp.cmpi .slt v (BitVec.ofNat 32 n)) = 1#1) : v.toNat < n := by
  obtain ⟨e1, e2⟩ := IntOp.andi_eq_one.1 e
  have h1 := IntOp.cmpi_sge.1 e1
  have h2 := IntOp.cmpi_slt.1 e2
  simp only [BitVec.toInt_eq_toNat_cond, BitVec.toNat_ofNat, Nat.reducePow] at h1 h2
  have hm : n % 4294967296 = n := Nat.mod_eq_of_lt (by omega)
  rw [hm] at h2
  have := v.isLt
  split_ifs at h1 h2 <;> omega

/-- The entity indices are below 1000000 and the relation indices below 1000. -/
structure InRange (a3 a4 a5 a6 a7 a8 : S16384.Idx → BitVec 32) : Prop where
  h3 : ∀ i, (a3 i).toNat < 1000000
  h4 : ∀ i, (a4 i).toNat < 1000
  h5 : ∀ i, (a5 i).toNat < 1000000
  h6 : ∀ i, (a6 i).toNat < 1000000
  h7 : ∀ i, (a7 i).toNat < 1000
  h8 : ∀ i, (a8 i).toNat < 1000000

/-- What the precondition says: all six index arrays are in range. -/
theorem inRange_of_pre (a0 : S1000000x64.Idx → F .f32) (a1 a2 : S1000x64.Idx → F .f32) (a3 a4 a5 a6 a7 a8 : S16384.Idx → BitVec 32)
    (h : Cert.Pre_in_range.fn (F := F) a0 a1 a2 a3 a4 a5 a6 a7 a8 = fun _ => 1#1) : InRange a3 a4 a5 a6 a7 a8 := by
  haveI : Subsingleton Cert.Pre_in_range.S_.Idx := ⟨fun a b => funext fun i => i.elim0⟩
  have e := congrFun h (fun i => i.elim0)
  simp only [Cert.Pre_in_range.fn, Cert.Pre_in_range.fn_part1, Cert.Pre_in_range.fn_part2] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e3, e4⟩ := IntOp.andi_eq_one.1 e
  exact ⟨fun i => lt_of_tests _ _ (by norm_num) (Host.reduce_andi_all _ _ _ _ _ e3 i),
    fun i => lt_of_tests _ _ (by norm_num) (Host.reduce_andi_all _ _ _ _ _ e4 i),
    fun i => lt_of_tests _ _ (by norm_num) (Host.reduce_andi_all _ _ _ _ _ e5 i),
    fun i => lt_of_tests _ _ (by norm_num) (Host.reduce_andi_all _ _ _ _ _ e6 i),
    fun i => lt_of_tests _ _ (by norm_num) (Host.reduce_andi_all _ _ _ _ _ e7 i),
    fun i => lt_of_tests _ _ (by norm_num) (Host.reduce_andi_all _ _ _ _ _ e8 i)⟩

/-! ## Quotients and remainders -/

/-- The sign of a positive number's word is one. -/
theorem signi_at {s : Shape} (x : IVec s 32) (i : s.Idx) (v : ℕ) (hv : v < 2 ^ 31) (h0 : 0 < v) (hx : x i = BitVec.ofNat 32 v) : signi x i = 1 := by
  have hne : BitVec.ofNat 32 v ≠ 0 := fun h => by
    have := congrArg BitVec.toNat h
    rw [BitVec.toNat_ofNat, Nat.mod_eq_of_lt (by omega)] at this
    simp at this; omega
  have hms : (BitVec.ofNat 32 v).msb = false := by
    rw [BitVec.msb_eq_false_iff_two_mul_lt, BitVec.toNat_ofNat, Nat.mod_eq_of_lt (by omega)]; omega
  show (if x i = 0 then (0 : BitVec 32) else if (x i).msb then -1 else 1) = 1
  rw [hx, if_neg hne, hms]; rfl

/-- The host's quotient of a number by a positive one. -/
theorem floorDiv_at (x : S65536.Idx → BitVec 32) (i : S65536.Idx) (v n : ℕ) (hv : v < 2 ^ 31) (hn0 : 0 < n) (hn : n < 2 ^ 31)
    (hx : x i = BitVec.ofNat 32 v) : floorDiv x (constantI S_ 32 (BitVec.ofNat 32 n)) i = BitVec.ofNat 32 (v / n) := by
  have hc : floorDiv x (constantI S_ 32 (BitVec.ofNat 32 n)) i
      = if IntOp.andi (IntOp.cmpi .ne (signi x i) (signi (constantI S_ 32 (BitVec.ofNat 32 n)) ix0))
            (IntOp.cmpi .ne (IntOp.remsi .host (x i) (BitVec.ofNat 32 n)) 0#32) = 1#1
        then IntOp.subi (IntOp.divsi .host (x i) (BitVec.ofNat 32 n)) 1#32
        else IntOp.divsi .host (x i) (BitVec.ofNat 32 n) := rfl
  rw [hc, hx, Routing.divsi_word _ hv hn0 hn, Routing.remsi_word _ hv hn0 hn, if_neg]
  intro h
  obtain ⟨h1, h2⟩ := IntOp.andi_eq_one.1 h
  have h1 := IntOp.cmpi_ne.1 h1
  have h2 := IntOp.cmpi_ne.1 h2
  rcases Nat.eq_zero_or_pos v with rfl | hp
  · exact h2 (by rw [Nat.zero_mod])
  · exact h1 (by rw [signi_at x i v hv hp hx, signi_at (constantI S_ 32 (BitVec.ofNat 32 n)) ix0 n hn hn0 rfl])

/-- The host's remainder of a number by a positive one. -/
theorem floorRem_at (x : S65536.Idx → BitVec 32) (i : S65536.Idx) (v n : ℕ) (hv : v < 2 ^ 31) (hn0 : 0 < n) (hn : n < 2 ^ 31)
    (hx : x i = BitVec.ofNat 32 v) : floorRem x (constantI S_ 32 (BitVec.ofNat 32 n)) i = BitVec.ofNat 32 (v % n) := by
  have hN : (if IntOp.cmpi .eq (BitVec.ofNat 32 n) 0#32 = 1#1 then 1#32 else BitVec.ofNat 32 n) = BitVec.ofNat 32 n := if_neg fun h => by
    have := congrArg BitVec.toNat (IntOp.cmpi_eq.1 h)
    rw [BitVec.toNat_ofNat, Nat.mod_eq_of_lt (by omega)] at this
    simp at this; omega
  have hc : ∀ N : BitVec 32, (if IntOp.cmpi .eq (BitVec.ofNat 32 n) 0#32 = 1#1 then 1#32 else BitVec.ofNat 32 n) = N →
      floorRem x (constantI S_ 32 (BitVec.ofNat 32 n)) i
      = if IntOp.andi (IntOp.cmpi .ne (IntOp.cmpi .slt (IntOp.remsi .host (x i) N) 0#32) (IntOp.cmpi .slt N 0#32))
            (IntOp.cmpi .ne (IntOp.remsi .host (x i) N) 0#32) = 1#1
        then IntOp.addi (IntOp.remsi .host (x i) N) N
        else IntOp.remsi .host (x i) N := fun N e => by subst e; rfl
  rw [hc _ hN, hx, Routing.remsi_word _ hv hn0 hn, if_neg]
  intro h
  obtain ⟨h1, -⟩ := IntOp.andi_eq_one.1 h
  have h1 := IntOp.cmpi_ne.1 h1
  have hlt : ∀ w : ℕ, w < 2 ^ 31 → IntOp.cmpi .slt (BitVec.ofNat 32 w) 0#32 = 0#1 := fun w hw => by
    rw [WordCmp.cmpi_slt_zero, BitVec.toNat_ofNat, Nat.mod_eq_of_lt (by omega), decide_eq_false (by omega)]; rfl
  exact h1 (by rw [hlt _ (lt_of_le_of_lt (Nat.mod_le _ _) hv), hlt _ hn])

/-! ## Laid end to end -/

/-- Piece `q` of the four index arrays. -/
def pick (a b c e : S16384.Idx → BitVec 32) : Fin 4 → S16384.Idx → BitVec 32
  | 0 => a | 1 => b | 2 => c | 3 => e

set_option maxRecDepth 65536 in
/-- Entry `r` of array `q` is at `16384 q + r` of all four. -/
theorem idxEnt_at (a b c e : S16384.Idx → BitVec 32) (q : Fin 4) (r : Fin 16384) (k : Fin 65536) (hk : k.val = q.val * 16384 + r.val) :
    idxEnt a b c e (ix1 k) = pick a b c e q (ix1 r) := by
  unfold idxEnt
  fin_cases q
  · exact concatenate_apply_piece (t := S65536) 0 _ _ (ix1 k) 0 (by simp) S16384 a rfl rfl 0 rfl (ix1 r)
      (fun b hb => absurd (Subsingleton.elim _ _) hb) (by have h : k.val = _ := hk; simpa using h.symm)
  · exact concatenate_apply_piece (t := S65536) 0 _ _ (ix1 k) 1 (by simp) S16384 b rfl rfl 16384 rfl (ix1 r)
      (fun b hb => absurd (Subsingleton.elim _ _) hb) (by have h : k.val = _ := hk; simpa using h.symm)
  · exact concatenate_apply_piece (t := S65536) 0 _ _ (ix1 k) 2 (by simp) S16384 c rfl rfl 32768 rfl (ix1 r)
      (fun b hb => absurd (Subsingleton.elim _ _) hb) (by have h : k.val = _ := hk; simpa using h.symm)
  · exact concatenate_apply_piece (t := S65536) 0 _ _ (ix1 k) 3 (by simp) S16384 e rfl rfl 49152 rfl (ix1 r)
      (fun b hb => absurd (Subsingleton.elim _ _) hb) (by have h : k.val = _ := hk; simpa using h.symm)

/-- Piece `q` of the two relation arrays. -/
def pick2 (a b : S16384.Idx → BitVec 32) : Fin 2 → S16384.Idx → BitVec 32
  | 0 => a | 1 => b

/-- A list cast to one row is read along the row. -/
theorem row_at {n : ℕ} {α : Type} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) :=
  (shapeCast_addUnit_apply ![n] x h (ix2 (0 : Fin 1) k)).trans (congrArg x (funext fun a => by fin_cases a; rfl))

/-- Entry `r` of relation array `q` is at `16384 q + r` of both. -/
theorem idxRel_at (a b : S16384.Idx → BitVec 32) (q : Fin 2) (r : Fin 16384) (k : Fin 32768) (hk : k.val = q.val * 16384 + r.val) :
    idxRel a b (ix2 (0 : Fin 1) k) = pick2 a b q (ix1 r) := by
  unfold idxRel
  refine (row_at _ _ k).trans ?_
  fin_cases q
  · exact concatenate_apply_piece (t := S32768) 0 _ _ (ix1 k) 0 (by simp) S16384 a rfl rfl 0 rfl (ix1 r)
      (fun b hb => absurd (Subsingleton.elim _ _) hb) (by have h : k.val = _ := hk; simpa using h.symm)
  · exact concatenate_apply_piece (t := S32768) 0 _ _ (ix1 k) 1 (by simp) S16384 b rfl rfl 16384 rfl (ix1 r)
      (fun b hb => absurd (Subsingleton.elim _ _) hb) (by have h : k.val = _ := hk; simpa using h.symm)

/-- The row of the paired table asked for, as a number. -/
theorem idxRow_at (x : S65536.Idx → BitVec 32) (k : Fin 65536) (hv : (x (ix1 k)).toNat < 1000000) :
    (idxRow x (ix2 (0 : Fin 1) k)).toNat = (x (ix1 k)).toNat / 32768 * 16384 + (x (ix1 k)).toNat % 16384 := by
  have hx : x (ix1 k) = BitVec.ofNat 32 (x (ix1 k)).toNat := by rw [BitVec.ofNat_toNat, BitVec.setWidth_eq]
  have e : idxRow x (ix2 (0 : Fin 1) k)
      = floorDiv x (constantI S_ 32 (BitVec.ofNat 32 32768)) (ix1 k) * 16384#32 + floorRem x (constantI S_ 32 (BitVec.ofNat 32 16384)) (ix1 k) := by
    unfold idxRow; exact (row_at _ _ k).trans rfl
  rw [e, floorDiv_at x _ _ 32768 (by omega) (by norm_num) (by norm_num) hx, floorRem_at x _ _ 16384 (by omega) (by norm_num) (by norm_num) hx]
  generalize (x (ix1 k)).toNat = v at hv ⊢
  rw [BitVec.toNat_add, BitVec.toNat_mul, BitVec.toNat_ofNat, BitVec.toNat_ofNat, BitVec.toNat_ofNat]
  omega

/-- The half of that row, as the word it is converted from. -/
theorem half_at (x : S65536.Idx → BitVec 32) (k : Fin 65536) (hv : (x (ix1 k)).toNat < 1000000) :
    floorRem (floorDiv x (constantI S_ 32 16384#32)) (constantI S_ 32 2#32) (ix1 k) = BitVec.ofNat 32 ((x (ix1 k)).toNat / 16384 % 2) := by
  have hx : x (ix1 k) = BitVec.ofNat 32 (x (ix1 k)).toNat := by rw [BitVec.ofNat_toNat, BitVec.setWidth_eq]
  exact floorRem_at _ _ _ 2 (by omega) (by norm_num) (by norm_num)
    (floorDiv_at x _ _ 16384 (by omega) (by norm_num) (by norm_num) hx)

section Run
variable (m : (ℓ : Loc nD τ sig) → Buf (Elt F) ℓ) (d : Dev nD)

/-- The launch's index arrays in range. -/
abbrev RangeAt : Prop := InRange (V₀ m d (rf main_arg3)) (V₀ m d (rf main_arg4)) (V₀ m d (rf main_arg5)) (V₀ m d (rf main_arg6)) (V₀ m d (rf main_arg7)) (V₀ m d (rf main_arg8))

/-- The entity index array of piece `q`. -/
abbrev entIx (q : Fin 4) : S16384.Idx → BitVec 32 :=
  pick (V₀ m d (rf main_arg3)) (V₀ m d (rf main_arg5)) (V₀ m d (rf main_arg6)) (V₀ m d (rf main_arg8)) q

/-- The relation index array of piece `q`. -/
abbrev relIx (q : Fin 2) : S16384.Idx → BitVec 32 := pick2 (V₀ m d (rf main_arg4)) (V₀ m d (rf main_arg7)) q

variable {m d}

/-- Each of the four is in range, -/
theorem entIx_lt (h : RangeAt m d) (q : Fin 4) (i : S16384.Idx) : (entIx m d q i).toNat < 1000000 := by
  match q with
  | 0 => exact h.h3 i
  | 1 => exact h.h5 i
  | 2 => exact h.h6 i
  | 3 => exact h.h8 i

/-- and each of the two. -/
theorem relIx_lt (h : RangeAt m d) (q : Fin 2) (i : S16384.Idx) : (relIx m d q i).toNat < 1000 := by
  match q with
  | 0 => exact h.h4 i
  | 1 => exact h.h7 i

/-- The kernel's list of entities, read. -/
theorem ient_at (q : Fin 4) (r : Fin 16384) (k : Fin 65536) (hk : k.val = q.val * 16384 + r.val) : ient m d (ix1 k) = entIx m d q (ix1 r) :=
  idxEnt_at _ _ _ _ q r k hk

/-- Index arrays in range make every row asked for a row of its table. -/
theorem preOK_of_range (h : ∀ d, RangeAt m d) : PreOK m := fun d => by
  refine ⟨fun k => ?_, fun k => ?_⟩
  · have hq : k.val / 16384 < 2 := by have := k.isLt; omega
    have hr : k.val % 16384 < 16384 := Nat.mod_lt _ (by norm_num)
    have e := idxRel_at (V₀ m d (rf main_arg4)) (V₀ m d (rf main_arg7)) ⟨k.val / 16384, hq⟩ ⟨k.val % 16384, hr⟩ k (by show k.val = k.val / 16384 * 16384 + k.val % 16384; omega)
    exact (congrArg (fun v : BitVec 32 => v.toNat < 1000) e).mpr (relIx_lt (h d) ⟨k.val / 16384, hq⟩ (ix1 ⟨k.val % 16384, hr⟩))
  · have hq : k.val / 16384 < 4 := by have := k.isLt; omega
    have hr : k.val % 16384 < 16384 := Nat.mod_lt _ (by norm_num)
    have e := ient_at (m := m) (d := d) ⟨k.val / 16384, hq⟩ ⟨k.val % 16384, hr⟩ k (by show k.val = k.val / 16384 * 16384 + k.val % 16384; omega)
    have hb : (ient m d (ix1 k)).toNat < 1000000 :=
      (congrArg (fun v : BitVec 32 => v.toNat < 1000000) e).mpr (entIx_lt (h d) ⟨k.val / 16384, hq⟩ (ix1 ⟨k.val % 16384, hr⟩))
    show (idxRow (ient m d) (ix2 (0 : Fin 1) k)).toNat < 507904
    rw [idxRow_at (ient m d) k hb]
    generalize (ient m d (ix1 k)).toNat = v at hb ⊢
    omega

end Run

end Cert.Proof

end
-- ==== Proof.Spec.lean ====
/-
  The loss over the reals: the margin loss of triples of rows, and how whole-array operations read at a row.
-/
module

public import Idealize.ShloMosaic.Lib.IdealHost
public import Idealize.ShloMosaic.Lib.ValueIdx
public import Idealize.ShloMosaic.Lib.Pipeline.Value
public import Idealize.ShloMosaic.PureOps.Ideal.Laws

@[expose] public section

noncomputable section

namespace Cert.Proof

open Idealize.ShloMosaic Idealize.ShloMosaic.ValueIdx

/-! ## The loss -/

/-- A row of a table: sixty-four numbers. -/
abbrev Vec64 := Fin 64 → EReal

/-- The inner product of two rows. -/
def dot (x y : Vec64) : EReal := ∑ l, x l * y l
/-- A row over its length, or over a small number if its length is smaller. -/
def unit (v : Vec64) : Vec64 := fun l => Ideal.div (v l) (max (Ideal.sqrt (dot v v)) (Ideal.ofBits .f32 0x2B8CBCCC#32))
/-- The part of `e` on the plane with normal `n`. -/
def proj (e n : Vec64) : Vec64 := fun l => e l - dot e n * n l
/-- How far head plus relation is from tail on that plane. -/
def gap (h t r n : Vec64) : Vec64 := fun l => (proj h n l + r l) - proj t n l
def dist (h t r n : Vec64) : EReal := Ideal.sqrt (dot (gap h t r n) (gap h t r n))
/-- The margin loss of a positive and a negative distance. -/
def hinge (p n : EReal) : EReal := max 0 ((p - n) + 1)

/-- The row of a table of `n` rows that a word names. -/
def rowOf {n : ℕ} [NeZero n] (E : (⟨2, ![n, 64]⟩ : Shape).Idx → EReal) (v : BitVec 32) : Vec64 := fun l => E (ix2 (Fin.ofNat n v.toNat) l)

/-- The loss: over the triples, the margin losses of the positive and the negative triple's distances. -/
def lossAt (E : (⟨2, ![1000000, 64]⟩ : Shape).Idx → EReal) (R N : (⟨2, ![1000, 64]⟩ : Shape).Idx → EReal)
    (a3 a4 a5 a6 a7 a8 : (⟨1, ![16384]⟩ : Shape).Idx → BitVec 32) : EReal :=
  ∑ r : Fin 16384, hinge
    (dist (rowOf E (a3 (ix1 r))) (rowOf E (a5 (ix1 r))) (rowOf R (a4 (ix1 r))) (unit (rowOf N (a4 (ix1 r)))))
    (dist (rowOf E (a6 (ix1 r))) (rowOf E (a8 (ix1 r))) (rowOf R (a7 (ix1 r))) (unit (rowOf N (a7 (ix1 r)))))

/-! ## Whole arrays of rows read at a row -/

section Rows
variable {n : ℕ}

/-- Row `j` of an array of `n` rows. -/
abbrev at64 (x : (⟨2, ![n, 64]⟩ : Shape).Idx → EReal) (j : Fin n) : Vec64 := fun l => x (ix2 j l)

theorem lift_row {c : ℕ} (h : (⟨2, ![n, c]⟩ : Shape).Reduces [1] ⟨1, ![n]⟩) (j : Fin n) (k : Fin c) : h.lift (ix1 j) k = ix2 j k := by
  funext a
  refine Fin.ext ?_
  match a with
  | ⟨0, _⟩ => rfl
  | ⟨1, _⟩ => rfl

/-- A sum along the rows, at row `j`. -/
theorem sum_at {c : ℕ} (x : (⟨2, ![n, c]⟩ : Shape).Idx → EReal) (h : (⟨2, ![n, c]⟩ : Shape).Reduces [1] ⟨1, ![n]⟩)
    (hφ : FKind.Formats FTy.f32) (hacc : (0x00000000#32 : BitVec 32) = FKind.add.neutral FTy.f32 hφ) (j : Fin n) :
    multiReduction (F := Ideal) (φ := .f32) .add [1] ⟨1, ![n]⟩ x 0x00000000#32 h hφ hacc (ix1 j) = ∑ k : Fin c, x (ix2 j k) :=
  (Ideal.multiReduction_add_single (φ := .f32) x 0x00000000#32 h hφ hacc (ix1 j)).trans
    (Finset.sum_congr rfl fun k _ => congrArg x (lift_row h j k))

/-- The host's sum along the rows, at row `j`. -/
theorem hostSum_at {c : ℕ} (x : (⟨2, ![n, c]⟩ : Shape).Idx → EReal) (h : (⟨2, ![n, c]⟩ : Shape).Reduces [1] ⟨1, ![n]⟩)
    (h' : (⟨2, ![n, c]⟩ : Shape).ReducesTo [1] ⟨1, ![n]⟩) (hu : 0 < (⟨0, ![]⟩ : Shape).numel) (j : Fin n) :
    Host.reduceAdd (F := Ideal) (φ := .f32) x (constant (F := Ideal) ⟨0, ![]⟩ .f32 0x00000000#32) h' hu (ix1 j) = ∑ k : Fin c, x (ix2 j k) := by
  refine (hostReduceAdd_apply (φ := .f32) x _ h' hu (ix1 j)).trans ((Ideal.hostReduceAdd_single h' h x _ (ix1 j)).trans ?_)
  rw [show (constant (F := Ideal) ⟨0, ![]⟩ .f32 0x00000000#32) (Shape.Idx.first hu) = (0 : EReal) from Ideal.ofBits_zero_f32, zero_add]
  exact Finset.sum_congr rfl fun k _ => congrArg x (lift_row h j k)

/-- A list kept as a column is the list. -/
theorem col_at {α : Type} (x : (⟨1, ![n]⟩ : Shape).Idx → α) (h : (⟨1, ![n]⟩ : Shape).ShapeCasts ⟨2, ![n, 1]⟩) (j : Fin n) :
    shapeCast ⟨2, ![n, 1]⟩ x h (ix2 j (0 : Fin 1)) = x (ix1 j) :=
  shapeCast_apply x h _ _ (by rw [Shape.rowMajor_val_one, Shape.rowMajor_val_two]; show j.val = j.val * 1 + 0; omega)

/-- A column broadcast along the rows is, at a row, the column's entry. -/
theorem bcol_at {α : Type} (hn : n ≠ 1) (x : (⟨2, ![n, 1]⟩ : Shape).Idx → α) (h : (⟨2, ![n, 1]⟩ : Shape).Broadcasts ⟨2, ![n, 64]⟩) (j : Fin n) (l : Fin 64) :
    broadcastTo ⟨2, ![n, 64]⟩ x h (ix2 j l) = x (ix2 j (0 : Fin 1)) :=
  broadcastTo_apply x h _ _ fun a => by
    match a with
    | ⟨0, _⟩ => exact (if_neg (show ¬(n = 1) from hn)).symm
    | ⟨1, _⟩ => exact (if_pos (show (1 : ℕ) = 1 from rfl)).symm

/-- The host's column of a list. -/
theorem hostCol_at {α : Type} (hn : n ≠ 1) (x : (⟨1, ![n]⟩ : Shape).Idx → α) (h : (⟨1, ![n]⟩ : Shape).BroadcastsInDim ⟨2, ![n, 1]⟩ ![0]) (j : Fin n) (z : Fin 1) :
    broadcastInDim ⟨2, ![n, 1]⟩ ![0] h x (ix2 j z) = x (ix1 j) :=
  broadcastInDim_apply _ h x _ _ fun a => by
    match a with
    | ⟨0, _⟩ => exact (if_neg (show ¬(n = 1) from hn)).symm

/-- The host's column broadcast along the rows. -/
theorem hostBcol_at {α : Type} (hn : n ≠ 1) (x : (⟨2, ![n, 1]⟩ : Shape).Idx → α) (h : (⟨2, ![n, 1]⟩ : Shape).BroadcastsInDim ⟨2, ![n, 64]⟩ ![0, 1]) (j : Fin n) (l : Fin 64) :
    broadcastInDim ⟨2, ![n, 64]⟩ ![0, 1] h x (ix2 j l) = x (ix2 j (0 : Fin 1)) :=
  broadcastInDim_apply _ h x _ _ fun a => by
    match a with
    | ⟨0, _⟩ => exact (if_neg (show ¬(n = 1) from hn)).symm
    | ⟨1, _⟩ => exact (if_pos (show (1 : ℕ) = 1 from rfl)).symm

/-- The host's list broadcast along the rows. -/
theorem hostRow_at {α : Type} (hn : n ≠ 1) (x : (⟨1, ![n]⟩ : Shape).Idx → α) (h : (⟨1, ![n]⟩ : Shape).BroadcastsInDim ⟨2, ![n, 64]⟩ ![0]) (j : Fin n) (l : Fin 64) :
    broadcastInDim ⟨2, ![n, 64]⟩ ![0] h x (ix2 j l) = x (ix1 j) :=
  broadcastInDim_apply _ h x _ _ fun a => by
    match a with
    | ⟨0, _⟩ => exact (if_neg (show ¬(n = 1) from hn)).symm

end Rows

/-- Eight blocks of 2048 are 16384. -/
theorem sum_blocks (f : Fin 16384 → EReal) :
    ∑ t : Fin 8, ∑ j : Fin 2048, f ⟨t.val * 2048 + j.val, by have := t.isLt; have := j.isLt; omega⟩ = ∑ r, f r := by
  rw [← Fintype.sum_prod_type' (f := fun (t : Fin 8) (j : Fin 2048) => f ⟨t.val * 2048 + j.val, by have := t.isLt; have := j.isLt; omega⟩)]
  exact Fintype.sum_equiv (finProdFinEquiv (m := 8) (n := 2048)) _ _ fun x => congrArg f (Fin.ext (by
    show x.1.val * 2048 + x.2.val = x.2.val + 2048 * x.1.val; omega))

end Cert.Proof

end
-- ==== Proof.Value.lean ====
/-
  The kernel's arithmetic over the reals, row by row: what the last region's block adds to the total.
-/
module

public import proofs.«01_k».proof.Proof.Region2
public import proofs.«01_k».proof.Proof.Spec

@[expose] public section

noncomputable section

namespace Cert.Proof

open Cert.KernelIdeal Cert.KernelIdeal.Gen
open Idealize.ShloMosaic Idealize.ShloMosaic.ValueIdx

/-! ## The relation table: each row beside its unit normal -/

/-- The left half of a row of the fused table is the relation's. -/
theorem fused_left (N R : S1000x64.Idx → EReal) (j : Fin 1000) (l : Fin 64) :
    (k0_pay1 (F := Ideal) N R (ix2 j ⟨l.val, by omega⟩) : EReal) = at64 R j l := by
  unfold k0_pay1
  exact concatenate_pair_apply_left (t := S1000x128) (s₁ := S1000x64) (s₂ := S1000x64) 1 R _ _ _ rfl (ix2 j l) fun b => by
    match b with
    | ⟨0, _⟩ => rfl
    | ⟨1, _⟩ => rfl

/-- The right half is the unit normal. -/
theorem fused_right (N R : S1000x64.Idx → EReal) (j : Fin 1000) (l : Fin 64) :
    (k0_pay1 (F := Ideal) N R (ix2 j ⟨64 + l.val, by omega⟩) : EReal) = unit (at64 N j) l := by
  unfold k0_pay1
  refine (concatenate_pair_apply_right (t := S1000x128) (s₁ := S1000x64) (s₂ := S1000x64) 1 R _ _ _ rfl rfl (ix2 j l) ?_ ?_).trans ?_
  · intro b hb
    match b with
    | ⟨0, _⟩ => rfl
    | ⟨1, _⟩ => exact absurd rfl hb
  · show l.val + 64 = 64 + l.val; omega
  · show Ideal.div (N (ix2 j l)) _ = Ideal.div (N (ix2 j l)) _
    refine congrArg (Ideal.div (N (ix2 j l))) ?_
    refine (bcol_at (n := 1000) (by norm_num) _ _ j l).trans ?_
    show max (Ideal.sqrt (shapeCast S1000x1 _ _ (ix2 j (0 : Fin 1)))) _ = _
    rw [col_at (n := 1000)]
    exact congrArg (fun s => max (Ideal.sqrt s) _) (sum_at (n := 1000) _ _ _ _ j)

/-! ## A block of the last region -/

/-- The half of row `j` of a block that the selector names. -/
def half (x : S2048x128.Idx → EReal) (s : S8x2048.Idx → EReal) (j : Fin 2048) : Vec64 := fun l =>
  if Ideal.cmp .ogt (s (ix2 (0 : Fin 8) j)) (Ideal.ofBits .f32 0x3F000000#32) = 1#1 then x (ix2 j ⟨64 + l.val, by omega⟩) else x (ix2 j ⟨l.val, by omega⟩)
/-- The left half of row `j`, -/
def lo (x : S2048x128.Idx → EReal) (j : Fin 2048) : Vec64 := fun l => x (ix2 j ⟨l.val, by omega⟩)
/-- and the right half. -/
def hi (x : S2048x128.Idx → EReal) (j : Fin 2048) : Vec64 := fun l => x (ix2 j ⟨64 + l.val, by omega⟩)

/-- The halves as the region's whole-block operations, -/
def loT (x : FVec Ideal S2048x128 .f32) : FVec Ideal S2048x64 .f32 :=
  extractStridedSlice S2048x64 ![0, 0] (shapeCast S2048x128 x shapeCasts_S2048x128_S2048x128) slices_S2048x128_o0_0_S2048x64
def hiT (x : FVec Ideal S2048x128 .f32) : FVec Ideal S2048x64 .f32 :=
  extractStridedSlice S2048x64 ![0, 64] (shapeCast S2048x128 x shapeCasts_S2048x128_S2048x128) slices_S2048x128_o0_64_S2048x64
/-- the choice between them, -/
def halfT (x : FVec Ideal S2048x128 .f32) (s : FVec Ideal S8x2048 .f32) : FVec Ideal S2048x64 .f32 :=
  select (broadcastTo S2048x64 (shapeCast S2048x1 (cmpf .ogt (extractStridedSlice S2048x1 ![0, 0]
      (transpose S2048x8 [1, 0] (shapeCast S8x2048 s shapeCasts_S8x2048_S8x2048) transposes_S8x2048_p1_0_S2048x8) slices_S2048x8_o0_0_S2048x1)
      (broadcast S2048x1 (Scalar.ofBits .f32 0x3F000000#32 : Ideal .f32))) shapeCasts_S2048x1_S2048x1) broadcasts_S2048x1_S2048x64) (hiT x) (loT x)
/-- and the projection. -/
def projT (e n : FVec Ideal S2048x64 .f32) : FVec Ideal S2048x64 .f32 :=
  subf e (mulf (broadcastTo S2048x64 (shapeCast S2048x1 (multiReduction .add [1] S2048 (mulf e n) 0x00000000#32 reduces_S2048x64_S2048 (.inl rfl) rfl)
    shapeCasts_S2048_S2048x1) broadcasts_S2048x1_S2048x64) n)

theorem loT_at (x : S2048x128.Idx → EReal) (j : Fin 2048) : at64 (loT x) j = lo x j := by
  funext l
  unfold loT
  rw [shapeCast_self]
  exact extractStridedSlice_apply _ _ _ _ _ fun a => by
    match a with
    | ⟨0, _⟩ => exact (Nat.zero_add _).symm
    | ⟨1, _⟩ => exact (Nat.zero_add _).symm

theorem hiT_at (x : S2048x128.Idx → EReal) (j : Fin 2048) : at64 (hiT x) j = hi x j := by
  funext l
  unfold hiT
  rw [shapeCast_self]
  exact extractStridedSlice_apply _ _ _ _ _ fun a => by
    match a with
    | ⟨0, _⟩ => exact (Nat.zero_add _).symm
    | ⟨1, _⟩ => rfl

theorem halfT_at (x : S2048x128.Idx → EReal) (s : S8x2048.Idx → EReal) (j : Fin 2048) : at64 (halfT x s) j = half x s j := by
  funext l
  have hm : ∀ c : S2048x64.Idx → BitVec 1, c (ix2 j l) = Ideal.cmp .ogt (s (ix2 (0 : Fin 8) j)) (Ideal.ofBits .f32 0x3F000000#32) →
      (select c (hiT x) (loT x) (ix2 j l) : EReal) = half x s j l := fun c hc => by
    show (if c (ix2 j l) = 1#1 then at64 (hiT x) j l else at64 (loT x) j l) = _
    rw [hc, hiT_at, loT_at]; rfl
  refine hm _ ?_
  refine (bcol_at (n := 2048) (by norm_num) _ _ j l).trans ?_
  rw [shapeCast_self, shapeCast_self]
  show Ideal.cmp .ogt (extractStridedSlice (s := S2048x8) S2048x1 ![0, 0] _ _ (ix2 j (0 : Fin 1))) _ = _
  refine congrArg (fun v => Ideal.cmp .ogt v _) ?_
  refine (extractStridedSlice_apply (s := S2048x8) (t := S2048x1) ![0, 0] _ _ (ix2 j (0 : Fin 1)) (ix2 j (0 : Fin 8)) fun a => ?_).trans ?_
  · match a with
    | ⟨0, _⟩ => exact (Nat.zero_add _).symm
    | ⟨1, _⟩ => rfl
  · exact transpose_apply (s := S8x2048) (t := S2048x8) [1, 0] s _ (ix2 j (0 : Fin 8)) (ix2 (0 : Fin 8) j) fun b => by
      match b with
      | ⟨0, _⟩ => rfl
      | ⟨1, _⟩ => rfl

theorem projT_at (e n : S2048x64.Idx → EReal) (j : Fin 2048) : at64 (projT e n) j = proj (at64 e j) (at64 n j) := by
  funext l
  show e (ix2 j l) - broadcastTo S2048x64 _ _ (ix2 j l) * n (ix2 j l) = e (ix2 j l) - _ * n (ix2 j l)
  refine congrArg (fun v => e (ix2 j l) - v * n (ix2 j l)) ?_
  refine (bcol_at (n := 2048) (by norm_num) _ _ j l).trans ?_
  rw [col_at (n := 2048)]
  exact sum_at (n := 2048) _ _ _ _ j

/-- What a block adds: the margin losses of its 2048 triples. -/
theorem stepOf_eq (ph pt nh nt pw nw : S2048x128.Idx → EReal) (ps pts ns nts : S8x2048.Idx → EReal) (y : EReal) :
    (stepOf (F := Ideal) ph pt nh nt pw nw ps pts ns nts y : EReal)
      = y + ∑ j : Fin 2048, hinge (dist (half ph ps j) (half pt pts j) (lo pw j) (hi pw j)) (dist (half nh ns j) (half nt nts j) (lo nw j) (hi nw j)) := by
  have e2 : k4_pay2 (F := Ideal) ph ps pt pts pw
      = mulf (subf (addf (projT (halfT ph ps) (hiT pw)) (loT pw)) (projT (halfT pt pts) (hiT pw)))
        (subf (addf (projT (halfT ph ps) (hiT pw)) (loT pw)) (projT (halfT pt pts) (hiT pw))) := by rfl
  have e6 : k4_pay6 (F := Ideal) nh ns nw = addf (projT (halfT nh ns) (hiT nw)) (loT nw) := by rfl
  have e7 : k4_pay7 (F := Ideal) nt nts nw = projT (halfT nt nts) (hiT nw) := by rfl
  have hg : ∀ (h t w : S2048x128.Idx → EReal) (a b : S8x2048.Idx → EReal) (j : Fin 2048) (l : Fin 64),
      (subf (F := Ideal) (φ := .f32) (addf (projT (halfT h a) (hiT w)) (loT w)) (projT (halfT t b) (hiT w)) (ix2 j l) : EReal)
        = gap (half h a j) (half t b j) (lo w j) (hi w j) l := fun h t w a b j l => by
    show (at64 (projT (halfT h a) (hiT w)) j l + at64 (loT w) j l) - at64 (projT (halfT t b) (hiT w)) j l = _
    rw [projT_at, projT_at, halfT_at, halfT_at, hiT_at, loT_at]; rfl
  have hd : ∀ (g : S2048x64.Idx → EReal) (v : Vec64) (j : Fin 2048), (∀ l, g (ix2 j l) = v l) →
      (sqrt (F := Ideal) (φ := .f32) (multiReduction (F := Ideal) (φ := .f32) .add [1] S2048 (mulf (F := Ideal) (φ := .f32) g g) 0x00000000#32 reduces_S2048x64_S2048 (.inl rfl) rfl) (ix1 j) : EReal)
        = Ideal.sqrt (dot v v) := fun g v j hv => by
    refine congrArg Ideal.sqrt ((sum_at (n := 2048) _ _ _ _ j).trans (Finset.sum_congr rfl fun l _ => ?_))
    show g (ix2 j l) * g (ix2 j l) = _
    rw [hv]
  unfold stepOf
  rw [e2, e6, e7]
  unfold k4_pay1 k4_pay3
  show y + extractAt (s := S1x1) ![0, 0] _ _ = y + _
  refine congrArg (y + ·) ?_
  show shapeCast S1x1 _ _ _ = _
  refine (shapeCast_apply (s := S1) (t := S1x1) _ _ _ (ix1 (0 : Fin 1)) (by
    rw [Shape.rowMajor_val_one, Shape.rowMajor_val_two]; rfl)).trans ?_
  refine (sum_at (n := 1) (c := 2048) _ _ _ _ 0).trans (Finset.sum_congr rfl fun j _ => ?_)
  refine (shapeCast_addUnit_apply ![2048] _ _ (ix2 (0 : Fin 1) j)).trans ?_
  rw [show (fun a : Fin 1 => (ix2 (0 : Fin 1) j : (⟨2, ![1, 2048]⟩ : Shape).Idx) a.succ) = ix1 j from funext fun a => by fin_cases a; rfl]
  show max (Ideal.ofBits .f32 0x00000000#32) ((_ - _) + Ideal.ofBits .f32 0x3F800000#32) = max 0 ((_ - _) + 1)
  rw [Ideal.ofBits_zero_f32, Ideal.ofBits_one_f32]
  refine congrArg (fun v : EReal => max 0 (v + 1)) (congrArg₂ (fun a b : EReal => a - b) ?_ ?_)
  · exact hd _ _ j fun l => hg ph pt pw ps pts j l
  · exact hd _ _ j fun l => hg nh nt nw ns nts j l

/-- The eight blocks' losses, summed. -/
theorem acc_eq (f13 : S65536x128.Idx → EReal) (f3 : S32768x128.Idx → EReal) (f18 : S8x65536.Idx → EReal) (b : Fin 8 → EReal)
    (hb : ∀ t y, (step (F := Ideal) f13 f3 f18 t y : EReal) = y + b t) : (acc (F := Ideal) f13 f3 f18 8 : EReal) = ∑ t, b t := by
  have hs : ∀ n : ℕ, (hn : n < 8) → (acc (F := Ideal) f13 f3 f18 (n + 1) : EReal) = acc (F := Ideal) f13 f3 f18 n + b ⟨n, hn⟩ := fun n hn =>
    (show acc (F := Ideal) f13 f3 f18 (n + 1) = step f13 f3 f18 ⟨n, hn⟩ (acc f13 f3 f18 n) from dif_pos hn).trans (hb _ _)
  rw [hs 7 (by norm_num), hs 6 (by norm_num), hs 5 (by norm_num), hs 4 (by norm_num), hs 3 (by norm_num), hs 2 (by norm_num), hs 1 (by norm_num), hs 0 (by norm_num),
    show (acc (F := Ideal) f13 f3 f18 0 : EReal) = 0 from Ideal.ofBits_zero_f32, zero_add, Fin.sum_univ_eight]
  rfl

end Cert.Proof

end
-- ==== Proof.Loss.lean ====
/-
  The kernel's loss over the reals is the loss of the launch's tables and indices.
-/
module

public import proofs.«01_k».proof.Proof.Value
public import proofs.«01_k».proof.Proof.Index
public import proofs.«01_k».proof.Proof.Launch

@[expose] public section

noncomputable section

namespace Cert.Proof

open Cert.KernelIdeal Cert.KernelIdeal.Gen
open Idealize.ShloMosaic Idealize.ShloMosaic.TcCoe Idealize.ShloMosaic.ValueIdx

/-- A half is above one half exactly when it is the second. -/
theorem second_iff (b : ℕ) (hb : b < 2) :
    Ideal.cmp .ogt (((BitVec.ofNat 32 b).toInt : ℝ) : EReal) (Ideal.ofBits .f32 0x3F000000#32) = 1#1 ↔ b = 1 := by
  have hc : Ideal.ofBits .f32 0x3F000000#32 = (((1 : ℝ) / 2 : ℝ) : EReal) := by
    simp [Ideal.ofBits, Ideal.ieee]
    rw [← EReal.coe_mul]
    exact congrArg _ (by norm_num)
  have hd : ∀ x : ℝ, Ideal.cmp .ogt (x : EReal) (((1 : ℝ) / 2 : ℝ) : EReal) = 1#1 ↔ 1 / 2 < x := fun x => by
    show BitVec.ofBool (decide ((((1 : ℝ) / 2 : ℝ) : EReal) < (x : EReal))) = 1#1 ↔ _
    by_cases hx : 1 / 2 < x
    · rw [decide_eq_true (EReal.coe_lt_coe_iff.2 hx)]; exact iff_of_true rfl hx
    · rw [decide_eq_false fun h => hx (EReal.coe_lt_coe_iff.1 h)]; exact iff_of_false (by decide) hx
  rw [hc, hd]
  interval_cases b
  · rw [show (BitVec.ofNat 32 0).toInt = 0 from rfl]; norm_num
  · rw [show (BitVec.ofNat 32 1).toInt = 1 from rfl]; norm_num

section Run
variable {m : (ℓ : Loc nD τ sig) → Buf (Elt Ideal) ℓ} {d : Dev nD}

/-- Place `k` of the four entity lists laid end to end. -/
abbrev place (q : Fin 4) (t : Fin 8) (j : Fin 2048) : Fin 65536 := ⟨(t.val + 8 * q.val) * 2048 + j.val, by have := t.isLt; have := q.isLt; have := j.isLt; omega⟩
/-- Triple `j` of block `t`. -/
abbrev triple (t : Fin 8) (j : Fin 2048) : Fin 16384 := ⟨t.val * 2048 + j.val, by have := t.isLt; have := j.isLt; omega⟩

theorem ient_place (q : Fin 4) (t : Fin 8) (j : Fin 2048) : ient m d (ix1 (place q t j)) = entIx m d q (ix1 (triple t j)) :=
  ient_at q (triple t j) (place q t j) (by show (t.val + 8 * q.val) * 2048 + j.val = q.val * 16384 + (t.val * 2048 + j.val); omega)

/-- The selector of an entity: the half of its pair it is in. -/
theorem sel_place (h : RangeAt m d) (q : Fin 4) (t : Fin 8) (j : Fin 2048) :
    (sel m d (ix2 (0 : Fin 8) (place q t j)) : EReal)
      = (((BitVec.ofNat 32 ((entIx m d q (ix1 (triple t j))).toNat / 16384 % 2)).toInt : ℝ) : EReal) := by
  have e := ient_place (m := m) (d := d) q t j
  have hv : (ient m d (ix1 (place q t j))).toNat < 1000000 := by rw [e]; exact entIx_lt h q _
  have hh := half_at (ient m d) (place q t j) hv
  rw [e] at hh
  unfold sel selRow
  refine (broadcastInDim_apply (s := S1x65536) (t := S8x65536) ![0, 1] _ _ _ (ix2 (0 : Fin 1) (place q t j)) fun a => ?_).trans ?_
  · match a with
    | ⟨0, _⟩ => rfl
    | ⟨1, _⟩ => rfl
  refine (broadcastInDim_apply (s := S65536) (t := S1x65536) ![1] _ _ _ (ix1 (place q t j)) fun a => ?_).trans ?_
  · match a with
    | ⟨0, _⟩ => rfl
  exact congrArg (fun w : BitVec 32 => ((w.toInt : ℝ) : EReal)) hh

/-- The half a block's selector names of a row is the entity's. -/
theorem half_row (h : RangeAt m d) {f : S65536x128.Idx → EReal} (hf : Rows (F := Ideal) m d f) (q : Fin 4) (t : Fin 8) (j : Fin 2048) :
    half (rowBlk (F := Ideal) f q t) (selBlk (F := Ideal) (sel m d) q t) j = rowOf (n := 1000000) (V₀ m d (rf main_arg0)) (entIx m d q (ix1 (triple t j))) := by
  have e := ient_place (m := m) (d := d) q t j
  have hv' : (ient m d (ix1 (place q t j))).toNat < 1000000 := by rw [e]; exact entIx_lt h q _
  have hrow := idxRow_at (ient m d) (place q t j) hv'
  rw [e] at hrow
  have hs := sel_place h q t j
  have hv : (entIx m d q (ix1 (triple t j))).toNat < 1000000 := entIx_lt h q _
  have key : ∀ (l : Fin 64) (c : Fin 128), c.val = 64 * ((entIx m d q (ix1 (triple t j))).toNat / 16384 % 2) + l.val →
      f (ix2 (place q t j) c) = rowOf (n := 1000000) (V₀ m d (rf main_arg0)) (entIx m d q (ix1 (triple t j))) l := fun l c hc => by
    obtain ⟨ft, hg, hx⟩ := hf (ix2 (place q t j) c)
    rw [hx]
    refine (hg _ l (Fin.ofNat 1000000 (entIx m d q (ix1 (triple t j))).toNat) ?_ ?_).trans ?_
    · show (idxRow (ient m d) (ix2 (0 : Fin 1) (place q t j))).toNat % 507904
        = (entIx m d q (ix1 (triple t j))).toNat % 1000000 / 32768 * 16384 + (entIx m d q (ix1 (triple t j))).toNat % 1000000 % 16384
      rw [hrow, Nat.mod_eq_of_lt hv]
      generalize (entIx m d q (ix1 (triple t j))).toNat = v at hv ⊢
      omega
    · show c.val = 64 * ((entIx m d q (ix1 (triple t j))).toNat % 1000000 / 16384 % 2) + l.val
      rw [Nat.mod_eq_of_lt hv, hc]
    · unfold te
      exact transpose_apply (s := S1000000x64) (t := S64x1000000) [1, 0] _ _ _ (ix2 (Fin.ofNat 1000000 (entIx m d q (ix1 (triple t j))).toNat) l) fun b => by
        match b with
        | ⟨0, _⟩ => rfl
        | ⟨1, _⟩ => rfl
  funext l
  show (if Ideal.cmp .ogt (sel m d (ix2 (0 : Fin 8) (place q t j))) _ = 1#1 then f (ix2 (place q t j) ⟨64 + l.val, _⟩) else f (ix2 (place q t j) ⟨l.val, _⟩)) = _
  rw [hs]
  have hb : (entIx m d q (ix1 (triple t j))).toNat / 16384 % 2 < 2 := Nat.mod_lt _ (by norm_num)
  by_cases h1 : (entIx m d q (ix1 (triple t j))).toNat / 16384 % 2 = 1
  · rw [if_pos ((second_iff _ hb).2 h1)]
    exact key l _ (by show 64 + l.val = _; rw [h1])
  · rw [if_neg fun hc => h1 ((second_iff _ hb).1 hc)]
    exact key l _ (by show l.val = _; omega)

/-- Place `k` of the two relation lists laid end to end. -/
abbrev place2 (q : Fin 2) (t : Fin 8) (j : Fin 2048) : Fin 32768 := ⟨(t.val + 8 * q.val) * 2048 + j.val, by have := t.isLt; have := q.isLt; have := j.isLt; omega⟩

/-- A gathered relation row is the fused table's row of the relation. -/
theorem relRows_at (q : Fin 2) (t : Fin 8) (j : Fin 2048) (c : Fin 128) :
    relRows m d (ix2 (place2 q t j) c) = wt m d (ix2 (Fin.ofNat 1000 (relIx m d q (ix1 (triple t j))).toNat) c) := by
  have e := idxRel_at (V₀ m d (rf main_arg4)) (V₀ m d (rf main_arg7)) q (triple t j) (place2 q t j)
    (by show (t.val + 8 * q.val) * 2048 + j.val = q.val * 16384 + (t.val * 2048 + j.val); omega)
  unfold relRows Tile1.G
  refine congrArg (wt m d) (congrArg (fun r => ix2 r c) (Fin.ext ?_))
  exact congrArg (fun w : BitVec 32 => w.toNat % 1000) e

theorem lo_row (q : Fin 2) (t : Fin 8) (j : Fin 2048) :
    lo (relBlk (F := Ideal) (relRows m d) q t) j = rowOf (n := 1000) (V₀ m d (rf main_arg1)) (relIx m d q (ix1 (triple t j))) := by
  funext l
  exact (relRows_at q t j ⟨l.val, by omega⟩).trans (fused_left _ _ _ l)

theorem hi_row (q : Fin 2) (t : Fin 8) (j : Fin 2048) :
    hi (relBlk (F := Ideal) (relRows m d) q t) j = unit (rowOf (n := 1000) (V₀ m d (rf main_arg2)) (relIx m d q (ix1 (triple t j)))) := by
  funext l
  exact (relRows_at q t j ⟨64 + l.val, by omega⟩).trans (fused_right _ _ _ l)

/-- The kernel's result. -/
theorem lossOf_eq (h : RangeAt m d) {f : S65536x128.Idx → EReal} (hf : Rows (F := Ideal) m d f) :
    lossOf (F := Ideal) m d f = fun _ => lossAt (V₀ m d (rf main_arg0)) (V₀ m d (rf main_arg1)) (V₀ m d (rf main_arg2))
      (V₀ m d (rf main_arg3)) (V₀ m d (rf main_arg4)) (V₀ m d (rf main_arg5)) (V₀ m d (rf main_arg6)) (V₀ m d (rf main_arg7)) (V₀ m d (rf main_arg8)) := by
  funext i
  show Ideal.ofBits .f32 0x00000000#32 + (acc (F := Ideal) f (relRows m d) (sel m d) 8 : EReal) = _
  rw [Ideal.ofBits_zero_f32, zero_add]
  unfold lossAt
  rw [← sum_blocks]
  refine acc_eq f (relRows m d) (sel m d) _ fun t y => ?_
  unfold step
  rw [stepOf_eq]
  refine congrArg (y + ·) (Finset.sum_congr rfl fun j _ => ?_)
  rw [half_row h hf, half_row h hf, half_row h hf, half_row h hf, lo_row, lo_row, hi_row, hi_row]
  rfl

end Run

end Cert.Proof

end
-- ==== Proof.RefLoss.lean ====
/-
  The reference's loss over the reals is the loss of the launch's tables and indices.
-/
module

public import proofs.«01_k».proof.Proof.Spec
public import proofs.«01_k».proof.Proof.Gen.ReferenceIdeal.Run
public import Idealize.ShloMosaic.Lib.ReduceAll
public import Idealize.ShloMosaic.Lib.WordCmp
public import Idealize.ShloMosaic.Lib.Routing.Ops

@[expose] public section

noncomputable section

namespace Cert.Proof

open Cert.ReferenceIdeal Cert.ReferenceIdeal.Gen Cert.ReferenceIdeal.Value
open Idealize.ShloMosaic Idealize.ShloMosaic.TcCoe Idealize.ShloMosaic.ValueIdx Idealize.ShloMosaic.StableHlo

namespace Ref

/-! ## A table's rows taken by an index array in range -/

/-- The column of start indices: an index below zero counts from the end, and none is below zero. -/
theorem starts_at {n : ℕ} (hn : n < 2 ^ 31) (a b : S16384.Idx → BitVec 32) (ha : ∀ i, (a i).toNat < n) (j : Fin 16384) (z : Fin 1) :
    broadcastInDim S16384x1 ![0] bcast_S16384_S16384x1_0 (select (cmpi .slt a (broadcastInDim S16384 ![] bcast_S_S16384 (constantI S_ 32 0#32))) b a) (ix2 j z)
      = a (ix1 j) := by
  refine (hostCol_at (n := 16384) (by norm_num) _ _ j z).trans ?_
  show (if IntOp.cmpi .slt (a (ix1 j)) 0#32 = 1#1 then b (ix1 j) else a (ix1 j)) = _
  have h := ha (ix1 j)
  rw [WordCmp.cmpi_slt_of_lt (by norm_num; omega) (by norm_num), decide_eq_false (by rw [BitVec.toNat_ofNat]; omega), if_neg (by decide)]

/-- The rows taken, at a row: every index passes the tests of its range, and the row is the table's. -/
theorem take_at {n : ℕ} [NeZero n] (hn : n < 2 ^ 31) (d : GatherDims ⟨2, ![n, 64]⟩ S16384x1 S16384x64) (hoff : d.offsetDims = [1])
    (hcoll : d.collapsedSliceDims = [0]) (hob : d.operandBatchingDims = []) (hsim : d.startIndexMap = [0]) (hivd : d.indexVectorDim = 1)
    (w : BitVec 32) (hw : w = BitVec.ofNat 32 (n - 1)) (x : (⟨2, ![n, 64]⟩ : Shape).Idx → EReal) (a : S16384.Idx → BitVec 32) (ha : ∀ i, (a i).toNat < n) (col : S16384x1.Idx → BitVec 32)
    (hcol : ∀ j z, col (ix2 j z) = a (ix1 j)) (nan : S16384x64.Idx → EReal) (j : Fin 16384) :
    at64 (select (broadcastInDim S16384x64 ![0] bcast_S16384_S16384x64_0 (Host.reduce IntOp.andi
        (andi (cmpi .sge col (broadcastInDim S16384x1 ![] bcast_S_S16384x1 (constantI S_ 32 0#32)))
          (cmpi .sle col (broadcastInDim S16384x1 ![0, 1] bcast_S1x1_S16384x1_0_1 (broadcastInDim S1x1 ![1] bcast_S1_S1x1_1 (constantI S1 32 w)))))
        (constantI S_ 1 1#1) reducesTo_S16384x1_S16384_d1 h_S_)) (Host.gather d x col) nan) j = rowOf x (a (ix1 j)) := by
  have h1 : ∀ i, (andi (cmpi .sge col (broadcastInDim S16384x1 ![] bcast_S_S16384x1 (constantI S_ 32 0#32)))
          (cmpi .sle col (broadcastInDim S16384x1 ![0, 1] bcast_S1x1_S16384x1_0_1 (broadcastInDim S1x1 ![1] bcast_S1_S1x1_1 (constantI S1 32 w))))) i = 1#1 := fun i => by
    obtain ⟨c, z, rfl⟩ : ∃ (c : Fin 16384) (z : Fin 1), i = ix2 c z := ⟨i 0, i 1, eq_ix2 i⟩
    show IntOp.andi (IntOp.cmpi .sge (col (ix2 c z)) 0#32) (IntOp.cmpi .sle (col (ix2 c z)) w) = 1#1
    have h := ha (ix1 c)
    rw [hcol, hw]
    rw [WordCmp.cmpi_sge_of_lt (by norm_num; omega) (by norm_num), WordCmp.cmpi_sle_of_lt (by norm_num; omega) (by rw [BitVec.toNat_ofNat]; norm_num; omega),
      decide_eq_true (by rw [BitVec.toNat_ofNat]; omega), decide_eq_true (by rw [BitVec.toNat_ofNat]; omega)]
    rfl
  funext l
  have hm : ∀ c : S16384x64.Idx → BitVec 1, c (ix2 j l) = 1#1 → (select c (Host.gather d x col) nan (ix2 j l) : EReal) = Host.gather d x col (ix2 j l) :=
    fun c hc => if_pos hc
  refine (hm _ ((hostRow_at (n := 16384) (by norm_num) _ _ j l).trans (Host.reduce_andi_one _ _ _ _ _ rfl h1))).trans ?_
  refine Routing.gather_row (nb := n) (B := 64) (n := 16384) d hoff hcoll hob hsim hivd x col j l (Fin.ofNat n (a (ix1 j)).toNat) ?_ hn
  rw [hcol]
  show a (ix1 j) = BitVec.ofNat 32 ((a (ix1 j)).toNat % n)
  rw [Nat.mod_eq_of_lt (ha _), BitVec.ofNat_toNat, BitVec.setWidth_eq]

/-! ## The operations on whole arrays of rows -/

section Ops
variable {n : ℕ} (hn : n ≠ 1) (red : (⟨2, ![n, 64]⟩ : Shape).Reduces [1] ⟨1, ![n]⟩) (redTo : (⟨2, ![n, 64]⟩ : Shape).ReducesTo [1] ⟨1, ![n]⟩)
  (b1 : (⟨1, ![n]⟩ : Shape).BroadcastsInDim ⟨2, ![n, 1]⟩ ![0]) (b2 : (⟨2, ![n, 1]⟩ : Shape).BroadcastsInDim ⟨2, ![n, 64]⟩ ![0, 1])
  (b0 : (⟨0, ![]⟩ : Shape).BroadcastsInDim ⟨2, ![n, 1]⟩ ![]) (hu : 0 < (⟨0, ![]⟩ : Shape).numel)
include hn red

/-- Each row over its length. -/
theorem unit_at (v : FVec Ideal ⟨2, ![n, 64]⟩ .f32) (j : Fin n) :
    at64 (Host.divf v (broadcastInDim ⟨2, ![n, 64]⟩ ![0, 1] b2 (maximumf (Host.sqrt (broadcastInDim ⟨2, ![n, 1]⟩ ![0] b1
      (Host.reduceAdd (mulf v v) (constant ⟨0, ![]⟩ .f32 0x00000000#32) redTo hu))) (broadcastInDim ⟨2, ![n, 1]⟩ ![] b0 (constant ⟨0, ![]⟩ .f32 0x2B8CBCCC#32))))) j
      = unit (at64 v j) := by
  funext l
  show Ideal.div (v (ix2 j l)) _ = Ideal.div (v (ix2 j l)) _
  refine congrArg (Ideal.div (v (ix2 j l))) ((hostBcol_at hn _ _ j l).trans ?_)
  show max (Ideal.sqrt (broadcastInDim (s := ⟨1, ![n]⟩) ⟨2, ![n, 1]⟩ ![0] _ _ (ix2 j (0 : Fin 1)))) _ = _
  rw [hostCol_at hn]
  exact congrArg (fun s => max (Ideal.sqrt s) _) (hostSum_at _ red _ _ j)

/-- Each row projected. -/
theorem proj_at (e v : FVec Ideal ⟨2, ![n, 64]⟩ .f32) (j : Fin n) :
    at64 (subf e (mulf (broadcastInDim ⟨2, ![n, 64]⟩ ![0, 1] b2 (broadcastInDim ⟨2, ![n, 1]⟩ ![0] b1
      (Host.reduceAdd (mulf e v) (constant ⟨0, ![]⟩ .f32 0x00000000#32) redTo hu))) v)) j
      = proj (at64 e j) (at64 v j) := by
  funext l
  show e (ix2 j l) - broadcastInDim (s := ⟨2, ![n, 1]⟩) ⟨2, ![n, 64]⟩ ![0, 1] _ _ (ix2 j l) * v (ix2 j l) = e (ix2 j l) - _ * v (ix2 j l)
  refine congrArg (fun s => e (ix2 j l) - s * v (ix2 j l)) ((hostBcol_at hn _ _ j l).trans ?_)
  rw [hostCol_at hn]
  exact hostSum_at _ red _ _ j

omit hn in
/-- Each row's length. -/
theorem dist_at (g : FVec Ideal ⟨2, ![n, 64]⟩ .f32) (v : Vec64) (j : Fin n) (hg : at64 g j = v) :
    (Host.sqrt (Host.reduceAdd (mulf g g) (constant (F := Ideal) ⟨0, ![]⟩ .f32 0x00000000#32) redTo hu) (ix1 j) : EReal) = Ideal.sqrt (dot v v) := by
  subst hg
  exact congrArg Ideal.sqrt (hostSum_at _ red _ _ j)

omit hn red in
/-- Each row's gap. -/
theorem gap_at (a b c : FVec Ideal ⟨2, ![n, 64]⟩ .f32) (h t r v : Vec64) (j : Fin n) (ha : at64 a j = proj h v) (hb : at64 b j = r) (hc : at64 c j = proj t v) :
    at64 (subf (addf a b) c) j = gap h t r v := by
  funext l
  show (at64 a j l + at64 b j l) - at64 c j l = _
  rw [ha, hb, hc]; rfl

omit hn red in
/-- Each triple's margin loss. -/
theorem hinge_at (b : (⟨0, ![]⟩ : Shape).BroadcastsInDim ⟨1, ![n]⟩ ![]) (p q : FVec Ideal ⟨1, ![n]⟩ .f32) (j : Fin n) :
    (maximumf (broadcastInDim ⟨1, ![n]⟩ ![] b (constant (F := Ideal) ⟨0, ![]⟩ .f32 0x00000000#32))
      (addf (mulf (broadcastInDim ⟨1, ![n]⟩ ![] b (constant (F := Ideal) ⟨0, ![]⟩ .f32 0x3F800000#32)) (subf p q))
        (broadcastInDim ⟨1, ![n]⟩ ![] b (constant (F := Ideal) ⟨0, ![]⟩ .f32 0x3F800000#32))) (ix1 j) : EReal) = hinge (p (ix1 j)) (q (ix1 j)) := by
  show max (Ideal.ofBits .f32 0x00000000#32) (Ideal.ofBits .f32 0x3F800000#32 * ((p (ix1 j) : EReal) - q (ix1 j)) + Ideal.ofBits .f32 0x3F800000#32) = _
  rw [Ideal.ofBits_zero_f32, Ideal.ofBits_one_f32, one_mul]; rfl

omit hn red in
/-- The host's sum of a list. -/
theorem total_at (x : (⟨1, ![n]⟩ : Shape).Idx → EReal) (h' : (⟨1, ![n]⟩ : Shape).ReducesTo [0] ⟨0, ![]⟩)
    (i : (⟨0, ![]⟩ : Shape).Idx) :
    Host.reduceAdd (F := Ideal) (φ := .f32) x (constant (F := Ideal) ⟨0, ![]⟩ .f32 0x00000000#32) h' hu i = ∑ k : Fin n, x (ix1 k) := by
  refine (hostReduceAdd_apply (φ := .f32) x _ h' hu i).trans ((Ideal.hostReduceAdd_total h' (fun b => b.elim0) x _ i).trans ?_)
  rw [show (constant (F := Ideal) ⟨0, ![]⟩ .f32 0x00000000#32) (Shape.Idx.first hu) = (0 : EReal) from Ideal.ofBits_zero_f32, zero_add]
  exact Fintype.sum_equiv ⟨fun k => (k 0 : Fin n), fun k => ix1 k, fun k => (eq_ix1 k).symm, fun _ => rfl⟩ _ _ fun k => congrArg x (eq_ix1 k)

end Ops

theorem red : S16384x64.Reduces [1] S16384 := by decide

/-- The indices are in their tables. -/
structure InTables (a3 a4 a5 a6 a7 a8 : S16384.Idx → BitVec 32) : Prop where
  h3 : ∀ i, (a3 i).toNat < 1000000
  h4 : ∀ i, (a4 i).toNat < 1000
  h5 : ∀ i, (a5 i).toNat < 1000000
  h6 : ∀ i, (a6 i).toNat < 1000000
  h7 : ∀ i, (a7 i).toNat < 1000
  h8 : ∀ i, (a8 i).toNat < 1000000

section Run
variable (V : Valuation τ sig (Elt Ideal))

/-- What an argument holds at launch. -/
abbrev arg (b : Ref sig .tc) : (Proc.devRef .tc b : DevRef τ sig).ty.Contents (Elt Ideal) := V (Proc.devRef .tc b)

variable {V} (h : InTables (arg V main_arg3) (arg V main_arg4) (arg V main_arg5) (arg V main_arg6) (arg V main_arg7) (arg V main_arg8)) (j : Fin 16384)
include h

/-- The positive heads, -/
theorem v0_at : at64 (res_main_v0 V) j = rowOf (n := 1000000) (arg V main_arg0) (arg V main_arg3 (ix1 j)) :=
  take_at (n := 1000000) (by norm_num) gather_S1000000x64_S16384x1_S16384x64_1_0_n_n_0_1_164 rfl rfl rfl rfl rfl 999999#32 rfl (arg V main_arg0) (arg V main_arg3) h.h3 (res_main_call0_v5 V)
    (starts_at (n := 1000000) (by norm_num) _ _ h.h3) _ j

/-- the positive tails, -/
theorem v2_at : at64 (res_main_v2 V) j = rowOf (n := 1000000) (arg V main_arg0) (arg V main_arg5 (ix1 j)) :=
  take_at (n := 1000000) (by norm_num) gather_S1000000x64_S16384x1_S16384x64_1_0_n_n_0_1_164 rfl rfl rfl rfl rfl 999999#32 rfl (arg V main_arg0) (arg V main_arg5) h.h5 (res_main_call2_v5 V)
    (starts_at (n := 1000000) (by norm_num) _ _ h.h5) _ j

/-- the negative heads, -/
theorem v29_at : at64 (res_main_v29 V) j = rowOf (n := 1000000) (arg V main_arg0) (arg V main_arg6 (ix1 j)) :=
  take_at (n := 1000000) (by norm_num) gather_S1000000x64_S16384x1_S16384x64_1_0_n_n_0_1_164 rfl rfl rfl rfl rfl 999999#32 rfl (arg V main_arg0) (arg V main_arg6) h.h6 (res_main_call7_v5 V)
    (starts_at (n := 1000000) (by norm_num) _ _ h.h6) _ j

/-- the negative tails, -/
theorem v31_at : at64 (res_main_v31 V) j = rowOf (n := 1000000) (arg V main_arg0) (arg V main_arg8 (ix1 j)) :=
  take_at (n := 1000000) (by norm_num) gather_S1000000x64_S16384x1_S16384x64_1_0_n_n_0_1_164 rfl rfl rfl rfl rfl 999999#32 rfl (arg V main_arg0) (arg V main_arg8) h.h8 (res_main_call9_v5 V)
    (starts_at (n := 1000000) (by norm_num) _ _ h.h8) _ j

/-- the positive relations' normals, -/
theorem v3_at : at64 (res_main_v3 V) j = rowOf (n := 1000) (arg V main_arg2) (arg V main_arg4 (ix1 j)) :=
  take_at (n := 1000) (by norm_num) gather_S1000x64_S16384x1_S16384x64_1_0_n_n_0_1_164 rfl rfl rfl rfl rfl 999#32 rfl (arg V main_arg2) (arg V main_arg4) h.h4 (res_main_call3_v5 V)
    (starts_at (n := 1000) (by norm_num) _ _ h.h4) _ j

/-- and the negative relations' normals, -/
theorem v32_at : at64 (res_main_v32 V) j = rowOf (n := 1000) (arg V main_arg2) (arg V main_arg7 (ix1 j)) :=
  take_at (n := 1000) (by norm_num) gather_S1000x64_S16384x1_S16384x64_1_0_n_n_0_1_164 rfl rfl rfl rfl rfl 999#32 rfl (arg V main_arg2) (arg V main_arg7) h.h7 (res_main_call10_v5 V)
    (starts_at (n := 1000) (by norm_num) _ _ h.h7) _ j

/-- which are made unit normals -/
theorem v8_at : at64 (res_main_v8 V) j = unit (rowOf (n := 1000) (arg V main_arg2) (arg V main_arg4 (ix1 j))) :=
  (unit_at (n := 16384) (by norm_num) red _ _ _ _ _ (res_main_v3 V) j).trans (congrArg unit (v3_at h j))

/-- (twice) -/
theorem v19_at : at64 (res_main_v19 V) j = unit (rowOf (n := 1000) (arg V main_arg2) (arg V main_arg4 (ix1 j))) :=
  (unit_at (n := 16384) (by norm_num) red _ _ _ _ _ (res_main_v3 V) j).trans (congrArg unit (v3_at h j))

/-- likewise -/
theorem v37_at : at64 (res_main_v37 V) j = unit (rowOf (n := 1000) (arg V main_arg2) (arg V main_arg7 (ix1 j))) :=
  (unit_at (n := 16384) (by norm_num) red _ _ _ _ _ (res_main_v32 V) j).trans (congrArg unit (v32_at h j))

/-- (twice). -/
theorem v48_at : at64 (res_main_v48 V) j = unit (rowOf (n := 1000) (arg V main_arg2) (arg V main_arg7 (ix1 j))) :=
  (unit_at (n := 16384) (by norm_num) red _ _ _ _ _ (res_main_v32 V) j).trans (congrArg unit (v32_at h j))

/-- The positive gaps, -/
theorem v27_at : at64 (res_main_v27 V) j = gap (rowOf (n := 1000000) (arg V main_arg0) (arg V main_arg3 (ix1 j))) (rowOf (n := 1000000) (arg V main_arg0) (arg V main_arg5 (ix1 j)))
    (rowOf (n := 1000) (arg V main_arg1) (arg V main_arg4 (ix1 j))) (unit (rowOf (n := 1000) (arg V main_arg2) (arg V main_arg4 (ix1 j)))) :=
  gap_at (n := 16384) _ _ _ _ _ _ _ j
    ((proj_at (n := 16384) (by norm_num) red _ _ _ _ (res_main_v0 V) (res_main_v8 V) j).trans (congrArg₂ proj (v0_at h j) (v8_at h j)))
    (take_at (n := 1000) (by norm_num) gather_S1000x64_S16384x1_S16384x64_1_0_n_n_0_1_164 rfl rfl rfl rfl rfl 999#32 rfl (arg V main_arg1) (arg V main_arg4) h.h4 (res_main_call1_v5 V)
    (starts_at (n := 1000) (by norm_num) _ _ h.h4) _ j)
    ((proj_at (n := 16384) (by norm_num) red _ _ _ _ (res_main_v2 V) (res_main_v19 V) j).trans (congrArg₂ proj (v2_at h j) (v19_at h j)))

/-- and the negative gaps. -/
theorem v56_at : at64 (res_main_v56 V) j = gap (rowOf (n := 1000000) (arg V main_arg0) (arg V main_arg6 (ix1 j))) (rowOf (n := 1000000) (arg V main_arg0) (arg V main_arg8 (ix1 j)))
    (rowOf (n := 1000) (arg V main_arg1) (arg V main_arg7 (ix1 j))) (unit (rowOf (n := 1000) (arg V main_arg2) (arg V main_arg7 (ix1 j)))) :=
  gap_at (n := 16384) _ _ _ _ _ _ _ j
    ((proj_at (n := 16384) (by norm_num) red _ _ _ _ (res_main_v29 V) (res_main_v37 V) j).trans (congrArg₂ proj (v29_at h j) (v37_at h j)))
    (take_at (n := 1000) (by norm_num) gather_S1000x64_S16384x1_S16384x64_1_0_n_n_0_1_164 rfl rfl rfl rfl rfl 999#32 rfl (arg V main_arg1) (arg V main_arg7) h.h7 (res_main_call8_v5 V)
    (starts_at (n := 1000) (by norm_num) _ _ h.h7) _ j)
    ((proj_at (n := 16384) (by norm_num) red _ _ _ _ (res_main_v31 V) (res_main_v48 V) j).trans (congrArg₂ proj (v31_at h j) (v48_at h j)))

omit j in
/-- The reference's result. -/
theorem loss_eq : (Host.reduceAdd (maximumf (broadcastInDim S16384 ![] bcast_S_S16384 (constant S_ .f32 0x00000000#32)) (addf (mulf (broadcastInDim S16384 ![] bcast_S_S16384 (constant S_ .f32 0x3F800000#32)) (subf (Host.sqrt (Host.reduceAdd (mulf (res_main_v27 V) (res_main_v27 V)) (constant S_ .f32 0x00000000#32) reducesTo_S16384x64_S16384_d1 h_S_)) (Host.sqrt (Host.reduceAdd (mulf (res_main_v56 V) (res_main_v56 V)) (constant S_ .f32 0x00000000#32) reducesTo_S16384x64_S16384_d1 h_S_)))) (broadcastInDim S16384 ![] bcast_S_S16384 (constant S_ .f32 0x3F800000#32)))) (constant S_ .f32 0x00000000#32) reducesTo_S16384_S_d0 h_S_ : FVec Ideal S_ .f32)
    = fun _ => lossAt (arg V main_arg0) (arg V main_arg1) (arg V main_arg2) (arg V main_arg3) (arg V main_arg4) (arg V main_arg5) (arg V main_arg6) (arg V main_arg7) (arg V main_arg8) := by
  funext i
  refine (total_at (n := 16384) _ _ _ i).trans (Finset.sum_congr rfl fun j _ => ?_)
  exact (hinge_at (n := 16384) _ _ _ j).trans (congrArg₂ hinge (dist_at (n := 16384) red _ _ _ _ j (v27_at h j)) (dist_at (n := 16384) red _ _ _ _ j (v56_at h j)))

end Run

end Ref

end Cert.Proof

end
-- ==== Proof.lean ====
/-
  The certificate: the program's frames as printed and over the reals, from one run; the reference's frame; and the two
  programs' agreement.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.SameDefs
public import proofs.«01_k».proof.Proof.SameThreads
public import proofs.«01_k».proof.Proof.Launch
public import proofs.«01_k».proof.Proof.Index
public import proofs.«01_k».proof.Proof.Loss
public import proofs.«01_k».proof.Proof.RefLoss
import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The precondition puts the launch's indices in range, over any float values. -/
theorem range_of_pre {F : FTy → Type} [FloatOps F] (m : (ℓ : Loc KernelIdeal.nD KernelIdeal.τ KernelIdeal.sig) → Buf (Elt F) ℓ)
    (h : ∀ c : Dev KernelIdeal.nD, Cert.Pre_in_range.fn (F := F) (m (c.tc.loc KernelIdeal.main_arg0)) (m (c.tc.loc KernelIdeal.main_arg1))
      (m (c.tc.loc KernelIdeal.main_arg2)) (m (c.tc.loc KernelIdeal.main_arg3)) (m (c.tc.loc KernelIdeal.main_arg4)) (m (c.tc.loc KernelIdeal.main_arg5))
      (m (c.tc.loc KernelIdeal.main_arg6)) (m (c.tc.loc KernelIdeal.main_arg7)) (m (c.tc.loc KernelIdeal.main_arg8)) = fun _ => 1#1) :
    ∀ d, RangeAt m d := fun d => inRange_of_pre _ _ _ _ _ _ _ _ _ (h d)

/-- Every argument a final memory keeps, one by one. -/
theorem args_kept {F : FTy → Type} [FloatOps F] (m m' : (ℓ : Loc KernelIdeal.nD KernelIdeal.τ KernelIdeal.sig) → Buf (Elt F) ℓ) (c : Dev KernelIdeal.nD)
    (h : ∀ a ∈ argL, m' ((SparseCore.T c).loc a) = m ((SparseCore.T c).loc a)) :
    m' (c.tc.loc KernelIdeal.main_arg0) = m (c.tc.loc KernelIdeal.main_arg0)
      ∧ m' (c.tc.loc KernelIdeal.main_arg1) = m (c.tc.loc KernelIdeal.main_arg1)
      ∧ m' (c.tc.loc KernelIdeal.main_arg2) = m (c.tc.loc KernelIdeal.main_arg2)
      ∧ m' (c.tc.loc KernelIdeal.main_arg3) = m (c.tc.loc KernelIdeal.main_arg3)
      ∧ m' (c.tc.loc KernelIdeal.main_arg4) = m (c.tc.loc KernelIdeal.main_arg4)
      ∧ m' (c.tc.loc KernelIdeal.main_arg5) = m (c.tc.loc KernelIdeal.main_arg5)
      ∧ m' (c.tc.loc KernelIdeal.main_arg6) = m (c.tc.loc KernelIdeal.main_arg6)
      ∧ m' (c.tc.loc KernelIdeal.main_arg7) = m (c.tc.loc KernelIdeal.main_arg7)
      ∧ m' (c.tc.loc KernelIdeal.main_arg8) = m (c.tc.loc KernelIdeal.main_arg8) :=
  ⟨h _ (by simp), h _ (by simp), h _ (by simp), h _ (by simp), h _ (by simp), h _ (by simp), h _ (by simp), h _ (by simp), h _ (by simp)⟩

/-- The program over the reals ends with its arguments as they were and every counter at zero. -/
theorem frame_kernelIdeal : Cert.quiescent_KernelIdeal := fun m ρ hm =>
  haveI : ∀ e, Nonempty (Elt Ideal e) := fun e => by cases e <;> exact ⟨default⟩
  (θ_run Cert.KernelIdeal.defs _ _).mono (fun _ h => ⟨fun c => args_kept m _ c (h.1 c).1, h.2⟩)
    (run_main (F := Ideal) m ρ (preOK_of_range (range_of_pre m hm)))

set_option maxHeartbeats 0 in
set_option smartUnfolding false in
/-- The kernel as printed runs to its end, keeps its arguments and leaves every counter at zero: its text is the same program. -/
theorem frame_kernel : Cert.quiescent_Kernel := fun m ρ hm => by
  haveI : ∀ e, Nonempty (Elt Bits e) := fun e => by cases e <;> exact ⟨default⟩
  have h0 := run_main (F := Bits) m ρ (preOK_of_range (range_of_pre m hm))
  have h1 := (θ_run Cert.KernelIdeal.defs _ _).mono
    (fun _ h => (⟨fun c => args_kept m _ c (h.1 c).1, h.2⟩ : _ ∧ _)) h0
  rw [← threads_same, ← defs_same] at h1
  exact h1

/-- So does the reference, which has no counters. -/
theorem frame_referenceIdeal : Cert.quiescent_ReferenceIdeal := fun m ρ _ =>
  (θ_run Cert.ReferenceIdeal.defs _ _).mono
    (fun _ h => ⟨fun c => (h c).2, sem_eq_zero_of_no_sems (by decide) _⟩)
    (Cert.ReferenceIdeal.Value.run m ρ)

/-- The launch's index arrays, as the reference asks of them. -/
theorem inTables {a3 a4 a5 a6 a7 a8 : KernelIdeal.S16384.Idx → BitVec 32} (h : InRange a3 a4 a5 a6 a7 a8) : Ref.InTables a3 a4 a5 a6 a7 a8 :=
  ⟨h.h3, h.h4, h.h5, h.h6, h.h7, h.h8⟩

/-- The loss of a launch's tables and indices. -/
def lossOn (m : (ℓ : Loc KernelIdeal.nD KernelIdeal.τ KernelIdeal.sig) → Buf (Elt Ideal) ℓ) (c : Dev KernelIdeal.nD) : EReal :=
  lossAt (m (c.tc.loc KernelIdeal.main_arg0)) (m (c.tc.loc KernelIdeal.main_arg1)) (m (c.tc.loc KernelIdeal.main_arg2)) (m (c.tc.loc KernelIdeal.main_arg3))
    (m (c.tc.loc KernelIdeal.main_arg4)) (m (c.tc.loc KernelIdeal.main_arg5)) (m (c.tc.loc KernelIdeal.main_arg6)) (m (c.tc.loc KernelIdeal.main_arg7))
    (m (c.tc.loc KernelIdeal.main_arg8))

/-- The two programs end with the same loss over the reals: that of the launch's tables and indices. -/
theorem algebraic : Cert.algebraic_KernelIdeal_ReferenceIdeal := fun m g m' g' hm ha => by
  haveI : ∀ e, Nonempty (Elt Ideal e) := fun e => by cases e <;> exact ⟨default⟩
  have hr := range_of_pre m hm
  refine ⟨fun c => fun _ => lossOn m c, ?_, ?_⟩
  · refine (θ_run Cert.KernelIdeal.defs _ _).mono (fun _ h c => ?_) (run_main (F := Ideal) m g (preOK_of_range hr))
    obtain ⟨f, hf, hv⟩ := (h.1 c).2
    exact ⟨hv.trans (lossOf_eq (hr c) hf), args_kept m _ c (h.1 c).1⟩
  · refine (θ_run Cert.ReferenceIdeal.defs _ _).mono (fun _ h c => ⟨(h c).1.trans ?_, (h c).2⟩) (Cert.ReferenceIdeal.Value.run m' g')
    obtain ⟨e0, e1, e2, e3, e4, e5, e6, e7, e8⟩ := ha c
    refine (Ref.loss_eq (V := StableHlo.launchContents m' c) (inTables ⟨?_, ?_, ?_, ?_, ?_, ?_⟩)).trans (funext fun _ => ?_)
    · exact fun i => (congrArg (fun v : BitVec 32 => v.toNat < 1000000) (congrFun e3 i)).mpr ((hr c).h3 i)
    · exact fun i => (congrArg (fun v : BitVec 32 => v.toNat < 1000) (congrFun e4 i)).mpr ((hr c).h4 i)
    · exact fun i => (congrArg (fun v : BitVec 32 => v.toNat < 1000000) (congrFun e5 i)).mpr ((hr c).h5 i)
    · exact fun i => (congrArg (fun v : BitVec 32 => v.toNat < 1000000) (congrFun e6 i)).mpr ((hr c).h6 i)
    · exact fun i => (congrArg (fun v : BitVec 32 => v.toNat < 1000) (congrFun e7 i)).mpr ((hr c).h7 i)
    · exact fun i => (congrArg (fun v : BitVec 32 => v.toNat < 1000000) (congrFun e8 i)).mpr ((hr c).h8 i)
    · show lossAt (m' (c.tc.loc ReferenceIdeal.main_arg0)) (m' (c.tc.loc ReferenceIdeal.main_arg1)) (m' (c.tc.loc ReferenceIdeal.main_arg2))
        (m' (c.tc.loc ReferenceIdeal.main_arg3)) (m' (c.tc.loc ReferenceIdeal.main_arg4)) (m' (c.tc.loc ReferenceIdeal.main_arg5))
        (m' (c.tc.loc ReferenceIdeal.main_arg6)) (m' (c.tc.loc ReferenceIdeal.main_arg7)) (m' (c.tc.loc ReferenceIdeal.main_arg8)) = _
      rw [e0, e1, e2, e3, e4, e5, e6, e7, e8]
      rfl

/-- The claims, in their order. -/
theorem claim : Cert.Claim := ⟨Cert.Kernel.Gen.facts, Cert.KernelIdeal.Gen.facts, Cert.ReferenceIdeal.Gen.facts, Cert.Pre_in_range.Gen.facts,
  frame_kernel, frame_kernelIdeal, frame_referenceIdeal, trivial, algebraic⟩

end Cert.Proof

end
